-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v217) = v0 c
          ∧ r.2.mem ((c.tc : Thread Cert.ReferenceIdeal.nD Cert.ReferenceIdeal.τ).loc Cert.ReferenceIdeal.main_v218) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v147) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v145) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v219) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S8192x1024 : Shape := ⟨2, ![8192, 1024]⟩
abbrev S8192x512 : Shape := ⟨2, ![8192, 512]⟩
abbrev S2x9x8x1024 : Shape := ⟨4, ![2, 9, 8, 1024]⟩
abbrev S2x3x1024 : Shape := ⟨3, ![2, 3, 1024]⟩
abbrev S2x1024x2816 : Shape := ⟨3, ![2, 1024, 2816]⟩
abbrev S2x2816x1024 : Shape := ⟨3, ![2, 2816, 1024]⟩
abbrev S2x1024x1024 : Shape := ⟨3, ![2, 1024, 1024]⟩
abbrev S4096x1024 : Shape := ⟨2, ![4096, 1024]⟩
abbrev S512x1024 : Shape := ⟨2, ![512, 1024]⟩
abbrev S512x512 : Shape := ⟨2, ![512, 512]⟩
abbrev S1x9x8x1024 : Shape := ⟨4, ![1, 9, 8, 1024]⟩
abbrev S1x3x1024 : Shape := ⟨3, ![1, 3, 1024]⟩
abbrev S1024x2816 : Shape := ⟨2, ![1024, 2816]⟩
abbrev S2816x1024 : Shape := ⟨2, ![2816, 1024]⟩
abbrev S1024x1024 : Shape := ⟨2, ![1024, 1024]⟩
abbrev S1x1x1x1024 : Shape := ⟨4, ![1, 1, 1, 1024]⟩
abbrev S1x1024 : Shape := ⟨2, ![1, 1024]⟩
abbrev S1x1x1024 : Shape := ⟨3, ![1, 1, 1024]⟩
abbrev S6x1024x256 : Shape := ⟨3, ![6, 1024, 256]⟩
abbrev S3x256x1024 : Shape := ⟨3, ![3, 256, 1024]⟩
abbrev S6 : Shape := ⟨1, ![6]⟩
abbrev S3 : Shape := ⟨1, ![3]⟩
abbrev S1 : Shape := ⟨1, ![1]⟩
abbrev S_ : Shape := ⟨0, ![]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S512x256 : Shape := ⟨2, ![512, 256]⟩
abbrev S512 : Shape := ⟨1, ![512]⟩
abbrev S512x1 : Shape := ⟨2, ![512, 1]⟩
abbrev S256x2816 : Shape := ⟨2, ![256, 2816]⟩
abbrev S256 : Shape := ⟨1, ![256]⟩
abbrev S256x1 : Shape := ⟨2, ![256, 1]⟩

abbrev nBuf : Space → Nat
  | .hbm => 12
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S2x9x8x1024, .f32⟩
  | .hbm, ⟨4, _⟩ => ⟨S2x3x1024, .f32⟩
  | .hbm, ⟨5, _⟩ => ⟨S2x3x1024, .f32⟩
  | .hbm, ⟨6, _⟩ => ⟨S2x1024x2816, .f32⟩
  | .hbm, ⟨7, _⟩ => ⟨S2x1024x2816, .f32⟩
  | .hbm, ⟨8, _⟩ => ⟨S2x2816x1024, .f32⟩
  | .hbm, ⟨9, _⟩ => ⟨S2x1024x1024, .f32⟩
  | .hbm, ⟨10, _⟩ => ⟨S4096x1024, .f32⟩
  | .hbm, ⟨11, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x9x8x1024, .f32⟩
  | .local _ .vmem, ⟨7, _⟩ => ⟨S1x3x1024, .f32⟩
  | .local _ .vmem, ⟨8, _⟩ => ⟨S1x3x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | .local _ .vmem, ⟨16, _⟩ => ⟨S1024x1024, .bf16⟩
  | .local _ .vmem, ⟨17, _⟩ => ⟨S6x1024x256, .f32⟩
  | .local _ .vmem, ⟨18, _⟩ => ⟨S3x256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scoped0 : Ref sig .tc := ⟨.vmem, 17, rfl⟩
abbrev cc0_scoped1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def k0_off1 (i : grid0.Coords) : Fin 4 → Nat :=
  let c0 : Index := 0#32
  let c8 : Index := 8#32
  let arg0 : BitVec 32 := BitVec.ofNat 32 (i 0).val
  let c8_i32_0 : BitVec 32 := 8#32
  let v1 : BitVec 1 := Scalar.cmpi .slt arg0 c8_i32_0
  let c0_i32_7 : BitVec 32 := 0#32
  let c1_i32_6 : BitVec 32 := 1#32
  let c8_i32_1 : BitVec 32 := 8#32
  let v2 : BitVec 32 := Scalar.subi arg0 c8_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let v3 : BitVec 32 := Scalar.divsi v2 c4_i32
  let c1_i32 : BitVec 32 := 1#32
  let v18 : BitVec 32 := Scalar.subi v3 c1_i32
  let v19 : BitVec 32 := Scalar.select v17 v18 v3
  let v20 : BitVec 32 := Scalar.addi c1_i32_6 v19
  let v21 : BitVec 32 := Scalar.select v1 c0_i32_7 v20
  let v22 : Index := Scalar.indexCast v21
  let c0_8 : Index := 0#32
  ![0, 8, v22.toNat, 0]
def k0_cond1 (i : grid0.Coords) : BitVec 1 :=
  let arg0 : BitVec 32 := BitVec.ofNat 32 (i 0).val
  let c0_i32_11 : BitVec 32 := 0#32
  let v27 : BitVec 1 := Scalar.cmpi .eq arg0 c0_i32_11
  let v28 : BitVec 32 := Scalar.extui v27
  let c0_i32_12 : BitVec 32 := 0#32
  let v29 : BitVec 1 := Scalar.cmpi .ne v28 c0_i32_12
  v29

def k0_off2 (i : grid0.Coords) : Fin 4 → Nat :=
  let c0_170_r0 : Index := 0#32
  let c5_r0 : Index := 5#32
  let arg0 : BitVec 32 := BitVec.ofNat 32 (i 0).val
  let c8_i32_0 : BitVec 32 := 8#32
  let v1 : BitVec 1 := Scalar.cmpi .slt arg0 c8_i32_0
  let c0_i32_7 : BitVec 32 := 0#32
  let c1_i32_6 : BitVec 32 := 1#32
  let c8_i32_1 : BitVec 32 := 8#32
  let v2 : BitVec 32 := Scalar.subi arg0 c8_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let v3 : BitVec 32 := Scalar.divsi v2 c4_i32
  let c1_i32 : BitVec 32 := 1#32
  let v18 : BitVec 32 := Scalar.subi v3 c1_i32
  let v19 : BitVec 32 := Scalar.select v17 v18 v3
  let v20 : BitVec 32 := Scalar.addi c1_i32_6 v19
  let v21 : BitVec 32 := Scalar.select v1 c0_i32_7 v20
  let v157_r0 : Index := Scalar.indexCast v21
  let c0_171_r0 : Index := 0#32
  ![0, 5, v157_r0.toNat, 0]
def k0_off3 (i : grid0.Coords) : Fin 4 → Nat :=
  let c0_178_r0 : Index := 0#32
  let c6_r0 : Index := 6#32
  let arg0 : BitVec 32 := BitVec.ofNat 32 (i 0).val
  let c8_i32_0 : BitVec 32 := 8#32
  let v1 : BitVec 1 := Scalar.cmpi .slt arg0 c8_i32_0
  let c0_i32_7 : BitVec 32 := 0#32
  let c1_i32_6 : BitVec 32 := 1#32
  let c8_i32_1 : BitVec 32 := 8#32
  let v2 : BitVec 32 := Scalar.subi arg0 c8_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let v3 : BitVec 32 := Scalar.divsi v2 c4_i32
  let c1_i32 : BitVec 32 := 1#32
  let v18 : BitVec 32 := Scalar.subi v3 c1_i32
  let v19 : BitVec 32 := Scalar.select v17 v18 v3
  let v20 : BitVec 32 := Scalar.addi c1_i32_6 v19
  let v21 : BitVec 32 := Scalar.select v1 c0_i32_7 v20
  let v177_r0 : Index := Scalar.indexCast v21
  let c0_179_r0 : Index := 0#32
  ![0, 6, v177_r0.toNat, 0]
def k0_off4 (i : grid0.Coords) : Fin 4 → Nat :=
  let c0_180_r0 : Index := 0#32
  let c7_r0 : Index := 7#32
  let arg0 : BitVec 32 := BitVec.ofNat 32 (i 0).val
  let c8_i32_0 : BitVec 32 := 8#32
  let v1 : BitVec 1 := Scalar.cmpi .slt arg0 c8_i32_0
  let c0_i32_7 : BitVec 32 := 0#32
  let c1_i32_6 : BitVec 32 := 1#32
  let c8_i32_1 : BitVec 32 := 8#32
  let v2 : BitVec 32 := Scalar.subi arg0 c8_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let v3 : BitVec 32 := Scalar.divsi v2 c4_i32
  let c1_i32 : BitVec 32 := 1#32
  let v18 : BitVec 32 := Scalar.subi v3 c1_i32
  let v19 : BitVec 32 := Scalar.select v17 v18 v3
  let v20 : BitVec 32 := Scalar.addi c1_i32_6 v19
  let v21 : BitVec 32 := Scalar.select v1 c0_i32_7 v20
  let v180_r0 : Index := Scalar.indexCast v21
  let c0_181_r0 : Index := 0#32
  ![0, 7, v180_r0.toNat, 0]
def k0_cond4 (i : grid0.Coords) : BitVec 1 :=
  let arg0 : BitVec 32 := BitVec.ofNat 32 (i 0).val
  let c0_i32_13 : BitVec 32 := 0#32
  let v30 : BitVec 1 := Scalar.cmpi .ne arg0 c0_i32_13
  let v31 : BitVec 32 := Scalar.extui v30
  let c0_i32_14 : BitVec 32 := 0#32
  let v32 : BitVec 1 := Scalar.cmpi .ne v31 c0_i32_14
  v32

def k0_off5 (i : grid0.Coords) : Fin 4 → Nat :=
  let c0_26 : Index := 0#32
  let c5 : Index := 5#32
  let arg0 : BitVec 32 := BitVec.ofNat 32 (i 0).val
  let c8_i32_0 : BitVec 32 := 8#32
  let v1 : BitVec 1 := Scalar.cmpi .slt arg0 c8_i32_0
  let c0_i32_7 : BitVec 32 := 0#32
  let c1_i32_6 : BitVec 32 := 1#32
  let c8_i32_1 : BitVec 32 := 8#32
  let v2 : BitVec 32 := Scalar.subi arg0 c8_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let v3 : BitVec 32 := Scalar.divsi v2 c4_i32
  let c1_i32 : BitVec 32 := 1#32
  let v18 : BitVec 32 := Scalar.subi v3 c1_i32
  let v19 : BitVec 32 := Scalar.select v17 v18 v3
  let v20 : BitVec 32 := Scalar.addi c1_i32_6 v19
  let v21 : BitVec 32 := Scalar.select v1 c0_i32_7 v20
  let v41 : Index := Scalar.indexCast v21
  let c0_27 : Index := 0#32
  ![0, 5, v41.toNat, 0]
def k0_off6 (i : grid0.Coords) : Fin 4 → Nat :=
  let c0_33 : Index := 0#32
  let c6 : Index := 6#32
  let arg0 : BitVec 32 := BitVec.ofNat 32 (i 0).val
  let c8_i32_0 : BitVec 32 := 8#32
  let v1 : BitVec 1 := Scalar.cmpi .slt arg0 c8_i32_0
  let c0_i32_7 : BitVec 32 := 0#32
  let c1_i32_6 : BitVec 32 := 1#32
  let c8_i32_1 : BitVec 32 := 8#32
  let v2 : BitVec 32 := Scalar.subi arg0 c8_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let v3 : BitVec 32 := Scalar.divsi v2 c4_i32
  let c1_i32 : BitVec 32 := 1#32
  let v18 : BitVec 32 := Scalar.subi v3 c1_i32
  let v19 : BitVec 32 := Scalar.select v17 v18 v3
  let v20 : BitVec 32 := Scalar.addi c1_i32_6 v19
  let v21 : BitVec 32 := Scalar.select v1 c0_i32_7 v20
  let v61 : Index := Scalar.indexCast v21
  let c0_34 : Index := 0#32
  ![0, 6, v61.toNat, 0]
def k0_off7 (i : grid0.Coords) : Fin 4 → Nat :=
  let c0_35 : Index := 0#32
  let c7 : Index := 7#32
  let arg0 : BitVec 32 := BitVec.ofNat 32 (i 0).val
  let c8_i32_0 : BitVec 32 := 8#32
  let v1 : BitVec 1 := Scalar.cmpi .slt arg0 c8_i32_0
  let c0_i32_7 : BitVec 32 := 0#32
  let c1_i32_6 : BitVec 32 := 1#32
  let c8_i32_1 : BitVec 32 := 8#32
  let v2 : BitVec 32 := Scalar.subi arg0 c8_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let v3 : BitVec 32 := Scalar.divsi v2 c4_i32
  let c1_i32 : BitVec 32 := 1#32
  let v18 : BitVec 32 := Scalar.subi v3 c1_i32
  let v19 : BitVec 32 := Scalar.select v17 v18 v3
  let v20 : BitVec 32 := Scalar.addi c1_i32_6 v19
  let v21 : BitVec 32 := Scalar.select v1 c0_i32_7 v20
  let v64 : Index := Scalar.indexCast v21
  let c0_36 : Index := 0#32
  ![0, 7, v64.toNat, 0]
def k0_cond2 (i : grid0.Coords) : BitVec 1 :=
  let arg0 : BitVec 32 := BitVec.ofNat 32 (i 0).val
  let c8_i32 : BitVec 32 := 8#32
  let v0 : BitVec 1 := Scalar.cmpi .slt arg0 c8_i32
  let v893_r0 : BitVec 32 := Scalar.extui v0
  let c0_i32_794_r0 : BitVec 32 := 0#32
  let v894_r0 : BitVec 1 := Scalar.cmpi .ne v893_r0 c0_i32_794_r0
  v894_r0

def k0_cond5 (i : grid0.Coords) : BitVec 1 :=
  let arg0 : BitVec 32 := BitVec.ofNat 32 (i 0).val
  let c8_i32 : BitVec 32 := 8#32
  let v0 : BitVec 1 := Scalar.cmpi .slt arg0 c8_i32
  let v147 : BitVec 32 := Scalar.extui v0
  let c0_i32_70 : BitVec 32 := 0#32
  let v148 : BitVec 1 := Scalar.cmpi .ne v147 c0_i32_70
  v148

def k0_cond3 (i : grid0.Coords) : BitVec 1 :=
  let arg0 : BitVec 32 := BitVec.ofNat 32 (i 0).val
  let c8_i32 : BitVec 32 := 8#32
  let v0 : BitVec 1 := Scalar.cmpi .slt arg0 c8_i32
  let v_true_r0 : BitVec 1 := 1#1
  let v895_r0 : BitVec 1 := Scalar.xori v0 v_true_r0
  let v896_r0 : BitVec 32 := Scalar.extui v895_r0
  let c0_i32_795_r0 : BitVec 32 := 0#32
  let v897_r0 : BitVec 1 := Scalar.cmpi .ne v896_r0 c0_i32_795_r0
  v897_r0

def k0_cond6 (i : grid0.Coords) : BitVec 1 :=
  let arg0 : BitVec 32 := BitVec.ofNat 32 (i 0).val
  let c8_i32 : BitVec 32 := 8#32
  let v0 : BitVec 1 := Scalar.cmpi .slt arg0 c8_i32
  let v_true : BitVec 1 := 1#1
  let v149 : BitVec 1 := Scalar.xori v0 v_true
  let v150 : BitVec 32 := Scalar.extui v149
  let c0_i32_71 : BitVec 32 := 0#32
  let v151 : BitVec 1 := Scalar.cmpi .ne v150 c0_i32_71
  v151

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x9x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8192x1024 : Shape := ⟨2, ![8192, 1024]⟩
abbrev S8192x512 : Shape := ⟨2, ![8192, 512]⟩
abbrev S2x9x8x1024 : Shape := ⟨4, ![2, 9, 8, 1024]⟩
abbrev S2x3x1024 : Shape := ⟨3, ![2, 3, 1024]⟩
abbrev S2x1024x2816 : Shape := ⟨3, ![2, 1024, 2816]⟩
abbrev S2x2816x1024 : Shape := ⟨3, ![2, 2816, 1024]⟩
abbrev S2x1024x1024 : Shape := ⟨3, ![2, 1024, 1024]⟩
abbrev S8192x256 : Shape := ⟨2, ![8192, 256]⟩
abbrev S1x9x8x1024 : Shape := ⟨4, ![1, 9, 8, 1024]⟩
abbrev S9x8x1024 : Shape := ⟨3, ![9, 8, 1024]⟩
abbrev S8x9x1024 : Shape := ⟨3, ![8, 9, 1024]⟩
abbrev S4096x1024 : Shape := ⟨2, ![4096, 1024]⟩
abbrev S16x256x1024 : Shape := ⟨3, ![16, 256, 1024]⟩
abbrev S4096x256 : Shape := ⟨2, ![4096, 256]⟩
abbrev S16x256x256 : Shape := ⟨3, ![16, 256, 256]⟩
abbrev S1x9x1024 : Shape := ⟨3, ![1, 9, 1024]⟩
abbrev S1x1x9x1024 : Shape := ⟨4, ![1, 1, 9, 1024]⟩
abbrev S1x1x3x1024 : Shape := ⟨4, ![1, 1, 3, 1024]⟩
abbrev S1x1024x1024 : Shape := ⟨3, ![1, 1024, 1024]⟩
abbrev S1024x1024 : Shape := ⟨2, ![1024, 1024]⟩
abbrev S1x1x1x1024 : Shape := ⟨4, ![1, 1, 1, 1024]⟩
abbrev S1x1x1024 : Shape := ⟨3, ![1, 1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S1x1024x2816 : Shape := ⟨3, ![1, 1024, 2816]⟩
abbrev S1024x2816 : Shape := ⟨2, ![1024, 2816]⟩
abbrev S16x256x2816 : Shape := ⟨3, ![16, 256, 2816]⟩
abbrev S1x2816x1024 : Shape := ⟨3, ![1, 2816, 1024]⟩
abbrev S2816x1024 : Shape := ⟨2, ![2816, 1024]⟩
abbrev S2x2048x1024 : Shape := ⟨3, ![2, 2048, 1024]⟩
abbrev S2x2048x256 : Shape := ⟨3, ![2, 2048, 256]⟩
abbrev S2x9x1024 : Shape := ⟨3, ![2, 9, 1024]⟩
abbrev S2x1x9x1024 : Shape := ⟨4, ![2, 1, 9, 1024]⟩
abbrev S2x1x3x1024 : Shape := ⟨4, ![2, 1, 3, 1024]⟩
abbrev S2x1x1x1024 : Shape := ⟨4, ![2, 1, 1, 1024]⟩
abbrev S2x1x1024 : Shape := ⟨3, ![2, 1, 1024]⟩
abbrev S2x2048 : Shape := ⟨2, ![2, 2048]⟩
abbrev S2x2048x1 : Shape := ⟨3, ![2, 2048, 1]⟩
abbrev S2x2048x2816 : Shape := ⟨3, ![2, 2048, 2816]⟩

abbrev nBuf : Space → Nat
  | .hbm => 255
  | .vmem => 0
  | .smem => 0
  | _ => 0

abbrev hbmTy0_0 (i : Nat) : BufTy := match i % 128 with
  | 0 => ⟨S8192x1024, .f32⟩
  | 1 => ⟨S8192x512, .bf16⟩
  | 2 => ⟨S8192x512, .bf16⟩
  | 3 => ⟨S2x9x8x1024, .f32⟩
  | 4 => ⟨S2x3x1024, .f32⟩
  | 5 => ⟨S2x3x1024, .f32⟩
  | 6 => ⟨S2x1024x2816, .f32⟩
  | 7 => ⟨S2x1024x2816, .f32⟩
  | 8 => ⟨S2x2816x1024, .f32⟩
  | 9 => ⟨S2x1024x1024, .f32⟩
  | 10 => ⟨S8192x256, .bf16⟩
  | 11 => ⟨S8192x256, .f32⟩
  | 12 => ⟨S8192x256, .bf16⟩
  | 13 => ⟨S8192x256, .f32⟩
  | 14 => ⟨S8192x256, .bf16⟩
  | 15 => ⟨S8192x256, .f32⟩
  | 16 => ⟨S8192x256, .bf16⟩
  | 17 => ⟨S8192x256, .f32⟩
  | 18 => ⟨S1x9x8x1024, .f32⟩
  | 19 => ⟨S9x8x1024, .f32⟩
  | 20 => ⟨S8x9x1024, .f32⟩
  | 21 => ⟨S4096x1024, .f32⟩
  | 22 => ⟨S16x256x1024, .f32⟩
  | 23 => ⟨S4096x256, .f32⟩
  | 24 => ⟨S16x256x256, .f32⟩
  | 25 => ⟨S4096x256, .f32⟩
  | 26 => ⟨S16x256x256, .f32⟩
  | 27 => ⟨S4096x256, .f32⟩
  | 28 => ⟨S16x256x256, .f32⟩
  | 29 => ⟨S4096x256, .f32⟩
  | 30 => ⟨S16x256x256, .f32⟩
  | 31 => ⟨S1x9x1024, .f32⟩
  | 32 => ⟨S1x1x9x1024, .f32⟩
  | 33 => ⟨S1x1x3x1024, .f32⟩
  | 34 => ⟨S1x1x3x1024, .f32⟩
  | 35 => ⟨S1x1x3x1024, .f32⟩
  | 36 => ⟨S16x256x1024, .f32⟩
  | 37 => ⟨S1x1024x1024, .f32⟩
  | 38 => ⟨S1024x1024, .f32⟩
  | 39 => ⟨S16x256x1024, .f32⟩
  | 40 => ⟨S1x1x1x1024, .f32⟩
  | 41 => ⟨S1x1x1024, .f32⟩
  | 42 => ⟨S1x1x1024, .f32⟩
  | 43 => ⟨S1024, .f32⟩
  | 44 => ⟨S16x256x1024, .f32⟩
  | 45 => ⟨S_, .f32⟩
  | 46 => ⟨S16x256, .f32⟩
  | 47 => ⟨S16x256x1, .f32⟩
  | 48 => ⟨S_, .f32⟩
  | 49 => ⟨S16x256x1, .f32⟩
  | 50 => ⟨S16x256x1, .f32⟩
  | 51 => ⟨S_, .f32⟩
  | 52 => ⟨S16x256x1, .f32⟩
  | 53 => ⟨S16x256x1, .f32⟩
  | 54 => ⟨S16x256x1, .f32⟩
  | 55 => ⟨S16x256x1024, .f32⟩
  | 56 => ⟨S16x256x1024, .f32⟩
  | 57 => ⟨S1x1x1024, .f32⟩
  | 58 => ⟨S16x256x1024, .f32⟩
  | 59 => ⟨S16x256x1024, .f32⟩
  | 60 => ⟨S16x256x1024, .f32⟩
  | 61 => ⟨S16x256x1024, .f32⟩
  | 62 => ⟨S16x256x1024, .f32⟩
  | 63 => ⟨S1x1x1024, .f32⟩
  | 64 => ⟨S1024, .f32⟩
  | 65 => ⟨S16x256x1024, .f32⟩
  | 66 => ⟨S_, .f32⟩
  | 67 => ⟨S16x256, .f32⟩
  | 68 => ⟨S16x256x1, .f32⟩
  | 69 => ⟨S_, .f32⟩
  | 70 => ⟨S16x256x1, .f32⟩
  | 71 => ⟨S16x256x1, .f32⟩
  | 72 => ⟨S_, .f32⟩
  | 73 => ⟨S16x256x1, .f32⟩
  | 74 => ⟨S16x256x1, .f32⟩
  | 75 => ⟨S16x256x1, .f32⟩
  | 76 => ⟨S16x256x1024, .f32⟩
  | 77 => ⟨S16x256x1024, .f32⟩
  | 78 => ⟨S1x1x1024, .f32⟩
  | 79 => ⟨S16x256x1024, .f32⟩
  | 80 => ⟨S16x256x1024, .f32⟩
  | 81 => ⟨S1x1x1x1024, .f32⟩
  | 82 => ⟨S1x1x1024, .f32⟩
  | 83 => ⟨S_, .f32⟩
  | 84 => ⟨S1x1x1024, .f32⟩
  | 85 => ⟨S1x1x1024, .f32⟩
  | 86 => ⟨S16x256x1024, .f32⟩
  | 87 => ⟨S16x256x1024, .f32⟩
  | 88 => ⟨S1x1x1x1024, .f32⟩
  | 89 => ⟨S1x1x1024, .f32⟩
  | 90 => ⟨S16x256x1024, .f32⟩
  | 91 => ⟨S16x256x1024, .f32⟩
  | 92 => ⟨S1x1024x2816, .f32⟩
  | 93 => ⟨S1024x2816, .f32⟩
  | 94 => ⟨S16x256x2816, .f32⟩
  | 95 => ⟨S16x256x2816, .f32⟩
  | 96 => ⟨S16x256x2816, .f32⟩
  | 97 => ⟨S_, .f32⟩
  | 98 => ⟨S16x256x2816, .f32⟩
  | 99 => ⟨S16x256x2816, .f32⟩
  | 100 => ⟨S_, .f32⟩
  | 101 => ⟨S16x256x2816, .f32⟩
  | 102 => ⟨S16x256x2816, .f32⟩
  | 103 => ⟨S16x256x2816, .f32⟩
  | 104 => ⟨S1x1024x2816, .f32⟩
  | 105 => ⟨S1024x2816, .f32⟩
  | 106 => ⟨S16x256x2816, .f32⟩
  | 107 => ⟨S16x256x2816, .f32⟩
  | 108 => ⟨S1x2816x1024, .f32⟩
  | 109 => ⟨S2816x1024, .f32⟩
  | 110 => ⟨S16x256x1024, .f32⟩
  | 111 => ⟨S1x1x1x1024, .f32⟩
  | 112 => ⟨S1x1x1024, .f32⟩
  | 113 => ⟨S1x1x1024, .f32⟩
  | 114 => ⟨S1024, .f32⟩
  | 115 => ⟨S16x256x1024, .f32⟩
  | 116 => ⟨S_, .f32⟩
  | 117 => ⟨S16x256, .f32⟩
  | 118 => ⟨S16x256x1, .f32⟩
  | 119 => ⟨S_, .f32⟩
  | 120 => ⟨S16x256x1, .f32⟩
  | 121 => ⟨S16x256x1, .f32⟩
  | 122 => ⟨S_, .f32⟩
  | 123 => ⟨S16x256x1, .f32⟩
  | 124 => ⟨S16x256x1, .f32⟩
  | 125 => ⟨S16x256x1, .f32⟩
  | 126 => ⟨S16x256x1024, .f32⟩
  | 127 => ⟨S16x256x1024, .f32⟩
  | _ => ⟨S8192x1024, .f32⟩

abbrev hbmTy0_1 (i : Nat) : BufTy := match i % 128 with
  | 0 => ⟨S1x1x1024, .f32⟩
  | 1 => ⟨S16x256x1024, .f32⟩
  | 2 => ⟨S16x256x1024, .f32⟩
  | 3 => ⟨S16x256x1024, .f32⟩
  | 4 => ⟨S16x256x1024, .f32⟩
  | 5 => ⟨S_, .f32⟩
  | 6 => ⟨S16x256x1024, .f32⟩
  | 7 => ⟨S16x256x1024, .f32⟩
  | 8 => ⟨S16x256x1024, .f32⟩
  | 9 => ⟨S4096x1024, .f32⟩
  | 10 => ⟨S2x2048x1024, .f32⟩
  | 11 => ⟨S4096x256, .f32⟩
  | 12 => ⟨S2x2048x256, .f32⟩
  | 13 => ⟨S4096x256, .f32⟩
  | 14 => ⟨S2x2048x256, .f32⟩
  | 15 => ⟨S4096x256, .f32⟩
  | 16 => ⟨S2x2048x256, .f32⟩
  | 17 => ⟨S4096x256, .f32⟩
  | 18 => ⟨S2x2048x256, .f32⟩
  | 19 => ⟨S2x9x1024, .f32⟩
  | 20 => ⟨S2x1x9x1024, .f32⟩
  | 21 => ⟨S2x1x3x1024, .f32⟩
  | 22 => ⟨S2x1x3x1024, .f32⟩
  | 23 => ⟨S2x1x3x1024, .f32⟩
  | 24 => ⟨S2x2048x1024, .f32⟩
  | 25 => ⟨S1x1024x1024, .f32⟩
  | 26 => ⟨S1024x1024, .f32⟩
  | 27 => ⟨S2x2048x1024, .f32⟩
  | 28 => ⟨S2x1x1x1024, .f32⟩
  | 29 => ⟨S2x1x1024, .f32⟩
  | 30 => ⟨S1x1x1024, .f32⟩
  | 31 => ⟨S1024, .f32⟩
  | 32 => ⟨S2x2048x1024, .f32⟩
  | 33 => ⟨S_, .f32⟩
  | 34 => ⟨S2x2048, .f32⟩
  | 35 => ⟨S2x2048x1, .f32⟩
  | 36 => ⟨S_, .f32⟩
  | 37 => ⟨S2x2048x1, .f32⟩
  | 38 => ⟨S2x2048x1, .f32⟩
  | 39 => ⟨S_, .f32⟩
  | 40 => ⟨S2x2048x1, .f32⟩
  | 41 => ⟨S2x2048x1, .f32⟩
  | 42 => ⟨S2x2048x1, .f32⟩
  | 43 => ⟨S2x2048x1024, .f32⟩
  | 44 => ⟨S2x2048x1024, .f32⟩
  | 45 => ⟨S1x1x1024, .f32⟩
  | 46 => ⟨S2x2048x1024, .f32⟩
  | 47 => ⟨S2x2048x1024, .f32⟩
  | 48 => ⟨S2x2048x1024, .f32⟩
  | 49 => ⟨S2x2048x1024, .f32⟩
  | 50 => ⟨S2x2048x1024, .f32⟩
  | 51 => ⟨S1x1x1024, .f32⟩
  | 52 => ⟨S1024, .f32⟩
  | 53 => ⟨S2x2048x1024, .f32⟩
  | 54 => ⟨S_, .f32⟩
  | 55 => ⟨S2x2048, .f32⟩
  | 56 => ⟨S2x2048x1, .f32⟩
  | 57 => ⟨S_, .f32⟩
  | 58 => ⟨S2x2048x1, .f32⟩
  | 59 => ⟨S2x2048x1, .f32⟩
  | 60 => ⟨S_, .f32⟩
  | 61 => ⟨S2x2048x1, .f32⟩
  | 62 => ⟨S2x2048x1, .f32⟩
  | 63 => ⟨S2x2048x1, .f32⟩
  | 64 => ⟨S2x2048x1024, .f32⟩
  | 65 => ⟨S2x2048x1024, .f32⟩
  | 66 => ⟨S1x1x1024, .f32⟩
  | 67 => ⟨S2x2048x1024, .f32⟩
  | 68 => ⟨S2x2048x1024, .f32⟩
  | 69 => ⟨S2x1x1x1024, .f32⟩
  | 70 => ⟨S2x1x1024, .f32⟩
  | 71 => ⟨S_, .f32⟩
  | 72 => ⟨S2x1x1024, .f32⟩
  | 73 => ⟨S2x1x1024, .f32⟩
  | 74 => ⟨S2x2048x1024, .f32⟩
  | 75 => ⟨S2x2048x1024, .f32⟩
  | 76 => ⟨S2x1x1x1024, .f32⟩
  | 77 => ⟨S2x1x1024, .f32⟩
  | 78 => ⟨S2x2048x1024, .f32⟩
  | 79 => ⟨S2x2048x1024, .f32⟩
  | 80 => ⟨S1x1024x2816, .f32⟩
  | 81 => ⟨S1024x2816, .f32⟩
  | 82 => ⟨S2x2048x2816, .f32⟩
  | 83 => ⟨S2x2048x2816, .f32⟩
  | 84 => ⟨S2x2048x2816, .f32⟩
  | 85 => ⟨S_, .f32⟩
  | 86 => ⟨S2x2048x2816, .f32⟩
  | 87 => ⟨S2x2048x2816, .f32⟩
  | 88 => ⟨S_, .f32⟩
  | 89 => ⟨S2x2048x2816, .f32⟩
  | 90 => ⟨S2x2048x2816, .f32⟩
  | 91 => ⟨S2x2048x2816, .f32⟩
  | 92 => ⟨S1x1024x2816, .f32⟩
  | 93 => ⟨S1024x2816, .f32⟩
  | 94 => ⟨S2x2048x2816, .f32⟩
  | 95 => ⟨S2x2048x2816, .f32⟩
  | 96 => ⟨S1x2816x1024, .f32⟩
  | 97 => ⟨S2816x1024, .f32⟩
  | 98 => ⟨S2x2048x1024, .f32⟩
  | 99 => ⟨S2x1x1x1024, .f32⟩
  | 100 => ⟨S2x1x1024, .f32⟩
  | 101 => ⟨S1x1x1024, .f32⟩
  | 102 => ⟨S1024, .f32⟩
  | 103 => ⟨S2x2048x1024, .f32⟩
  | 104 => ⟨S_, .f32⟩
  | 105 => ⟨S2x2048, .f32⟩
  | 106 => ⟨S2x2048x1, .f32⟩
  | 107 => ⟨S_, .f32⟩
  | 108 => ⟨S2x2048x1, .f32⟩
  | 109 => ⟨S2x2048x1, .f32⟩
  | 110 => ⟨S_, .f32⟩
  | 111 => ⟨S2x2048x1, .f32⟩
  | 112 => ⟨S2x2048x1, .f32⟩
  | 113 => ⟨S2x2048x1, .f32⟩
  | 114 => ⟨S2x2048x1024, .f32⟩
  | 115 => ⟨S2x2048x1024, .f32⟩
  | 116 => ⟨S1x1x1024, .f32⟩
  | 117 => ⟨S2x2048x1024, .f32⟩
  | 118 => ⟨S2x2048x1024, .f32⟩
  | 119 => ⟨S2x2048x1024, .f32⟩
  | 120 => ⟨S2x2048x1024, .f32⟩
  | 121 => ⟨S_, .f32⟩
  | 122 => ⟨S2x2048x1024, .f32⟩
  | 123 => ⟨S2x2048x1024, .f32⟩
  | 124 => ⟨S2x2048x1024, .f32⟩
  | 125 => ⟨S4096x1024, .f32⟩
  | 126 => ⟨S4096x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst : Ref sig .tc := ⟨.hbm, 45, rfl⟩
abbrev main_v35 : Ref sig .tc := ⟨.hbm, 46, rfl⟩
abbrev main_v36 : Ref sig .tc := ⟨.hbm, 47, rfl⟩
abbrev main_cst_0 : Ref sig .tc := ⟨.hbm, 48, rfl⟩
abbrev main_v37 : Ref sig .tc := ⟨.hbm, 49, rfl⟩
abbrev main_v38 : Ref sig .tc := ⟨.hbm, 50, rfl⟩
abbrev main_cst_1 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_2 : Ref sig .tc := ⟨.hbm, 66, rfl⟩
abbrev main_v53 : Ref sig .tc := ⟨.hbm, 67, rfl⟩
abbrev main_v54 : Ref sig .tc := ⟨.hbm, 68, rfl⟩
abbrev main_cst_3 : Ref sig .tc := ⟨.hbm, 69, rfl⟩
abbrev main_v55 : Ref sig .tc := ⟨.hbm, 70, rfl⟩
abbrev main_v56 : Ref sig .tc := ⟨.hbm, 71, rfl⟩
abbrev main_cst_4 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_5 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_6 : Ref sig .tc := ⟨.hbm, 97, rfl⟩
abbrev main_v80 : Ref sig .tc := ⟨.hbm, 98, rfl⟩
abbrev main_v81 : Ref sig .tc := ⟨.hbm, 99, rfl⟩
abbrev main_cst_7 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_cst_8 : Ref sig .tc := ⟨.hbm, 116, rfl⟩
abbrev main_v97 : Ref sig .tc := ⟨.hbm, 117, rfl⟩
abbrev main_v98 : Ref sig .tc := ⟨.hbm, 118, rfl⟩
abbrev main_cst_9 : Ref sig .tc := ⟨.hbm, 119, rfl⟩
abbrev main_v99 : Ref sig .tc := ⟨.hbm, 120, rfl⟩
abbrev main_v100 : Ref sig .tc := ⟨.hbm, 121, rfl⟩
abbrev main_cst_10 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_cst_11 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_cst_12 : Ref sig .tc := ⟨.hbm, 161, rfl⟩
abbrev main_v138 : Ref sig .tc := ⟨.hbm, 162, rfl⟩
abbrev main_v139 : Ref sig .tc := ⟨.hbm, 163, rfl⟩
abbrev main_cst_13 : Ref sig .tc := ⟨.hbm, 164, rfl⟩
abbrev main_v140 : Ref sig .tc := ⟨.hbm, 165, rfl⟩
abbrev main_v141 : Ref sig .tc := ⟨.hbm, 166, rfl⟩
abbrev main_cst_14 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_cst_15 : Ref sig .tc := ⟨.hbm, 182, rfl⟩
abbrev main_v156 : Ref sig .tc := ⟨.hbm, 183, rfl⟩
abbrev main_v157 : Ref sig .tc := ⟨.hbm, 184, rfl⟩
abbrev main_cst_16 : Ref sig .tc := ⟨.hbm, 185, rfl⟩
abbrev main_v158 : Ref sig .tc := ⟨.hbm, 186, rfl⟩
abbrev main_v159 : Ref sig .tc := ⟨.hbm, 187, rfl⟩
abbrev main_cst_17 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_cst_18 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_cst_19 : Ref sig .tc := ⟨.hbm, 213, rfl⟩
abbrev main_v183 : Ref sig .tc := ⟨.hbm, 214, rfl⟩
abbrev main_v184 : Ref sig .tc := ⟨.hbm, 215, rfl⟩
abbrev main_cst_20 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_cst_21 : Ref sig .tc := ⟨.hbm, 232, rfl⟩
abbrev main_v200 : Ref sig .tc := ⟨.hbm, 233, rfl⟩
abbrev main_v201 : Ref sig .tc := ⟨.hbm, 234, rfl⟩
abbrev main_cst_22 : Ref sig .tc := ⟨.hbm, 235, rfl⟩
abbrev main_v202 : Ref sig .tc := ⟨.hbm, 236, rfl⟩
abbrev main_v203 : Ref sig .tc := ⟨.hbm, 237, rfl⟩
abbrev main_cst_23 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_cst_24 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩

abbrev nD : Nat := 1
abbrev τ : Topo := Topo.v7x

variable {F : FTy → Type} [FloatOps F]
-- ==== Kernel2.lean ====
abbrev S8192x1024 : Shape := ⟨2, ![8192, 1024]⟩
abbrev S2x9x8x1024 : Shape := ⟨4, ![2, 9, 8, 1024]⟩
abbrev S2x3x1024 : Shape := ⟨3, ![2, 3, 1024]⟩
abbrev S2x1024x2816 : Shape := ⟨3, ![2, 1024, 2816]⟩
abbrev S2x2816x1024 : Shape := ⟨3, ![2, 2816, 1024]⟩
abbrev S512x1024 : Shape := ⟨2, ![512, 1024]⟩
abbrev S1x9x8x1024 : Shape := ⟨4, ![1, 9, 8, 1024]⟩
abbrev S1x3x1024 : Shape := ⟨3, ![1, 3, 1024]⟩
abbrev S1024x2816 : Shape := ⟨2, ![1024, 2816]⟩
abbrev S2816x1024 : Shape := ⟨2, ![2816, 1024]⟩
abbrev S1x1x1x1024 : Shape := ⟨4, ![1, 1, 1, 1024]⟩
abbrev S1x1024 : Shape := ⟨2, ![1, 1024]⟩
abbrev S1x1x1024 : Shape := ⟨3, ![1, 1, 1024]⟩
abbrev S6x1024x256 : Shape := ⟨3, ![6, 1024, 256]⟩
abbrev S3x256x1024 : Shape := ⟨3, ![3, 256, 1024]⟩
abbrev S6 : Shape := ⟨1, ![6]⟩
abbrev S3 : Shape := ⟨1, ![3]⟩
abbrev S1 : Shape := ⟨1, ![1]⟩
abbrev S_ : Shape := ⟨0, ![]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩
abbrev S512x256 : Shape := ⟨2, ![512, 256]⟩
abbrev S256x2816 : Shape := ⟨2, ![256, 2816]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S2x9x8x1024, .f32⟩
  | .hbm, ⟨2, _⟩ => ⟨S2x3x1024, .f32⟩
  | .hbm, ⟨3, _⟩ => ⟨S2x3x1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x9x8x1024, .f32⟩
  | .local _ .vmem, ⟨3, _⟩ => ⟨S1x3x1024, .f32⟩
  | .local _ .vmem, ⟨4, _⟩ => ⟨S1x3x1024, .f32⟩
  | .local _ .vmem, ⟨5, _⟩ => ⟨S512x1024, .f32⟩
  | .local _ .vmem, ⟨6, _⟩ => ⟨S512x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S6x1024x256, .f32⟩
  | .local _ .vmem, ⟨11, _⟩ => ⟨S3x256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scoped0 : Ref sig .tc := ⟨.vmem, 10, rfl⟩
abbrev cc0_scoped1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def k0_off1 (i : grid0.Coords) : Fin 4 → Nat :=
  let c0 : Index := 0#32
  let c2 : Index := 2#32
  let arg0 : BitVec 32 := BitVec.ofNat 32 (i 0).val
  let c8_i32 : BitVec 32 := 8#32
  let v0 : BitVec 1 := Scalar.cmpi .slt arg0 c8_i32
  let c0_i32_6 : BitVec 32 := 0#32
  let c1_i32_5 : BitVec 32 := 1#32
  let c8_i32_0 : BitVec 32 := 8#32
  let v1 : BitVec 32 := Scalar.subi arg0 c8_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c4_i32 : BitVec 32 := 4#32
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let v19 : BitVec 32 := Scalar.addi c1_i32_5 v18
  let v20 : BitVec 32 := Scalar.select v0 c0_i32_6 v19
  let v21 : Index := Scalar.indexCast v20
  let c0_7 : Index := 0#32
  ![0, 2, v21.toNat, 0]
def k0_cond1 (i : grid0.Coords) : BitVec 1 :=
  let arg0 : BitVec 32 := BitVec.ofNat 32 (i 0).val
  let c0_i32_11 : BitVec 32 := 0#32
  let v26 : BitVec 1 := Scalar.cmpi .eq arg0 c0_i32_11
  let v27 : BitVec 32 := Scalar.extui v26
  let c0_i32_12 : BitVec 32 := 0#32
  let v28 : BitVec 1 := Scalar.cmpi .ne v27 c0_i32_12
  v28

def k0_off2 (i : grid0.Coords) : Fin 4 → Nat :=
  let c0_89_r0 : Index := 0#32
  let c0_90_r0 : Index := 0#32
  let arg0 : BitVec 32 := BitVec.ofNat 32 (i 0).val
  let c8_i32 : BitVec 32 := 8#32
  let v0 : BitVec 1 := Scalar.cmpi .slt arg0 c8_i32
  let c0_i32_6 : BitVec 32 := 0#32
  let c1_i32_5 : BitVec 32 := 1#32
  let c8_i32_0 : BitVec 32 := 8#32
  let v1 : BitVec 32 := Scalar.subi arg0 c8_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c4_i32 : BitVec 32 := 4#32
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let v19 : BitVec 32 := Scalar.addi c1_i32_5 v18
  let v20 : BitVec 32 := Scalar.select v0 c0_i32_6 v19
  let v77_r0 : Index := Scalar.indexCast v20
  let c0_91_r0 : Index := 0#32
  ![0, 0, v77_r0.toNat, 0]
def k0_off3 (i : grid0.Coords) : Fin 4 → Nat :=
  let c0_92_r0 : Index := 0#32
  let c1_r0 : Index := 1#32
  let arg0 : BitVec 32 := BitVec.ofNat 32 (i 0).val
  let c8_i32 : BitVec 32 := 8#32
  let v0 : BitVec 1 := Scalar.cmpi .slt arg0 c8_i32
  let c0_i32_6 : BitVec 32 := 0#32
  let c1_i32_5 : BitVec 32 := 1#32
  let c8_i32_0 : BitVec 32 := 8#32
  let v1 : BitVec 32 := Scalar.subi arg0 c8_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c4_i32 : BitVec 32 := 4#32
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let v19 : BitVec 32 := Scalar.addi c1_i32_5 v18
  let v20 : BitVec 32 := Scalar.select v0 c0_i32_6 v19
  let v80_r0 : Index := Scalar.indexCast v20
  let c0_93_r0 : Index := 0#32
  ![0, 1, v80_r0.toNat, 0]
def k0_cond2 (i : grid0.Coords) : BitVec 1 :=
  let arg0 : BitVec 32 := BitVec.ofNat 32 (i 0).val
  let c0_i32_13 : BitVec 32 := 0#32
  let v29 : BitVec 1 := Scalar.cmpi .ne arg0 c0_i32_13
  let v30 : BitVec 32 := Scalar.extui v29
  let c0_i32_14 : BitVec 32 := 0#32
  let v31 : BitVec 1 := Scalar.cmpi .ne v30 c0_i32_14
  v31

def k0_off4 (i : grid0.Coords) : Fin 4 → Nat :=
  let c0_17 : Index := 0#32
  let c0_18 : Index := 0#32
  let arg0 : BitVec 32 := BitVec.ofNat 32 (i 0).val
  let c8_i32 : BitVec 32 := 8#32
  let v0 : BitVec 1 := Scalar.cmpi .slt arg0 c8_i32
  let c0_i32_6 : BitVec 32 := 0#32
  let c1_i32_5 : BitVec 32 := 1#32
  let c8_i32_0 : BitVec 32 := 8#32
  let v1 : BitVec 32 := Scalar.subi arg0 c8_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c4_i32 : BitVec 32 := 4#32
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let v19 : BitVec 32 := Scalar.addi c1_i32_5 v18
  let v20 : BitVec 32 := Scalar.select v0 c0_i32_6 v19
  let v33 : Index := Scalar.indexCast v20
  let c0_19 : Index := 0#32
  ![0, 0, v33.toNat, 0]
def k0_off5 (i : grid0.Coords) : Fin 4 → Nat :=
  let c0_20 : Index := 0#32
  let c1 : Index := 1#32
  let arg0 : BitVec 32 := BitVec.ofNat 32 (i 0).val
  let c8_i32 : BitVec 32 := 8#32
  let v0 : BitVec 1 := Scalar.cmpi .slt arg0 c8_i32
  let c0_i32_6 : BitVec 32 := 0#32
  let c1_i32_5 : BitVec 32 := 1#32
  let c8_i32_0 : BitVec 32 := 8#32
  let v1 : BitVec 32 := Scalar.subi arg0 c8_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c4_i32 : BitVec 32 := 4#32
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let v19 : BitVec 32 := Scalar.addi c1_i32_5 v18
  let v20 : BitVec 32 := Scalar.select v0 c0_i32_6 v19
  let v36 : Index := Scalar.indexCast v20
  let c0_21 : Index := 0#32
  ![0, 1, v36.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x9x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S8192x1024 : Shape := ⟨2, ![8192, 1024]⟩
abbrev S2x9x8x1024 : Shape := ⟨4, ![2, 9, 8, 1024]⟩
abbrev S2x3x1024 : Shape := ⟨3, ![2, 3, 1024]⟩
abbrev S2x1024x2816 : Shape := ⟨3, ![2, 1024, 2816]⟩
abbrev S2x2816x1024 : Shape := ⟨3, ![2, 2816, 1024]⟩
abbrev S1x9x8x1024 : Shape := ⟨4, ![1, 9, 8, 1024]⟩
abbrev S9x8x1024 : Shape := ⟨3, ![9, 8, 1024]⟩
abbrev S8x9x1024 : Shape := ⟨3, ![8, 9, 1024]⟩
abbrev S4096x1024 : Shape := ⟨2, ![4096, 1024]⟩
abbrev S16x256x1024 : Shape := ⟨3, ![16, 256, 1024]⟩
abbrev S1x9x1024 : Shape := ⟨3, ![1, 9, 1024]⟩
abbrev S1x1x9x1024 : Shape := ⟨4, ![1, 1, 9, 1024]⟩
abbrev S1x1x3x1024 : Shape := ⟨4, ![1, 1, 3, 1024]⟩
abbrev S1x1x1024 : Shape := ⟨3, ![1, 1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S1x1x1x1024 : Shape := ⟨4, ![1, 1, 1, 1024]⟩
abbrev S1x1024x2816 : Shape := ⟨3, ![1, 1024, 2816]⟩
abbrev S1024x2816 : Shape := ⟨2, ![1024, 2816]⟩
abbrev S16x256x2816 : Shape := ⟨3, ![16, 256, 2816]⟩
abbrev S1x2816x1024 : Shape := ⟨3, ![1, 2816, 1024]⟩
abbrev S2816x1024 : Shape := ⟨2, ![2816, 1024]⟩
abbrev S2x2048x1024 : Shape := ⟨3, ![2, 2048, 1024]⟩
abbrev S2x9x1024 : Shape := ⟨3, ![2, 9, 1024]⟩
abbrev S2x1x9x1024 : Shape := ⟨4, ![2, 1, 9, 1024]⟩
abbrev S2x1x3x1024 : Shape := ⟨4, ![2, 1, 3, 1024]⟩
abbrev S2x2048 : Shape := ⟨2, ![2, 2048]⟩
abbrev S2x2048x1 : Shape := ⟨3, ![2, 2048, 1]⟩
abbrev S2x1x1x1024 : Shape := ⟨4, ![2, 1, 1, 1024]⟩
abbrev S2x1x1024 : Shape := ⟨3, ![2, 1, 1024]⟩
abbrev S2x2048x2816 : Shape := ⟨3, ![2, 2048, 2816]⟩

abbrev nBuf : Space → Nat
  | .hbm => 175
  | .vmem => 0
  | .smem => 0
  | _ => 0

abbrev hbmTy0_0 (i : Nat) : BufTy := match i % 128 with
  | 0 => ⟨S8192x1024, .f32⟩
  | 1 => ⟨S2x9x8x1024, .f32⟩
  | 2 => ⟨S2x3x1024, .f32⟩
  | 3 => ⟨S2x3x1024, .f32⟩
  | 4 => ⟨S2x1024x2816, .f32⟩
  | 5 => ⟨S2x1024x2816, .f32⟩
  | 6 => ⟨S2x2816x1024, .f32⟩
  | 7 => ⟨S1x9x8x1024, .f32⟩
  | 8 => ⟨S9x8x1024, .f32⟩
  | 9 => ⟨S8x9x1024, .f32⟩
  | 10 => ⟨S4096x1024, .f32⟩
  | 11 => ⟨S16x256x1024, .f32⟩
  | 12 => ⟨S1x9x1024, .f32⟩
  | 13 => ⟨S1x1x9x1024, .f32⟩
  | 14 => ⟨S1x1x3x1024, .f32⟩
  | 15 => ⟨S1x1x3x1024, .f32⟩
  | 16 => ⟨S1x1x3x1024, .f32⟩
  | 17 => ⟨S1x1x1024, .f32⟩
  | 18 => ⟨S1024, .f32⟩
  | 19 => ⟨S16x256x1024, .f32⟩
  | 20 => ⟨S_, .f32⟩
  | 21 => ⟨S16x256, .f32⟩
  | 22 => ⟨S16x256x1, .f32⟩
  | 23 => ⟨S_, .f32⟩
  | 24 => ⟨S16x256x1, .f32⟩
  | 25 => ⟨S16x256x1, .f32⟩
  | 26 => ⟨S_, .f32⟩
  | 27 => ⟨S16x256x1, .f32⟩
  | 28 => ⟨S16x256x1, .f32⟩
  | 29 => ⟨S16x256x1, .f32⟩
  | 30 => ⟨S16x256x1024, .f32⟩
  | 31 => ⟨S16x256x1024, .f32⟩
  | 32 => ⟨S1x1x1024, .f32⟩
  | 33 => ⟨S16x256x1024, .f32⟩
  | 34 => ⟨S16x256x1024, .f32⟩
  | 35 => ⟨S1x1x1x1024, .f32⟩
  | 36 => ⟨S1x1x1024, .f32⟩
  | 37 => ⟨S_, .f32⟩
  | 38 => ⟨S1x1x1024, .f32⟩
  | 39 => ⟨S1x1x1024, .f32⟩
  | 40 => ⟨S16x256x1024, .f32⟩
  | 41 => ⟨S16x256x1024, .f32⟩
  | 42 => ⟨S1x1x1x1024, .f32⟩
  | 43 => ⟨S1x1x1024, .f32⟩
  | 44 => ⟨S16x256x1024, .f32⟩
  | 45 => ⟨S16x256x1024, .f32⟩
  | 46 => ⟨S1x1024x2816, .f32⟩
  | 47 => ⟨S1024x2816, .f32⟩
  | 48 => ⟨S16x256x2816, .f32⟩
  | 49 => ⟨S16x256x2816, .f32⟩
  | 50 => ⟨S16x256x2816, .f32⟩
  | 51 => ⟨S_, .f32⟩
  | 52 => ⟨S16x256x2816, .f32⟩
  | 53 => ⟨S16x256x2816, .f32⟩
  | 54 => ⟨S_, .f32⟩
  | 55 => ⟨S16x256x2816, .f32⟩
  | 56 => ⟨S16x256x2816, .f32⟩
  | 57 => ⟨S16x256x2816, .f32⟩
  | 58 => ⟨S1x1024x2816, .f32⟩
  | 59 => ⟨S1024x2816, .f32⟩
  | 60 => ⟨S16x256x2816, .f32⟩
  | 61 => ⟨S16x256x2816, .f32⟩
  | 62 => ⟨S1x2816x1024, .f32⟩
  | 63 => ⟨S2816x1024, .f32⟩
  | 64 => ⟨S16x256x1024, .f32⟩
  | 65 => ⟨S1x1x1x1024, .f32⟩
  | 66 => ⟨S1x1x1024, .f32⟩
  | 67 => ⟨S1x1x1024, .f32⟩
  | 68 => ⟨S1024, .f32⟩
  | 69 => ⟨S16x256x1024, .f32⟩
  | 70 => ⟨S_, .f32⟩
  | 71 => ⟨S16x256, .f32⟩
  | 72 => ⟨S16x256x1, .f32⟩
  | 73 => ⟨S_, .f32⟩
  | 74 => ⟨S16x256x1, .f32⟩
  | 75 => ⟨S16x256x1, .f32⟩
  | 76 => ⟨S_, .f32⟩
  | 77 => ⟨S16x256x1, .f32⟩
  | 78 => ⟨S16x256x1, .f32⟩
  | 79 => ⟨S16x256x1, .f32⟩
  | 80 => ⟨S16x256x1024, .f32⟩
  | 81 => ⟨S16x256x1024, .f32⟩
  | 82 => ⟨S1x1x1024, .f32⟩
  | 83 => ⟨S16x256x1024, .f32⟩
  | 84 => ⟨S16x256x1024, .f32⟩
  | 85 => ⟨S16x256x1024, .f32⟩
  | 86 => ⟨S16x256x1024, .f32⟩
  | 87 => ⟨S_, .f32⟩
  | 88 => ⟨S16x256x1024, .f32⟩
  | 89 => ⟨S16x256x1024, .f32⟩
  | 90 => ⟨S16x256x1024, .f32⟩
  | 91 => ⟨S4096x1024, .f32⟩
  | 92 => ⟨S2x2048x1024, .f32⟩
  | 93 => ⟨S2x9x1024, .f32⟩
  | 94 => ⟨S2x1x9x1024, .f32⟩
  | 95 => ⟨S2x1x3x1024, .f32⟩
  | 96 => ⟨S2x1x3x1024, .f32⟩
  | 97 => ⟨S2x1x3x1024, .f32⟩
  | 98 => ⟨S1x1x1024, .f32⟩
  | 99 => ⟨S1024, .f32⟩
  | 100 => ⟨S2x2048x1024, .f32⟩
  | 101 => ⟨S_, .f32⟩
  | 102 => ⟨S2x2048, .f32⟩
  | 103 => ⟨S2x2048x1, .f32⟩
  | 104 => ⟨S_, .f32⟩
  | 105 => ⟨S2x2048x1, .f32⟩
  | 106 => ⟨S2x2048x1, .f32⟩
  | 107 => ⟨S_, .f32⟩
  | 108 => ⟨S2x2048x1, .f32⟩
  | 109 => ⟨S2x2048x1, .f32⟩
  | 110 => ⟨S2x2048x1, .f32⟩
  | 111 => ⟨S2x2048x1024, .f32⟩
  | 112 => ⟨S2x2048x1024, .f32⟩
  | 113 => ⟨S1x1x1024, .f32⟩
  | 114 => ⟨S2x2048x1024, .f32⟩
  | 115 => ⟨S2x2048x1024, .f32⟩
  | 116 => ⟨S2x1x1x1024, .f32⟩
  | 117 => ⟨S2x1x1024, .f32⟩
  | 118 => ⟨S_, .f32⟩
  | 119 => ⟨S2x1x1024, .f32⟩
  | 120 => ⟨S2x1x1024, .f32⟩
  | 121 => ⟨S2x2048x1024, .f32⟩
  | 122 => ⟨S2x2048x1024, .f32⟩
  | 123 => ⟨S2x1x1x1024, .f32⟩
  | 124 => ⟨S2x1x1024, .f32⟩
  | 125 => ⟨S2x2048x1024, .f32⟩
  | 126 => ⟨S2x2048x1024, .f32⟩
  | 127 => ⟨S1x1024x2816, .f32⟩
  | _ => ⟨S8192x1024, .f32⟩

abbrev hbmTy0_1 (i : Nat) : BufTy := match i % 128 with
  | 0 => ⟨S1024x2816, .f32⟩
  | 1 => ⟨S2x2048x2816, .f32⟩
  | 2 => ⟨S2x2048x2816, .f32⟩
  | 3 => ⟨S2x2048x2816, .f32⟩
  | 4 => ⟨S_, .f32⟩
  | 5 => ⟨S2x2048x2816, .f32⟩
  | 6 => ⟨S2x2048x2816, .f32⟩
  | 7 => ⟨S_, .f32⟩
  | 8 => ⟨S2x2048x2816, .f32⟩
  | 9 => ⟨S2x2048x2816, .f32⟩
  | 10 => ⟨S2x2048x2816, .f32⟩
  | 11 => ⟨S1x1024x2816, .f32⟩
  | 12 => ⟨S1024x2816, .f32⟩
  | 13 => ⟨S2x2048x2816, .f32⟩
  | 14 => ⟨S2x2048x2816, .f32⟩
  | 15 => ⟨S1x2816x1024, .f32⟩
  | 16 => ⟨S2816x1024, .f32⟩
  | 17 => ⟨S2x2048x1024, .f32⟩
  | 18 => ⟨S2x1x1x1024, .f32⟩
  | 19 => ⟨S2x1x1024, .f32⟩
  | 20 => ⟨S1x1x1024, .f32⟩
  | 21 => ⟨S1024, .f32⟩
  | 22 => ⟨S2x2048x1024, .f32⟩
  | 23 => ⟨S_, .f32⟩
  | 24 => ⟨S2x2048, .f32⟩
  | 25 => ⟨S2x2048x1, .f32⟩
  | 26 => ⟨S_, .f32⟩
  | 27 => ⟨S2x2048x1, .f32⟩
  | 28 => ⟨S2x2048x1, .f32⟩
  | 29 => ⟨S_, .f32⟩
  | 30 => ⟨S2x2048x1, .f32⟩
  | 31 => ⟨S2x2048x1, .f32⟩
  | 32 => ⟨S2x2048x1, .f32⟩
  | 33 => ⟨S2x2048x1024, .f32⟩
  | 34 => ⟨S2x2048x1024, .f32⟩
  | 35 => ⟨S1x1x1024, .f32⟩
  | 36 => ⟨S2x2048x1024, .f32⟩
  | 37 => ⟨S2x2048x1024, .f32⟩
  | 38 => ⟨S2x2048x1024, .f32⟩
  | 39 => ⟨S2x2048x1024, .f32⟩
  | 40 => ⟨S_, .f32⟩
  | 41 => ⟨S2x2048x1024, .f32⟩
  | 42 => ⟨S2x2048x1024, .f32⟩
  | 43 => ⟨S2x2048x1024, .f32⟩
  | 44 => ⟨S4096x1024, .f32⟩
  | 45 => ⟨S4096x1024, .f32⟩
  | 46 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_5 : Ref sig .tc := ⟨.hbm, 70, rfl⟩
abbrev main_v57 : Ref sig .tc := ⟨.hbm, 71, rfl⟩
abbrev main_v58 : Ref sig .tc := ⟨.hbm, 72, rfl⟩
abbrev main_cst_6 : Ref sig .tc := ⟨.hbm, 73, rfl⟩
abbrev main_v59 : Ref sig .tc := ⟨.hbm, 74, rfl⟩
abbrev main_v60 : Ref sig .tc := ⟨.hbm, 75, rfl⟩
abbrev main_cst_7 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_8 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_9 : Ref sig .tc := ⟨.hbm, 101, rfl⟩
abbrev main_v84 : Ref sig .tc := ⟨.hbm, 102, rfl⟩
abbrev main_v85 : Ref sig .tc := ⟨.hbm, 103, rfl⟩
abbrev main_cst_10 : Ref sig .tc := ⟨.hbm, 104, rfl⟩
abbrev main_v86 : Ref sig .tc := ⟨.hbm, 105, rfl⟩
abbrev main_v87 : Ref sig .tc := ⟨.hbm, 106, rfl⟩
abbrev main_cst_11 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_cst_12 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_cst_13 : Ref sig .tc := ⟨.hbm, 132, rfl⟩
abbrev main_v111 : Ref sig .tc := ⟨.hbm, 133, rfl⟩
abbrev main_v112 : Ref sig .tc := ⟨.hbm, 134, rfl⟩
abbrev main_cst_14 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_cst_15 : Ref sig .tc := ⟨.hbm, 151, rfl⟩
abbrev main_v128 : Ref sig .tc := ⟨.hbm, 152, rfl⟩
abbrev main_v129 : Ref sig .tc := ⟨.hbm, 153, rfl⟩
abbrev main_cst_16 : Ref sig .tc := ⟨.hbm, 154, rfl⟩
abbrev main_v130 : Ref sig .tc := ⟨.hbm, 155, rfl⟩
abbrev main_v131 : Ref sig .tc := ⟨.hbm, 156, rfl⟩
abbrev main_cst_17 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_cst_18 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩

abbrev nD : Nat := 1
abbrev τ : Topo := Topo.v7x

variable {F : FTy → Type} [FloatOps F]
-- ==== Kernel3.lean ====
abbrev S4096x1024 : Shape := ⟨2, ![4096, 1024]⟩
abbrev S2x9x8x1024 : Shape := ⟨4, ![2, 9, 8, 1024]⟩
abbrev S2x3x1024 : Shape := ⟨3, ![2, 3, 1024]⟩
abbrev S2x1024x2816 : Shape := ⟨3, ![2, 1024, 2816]⟩
abbrev S2x2816x1024 : Shape := ⟨3, ![2, 2816, 1024]⟩
abbrev S8192x1024 : Shape := ⟨2, ![8192, 1024]⟩
abbrev S512x1024 : Shape := ⟨2, ![512, 1024]⟩
abbrev S1x9x8x1024 : Shape := ⟨4, ![1, 9, 8, 1024]⟩
abbrev S1x3x1024 : Shape := ⟨3, ![1, 3, 1024]⟩
abbrev S1024x2816 : Shape := ⟨2, ![1024, 2816]⟩
abbrev S2816x1024 : Shape := ⟨2, ![2816, 1024]⟩
abbrev S1x1x1x1024 : Shape := ⟨4, ![1, 1, 1, 1024]⟩
abbrev S1x1024 : Shape := ⟨2, ![1, 1024]⟩
abbrev S1x1x1024 : Shape := ⟨3, ![1, 1, 1024]⟩
abbrev S6x1024x256 : Shape := ⟨3, ![6, 1024, 256]⟩
abbrev S3x256x1024 : Shape := ⟨3, ![3, 256, 1024]⟩
abbrev S6 : Shape := ⟨1, ![6]⟩
abbrev S3 : Shape := ⟨1, ![3]⟩
abbrev S1 : Shape := ⟨1, ![1]⟩
abbrev S_ : Shape := ⟨0, ![]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩
abbrev S512x256 : Shape := ⟨2, ![512, 256]⟩
abbrev S256x2816 : Shape := ⟨2, ![256, 2816]⟩
abbrev S256 : Shape := ⟨1, ![256]⟩
abbrev S256x1 : Shape := ⟨2, ![256, 1]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x9x8x1024, .f32⟩
  | .hbm, ⟨3, _⟩ => ⟨S2x3x1024, .f32⟩
  | .hbm, ⟨4, _⟩ => ⟨S2x3x1024, .f32⟩
  | .hbm, ⟨5, _⟩ => ⟨S2x1024x2816, .f32⟩
  | .hbm, ⟨6, _⟩ => ⟨S2x1024x2816, .f32⟩
  | .hbm, ⟨7, _⟩ => ⟨S2x2816x1024, .f32⟩
  | .hbm, ⟨8, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x9x8x1024, .f32⟩
  | .local _ .vmem, ⟨5, _⟩ => ⟨S1x3x1024, .f32⟩
  | .local _ .vmem, ⟨6, _⟩ => ⟨S1x3x1024, .f32⟩
  | .local _ .vmem, ⟨7, _⟩ => ⟨S512x1024, .f32⟩
  | .local _ .vmem, ⟨8, _⟩ => ⟨S512x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S6x1024x256, .f32⟩
  | .local _ .vmem, ⟨13, _⟩ => ⟨S3x256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scoped0 : Ref sig .tc := ⟨.vmem, 12, rfl⟩
abbrev cc0_scoped1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def k0_off1 (i : grid0.Coords) : Fin 4 → Nat :=
  let c0 : Index := 0#32
  let c2 : Index := 2#32
  let arg0 : BitVec 32 := BitVec.ofNat 32 (i 0).val
  let c8_i32_0 : BitVec 32 := 8#32
  let v1 : BitVec 1 := Scalar.cmpi .slt arg0 c8_i32_0
  let c0_i32_7 : BitVec 32 := 0#32
  let c1_i32_6 : BitVec 32 := 1#32
  let c8_i32_1 : BitVec 32 := 8#32
  let v2 : BitVec 32 := Scalar.subi arg0 c8_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let v3 : BitVec 32 := Scalar.divsi v2 c4_i32
  let c1_i32 : BitVec 32 := 1#32
  let v18 : BitVec 32 := Scalar.subi v3 c1_i32
  let v19 : BitVec 32 := Scalar.select v17 v18 v3
  let v20 : BitVec 32 := Scalar.addi c1_i32_6 v19
  let v21 : BitVec 32 := Scalar.select v1 c0_i32_7 v20
  let v22 : Index := Scalar.indexCast v21
  let c0_8 : Index := 0#32
  ![0, 2, v22.toNat, 0]
def k0_cond1 (i : grid0.Coords) : BitVec 1 :=
  let arg0 : BitVec 32 := BitVec.ofNat 32 (i 0).val
  let c0_i32_12 : BitVec 32 := 0#32
  let v27 : BitVec 1 := Scalar.cmpi .eq arg0 c0_i32_12
  let v28 : BitVec 32 := Scalar.extui v27
  let c0_i32_13 : BitVec 32 := 0#32
  let v29 : BitVec 1 := Scalar.cmpi .ne v28 c0_i32_13
  v29

def k0_off2 (i : grid0.Coords) : Fin 4 → Nat :=
  let c0_92_r0 : Index := 0#32
  let c0_93_r0 : Index := 0#32
  let arg0 : BitVec 32 := BitVec.ofNat 32 (i 0).val
  let c8_i32_0 : BitVec 32 := 8#32
  let v1 : BitVec 1 := Scalar.cmpi .slt arg0 c8_i32_0
  let c0_i32_7 : BitVec 32 := 0#32
  let c1_i32_6 : BitVec 32 := 1#32
  let c8_i32_1 : BitVec 32 := 8#32
  let v2 : BitVec 32 := Scalar.subi arg0 c8_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let v3 : BitVec 32 := Scalar.divsi v2 c4_i32
  let c1_i32 : BitVec 32 := 1#32
  let v18 : BitVec 32 := Scalar.subi v3 c1_i32
  let v19 : BitVec 32 := Scalar.select v17 v18 v3
  let v20 : BitVec 32 := Scalar.addi c1_i32_6 v19
  let v21 : BitVec 32 := Scalar.select v1 c0_i32_7 v20
  let v80_r0 : Index := Scalar.indexCast v21
  let c0_94_r0 : Index := 0#32
  ![0, 0, v80_r0.toNat, 0]
def k0_off3 (i : grid0.Coords) : Fin 4 → Nat :=
  let c0_95_r0 : Index := 0#32
  let c1_r0 : Index := 1#32
  let arg0 : BitVec 32 := BitVec.ofNat 32 (i 0).val
  let c8_i32_0 : BitVec 32 := 8#32
  let v1 : BitVec 1 := Scalar.cmpi .slt arg0 c8_i32_0
  let c0_i32_7 : BitVec 32 := 0#32
  let c1_i32_6 : BitVec 32 := 1#32
  let c8_i32_1 : BitVec 32 := 8#32
  let v2 : BitVec 32 := Scalar.subi arg0 c8_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let v3 : BitVec 32 := Scalar.divsi v2 c4_i32
  let c1_i32 : BitVec 32 := 1#32
  let v18 : BitVec 32 := Scalar.subi v3 c1_i32
  let v19 : BitVec 32 := Scalar.select v17 v18 v3
  let v20 : BitVec 32 := Scalar.addi c1_i32_6 v19
  let v21 : BitVec 32 := Scalar.select v1 c0_i32_7 v20
  let v83_r0 : Index := Scalar.indexCast v21
  let c0_96_r0 : Index := 0#32
  ![0, 1, v83_r0.toNat, 0]
def k0_cond2 (i : grid0.Coords) : BitVec 1 :=
  let arg0 : BitVec 32 := BitVec.ofNat 32 (i 0).val
  let c0_i32_14 : BitVec 32 := 0#32
  let v30 : BitVec 1 := Scalar.cmpi .ne arg0 c0_i32_14
  let v31 : BitVec 32 := Scalar.extui v30
  let c0_i32_15 : BitVec 32 := 0#32
  let v32 : BitVec 1 := Scalar.cmpi .ne v31 c0_i32_15
  v32

def k0_off4 (i : grid0.Coords) : Fin 4 → Nat :=
  let c0_20 : Index := 0#32
  let c0_21 : Index := 0#32
  let arg0 : BitVec 32 := BitVec.ofNat 32 (i 0).val
  let c8_i32_0 : BitVec 32 := 8#32
  let v1 : BitVec 1 := Scalar.cmpi .slt arg0 c8_i32_0
  let c0_i32_7 : BitVec 32 := 0#32
  let c1_i32_6 : BitVec 32 := 1#32
  let c8_i32_1 : BitVec 32 := 8#32
  let v2 : BitVec 32 := Scalar.subi arg0 c8_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let v3 : BitVec 32 := Scalar.divsi v2 c4_i32
  let c1_i32 : BitVec 32 := 1#32
  let v18 : BitVec 32 := Scalar.subi v3 c1_i32
  let v19 : BitVec 32 := Scalar.select v17 v18 v3
  let v20 : BitVec 32 := Scalar.addi c1_i32_6 v19
  let v21 : BitVec 32 := Scalar.select v1 c0_i32_7 v20
  let v36 : Index := Scalar.indexCast v21
  let c0_22 : Index := 0#32
  ![0, 0, v36.toNat, 0]
def k0_off5 (i : grid0.Coords) : Fin 4 → Nat :=
  let c0_23 : Index := 0#32
  let c1 : Index := 1#32
  let arg0 : BitVec 32 := BitVec.ofNat 32 (i 0).val
  let c8_i32_0 : BitVec 32 := 8#32
  let v1 : BitVec 1 := Scalar.cmpi .slt arg0 c8_i32_0
  let c0_i32_7 : BitVec 32 := 0#32
  let c1_i32_6 : BitVec 32 := 1#32
  let c8_i32_1 : BitVec 32 := 8#32
  let v2 : BitVec 32 := Scalar.subi arg0 c8_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi v2 c4_i32
  let c0_i32_5 : BitVec 32 := 0#32
  let v16 : BitVec 1 := Scalar.cmpi .ne v15 c0_i32_5
  let v17 : BitVec 1 := Scalar.andi v14 v16
  let v3 : BitVec 32 := Scalar.divsi v2 c4_i32
  let c1_i32 : BitVec 32 := 1#32
  let v18 : BitVec 32 := Scalar.subi v3 c1_i32
  let v19 : BitVec 32 := Scalar.select v17 v18 v3
  let v20 : BitVec 32 := Scalar.addi c1_i32_6 v19
  let v21 : BitVec 32 := Scalar.select v1 c0_i32_7 v20
  let v39 : Index := Scalar.indexCast v21
  let c0_24 : Index := 0#32
  ![0, 1, v39.toNat, 0]
def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x9x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S4096x1024 : Shape := ⟨2, ![4096, 1024]⟩
abbrev S2x9x8x1024 : Shape := ⟨4, ![2, 9, 8, 1024]⟩
abbrev S2x3x1024 : Shape := ⟨3, ![2, 3, 1024]⟩
abbrev S2x1024x2816 : Shape := ⟨3, ![2, 1024, 2816]⟩
abbrev S2x2816x1024 : Shape := ⟨3, ![2, 2816, 1024]⟩
abbrev S1x9x8x1024 : Shape := ⟨4, ![1, 9, 8, 1024]⟩
abbrev S9x8x1024 : Shape := ⟨3, ![9, 8, 1024]⟩
abbrev S8x9x1024 : Shape := ⟨3, ![8, 9, 1024]⟩
abbrev S16x256x1024 : Shape := ⟨3, ![16, 256, 1024]⟩
abbrev S1x9x1024 : Shape := ⟨3, ![1, 9, 1024]⟩
abbrev S1x1x9x1024 : Shape := ⟨4, ![1, 1, 9, 1024]⟩
abbrev S1x1x3x1024 : Shape := ⟨4, ![1, 1, 3, 1024]⟩
abbrev S1x1x1024 : Shape := ⟨3, ![1, 1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S1x1x1x1024 : Shape := ⟨4, ![1, 1, 1, 1024]⟩
abbrev S1x1024x2816 : Shape := ⟨3, ![1, 1024, 2816]⟩
abbrev S1024x2816 : Shape := ⟨2, ![1024, 2816]⟩
abbrev S16x256x2816 : Shape := ⟨3, ![16, 256, 2816]⟩
abbrev S1x2816x1024 : Shape := ⟨3, ![1, 2816, 1024]⟩
abbrev S2816x1024 : Shape := ⟨2, ![2816, 1024]⟩
abbrev S2x2048x1024 : Shape := ⟨3, ![2, 2048, 1024]⟩
abbrev S2x9x1024 : Shape := ⟨3, ![2, 9, 1024]⟩
abbrev S2x1x9x1024 : Shape := ⟨4, ![2, 1, 9, 1024]⟩
abbrev S2x1x3x1024 : Shape := ⟨4, ![2, 1, 3, 1024]⟩
abbrev S2x2048 : Shape := ⟨2, ![2, 2048]⟩
abbrev S2x2048x1 : Shape := ⟨3, ![2, 2048, 1]⟩
abbrev S2x1x1x1024 : Shape := ⟨4, ![2, 1, 1, 1024]⟩
abbrev S2x1x1024 : Shape := ⟨3, ![2, 1, 1024]⟩
abbrev S2x2048x2816 : Shape := ⟨3, ![2, 2048, 2816]⟩
abbrev S8192x1024 : Shape := ⟨2, ![8192, 1024]⟩

abbrev nBuf : Space → Nat
  | .hbm => 174
  | .vmem => 0
  | .smem => 0
  | _ => 0

abbrev hbmTy0_0 (i : Nat) : BufTy := match i % 128 with
  | 0 => ⟨S4096x1024, .f32⟩
  | 1 => ⟨S4096x1024, .f32⟩
  | 2 => ⟨S2x9x8x1024, .f32⟩
  | 3 => ⟨S2x3x1024, .f32⟩
  | 4 => ⟨S2x3x1024, .f32⟩
  | 5 => ⟨S2x1024x2816, .f32⟩
  | 6 => ⟨S2x1024x2816, .f32⟩
  | 7 => ⟨S2x2816x1024, .f32⟩
  | 8 => ⟨S1x9x8x1024, .f32⟩
  | 9 => ⟨S9x8x1024, .f32⟩
  | 10 => ⟨S8x9x1024, .f32⟩
  | 11 => ⟨S16x256x1024, .f32⟩
  | 12 => ⟨S1x9x1024, .f32⟩
  | 13 => ⟨S1x1x9x1024, .f32⟩
  | 14 => ⟨S1x1x3x1024, .f32⟩
  | 15 => ⟨S1x1x3x1024, .f32⟩
  | 16 => ⟨S1x1x3x1024, .f32⟩
  | 17 => ⟨S1x1x1024, .f32⟩
  | 18 => ⟨S1024, .f32⟩
  | 19 => ⟨S16x256x1024, .f32⟩
  | 20 => ⟨S_, .f32⟩
  | 21 => ⟨S16x256, .f32⟩
  | 22 => ⟨S16x256x1, .f32⟩
  | 23 => ⟨S_, .f32⟩
  | 24 => ⟨S16x256x1, .f32⟩
  | 25 => ⟨S16x256x1, .f32⟩
  | 26 => ⟨S_, .f32⟩
  | 27 => ⟨S16x256x1, .f32⟩
  | 28 => ⟨S16x256x1, .f32⟩
  | 29 => ⟨S16x256x1, .f32⟩
  | 30 => ⟨S16x256x1024, .f32⟩
  | 31 => ⟨S16x256x1024, .f32⟩
  | 32 => ⟨S1x1x1024, .f32⟩
  | 33 => ⟨S16x256x1024, .f32⟩
  | 34 => ⟨S16x256x1024, .f32⟩
  | 35 => ⟨S1x1x1x1024, .f32⟩
  | 36 => ⟨S1x1x1024, .f32⟩
  | 37 => ⟨S_, .f32⟩
  | 38 => ⟨S1x1x1024, .f32⟩
  | 39 => ⟨S1x1x1024, .f32⟩
  | 40 => ⟨S16x256x1024, .f32⟩
  | 41 => ⟨S16x256x1024, .f32⟩
  | 42 => ⟨S1x1x1x1024, .f32⟩
  | 43 => ⟨S1x1x1024, .f32⟩
  | 44 => ⟨S16x256x1024, .f32⟩
  | 45 => ⟨S16x256x1024, .f32⟩
  | 46 => ⟨S1x1024x2816, .f32⟩
  | 47 => ⟨S1024x2816, .f32⟩
  | 48 => ⟨S16x256x2816, .f32⟩
  | 49 => ⟨S16x256x2816, .f32⟩
  | 50 => ⟨S16x256x2816, .f32⟩
  | 51 => ⟨S_, .f32⟩
  | 52 => ⟨S16x256x2816, .f32⟩
  | 53 => ⟨S16x256x2816, .f32⟩
  | 54 => ⟨S_, .f32⟩
  | 55 => ⟨S16x256x2816, .f32⟩
  | 56 => ⟨S16x256x2816, .f32⟩
  | 57 => ⟨S16x256x2816, .f32⟩
  | 58 => ⟨S1x1024x2816, .f32⟩
  | 59 => ⟨S1024x2816, .f32⟩
  | 60 => ⟨S16x256x2816, .f32⟩
  | 61 => ⟨S16x256x2816, .f32⟩
  | 62 => ⟨S1x2816x1024, .f32⟩
  | 63 => ⟨S2816x1024, .f32⟩
  | 64 => ⟨S16x256x1024, .f32⟩
  | 65 => ⟨S1x1x1x1024, .f32⟩
  | 66 => ⟨S1x1x1024, .f32⟩
  | 67 => ⟨S1x1x1024, .f32⟩
  | 68 => ⟨S1024, .f32⟩
  | 69 => ⟨S16x256x1024, .f32⟩
  | 70 => ⟨S_, .f32⟩
  | 71 => ⟨S16x256, .f32⟩
  | 72 => ⟨S16x256x1, .f32⟩
  | 73 => ⟨S_, .f32⟩
  | 74 => ⟨S16x256x1, .f32⟩
  | 75 => ⟨S16x256x1, .f32⟩
  | 76 => ⟨S_, .f32⟩
  | 77 => ⟨S16x256x1, .f32⟩
  | 78 => ⟨S16x256x1, .f32⟩
  | 79 => ⟨S16x256x1, .f32⟩
  | 80 => ⟨S16x256x1024, .f32⟩
  | 81 => ⟨S16x256x1024, .f32⟩
  | 82 => ⟨S1x1x1024, .f32⟩
  | 83 => ⟨S16x256x1024, .f32⟩
  | 84 => ⟨S16x256x1024, .f32⟩
  | 85 => ⟨S16x256x1024, .f32⟩
  | 86 => ⟨S16x256x1024, .f32⟩
  | 87 => ⟨S_, .f32⟩
  | 88 => ⟨S16x256x1024, .f32⟩
  | 89 => ⟨S16x256x1024, .f32⟩
  | 90 => ⟨S16x256x1024, .f32⟩
  | 91 => ⟨S2x2048x1024, .f32⟩
  | 92 => ⟨S2x9x1024, .f32⟩
  | 93 => ⟨S2x1x9x1024, .f32⟩
  | 94 => ⟨S2x1x3x1024, .f32⟩
  | 95 => ⟨S2x1x3x1024, .f32⟩
  | 96 => ⟨S2x1x3x1024, .f32⟩
  | 97 => ⟨S1x1x1024, .f32⟩
  | 98 => ⟨S1024, .f32⟩
  | 99 => ⟨S2x2048x1024, .f32⟩
  | 100 => ⟨S_, .f32⟩
  | 101 => ⟨S2x2048, .f32⟩
  | 102 => ⟨S2x2048x1, .f32⟩
  | 103 => ⟨S_, .f32⟩
  | 104 => ⟨S2x2048x1, .f32⟩
  | 105 => ⟨S2x2048x1, .f32⟩
  | 106 => ⟨S_, .f32⟩
  | 107 => ⟨S2x2048x1, .f32⟩
  | 108 => ⟨S2x2048x1, .f32⟩
  | 109 => ⟨S2x2048x1, .f32⟩
  | 110 => ⟨S2x2048x1024, .f32⟩
  | 111 => ⟨S2x2048x1024, .f32⟩
  | 112 => ⟨S1x1x1024, .f32⟩
  | 113 => ⟨S2x2048x1024, .f32⟩
  | 114 => ⟨S2x2048x1024, .f32⟩
  | 115 => ⟨S2x1x1x1024, .f32⟩
  | 116 => ⟨S2x1x1024, .f32⟩
  | 117 => ⟨S_, .f32⟩
  | 118 => ⟨S2x1x1024, .f32⟩
  | 119 => ⟨S2x1x1024, .f32⟩
  | 120 => ⟨S2x2048x1024, .f32⟩
  | 121 => ⟨S2x2048x1024, .f32⟩
  | 122 => ⟨S2x1x1x1024, .f32⟩
  | 123 => ⟨S2x1x1024, .f32⟩
  | 124 => ⟨S2x2048x1024, .f32⟩
  | 125 => ⟨S2x2048x1024, .f32⟩
  | 126 => ⟨S1x1024x2816, .f32⟩
  | 127 => ⟨S1024x2816, .f32⟩
  | _ => ⟨S4096x1024, .f32⟩

abbrev hbmTy0_1 (i : Nat) : BufTy := match i % 128 with
  | 0 => ⟨S2x2048x2816, .f32⟩
  | 1 => ⟨S2x2048x2816, .f32⟩
  | 2 => ⟨S2x2048x2816, .f32⟩
  | 3 => ⟨S_, .f32⟩
  | 4 => ⟨S2x2048x2816, .f32⟩
  | 5 => ⟨S2x2048x2816, .f32⟩
  | 6 => ⟨S_, .f32⟩
  | 7 => ⟨S2x2048x2816, .f32⟩
  | 8 => ⟨S2x2048x2816, .f32⟩
  | 9 => ⟨S2x2048x2816, .f32⟩
  | 10 => ⟨S1x1024x2816, .f32⟩
  | 11 => ⟨S1024x2816, .f32⟩
  | 12 => ⟨S2x2048x2816, .f32⟩
  | 13 => ⟨S2x2048x2816, .f32⟩
  | 14 => ⟨S1x2816x1024, .f32⟩
  | 15 => ⟨S2816x1024, .f32⟩
  | 16 => ⟨S2x2048x1024, .f32⟩
  | 17 => ⟨S2x1x1x1024, .f32⟩
  | 18 => ⟨S2x1x1024, .f32⟩
  | 19 => ⟨S1x1x1024, .f32⟩
  | 20 => ⟨S1024, .f32⟩
  | 21 => ⟨S2x2048x1024, .f32⟩
  | 22 => ⟨S_, .f32⟩
  | 23 => ⟨S2x2048, .f32⟩
  | 24 => ⟨S2x2048x1, .f32⟩
  | 25 => ⟨S_, .f32⟩
  | 26 => ⟨S2x2048x1, .f32⟩
  | 27 => ⟨S2x2048x1, .f32⟩
  | 28 => ⟨S_, .f32⟩
  | 29 => ⟨S2x2048x1, .f32⟩
  | 30 => ⟨S2x2048x1, .f32⟩
  | 31 => ⟨S2x2048x1, .f32⟩
  | 32 => ⟨S2x2048x1024, .f32⟩
  | 33 => ⟨S2x2048x1024, .f32⟩
  | 34 => ⟨S1x1x1024, .f32⟩
  | 35 => ⟨S2x2048x1024, .f32⟩
  | 36 => ⟨S2x2048x1024, .f32⟩
  | 37 => ⟨S2x2048x1024, .f32⟩
  | 38 => ⟨S2x2048x1024, .f32⟩
  | 39 => ⟨S_, .f32⟩
  | 40 => ⟨S2x2048x1024, .f32⟩
  | 41 => ⟨S2x2048x1024, .f32⟩
  | 42 => ⟨S2x2048x1024, .f32⟩
  | 43 => ⟨S4096x1024, .f32⟩
  | 44 => ⟨S4096x1024, .f32⟩
  | 45 => ⟨S8192x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_5 : Ref sig .tc := ⟨.hbm, 70, rfl⟩
abbrev main_v56 : Ref sig .tc := ⟨.hbm, 71, rfl⟩
abbrev main_v57 : Ref sig .tc := ⟨.hbm, 72, rfl⟩
abbrev main_cst_6 : Ref sig .tc := ⟨.hbm, 73, rfl⟩
abbrev main_v58 : Ref sig .tc := ⟨.hbm, 74, rfl⟩
abbrev main_v59 : Ref sig .tc := ⟨.hbm, 75, rfl⟩
abbrev main_cst_7 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_8 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_9 : Ref sig .tc := ⟨.hbm, 100, rfl⟩
abbrev main_v82 : Ref sig .tc := ⟨.hbm, 101, rfl⟩
abbrev main_v83 : Ref sig .tc := ⟨.hbm, 102, rfl⟩
abbrev main_cst_10 : Ref sig .tc := ⟨.hbm, 103, rfl⟩
abbrev main_v84 : Ref sig .tc := ⟨.hbm, 104, rfl⟩
abbrev main_v85 : Ref sig .tc := ⟨.hbm, 105, rfl⟩
abbrev main_cst_11 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_cst_12 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_cst_13 : Ref sig .tc := ⟨.hbm, 131, rfl⟩
abbrev main_v109 : Ref sig .tc := ⟨.hbm, 132, rfl⟩
abbrev main_v110 : Ref sig .tc := ⟨.hbm, 133, rfl⟩
abbrev main_cst_14 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_cst_15 : Ref sig .tc := ⟨.hbm, 150, rfl⟩
abbrev main_v126 : Ref sig .tc := ⟨.hbm, 151, rfl⟩
abbrev main_v127 : Ref sig .tc := ⟨.hbm, 152, rfl⟩
abbrev main_cst_16 : Ref sig .tc := ⟨.hbm, 153, rfl⟩
abbrev main_v128 : Ref sig .tc := ⟨.hbm, 154, rfl⟩
abbrev main_v129 : Ref sig .tc := ⟨.hbm, 155, rfl⟩
abbrev main_cst_17 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_cst_18 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩

abbrev nD : Nat := 1
abbrev τ : Topo := Topo.v7x

variable {F : FTy → Type} [FloatOps F]
-- ==== Kernel4.lean ====
abbrev S8192x1024 : Shape := ⟨2, ![8192, 1024]⟩
abbrev S8192x512 : Shape := ⟨2, ![8192, 512]⟩
abbrev S2x9x8x1024 : Shape := ⟨4, ![2, 9, 8, 1024]⟩
abbrev S2x3x1024 : Shape := ⟨3, ![2, 3, 1024]⟩
abbrev S2x1024x2816 : Shape := ⟨3, ![2, 1024, 2816]⟩
abbrev S2x2816x1024 : Shape := ⟨3, ![2, 2816, 1024]⟩
abbrev S2x1024x1024 : Shape := ⟨3, ![2, 1024, 1024]⟩
abbrev S512x1024 : Shape := ⟨2, ![512, 1024]⟩
abbrev S512x512 : Shape := ⟨2, ![512, 512]⟩
abbrev S1x9x8x1024 : Shape := ⟨4, ![1, 9, 8, 1024]⟩
abbrev S1x3x1024 : Shape := ⟨3, ![1, 3, 1024]⟩
abbrev S1024x2816 : Shape := ⟨2, ![1024, 2816]⟩
abbrev S2816x1024 : Shape := ⟨2, ![2816, 1024]⟩
abbrev S1024x1024 : Shape := ⟨2, ![1024, 1024]⟩
abbrev S1x1x1x1024 : Shape := ⟨4, ![1, 1, 1, 1024]⟩
abbrev S1x1024 : Shape := ⟨2, ![1, 1024]⟩
abbrev S1x1x1024 : Shape := ⟨3, ![1, 1, 1024]⟩
abbrev S6x1024x256 : Shape := ⟨3, ![6, 1024, 256]⟩
abbrev S3x256x1024 : Shape := ⟨3, ![3, 256, 1024]⟩
abbrev S6 : Shape := ⟨1, ![6]⟩
abbrev S3 : Shape := ⟨1, ![3]⟩
abbrev S1 : Shape := ⟨1, ![1]⟩
abbrev S_ : Shape := ⟨0, ![]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S512x256 : Shape := ⟨2, ![512, 256]⟩
abbrev S512 : Shape := ⟨1, ![512]⟩
abbrev S512x1 : Shape := ⟨2, ![512, 1]⟩
abbrev S256x2816 : Shape := ⟨2, ![256, 2816]⟩
abbrev S256 : Shape := ⟨1, ![256]⟩
abbrev S256x1 : Shape := ⟨2, ![256, 1]⟩

abbrev nBuf : Space → Nat
  | .hbm => 11
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S2x9x8x1024, .f32⟩
  | .hbm, ⟨4, _⟩ => ⟨S2x3x1024, .f32⟩
  | .hbm, ⟨5, _⟩ => ⟨S2x3x1024, .f32⟩
  | .hbm, ⟨6, _⟩ => ⟨S2x1024x2816, .f32⟩
  | .hbm, ⟨7, _⟩ => ⟨S2x1024x2816, .f32⟩
  | .hbm, ⟨8, _⟩ => ⟨S2x2816x1024, .f32⟩
  | .hbm, ⟨9, _⟩ => ⟨S2x1024x1024, .f32⟩
  | .hbm, ⟨10, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x9x8x1024, .f32⟩
  | .local _ .vmem, ⟨7, _⟩ => ⟨S1x3x1024, .f32⟩
  | .local _ .vmem, ⟨8, _⟩ => ⟨S1x3x1024, .f32⟩
  | .local _ .vmem, ⟨9, _⟩ => ⟨S512x1024, .f32⟩
  | .local _ .vmem, ⟨10, _⟩ => ⟨S512x1024, .f32⟩
  | .local _ .vmem, ⟨11, _⟩ => ⟨S1024x2816, .bf16⟩
  | .local _ .vmem, ⟨12, _⟩ => ⟨S1024x2816, .bf16⟩
  | .local _ .vmem, ⟨13, _⟩ => ⟨S2816x1024, .bf16⟩
  | .local _ .vmem, ⟨14, _⟩ => ⟨S1024x1024, .bf16⟩
  | .local _ .vmem, ⟨15, _⟩ => ⟨S6x1024x256, .f32⟩
  | .local _ .vmem, ⟨16, _⟩ => ⟨S3x256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scoped0 : Ref sig .tc := ⟨.vmem, 15, rfl⟩
abbrev cc0_scoped1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def k0_off1 (i : grid0.Coords) : Fin 4 → Nat :=
  let c0 : Index := 0#32
  let c8 : Index := 8#32
  let arg0 : BitVec 32 := BitVec.ofNat 32 (i 0).val
  let c8_i32 : BitVec 32 := 8#32
  let v0 : BitVec 1 := Scalar.cmpi .slt arg0 c8_i32
  let c0_i32_6 : BitVec 32 := 0#32
  let c1_i32_5 : BitVec 32 := 1#32
  let c8_i32_0 : BitVec 32 := 8#32
  let v1 : BitVec 32 := Scalar.subi arg0 c8_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c4_i32 : BitVec 32 := 4#32
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let v19 : BitVec 32 := Scalar.addi c1_i32_5 v18
  let v20 : BitVec 32 := Scalar.select v0 c0_i32_6 v19
  let v21 : Index := Scalar.indexCast v20
  let c0_7 : Index := 0#32
  ![0, 8, v21.toNat, 0]
def k0_cond1 (i : grid0.Coords) : BitVec 1 :=
  let arg0 : BitVec 32 := BitVec.ofNat 32 (i 0).val
  let c0_i32_10 : BitVec 32 := 0#32
  let v26 : BitVec 1 := Scalar.cmpi .eq arg0 c0_i32_10
  let v27 : BitVec 32 := Scalar.extui v26
  let c0_i32_11 : BitVec 32 := 0#32
  let v28 : BitVec 1 := Scalar.cmpi .ne v27 c0_i32_11
  v28

def k0_off2 (i : grid0.Coords) : Fin 4 → Nat :=
  let c0_169_r0 : Index := 0#32
  let c5_r0 : Index := 5#32
  let arg0 : BitVec 32 := BitVec.ofNat 32 (i 0).val
  let c8_i32 : BitVec 32 := 8#32
  let v0 : BitVec 1 := Scalar.cmpi .slt arg0 c8_i32
  let c0_i32_6 : BitVec 32 := 0#32
  let c1_i32_5 : BitVec 32 := 1#32
  let c8_i32_0 : BitVec 32 := 8#32
  let v1 : BitVec 32 := Scalar.subi arg0 c8_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c4_i32 : BitVec 32 := 4#32
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let v19 : BitVec 32 := Scalar.addi c1_i32_5 v18
  let v20 : BitVec 32 := Scalar.select v0 c0_i32_6 v19
  let v156_r0 : Index := Scalar.indexCast v20
  let c0_170_r0 : Index := 0#32
  ![0, 5, v156_r0.toNat, 0]
def k0_off3 (i : grid0.Coords) : Fin 4 → Nat :=
  let c0_177_r0 : Index := 0#32
  let c6_r0 : Index := 6#32
  let arg0 : BitVec 32 := BitVec.ofNat 32 (i 0).val
  let c8_i32 : BitVec 32 := 8#32
  let v0 : BitVec 1 := Scalar.cmpi .slt arg0 c8_i32
  let c0_i32_6 : BitVec 32 := 0#32
  let c1_i32_5 : BitVec 32 := 1#32
  let c8_i32_0 : BitVec 32 := 8#32
  let v1 : BitVec 32 := Scalar.subi arg0 c8_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c4_i32 : BitVec 32 := 4#32
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let v19 : BitVec 32 := Scalar.addi c1_i32_5 v18
  let v20 : BitVec 32 := Scalar.select v0 c0_i32_6 v19
  let v176_r0 : Index := Scalar.indexCast v20
  let c0_178_r0 : Index := 0#32
  ![0, 6, v176_r0.toNat, 0]
def k0_off4 (i : grid0.Coords) : Fin 4 → Nat :=
  let c0_179_r0 : Index := 0#32
  let c7_r0 : Index := 7#32
  let arg0 : BitVec 32 := BitVec.ofNat 32 (i 0).val
  let c8_i32 : BitVec 32 := 8#32
  let v0 : BitVec 1 := Scalar.cmpi .slt arg0 c8_i32
  let c0_i32_6 : BitVec 32 := 0#32
  let c1_i32_5 : BitVec 32 := 1#32
  let c8_i32_0 : BitVec 32 := 8#32
  let v1 : BitVec 32 := Scalar.subi arg0 c8_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c4_i32 : BitVec 32 := 4#32
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let v19 : BitVec 32 := Scalar.addi c1_i32_5 v18
  let v20 : BitVec 32 := Scalar.select v0 c0_i32_6 v19
  let v179_r0 : Index := Scalar.indexCast v20
  let c0_180_r0 : Index := 0#32
  ![0, 7, v179_r0.toNat, 0]
def k0_cond2 (i : grid0.Coords) : BitVec 1 :=
  let arg0 : BitVec 32 := BitVec.ofNat 32 (i 0).val
  let c0_i32_12 : BitVec 32 := 0#32
  let v29 : BitVec 1 := Scalar.cmpi .ne arg0 c0_i32_12
  let v30 : BitVec 32 := Scalar.extui v29
  let c0_i32_13 : BitVec 32 := 0#32
  let v31 : BitVec 1 := Scalar.cmpi .ne v30 c0_i32_13
  v31

def k0_off5 (i : grid0.Coords) : Fin 4 → Nat :=
  let c0_25 : Index := 0#32
  let c5 : Index := 5#32
  let arg0 : BitVec 32 := BitVec.ofNat 32 (i 0).val
  let c8_i32 : BitVec 32 := 8#32
  let v0 : BitVec 1 := Scalar.cmpi .slt arg0 c8_i32
  let c0_i32_6 : BitVec 32 := 0#32
  let c1_i32_5 : BitVec 32 := 1#32
  let c8_i32_0 : BitVec 32 := 8#32
  let v1 : BitVec 32 := Scalar.subi arg0 c8_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c4_i32 : BitVec 32 := 4#32
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let v19 : BitVec 32 := Scalar.addi c1_i32_5 v18
  let v20 : BitVec 32 := Scalar.select v0 c0_i32_6 v19
  let v40 : Index := Scalar.indexCast v20
  let c0_26 : Index := 0#32
  ![0, 5, v40.toNat, 0]
def k0_off6 (i : grid0.Coords) : Fin 4 → Nat :=
  let c0_32 : Index := 0#32
  let c6 : Index := 6#32
  let arg0 : BitVec 32 := BitVec.ofNat 32 (i 0).val
  let c8_i32 : BitVec 32 := 8#32
  let v0 : BitVec 1 := Scalar.cmpi .slt arg0 c8_i32
  let c0_i32_6 : BitVec 32 := 0#32
  let c1_i32_5 : BitVec 32 := 1#32
  let c8_i32_0 : BitVec 32 := 8#32
  let v1 : BitVec 32 := Scalar.subi arg0 c8_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c4_i32 : BitVec 32 := 4#32
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let v19 : BitVec 32 := Scalar.addi c1_i32_5 v18
  let v20 : BitVec 32 := Scalar.select v0 c0_i32_6 v19
  let v60 : Index := Scalar.indexCast v20
  let c0_33 : Index := 0#32
  ![0, 6, v60.toNat, 0]
def k0_off7 (i : grid0.Coords) : Fin 4 → Nat :=
  let c0_34 : Index := 0#32
  let c7 : Index := 7#32
  let arg0 : BitVec 32 := BitVec.ofNat 32 (i 0).val
  let c8_i32 : BitVec 32 := 8#32
  let v0 : BitVec 1 := Scalar.cmpi .slt arg0 c8_i32
  let c0_i32_6 : BitVec 32 := 0#32
  let c1_i32_5 : BitVec 32 := 1#32
  let c8_i32_0 : BitVec 32 := 8#32
  let v1 : BitVec 32 := Scalar.subi arg0 c8_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c4_i32 : BitVec 32 := 4#32
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let v19 : BitVec 32 := Scalar.addi c1_i32_5 v18
  let v20 : BitVec 32 := Scalar.select v0 c0_i32_6 v19
  let v63 : Index := Scalar.indexCast v20
  let c0_35 : Index := 0#32
  ![0, 7, v63.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x9x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S8192x1024 : Shape := ⟨2, ![8192, 1024]⟩
abbrev S8192x512 : Shape := ⟨2, ![8192, 512]⟩
abbrev S2x9x8x1024 : Shape := ⟨4, ![2, 9, 8, 1024]⟩
abbrev S2x3x1024 : Shape := ⟨3, ![2, 3, 1024]⟩
abbrev S2x1024x2816 : Shape := ⟨3, ![2, 1024, 2816]⟩
abbrev S2x2816x1024 : Shape := ⟨3, ![2, 2816, 1024]⟩
abbrev S2x1024x1024 : Shape := ⟨3, ![2, 1024, 1024]⟩
abbrev S8192x256 : Shape := ⟨2, ![8192, 256]⟩
abbrev S1x9x8x1024 : Shape := ⟨4, ![1, 9, 8, 1024]⟩
abbrev S9x8x1024 : Shape := ⟨3, ![9, 8, 1024]⟩
abbrev S8x9x1024 : Shape := ⟨3, ![8, 9, 1024]⟩
abbrev S4096x1024 : Shape := ⟨2, ![4096, 1024]⟩
abbrev S16x256x1024 : Shape := ⟨3, ![16, 256, 1024]⟩
abbrev S4096x256 : Shape := ⟨2, ![4096, 256]⟩
abbrev S16x256x256 : Shape := ⟨3, ![16, 256, 256]⟩
abbrev S1x9x1024 : Shape := ⟨3, ![1, 9, 1024]⟩
abbrev S1x1x9x1024 : Shape := ⟨4, ![1, 1, 9, 1024]⟩
abbrev S1x1x3x1024 : Shape := ⟨4, ![1, 1, 3, 1024]⟩
abbrev S1x1024x1024 : Shape := ⟨3, ![1, 1024, 1024]⟩
abbrev S1024x1024 : Shape := ⟨2, ![1024, 1024]⟩
abbrev S1x1x1x1024 : Shape := ⟨4, ![1, 1, 1, 1024]⟩
abbrev S1x1x1024 : Shape := ⟨3, ![1, 1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S1x1024x2816 : Shape := ⟨3, ![1, 1024, 2816]⟩
abbrev S1024x2816 : Shape := ⟨2, ![1024, 2816]⟩
abbrev S16x256x2816 : Shape := ⟨3, ![16, 256, 2816]⟩
abbrev S1x2816x1024 : Shape := ⟨3, ![1, 2816, 1024]⟩
abbrev S2816x1024 : Shape := ⟨2, ![2816, 1024]⟩
abbrev S2x2048x1024 : Shape := ⟨3, ![2, 2048, 1024]⟩
abbrev S2x2048x256 : Shape := ⟨3, ![2, 2048, 256]⟩
abbrev S2x9x1024 : Shape := ⟨3, ![2, 9, 1024]⟩
abbrev S2x1x9x1024 : Shape := ⟨4, ![2, 1, 9, 1024]⟩
abbrev S2x1x3x1024 : Shape := ⟨4, ![2, 1, 3, 1024]⟩
abbrev S2x1x1x1024 : Shape := ⟨4, ![2, 1, 1, 1024]⟩
abbrev S2x1x1024 : Shape := ⟨3, ![2, 1, 1024]⟩
abbrev S2x2048 : Shape := ⟨2, ![2, 2048]⟩
abbrev S2x2048x1 : Shape := ⟨3, ![2, 2048, 1]⟩
abbrev S2x2048x2816 : Shape := ⟨3, ![2, 2048, 2816]⟩

abbrev nBuf : Space → Nat
  | .hbm => 256
  | .vmem => 0
  | .smem => 0
  | _ => 0

abbrev hbmTy0_0 (i : Nat) : BufTy := match i % 128 with
  | 0 => ⟨S8192x1024, .f32⟩
  | 1 => ⟨S8192x512, .bf16⟩
  | 2 => ⟨S8192x512, .bf16⟩
  | 3 => ⟨S2x9x8x1024, .f32⟩
  | 4 => ⟨S2x3x1024, .f32⟩
  | 5 => ⟨S2x3x1024, .f32⟩
  | 6 => ⟨S2x1024x2816, .f32⟩
  | 7 => ⟨S2x1024x2816, .f32⟩
  | 8 => ⟨S2x2816x1024, .f32⟩
  | 9 => ⟨S2x1024x1024, .f32⟩
  | 10 => ⟨S8192x256, .bf16⟩
  | 11 => ⟨S8192x256, .f32⟩
  | 12 => ⟨S8192x256, .bf16⟩
  | 13 => ⟨S8192x256, .f32⟩
  | 14 => ⟨S8192x256, .bf16⟩
  | 15 => ⟨S8192x256, .f32⟩
  | 16 => ⟨S8192x256, .bf16⟩
  | 17 => ⟨S8192x256, .f32⟩
  | 18 => ⟨S1x9x8x1024, .f32⟩
  | 19 => ⟨S9x8x1024, .f32⟩
  | 20 => ⟨S8x9x1024, .f32⟩
  | 21 => ⟨S4096x1024, .f32⟩
  | 22 => ⟨S16x256x1024, .f32⟩
  | 23 => ⟨S4096x256, .f32⟩
  | 24 => ⟨S16x256x256, .f32⟩
  | 25 => ⟨S4096x256, .f32⟩
  | 26 => ⟨S16x256x256, .f32⟩
  | 27 => ⟨S4096x256, .f32⟩
  | 28 => ⟨S16x256x256, .f32⟩
  | 29 => ⟨S4096x256, .f32⟩
  | 30 => ⟨S16x256x256, .f32⟩
  | 31 => ⟨S1x9x1024, .f32⟩
  | 32 => ⟨S1x1x9x1024, .f32⟩
  | 33 => ⟨S1x1x3x1024, .f32⟩
  | 34 => ⟨S1x1x3x1024, .f32⟩
  | 35 => ⟨S1x1x3x1024, .f32⟩
  | 36 => ⟨S16x256x1024, .f32⟩
  | 37 => ⟨S1x1024x1024, .f32⟩
  | 38 => ⟨S1024x1024, .f32⟩
  | 39 => ⟨S16x256x1024, .f32⟩
  | 40 => ⟨S1x1x1x1024, .f32⟩
  | 41 => ⟨S1x1x1024, .f32⟩
  | 42 => ⟨S1x1x1024, .f32⟩
  | 43 => ⟨S1024, .f32⟩
  | 44 => ⟨S16x256x1024, .f32⟩
  | 45 => ⟨S_, .f32⟩
  | 46 => ⟨S16x256, .f32⟩
  | 47 => ⟨S16x256x1, .f32⟩
  | 48 => ⟨S_, .f32⟩
  | 49 => ⟨S16x256x1, .f32⟩
  | 50 => ⟨S16x256x1, .f32⟩
  | 51 => ⟨S_, .f32⟩
  | 52 => ⟨S16x256x1, .f32⟩
  | 53 => ⟨S16x256x1, .f32⟩
  | 54 => ⟨S16x256x1, .f32⟩
  | 55 => ⟨S16x256x1024, .f32⟩
  | 56 => ⟨S16x256x1024, .f32⟩
  | 57 => ⟨S1x1x1024, .f32⟩
  | 58 => ⟨S16x256x1024, .f32⟩
  | 59 => ⟨S16x256x1024, .f32⟩
  | 60 => ⟨S16x256x1024, .f32⟩
  | 61 => ⟨S16x256x1024, .f32⟩
  | 62 => ⟨S16x256x1024, .f32⟩
  | 63 => ⟨S1x1x1024, .f32⟩
  | 64 => ⟨S1024, .f32⟩
  | 65 => ⟨S16x256x1024, .f32⟩
  | 66 => ⟨S_, .f32⟩
  | 67 => ⟨S16x256, .f32⟩
  | 68 => ⟨S16x256x1, .f32⟩
  | 69 => ⟨S_, .f32⟩
  | 70 => ⟨S16x256x1, .f32⟩
  | 71 => ⟨S16x256x1, .f32⟩
  | 72 => ⟨S_, .f32⟩
  | 73 => ⟨S16x256x1, .f32⟩
  | 74 => ⟨S16x256x1, .f32⟩
  | 75 => ⟨S16x256x1, .f32⟩
  | 76 => ⟨S16x256x1024, .f32⟩
  | 77 => ⟨S16x256x1024, .f32⟩
  | 78 => ⟨S1x1x1024, .f32⟩
  | 79 => ⟨S16x256x1024, .f32⟩
  | 80 => ⟨S16x256x1024, .f32⟩
  | 81 => ⟨S1x1x1x1024, .f32⟩
  | 82 => ⟨S1x1x1024, .f32⟩
  | 83 => ⟨S_, .f32⟩
  | 84 => ⟨S1x1x1024, .f32⟩
  | 85 => ⟨S1x1x1024, .f32⟩
  | 86 => ⟨S16x256x1024, .f32⟩
  | 87 => ⟨S16x256x1024, .f32⟩
  | 88 => ⟨S1x1x1x1024, .f32⟩
  | 89 => ⟨S1x1x1024, .f32⟩
  | 90 => ⟨S16x256x1024, .f32⟩
  | 91 => ⟨S16x256x1024, .f32⟩
  | 92 => ⟨S1x1024x2816, .f32⟩
  | 93 => ⟨S1024x2816, .f32⟩
  | 94 => ⟨S16x256x2816, .f32⟩
  | 95 => ⟨S16x256x2816, .f32⟩
  | 96 => ⟨S16x256x2816, .f32⟩
  | 97 => ⟨S_, .f32⟩
  | 98 => ⟨S16x256x2816, .f32⟩
  | 99 => ⟨S16x256x2816, .f32⟩
  | 100 => ⟨S_, .f32⟩
  | 101 => ⟨S16x256x2816, .f32⟩
  | 102 => ⟨S16x256x2816, .f32⟩
  | 103 => ⟨S16x256x2816, .f32⟩
  | 104 => ⟨S1x1024x2816, .f32⟩
  | 105 => ⟨S1024x2816, .f32⟩
  | 106 => ⟨S16x256x2816, .f32⟩
  | 107 => ⟨S16x256x2816, .f32⟩
  | 108 => ⟨S1x2816x1024, .f32⟩
  | 109 => ⟨S2816x1024, .f32⟩
  | 110 => ⟨S16x256x1024, .f32⟩
  | 111 => ⟨S1x1x1x1024, .f32⟩
  | 112 => ⟨S1x1x1024, .f32⟩
  | 113 => ⟨S1x1x1024, .f32⟩
  | 114 => ⟨S1024, .f32⟩
  | 115 => ⟨S16x256x1024, .f32⟩
  | 116 => ⟨S_, .f32⟩
  | 117 => ⟨S16x256, .f32⟩
  | 118 => ⟨S16x256x1, .f32⟩
  | 119 => ⟨S_, .f32⟩
  | 120 => ⟨S16x256x1, .f32⟩
  | 121 => ⟨S16x256x1, .f32⟩
  | 122 => ⟨S_, .f32⟩
  | 123 => ⟨S16x256x1, .f32⟩
  | 124 => ⟨S16x256x1, .f32⟩
  | 125 => ⟨S16x256x1, .f32⟩
  | 126 => ⟨S16x256x1024, .f32⟩
  | 127 => ⟨S16x256x1024, .f32⟩
  | _ => ⟨S8192x1024, .f32⟩

abbrev hbmTy0_1 (i : Nat) : BufTy := match i % 128 with
  | 0 => ⟨S1x1x1024, .f32⟩
  | 1 => ⟨S16x256x1024, .f32⟩
  | 2 => ⟨S16x256x1024, .f32⟩
  | 3 => ⟨S16x256x1024, .f32⟩
  | 4 => ⟨S16x256x1024, .f32⟩
  | 5 => ⟨S_, .f32⟩
  | 6 => ⟨S16x256x1024, .f32⟩
  | 7 => ⟨S16x256x1024, .f32⟩
  | 8 => ⟨S16x256x1024, .f32⟩
  | 9 => ⟨S4096x1024, .f32⟩
  | 10 => ⟨S2x2048x1024, .f32⟩
  | 11 => ⟨S4096x256, .f32⟩
  | 12 => ⟨S2x2048x256, .f32⟩
  | 13 => ⟨S4096x256, .f32⟩
  | 14 => ⟨S2x2048x256, .f32⟩
  | 15 => ⟨S4096x256, .f32⟩
  | 16 => ⟨S2x2048x256, .f32⟩
  | 17 => ⟨S4096x256, .f32⟩
  | 18 => ⟨S2x2048x256, .f32⟩
  | 19 => ⟨S2x9x1024, .f32⟩
  | 20 => ⟨S2x1x9x1024, .f32⟩
  | 21 => ⟨S2x1x3x1024, .f32⟩
  | 22 => ⟨S2x1x3x1024, .f32⟩
  | 23 => ⟨S2x1x3x1024, .f32⟩
  | 24 => ⟨S2x2048x1024, .f32⟩
  | 25 => ⟨S1x1024x1024, .f32⟩
  | 26 => ⟨S1024x1024, .f32⟩
  | 27 => ⟨S2x2048x1024, .f32⟩
  | 28 => ⟨S2x1x1x1024, .f32⟩
  | 29 => ⟨S2x1x1024, .f32⟩
  | 30 => ⟨S1x1x1024, .f32⟩
  | 31 => ⟨S1024, .f32⟩
  | 32 => ⟨S2x2048x1024, .f32⟩
  | 33 => ⟨S_, .f32⟩
  | 34 => ⟨S2x2048, .f32⟩
  | 35 => ⟨S2x2048x1, .f32⟩
  | 36 => ⟨S_, .f32⟩
  | 37 => ⟨S2x2048x1, .f32⟩
  | 38 => ⟨S2x2048x1, .f32⟩
  | 39 => ⟨S_, .f32⟩
  | 40 => ⟨S2x2048x1, .f32⟩
  | 41 => ⟨S2x2048x1, .f32⟩
  | 42 => ⟨S2x2048x1, .f32⟩
  | 43 => ⟨S2x2048x1024, .f32⟩
  | 44 => ⟨S2x2048x1024, .f32⟩
  | 45 => ⟨S1x1x1024, .f32⟩
  | 46 => ⟨S2x2048x1024, .f32⟩
  | 47 => ⟨S2x2048x1024, .f32⟩
  | 48 => ⟨S2x2048x1024, .f32⟩
  | 49 => ⟨S2x2048x1024, .f32⟩
  | 50 => ⟨S2x2048x1024, .f32⟩
  | 51 => ⟨S1x1x1024, .f32⟩
  | 52 => ⟨S1024, .f32⟩
  | 53 => ⟨S2x2048x1024, .f32⟩
  | 54 => ⟨S_, .f32⟩
  | 55 => ⟨S2x2048, .f32⟩
  | 56 => ⟨S2x2048x1, .f32⟩
  | 57 => ⟨S_, .f32⟩
  | 58 => ⟨S2x2048x1, .f32⟩
  | 59 => ⟨S2x2048x1, .f32⟩
  | 60 => ⟨S_, .f32⟩
  | 61 => ⟨S2x2048x1, .f32⟩
  | 62 => ⟨S2x2048x1, .f32⟩
  | 63 => ⟨S2x2048x1, .f32⟩
  | 64 => ⟨S2x2048x1024, .f32⟩
  | 65 => ⟨S2x2048x1024, .f32⟩
  | 66 => ⟨S1x1x1024, .f32⟩
  | 67 => ⟨S2x2048x1024, .f32⟩
  | 68 => ⟨S2x2048x1024, .f32⟩
  | 69 => ⟨S2x1x1x1024, .f32⟩
  | 70 => ⟨S2x1x1024, .f32⟩
  | 71 => ⟨S_, .f32⟩
  | 72 => ⟨S2x1x1024, .f32⟩
  | 73 => ⟨S2x1x1024, .f32⟩
  | 74 => ⟨S2x2048x1024, .f32⟩
  | 75 => ⟨S2x2048x1024, .f32⟩
  | 76 => ⟨S2x1x1x1024, .f32⟩
  | 77 => ⟨S2x1x1024, .f32⟩
  | 78 => ⟨S2x2048x1024, .f32⟩
  | 79 => ⟨S2x2048x1024, .f32⟩
  | 80 => ⟨S1x1024x2816, .f32⟩
  | 81 => ⟨S1024x2816, .f32⟩
  | 82 => ⟨S2x2048x2816, .f32⟩
  | 83 => ⟨S2x2048x2816, .f32⟩
  | 84 => ⟨S2x2048x2816, .f32⟩
  | 85 => ⟨S_, .f32⟩
  | 86 => ⟨S2x2048x2816, .f32⟩
  | 87 => ⟨S2x2048x2816, .f32⟩
  | 88 => ⟨S_, .f32⟩
  | 89 => ⟨S2x2048x2816, .f32⟩
  | 90 => ⟨S2x2048x2816, .f32⟩
  | 91 => ⟨S2x2048x2816, .f32⟩
  | 92 => ⟨S1x1024x2816, .f32⟩
  | 93 => ⟨S1024x2816, .f32⟩
  | 94 => ⟨S2x2048x2816, .f32⟩
  | 95 => ⟨S2x2048x2816, .f32⟩
  | 96 => ⟨S1x2816x1024, .f32⟩
  | 97 => ⟨S2816x1024, .f32⟩
  | 98 => ⟨S2x2048x1024, .f32⟩
  | 99 => ⟨S2x1x1x1024, .f32⟩
  | 100 => ⟨S2x1x1024, .f32⟩
  | 101 => ⟨S1x1x1024, .f32⟩
  | 102 => ⟨S1024, .f32⟩
  | 103 => ⟨S2x2048x1024, .f32⟩
  | 104 => ⟨S_, .f32⟩
  | 105 => ⟨S2x2048, .f32⟩
  | 106 => ⟨S2x2048x1, .f32⟩
  | 107 => ⟨S_, .f32⟩
  | 108 => ⟨S2x2048x1, .f32⟩
  | 109 => ⟨S2x2048x1, .f32⟩
  | 110 => ⟨S_, .f32⟩
  | 111 => ⟨S2x2048x1, .f32⟩
  | 112 => ⟨S2x2048x1, .f32⟩
  | 113 => ⟨S2x2048x1, .f32⟩
  | 114 => ⟨S2x2048x1024, .f32⟩
  | 115 => ⟨S2x2048x1024, .f32⟩
  | 116 => ⟨S1x1x1024, .f32⟩
  | 117 => ⟨S2x2048x1024, .f32⟩
  | 118 => ⟨S2x2048x1024, .f32⟩
  | 119 => ⟨S2x2048x1024, .f32⟩
  | 120 => ⟨S2x2048x1024, .f32⟩
  | 121 => ⟨S_, .f32⟩
  | 122 => ⟨S2x2048x1024, .f32⟩
  | 123 => ⟨S2x2048x1024, .f32⟩
  | 124 => ⟨S2x2048x1024, .f32⟩
  | 125 => ⟨S4096x1024, .f32⟩
  | 126 => ⟨S4096x1024, .f32⟩
  | 127 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst : Ref sig .tc := ⟨.hbm, 45, rfl⟩
abbrev main_v35 : Ref sig .tc := ⟨.hbm, 46, rfl⟩
abbrev main_v36 : Ref sig .tc := ⟨.hbm, 47, rfl⟩
abbrev main_cst_0 : Ref sig .tc := ⟨.hbm, 48, rfl⟩
abbrev main_v37 : Ref sig .tc := ⟨.hbm, 49, rfl⟩
abbrev main_v38 : Ref sig .tc := ⟨.hbm, 50, rfl⟩
abbrev main_cst_1 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_2 : Ref sig .tc := ⟨.hbm, 66, rfl⟩
abbrev main_v53 : Ref sig .tc := ⟨.hbm, 67, rfl⟩
abbrev main_v54 : Ref sig .tc := ⟨.hbm, 68, rfl⟩
abbrev main_cst_3 : Ref sig .tc := ⟨.hbm, 69, rfl⟩
abbrev main_v55 : Ref sig .tc := ⟨.hbm, 70, rfl⟩
abbrev main_v56 : Ref sig .tc := ⟨.hbm, 71, rfl⟩
abbrev main_cst_4 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_5 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_6 : Ref sig .tc := ⟨.hbm, 97, rfl⟩
abbrev main_v80 : Ref sig .tc := ⟨.hbm, 98, rfl⟩
abbrev main_v81 : Ref sig .tc := ⟨.hbm, 99, rfl⟩
abbrev main_cst_7 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_cst_8 : Ref sig .tc := ⟨.hbm, 116, rfl⟩
abbrev main_v97 : Ref sig .tc := ⟨.hbm, 117, rfl⟩
abbrev main_v98 : Ref sig .tc := ⟨.hbm, 118, rfl⟩
abbrev main_cst_9 : Ref sig .tc := ⟨.hbm, 119, rfl⟩
abbrev main_v99 : Ref sig .tc := ⟨.hbm, 120, rfl⟩
abbrev main_v100 : Ref sig .tc := ⟨.hbm, 121, rfl⟩
abbrev main_cst_10 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_cst_11 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_cst_12 : Ref sig .tc := ⟨.hbm, 161, rfl⟩
abbrev main_v138 : Ref sig .tc := ⟨.hbm, 162, rfl⟩
abbrev main_v139 : Ref sig .tc := ⟨.hbm, 163, rfl⟩
abbrev main_cst_13 : Ref sig .tc := ⟨.hbm, 164, rfl⟩
abbrev main_v140 : Ref sig .tc := ⟨.hbm, 165, rfl⟩
abbrev main_v141 : Ref sig .tc := ⟨.hbm, 166, rfl⟩
abbrev main_cst_14 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_cst_15 : Ref sig .tc := ⟨.hbm, 182, rfl⟩
abbrev main_v156 : Ref sig .tc := ⟨.hbm, 183, rfl⟩
abbrev main_v157 : Ref sig .tc := ⟨.hbm, 184, rfl⟩
abbrev main_cst_16 : Ref sig .tc := ⟨.hbm, 185, rfl⟩
abbrev main_v158 : Ref sig .tc := ⟨.hbm, 186, rfl⟩
abbrev main_v159 : Ref sig .tc := ⟨.hbm, 187, rfl⟩
abbrev main_cst_17 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_cst_18 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_cst_19 : Ref sig .tc := ⟨.hbm, 213, rfl⟩
abbrev main_v183 : Ref sig .tc := ⟨.hbm, 214, rfl⟩
abbrev main_v184 : Ref sig .tc := ⟨.hbm, 215, rfl⟩
abbrev main_cst_20 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_cst_21 : Ref sig .tc := ⟨.hbm, 232, rfl⟩
abbrev main_v200 : Ref sig .tc := ⟨.hbm, 233, rfl⟩
abbrev main_v201 : Ref sig .tc := ⟨.hbm, 234, rfl⟩
abbrev main_cst_22 : Ref sig .tc := ⟨.hbm, 235, rfl⟩
abbrev main_v202 : Ref sig .tc := ⟨.hbm, 236, rfl⟩
abbrev main_v203 : Ref sig .tc := ⟨.hbm, 237, rfl⟩
abbrev main_cst_23 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_cst_24 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩

abbrev nD : Nat := 1
abbrev τ : Topo := Topo.v7x

variable {F : FTy → Type} [FloatOps F]
-- ==== Proof.SetUp.lean ====
/-
  The launch of the closing call: the region's arrays and blocks as the launch finds them, the frame read from a run, the
  scratch buffers, the stacked weights and the cells of the two staging rings.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Closing

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

/-- What the region finds in its buffers: the launch contents. -/
abbrev V (c : Dev nD) (b : Ref sig .tc) : Buf (Elt F) ((c : Thread nD τ).loc b) := m ((c : Thread nD τ).loc b)

set_option maxHeartbeats 800000 in
/-- The main function is the region alone. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for data over these arrays whose body leaves the block. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for data over these arrays whose body leaves the block. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for data over these arrays whose body leaves the block. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, for data over these arrays whose body leaves the block. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, for data over these arrays whose body leaves the block. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, for data over these arrays whose body leaves the block. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame -/

/-- The frame, from a run that leaves the windows' arrays and the other buffers as the proof data say. -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePost.arr_in h c 0 rfl).trans (hA c 0),
      (Pipeline.RDat.FramePost.arr_in h c 1 rfl).trans (hA c 1),
      (Pipeline.RDat.FramePost.arr_in h c 2 rfl).trans (hA c 2),
      (Pipeline.RDat.FramePost.arr_in h c 3 rfl).trans (hA c 3),
      (Pipeline.RDat.FramePost.arr_in h c 4 rfl).trans (hA c 4),
      (Pipeline.RDat.FramePost.arr_in h c 5 rfl).trans (hA c 5),
      ((h c).2 main_arg6 (Pipeline.mem_restRefs_of main_arg6 (by decide) (by decide))),
      ((h c).2 main_arg7 (Pipeline.mem_restRefs_of main_arg7 (by decide) (by decide))),
      ((h c).2 main_arg8 (Pipeline.mem_restRefs_of main_arg8 (by decide) (by decide))),
      ((h c).2 main_arg9 (Pipeline.mem_restRefs_of main_arg9 (by decide) (by decide)))⟩) h

/-! ## The input windows are never idle -/

/-- Window 0 is never idle. -/
theorem liveAt0_0 : ∀ t : Fin cfg0.N, cfg0.idle 0 (grid0.coords t) = false := fun _ => rfl
/-- Window 1 is never idle. -/
theorem liveAt0_1 : ∀ t : Fin cfg0.N, cfg0.idle 1 (grid0.coords t) = false := fun _ => rfl
/-- Window 2 is never idle. -/
theorem liveAt0_2 : ∀ t : Fin cfg0.N, cfg0.idle 2 (grid0.coords t) = false := fun _ => rfl
/-- Window 3 is never idle. -/
theorem liveAt0_3 : ∀ t : Fin cfg0.N, cfg0.idle 3 (grid0.coords t) = false := fun _ => rfl
/-- Window 4 is never idle. -/
theorem liveAt0_4 : ∀ t : Fin cfg0.N, cfg0.idle 4 (grid0.coords t) = false := fun _ => rfl
/-- Window 5 is never idle. -/
theorem liveAt0_5 : ∀ t : Fin cfg0.N, cfg0.idle 5 (grid0.coords t) = false := fun _ => rfl
/-! ## The buffers the body works on -/

/-- Each window's staging memref at a point. -/
abbrev ms0_0 (t : Fin cfg0.N) : Memref sig .tc .vmem S512x1024 .f32 := win0_0.stage (cfg0.slots t 0)
abbrev ms0_1 (t : Fin cfg0.N) : Memref sig .tc .vmem S512x512 .bf16 := win0_1.stage (cfg0.slots t 1)
abbrev ms0_2 (t : Fin cfg0.N) : Memref sig .tc .vmem S512x512 .bf16 := win0_2.stage (cfg0.slots t 2)
abbrev ms0_3 (t : Fin cfg0.N) : Memref sig .tc .vmem S1x9x8x1024 .f32 := win0_3.stage (cfg0.slots t 3)
abbrev ms0_4 (t : Fin cfg0.N) : Memref sig .tc .vmem S1x3x1024 .f32 := win0_4.stage (cfg0.slots t 4)
abbrev ms0_5 (t : Fin cfg0.N) : Memref sig .tc .vmem S1x3x1024 .f32 := win0_5.stage (cfg0.slots t 5)
abbrev ms0_6 (t : Fin cfg0.N) : Memref sig .tc .vmem S512x1024 .f32 := win0_6.stage (cfg0.slots t 6)
abbrev ms0_7 (t : Fin cfg0.N) : Memref sig .tc .vmem S512x1024 .f32 := win0_7.stage (cfg0.slots t 7)
/-- The scratch buffers, whole. -/
abbrev scM0_0 : Memref sig .tc .vmem S1024x2816 .bf16 := Memref.whole cc0_scratch0
abbrev scM0_1 : Memref sig .tc .vmem S1024x2816 .bf16 := Memref.whole cc0_scratch1
abbrev scM0_2 : Memref sig .tc .vmem S2816x1024 .bf16 := Memref.whole cc0_scratch2
abbrev scM0_3 : Memref sig .tc .vmem S1024x1024 .bf16 := Memref.whole cc0_scratch3
abbrev scM0_4 : Memref sig .tc .vmem S6x1024x256 .f32 := Memref.whole cc0_scoped0
abbrev scM0_5 : Memref sig .tc .vmem S3x256x1024 .f32 := Memref.whole cc0_scoped1
/-- The stacked weights, whole. -/
abbrev hbM0_0 : Memref sig .tc .hbm S2x1024x2816 .f32 := Memref.whole main_arg6
abbrev hbM0_1 : Memref sig .tc .hbm S2x1024x2816 .f32 := Memref.whole main_arg7
abbrev hbM0_2 : Memref sig .tc .hbm S2x2816x1024 .f32 := Memref.whole main_arg8
abbrev hbM0_3 : Memref sig .tc .hbm S2x1024x1024 .f32 := Memref.whole main_arg9
/-- The contents of a memref's buffer, -/
abbrev HbBuf0 (c : Dev nD) {sp : Space} {S : Shape} {e : EltTy} (M : Memref sig .tc sp S e) : Type := Buf (Elt F) (M.view.loc (c : Thread nD τ))
/-- and the buffer held whole at given contents. -/
abbrev hbPt0 (c : Dev nD) {sp : Space} {S : Shape} {e : EltTy} (M : Memref sig .tc sp S e) (f : HbBuf0 (F := F) c M) : sProp 𝕄 :=
  M.view.loc (c : Thread nD τ) ↦{fullShare} f

/-- The nine cells of the two staging rings. -/
abbrev osem0 : Fin 9 → SemLoc sig := fun j => (![SemLoc.dma 13, SemLoc.dma 14, SemLoc.dma 15, SemLoc.dma 16, SemLoc.dma 17, SemLoc.dma 18, SemLoc.dma 19, SemLoc.dma 20, SemLoc.dma 21] : Fin 9 → SemLoc sig) j
/-- None of them is a window's. -/
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) := by
  rw [Pipeline.ownSems0_eq_of_list c osem0 [0, 1, 2, 3, 4, 5, 6, 7, 8] (by decide) (by decide)]; rfl
/-- The stacked weights, which the body copies from. -/
def H0 : Finset (Ref sig .tc) := {main_arg6, main_arg7, main_arg8, main_arg9}
/-- None of them is a window's array. -/
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg6) ∗ hbPt0 c hbM0_1 (V m c main_arg7) ∗ hbPt0 c hbM0_2 (V m c main_arg8) ∗ hbPt0 c hbM0_3 (V m c main_arg9)) := by
  rw [BI.bigSep_eq_bigSepL_of_eq [main_arg6, main_arg7, main_arg8, main_arg9] (by decide) (by decide)]; rfl

/-- The launch invariant, conjunct by conjunct: scratch at some contents, the generator register, the ring cells at zero,
    the stacked weights as launched. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r) ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) ∗ iprop(hbPt0 c hbM0_0 (V m c main_arg6) ∗ hbPt0 c hbM0_1 (V m c main_arg7) ∗ hbPt0 c hbM0_2 (V m c main_arg8) ∗ hbPt0 c hbM0_3 (V m c main_arg9))) := by
  rw [Pipeline.ΦD_eq, scopedRest0_eq, ownSems00_eq, hbmPts0_eq]; simp only [scM0_0, scM0_1, scM0_2, scM0_3, scM0_4, scM0_5, owns_whole]; try rfl

end Cert.Kernel.Closing

end
-- ==== Proof.Blocks.lean ====
/-
  What one grid point of the fused output-projection and feed-forward kernel leaves in its output block, as a function
  of its input blocks and of the four weight matrices, for any values: `weights` name the truncated layer-one
  matrices, `steadyOut` the block of the points that find the weights in scratch, `firstOut` the block of the first
  point, which sums the down projection over eleven column chunks while it stages the weights.
-/
module

public import proofs.«01_k».proof.Proof.SetUp
public import Idealize.ShloMosaic.Lib.ValueIdx

@[expose] public section

set_option maxRecDepth 16384

noncomputable section

namespace Cert.Kernel.Closing

open Idealize.ShloMosaic Idealize.ShloMosaic.ValueIdx
open Cert.Kernel.Gen

variable {F : FTy → Type} [FloatOps F]

/-- Layer one of a stack of two 1024×2816 matrices, truncated to bf16. -/
def upW (f : Vec F S2x1024x2816 .f32) : Vec F S1024x2816 .bf16 :=
  truncf .bf16 (show FVec F S1024x2816 .f32 from fun p => f (ix3 (1 : Fin 2) (p 0) (p 1))) bitsLt_bf16_f32

/-- Layer one of a stack of two 2816×1024 matrices, truncated to bf16. -/
def downW (f : Vec F S2x2816x1024 .f32) : Vec F S2816x1024 .bf16 :=
  truncf .bf16 (show FVec F S2816x1024 .f32 from fun p => f (ix3 (1 : Fin 2) (p 0) (p 1))) bitsLt_bf16_f32

/-- Layer one of a stack of two 1024×1024 matrices, truncated to bf16. -/
def mixW (f : Vec F S2x1024x1024 .f32) : Vec F S1024x1024 .bf16 :=
  truncf .bf16 (show FVec F S1024x1024 .f32 from fun p => f (ix3 (1 : Fin 2) (p 0) (p 1))) bitsLt_bf16_f32

/-- Column chunk `j` of an up projection: 256 columns. -/
def colChunk (w : Vec F S1024x2816 .bf16) (j : Fin 11) : Vec F S1024x256 .bf16 :=
  View.ld w (Rect.unit ![0, 256 * j.val] S1024x256.size
    (by intro a; have := j.isLt; match a with | ⟨0, _⟩ => exact Nat.le_refl _ | ⟨1, _⟩ => show 256 * j.val + 256 ≤ 2816; omega))

/-- Row chunk `j` of a down projection: 256 rows. -/
def rowChunk (w : Vec F S2816x1024 .bf16) (j : Fin 11) : Vec F S256x1024 .bf16 :=
  View.ld w (Rect.unit ![256 * j.val, 0] S256x1024.size
    (by intro a; have := j.isLt; match a with | ⟨0, _⟩ => show 256 * j.val + 256 ≤ 2816; omega | ⟨1, _⟩ => exact Nat.le_refl _))

/-- The concatenation of the two mixers' outputs, as the first point builds it. -/
def firstCat (x1 x2 : Vec F S512x512 .bf16) : FVec F S512x1024 .bf16 :=
  k0_pay8 (View.ld x1 (Rect.unit ![0, 0] S512x256.size inb_S512x512_S512x256_0_0))
    (View.ld x2 (Rect.unit ![0, 0] S512x256.size inb_S512x512_S512x256_0_0))
    (View.ld x1 (Rect.unit ![0, 256] S512x256.size inb_S512x512_S512x256_0_256))
    (View.ld x2 (Rect.unit ![0, 256] S512x256.size inb_S512x512_S512x256_0_256))

/-! The branch conditions of the body, in the point. -/

/-- The first point stages the weights, condition 0. -/
abbrev cond0_0 (i : grid0.Coords) : Prop := k0_cond1 i = 1#1

/-- Condition 0 holds at the points with `t.val % 16 = 0`. -/
theorem hcond0_0 : ∀ t : Fin cfg0.N, cond0_0 (grid0.coords t) ↔ t.val % 16 = 0 := by decide

/-- and stores to the first output, condition 1. -/
abbrev cond0_1 (i : grid0.Coords) : Prop := k0_cond2 i = 1#1

/-- Condition 1 holds at the points with `t.val < 8`. -/
theorem hcond0_1 : ∀ t : Fin cfg0.N, cond0_1 (grid0.coords t) ↔ t.val < 8 := by decide

/-- or to the second. condition 2. -/
abbrev cond0_2 (i : grid0.Coords) : Prop := k0_cond3 i = 1#1

/-- Condition 2 holds at the points with `8 ≤ t.val`. -/
theorem hcond0_2 : ∀ t : Fin cfg0.N, cond0_2 (grid0.coords t) ↔ 8 ≤ t.val := by decide

/-- A later point finds the weights, condition 3. -/
abbrev cond0_3 (i : grid0.Coords) : Prop := k0_cond4 i = 1#1

/-- Condition 3 holds at the points with `1 ≤ t.val`. -/
theorem hcond0_3 : ∀ t : Fin cfg0.N, cond0_3 (grid0.coords t) ↔ 1 ≤ t.val := by decide

/-- stores to the first output, condition 4. -/
abbrev cond0_4 (i : grid0.Coords) : Prop := k0_cond5 i = 1#1

/-- Condition 4 holds at the points with `t.val < 8`. -/
theorem hcond0_4 : ∀ t : Fin cfg0.N, cond0_4 (grid0.coords t) ↔ t.val < 8 := by decide

/-- or to the second. condition 5. -/
abbrev cond0_5 (i : grid0.Coords) : Prop := k0_cond6 i = 1#1

/-- Condition 5 holds at the points with `8 ≤ t.val`. -/
theorem hcond0_5 : ∀ t : Fin cfg0.N, cond0_5 (grid0.coords t) ↔ 8 ≤ t.val := by decide

variable (i : grid0.Coords)

/-- The residual stream after the output projection, at the first point. -/
def firstMid (h1 : k0_cond1 i = 1#1) (x0 : Vec F S512x1024 .f32) (x1 x2 : Vec F S512x512 .bf16) (x3 : Vec F S1x9x8x1024 .f32)
    (x5 : Vec F S1x3x1024 .f32) (wo : Vec F S1024x1024 .bf16) : FVec F S512x1024 .f32 :=
  k0_pay9 x0 (firstCat x1 x2) wo
    (View.ld x3 (Rect.unit (k0_off2 i) S1x1x1x1024.size (k0_off2_inb i h1)))
    (View.ld x5 (Rect.unit ![0, 1, 0] S1x1x1024.size inb_S1x3x1024_S1x1x1024_0_1_0))

/-- The feed-forward network's input, at the first point. -/
def firstH (h1 : k0_cond1 i = 1#1) (x0 : Vec F S512x1024 .f32) (x1 x2 : Vec F S512x512 .bf16) (x3 : Vec F S1x9x8x1024 .f32)
    (x4 x5 : Vec F S1x3x1024 .f32) (wo : Vec F S1024x1024 .bf16) : FVec F S512x1024 .bf16 :=
  k0_pay15 (firstMid i h1 x0 x1 x2 x3 x5 wo)
    (k0_pay10 (View.ld x3 (Rect.unit (k0_off3 i) S1x1x1x1024.size (k0_off3_inb i h1))))
    (k0_pay11 (View.ld x3 (Rect.unit (k0_off4 i) S1x1x1x1024.size (k0_off4_inb i h1))))
    (k0_pay12 (View.ld x4 (Rect.unit ![0, 2, 0] S1x1x1024.size inb_S1x3x1024_S1x1x1024_0_2_0)))
    (k0_pay13 x0 (firstCat x1 x2) wo
      (View.ld x3 (Rect.unit (k0_off2 i) S1x1x1x1024.size (k0_off2_inb i h1)))
      (View.ld x5 (Rect.unit ![0, 1, 0] S1x1x1024.size inb_S1x3x1024_S1x1x1024_0_1_0)))
    k0_pay14

/-- The sum of the first `j + 1` chunks' down projections. -/
def partialSum (h : FVec F S512x1024 .bf16) (wg wu : Vec F S1024x2816 .bf16) (wd : Vec F S2816x1024 .bf16) :
    (j : ℕ) → j < 11 → FVec F S512x1024 .f32
  | 0, hj => k0_pay19 h (colChunk wg ⟨0, hj⟩) (colChunk wu ⟨0, hj⟩) (rowChunk wd ⟨0, hj⟩)
  | j + 1, hj => k0_pay24 h (partialSum h wg wu wd j (Nat.lt_of_succ_lt hj)) (colChunk wg ⟨j + 1, hj⟩) (colChunk wu ⟨j + 1, hj⟩)
      (rowChunk wd ⟨j + 1, hj⟩)

/-- The first point's output block. -/
def firstOut (h1 : k0_cond1 i = 1#1) (x0 : Vec F S512x1024 .f32) (x1 x2 : Vec F S512x512 .bf16) (x3 : Vec F S1x9x8x1024 .f32)
    (x4 x5 : Vec F S1x3x1024 .f32) (wg wu : Vec F S1024x2816 .bf16) (wd : Vec F S2816x1024 .bf16) (wo : Vec F S1024x1024 .bf16) :
    FVec F S512x1024 .f32 :=
  k0_pay3 (View.ld x3 (Rect.unit (k0_off1 i) S1x1x1x1024.size (k0_off1_inb i))) (firstMid i h1 x0 x1 x2 x3 x5 wo)
    (k0_pay68 (k0_pay2 (View.ld x5 (Rect.unit ![0, 2, 0] S1x1x1024.size inb_S1x3x1024_S1x1x1024_0_2_0)))
      (firstH i h1 x0 x1 x2 x3 x4 x5 wo)
      (partialSum (firstH i h1 x0 x1 x2 x3 x4 x5 wo) wg wu wd 9 (by decide))
      (colChunk wg ⟨10, by decide⟩) (constant S512x256 .f32 0x00000000#32) (colChunk wu ⟨10, by decide⟩) (rowChunk wd ⟨10, by decide⟩))

/-- The residual stream after the output projection, at a later point. -/
def steadyMid (h4 : k0_cond4 i = 1#1) (x0 : Vec F S512x1024 .f32) (x1 x2 : Vec F S512x512 .bf16) (x3 : Vec F S1x9x8x1024 .f32)
    (x5 : Vec F S1x3x1024 .f32) (wo : Vec F S1024x1024 .bf16) : FVec F S512x1024 .f32 :=
  k0_pay69 x0 (View.ld x1 (Rect.unit ![0, 0] S512x256.size inb_S512x512_S512x256_0_0))
    (View.ld x2 (Rect.unit ![0, 0] S512x256.size inb_S512x512_S512x256_0_0))
    (View.ld x1 (Rect.unit ![0, 256] S512x256.size inb_S512x512_S512x256_0_256))
    (View.ld x2 (Rect.unit ![0, 256] S512x256.size inb_S512x512_S512x256_0_256)) wo
    (View.ld x3 (Rect.unit (k0_off5 i) S1x1x1x1024.size (k0_off5_inb i h4)))
    (View.ld x5 (Rect.unit ![0, 1, 0] S1x1x1024.size inb_S1x3x1024_S1x1x1024_0_1_0))

/-- A later point's output block, from the weights in scratch. -/
def steadyOut (h4 : k0_cond4 i = 1#1) (x0 : Vec F S512x1024 .f32) (x1 x2 : Vec F S512x512 .bf16) (x3 : Vec F S1x9x8x1024 .f32)
    (x4 x5 : Vec F S1x3x1024 .f32) (wg wu : Vec F S1024x2816 .bf16) (wd : Vec F S2816x1024 .bf16) (wo : Vec F S1024x1024 .bf16) :
    FVec F S512x1024 .f32 :=
  k0_pay76 (k0_pay1 (View.ld x3 (Rect.unit (k0_off1 i) S1x1x1x1024.size (k0_off1_inb i))))
    (k0_pay2 (View.ld x5 (Rect.unit ![0, 2, 0] S1x1x1024.size inb_S1x3x1024_S1x1x1024_0_2_0)))
    (steadyMid i h4 x0 x1 x2 x3 x5 wo)
    (k0_pay71 (steadyMid i h4 x0 x1 x2 x3 x5 wo)
      (k0_pay70 (View.ld x3 (Rect.unit (k0_off6 i) S1x1x1x1024.size (k0_off6_inb i h4))))
      (View.ld x3 (Rect.unit (k0_off7 i) S1x1x1x1024.size (k0_off7_inb i h4)))
      (View.ld x4 (Rect.unit ![0, 2, 0] S1x1x1024.size inb_S1x3x1024_S1x1x1024_0_2_0)))
    (k0_pay72 (steadyMid i h4 x0 x1 x2 x3 x5 wo)
      (k0_pay70 (View.ld x3 (Rect.unit (k0_off6 i) S1x1x1x1024.size (k0_off6_inb i h4))))
      (View.ld x3 (Rect.unit (k0_off7 i) S1x1x1x1024.size (k0_off7_inb i h4)))
      (View.ld x4 (Rect.unit ![0, 2, 0] S1x1x1024.size inb_S1x3x1024_S1x1x1024_0_2_0)) wg wu wd)
    (k0_pay73 (steadyMid i h4 x0 x1 x2 x3 x5 wo))
    (k0_pay74 (steadyMid i h4 x0 x1 x2 x3 x5 wo)
      (k0_pay70 (View.ld x3 (Rect.unit (k0_off6 i) S1x1x1x1024.size (k0_off6_inb i h4))))
      (View.ld x3 (Rect.unit (k0_off7 i) S1x1x1x1024.size (k0_off7_inb i h4)))
      (View.ld x4 (Rect.unit ![0, 2, 0] S1x1x1024.size inb_S1x3x1024_S1x1x1024_0_2_0)) wg wu wd)
    k0_pay75 wg wu wd

end Cert.Kernel.Closing

end
-- ==== Proof.Steady.lean ====
/-
  A later grid point's run, for any values: over whole staging memrefs at the input blocks and the four weight scratch
  buffers at any weights, the body leaves `steadyOut` in the output window of its half of the rows and changes nothing else.
-/
module

public import proofs.«01_k».proof.Proof.Blocks
public import Idealize.ShloMosaic.Lib.Pipeline.ValueKit
public import Idealize.ShloMosaic.Lib.VecWindow

@[expose] public section

set_option maxRecDepth 16384

noncomputable section

namespace Cert.Kernel.Closing

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

set_option maxHeartbeats 3460000 in
/-- A point of the first half of the rows (`hc4`): the body leaves `steadyOut` in the first output window. -/
theorem steady_ctx (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x9x8x1024 .f32) (harg4 : arg4.IsWhole) (arg5 : Memref sig .tc .vmem S1x3x1024 .f32) (harg5 : arg5.IsWhole) (arg6 : Memref sig .tc .vmem S1x3x1024 .f32) (harg6 : arg6.IsWhole) (arg11 : Memref sig .tc .vmem S512x1024 .f32) (harg11 : arg11.IsWhole) (arg12 : Memref sig .tc .vmem S512x1024 .f32) (harg12 : arg12.IsWhole) (arg13 : Memref sig .tc .vmem S1024x2816 .bf16) (harg13 : arg13.IsWhole) (arg14 : Memref sig .tc .vmem S1024x2816 .bf16) (harg14 : arg14.IsWhole) (arg15 : Memref sig .tc .vmem S2816x1024 .bf16) (harg15 : arg15.IsWhole) (arg16 : Memref sig .tc .vmem S1024x1024 .bf16) (harg16 : arg16.IsWhole) (alloca_r0 : Memref sig .tc .vmem S6x1024x256 .f32) (halloca_r0 : alloca_r0.IsWhole) (alloca_48_r0 : Memref sig .tc .vmem S3x256x1024 .f32) (halloca_48_r0 : alloca_48_r0.IsWhole) (hc0 : ¬cond0_0 i) (hc3 : cond0_3 i) (hc4 : cond0_4 i) (hc5 : ¬cond0_5 i)
    (x0 : Vec F S512x1024 .f32) (x1 : Vec F S512x512 .bf16) (x2 : Vec F S512x512 .bf16) (x3 : Vec F S1x9x8x1024 .f32) (x4 : Vec F S1x3x1024 .f32) (x5 : Vec F S1x3x1024 .f32) (s0 s1 : Vec F S1024x2816 .bf16) (s2 : Vec F S2816x1024 .bf16) (s3 : Vec F S1024x1024 .bf16) :
      ∀ (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg11 fullShare d) ∗ owns (c : Thread nD τ) arg13 fullShare s0 ∗ owns (c : Thread nD τ) arg14 fullShare s1 ∗ owns (c : Thread nD τ) arg15 fullShare s2 ∗ owns (c : Thread nD τ) arg16 fullShare s3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg11 fullShare (steadyOut i hc3 x0 x1 x2 x3 x4 x5 s0 s1 s2 s3) ∗ owns (c : Thread nD τ) arg13 fullShare s0 ∗ owns (c : Thread nD τ) arg14 fullShare s1 ∗ owns (c : Thread nD τ) arg15 fullShare s2 ∗ owns (c : Thread nD τ) arg16 fullShare s3 ) -∗ K ⟨⟩))
          ⊢ wp frame (wpE (defs₀ (F := F)) Variants.none c none) Set.univ (cc0_ffn2 i arg1 harg1 arg2 harg2 arg3 harg3 arg4 harg4 arg5 harg5 arg6 harg6 (Memref.whole main_arg6) (Memref.isWhole_whole _) (Memref.whole main_arg7) (Memref.isWhole_whole _) (Memref.whole main_arg8) (Memref.isWhole_whole _) (Memref.whole main_arg9) (Memref.isWhole_whole _) arg11 harg11 arg12 harg12 arg13 harg13 arg14 harg14 arg15 harg15 arg16 harg16 alloca_r0 halloca_r0 alloca_48_r0 halloca_48_r0 cc0_scoped2 cc0_scoped3) K := by
    intro K
    simp only [cc0_ffn2_eq_skeleton]; unfold cc0_ffn2_skel
    simp only [k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg13.eq_unread hfs0; obtain rfl := harg14.eq_unread hfs1; obtain rfl := harg15.eq_unread hfs2; obtain rfl := harg16.eq_unread hfs3
    sl_exec (disch := first | sl_exact hc0 | sl_exact hc3 | sl_exact hc4 | sl_exact hc5)
    sl_step
    iapply Hk
    isplitl [H0]
    · iexists _; isplitr [H0]
      · ipureintro; exact hf0
      · iexact H0
    isplitl [H1]
    · iexists _; isplitr [H1]
      · ipureintro; exact hf1
      · iexact H1
    isplitl [H2]
    · iexists _; isplitr [H2]
      · ipureintro; exact hf2
      · iexact H2
    isplitl [H3]
    · iexists _; isplitr [H3]
      · ipureintro; exact hf3
      · iexact H3
    isplitl [H4]
    · iexists _; isplitr [H4]
      · ipureintro; exact hf4
      · iexact H4
    isplitl [H5]
    · iexists _; isplitr [H5]
      · ipureintro; exact hf5
      · iexact H5
    isplitl [H6]
    · iexists _; isplitr [H6]
      rotate_left
      · iexact H6
      · ipureintro
        refine (View.read_writes_full _ _ inb_S512x1024_S512x1024_0_0 _ []).trans ?_
        sl_unfold_words
        simp only [View.readAt_eq_ld, Memref.IsWhole.read_unread]
        simp (disch := decide) only [View.ld_unit_lit]
        rfl
    isplitl [HS0]
    · iexists _; isplitr [HS0]
      · ipureintro; exact hfs0
      · iexact HS0
    isplitl [HS1]
    · iexists _; isplitr [HS1]
      · ipureintro; exact hfs1
      · iexact HS1
    isplitl [HS2]
    · iexists _; isplitr [HS2]
      · ipureintro; exact hfs2
      · iexact HS2
    · iexists _; isplitr [HS3]
      · ipureintro; exact hfs3
      · iexact HS3

set_option maxHeartbeats 3460000 in
/-- A point of the second half of the rows (`hc5`): the body leaves `steadyOut` in the second output window. -/
theorem steady_lat (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x9x8x1024 .f32) (harg4 : arg4.IsWhole) (arg5 : Memref sig .tc .vmem S1x3x1024 .f32) (harg5 : arg5.IsWhole) (arg6 : Memref sig .tc .vmem S1x3x1024 .f32) (harg6 : arg6.IsWhole) (arg11 : Memref sig .tc .vmem S512x1024 .f32) (harg11 : arg11.IsWhole) (arg12 : Memref sig .tc .vmem S512x1024 .f32) (harg12 : arg12.IsWhole) (arg13 : Memref sig .tc .vmem S1024x2816 .bf16) (harg13 : arg13.IsWhole) (arg14 : Memref sig .tc .vmem S1024x2816 .bf16) (harg14 : arg14.IsWhole) (arg15 : Memref sig .tc .vmem S2816x1024 .bf16) (harg15 : arg15.IsWhole) (arg16 : Memref sig .tc .vmem S1024x1024 .bf16) (harg16 : arg16.IsWhole) (alloca_r0 : Memref sig .tc .vmem S6x1024x256 .f32) (halloca_r0 : alloca_r0.IsWhole) (alloca_48_r0 : Memref sig .tc .vmem S3x256x1024 .f32) (halloca_48_r0 : alloca_48_r0.IsWhole) (hc0 : ¬cond0_0 i) (hc3 : cond0_3 i) (hc4 : ¬cond0_4 i) (hc5 : cond0_5 i)
    (x0 : Vec F S512x1024 .f32) (x1 : Vec F S512x512 .bf16) (x2 : Vec F S512x512 .bf16) (x3 : Vec F S1x9x8x1024 .f32) (x4 : Vec F S1x3x1024 .f32) (x5 : Vec F S1x3x1024 .f32) (s0 s1 : Vec F S1024x2816 .bf16) (s2 : Vec F S2816x1024 .bf16) (s3 : Vec F S1024x1024 .bf16) :
      ∀ (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg12 fullShare d) ∗ owns (c : Thread nD τ) arg13 fullShare s0 ∗ owns (c : Thread nD τ) arg14 fullShare s1 ∗ owns (c : Thread nD τ) arg15 fullShare s2 ∗ owns (c : Thread nD τ) arg16 fullShare s3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg12 fullShare (steadyOut i hc3 x0 x1 x2 x3 x4 x5 s0 s1 s2 s3) ∗ owns (c : Thread nD τ) arg13 fullShare s0 ∗ owns (c : Thread nD τ) arg14 fullShare s1 ∗ owns (c : Thread nD τ) arg15 fullShare s2 ∗ owns (c : Thread nD τ) arg16 fullShare s3 ) -∗ K ⟨⟩))
          ⊢ wp frame (wpE (defs₀ (F := F)) Variants.none c none) Set.univ (cc0_ffn2 i arg1 harg1 arg2 harg2 arg3 harg3 arg4 harg4 arg5 harg5 arg6 harg6 (Memref.whole main_arg6) (Memref.isWhole_whole _) (Memref.whole main_arg7) (Memref.isWhole_whole _) (Memref.whole main_arg8) (Memref.isWhole_whole _) (Memref.whole main_arg9) (Memref.isWhole_whole _) arg11 harg11 arg12 harg12 arg13 harg13 arg14 harg14 arg15 harg15 arg16 harg16 alloca_r0 halloca_r0 alloca_48_r0 halloca_48_r0 cc0_scoped2 cc0_scoped3) K := by
    intro K
    simp only [cc0_ffn2_eq_skeleton]; unfold cc0_ffn2_skel
    simp only [k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg13.eq_unread hfs0; obtain rfl := harg14.eq_unread hfs1; obtain rfl := harg15.eq_unread hfs2; obtain rfl := harg16.eq_unread hfs3
    sl_exec (disch := first | sl_exact hc0 | sl_exact hc3 | sl_exact hc4 | sl_exact hc5)
    sl_step
    iapply Hk
    isplitl [H0]
    · iexists _; isplitr [H0]
      · ipureintro; exact hf0
      · iexact H0
    isplitl [H1]
    · iexists _; isplitr [H1]
      · ipureintro; exact hf1
      · iexact H1
    isplitl [H2]
    · iexists _; isplitr [H2]
      · ipureintro; exact hf2
      · iexact H2
    isplitl [H3]
    · iexists _; isplitr [H3]
      · ipureintro; exact hf3
      · iexact H3
    isplitl [H4]
    · iexists _; isplitr [H4]
      · ipureintro; exact hf4
      · iexact H4
    isplitl [H5]
    · iexists _; isplitr [H5]
      · ipureintro; exact hf5
      · iexact H5
    isplitl [H6]
    · iexists _; isplitr [H6]
      rotate_left
      · iexact H6
      · ipureintro
        refine (View.read_writes_full _ _ inb_S512x1024_S512x1024_0_0 _ []).trans ?_
        sl_unfold_words
        simp only [View.readAt_eq_ld, Memref.IsWhole.read_unread]
        simp (disch := decide) only [View.ld_unit_lit]
        rfl
    isplitl [HS0]
    · iexists _; isplitr [HS0]
      · ipureintro; exact hfs0
      · iexact HS0
    isplitl [HS1]
    · iexists _; isplitr [HS1]
      · ipureintro; exact hfs1
      · iexact HS1
    isplitl [HS2]
    · iexists _; isplitr [HS2]
      · ipureintro; exact hfs2
      · iexact HS2
    · iexists _; isplitr [HS3]
      · ipureintro; exact hfs3
      · iexact HS3

end Cert.Kernel.Closing

end
-- ==== Proof.Staging.lean ====
/-
  Loads of a staging ring after copies into its slots, for any values: a slot read back, truncated, is the block of
  the truncated weight matrix that was copied into it, and copies into other slots do not matter; and a scratch matrix
  all of whose stored blocks are blocks of one matrix holds that matrix.
-/
module

public import proofs.«01_k».proof.Proof.Blocks
public import Idealize.ShloMosaic.Lib.Pipeline.ValueKit
public import Idealize.ShloMosaic.Lib.Pipeline.ReadBack
public import Idealize.ShloMosaic.Lib.ViewIndex

@[expose] public section

set_option maxRecDepth 16384

noncomputable section

namespace Cert.Kernel.Closing

open Idealize.ShloMosaic Idealize.ShloMosaic.TcCoe Idealize.ShloMosaic.ValueIdx
open Cert.Kernel.Gen

variable {F : FTy → Type} [FloatOps F] {sg : RefSig}

/-- A load of one slot of a buffer's first axis is not changed by a copy into another slot. -/
theorem readAt_other_slot {κ : Kind} {sp : Space} {s s' : Shape} {e : EltTy} {Val : EltTy → Type} (v : View sg κ sp s e) (r r' : Rect s)
    (h : s'.numel = r.shape.numel) (f : v.ty.Contents Val) (w : s'.Idx → Val e) (hd : LoadRect.disj r r'.toLoadRect = true) :
    v.readAt Val r'.toLoadRect (View.write Val ((v.slice r).reshape s' h) f w Finset.univ) = v.readAt Val r'.toLoadRect f := by
  funext j
  rw [View.readAt_apply, View.readAt_apply, View.read_apply, View.read_apply]
  refine congrArg _ (View.write_of_not_mem _ _ _ ?_)
  intro hm
  obtain ⟨x, -, hx⟩ := Finset.mem_map.mp hm
  refine LoadRect.idx_not_mem_of_disj hd j ?_
  have hx' : v.emb (r.emb (Shape.reshapeEquiv h x)) = v.emb (r'.toLoadRect.idx j) := hx
  rw [← v.emb.injective hx']
  exact r.idx_mem _

/-- The slot copied into last, cast to the copy's shape, reads the copy. -/
theorem readAt_same_slot {κ : Kind} {sp : Space} {s s' : Shape} {e : EltTy} {Val : EltTy → Type} (v : View sg κ sp s e) (r : Rect s)
    (h : s'.numel = r.shape.numel) (hc : r.shape.ShapeCasts s') (f : v.ty.Contents Val) (w : s'.Idx → Val e) :
    shapeCast s' (v.readAt Val r.toLoadRect (View.write Val ((v.slice r).reshape s' h) f w Finset.univ)) hc = w :=
  funext fun x => View.read_write_reshape (v := v.slice r) h f w x

/-- A matrix stored in blocks, each the block of one matrix at its place, reads that matrix where the blocks cover it. -/
theorem read_blocks {κ : Kind} {sp : Space} {s : Shape} {e : EltTy} {Val : EltTy → Type} (v : View sg κ sp s e) (f : v.ty.Contents Val)
    (G : s.Idx → Val e) (L : List (View.Piece Val s e)) (hL : View.PiecesOf G L) (hc : ∀ y, ∃ p ∈ L, y ∈ p.1.set) :
    v.read Val (v.writes Val f L) = G :=
  funext fun y => View.read_writes_apply_of_pieces v f G L (fun p hp x => View.PiecesOf.mem hL p hp x) y (hc y)

/-- The staged column chunk, truncated and cast for its store. -/
def colStore (v : Vec F S1x1024x256 .f32) : FVec F S1024x256 .bf16 := k0_pay16 v

/-- The staged row chunk, truncated and cast for its store. -/
def rowStore (v : Vec F S1x256x1024 .f32) : FVec F S256x1024 .bf16 := k0_pay4 v

/-- What is stored of a staged column chunk is the truncation of what was copied into its slot. -/
theorem colStore_hit (v : View sg .tc .vmem S6x1024x256 .f32) (off : Fin 3 → ℕ) (inb hn) (f : v.ty.Contents (Elt F))
    (w : FVec F S1024x256 .f32) :
    colStore (View.readAt (Elt F) v (Rect.unit (s := S6x1024x256) off ![1, 1024, 256] inb).toLoadRect
      (View.write (Elt F) ((v.slice (Rect.unit (s := S6x1024x256) off ![1, 1024, 256] inb)).reshape S1024x256 hn) f w Finset.univ))
      = truncf .bf16 w bitsLt_bf16_f32 := by
  have h := readAt_same_slot v (Rect.unit (s := S6x1024x256) off ![1, 1024, 256] inb) hn shapeCasts_S1x1024x256_S1024x256 f w
  unfold colStore k0_pay16
  exact (shapeCast_self _ _).trans (congrArg (fun z => truncf .bf16 z bitsLt_bf16_f32) h)

/-- The same for a row chunk. -/
theorem rowStore_hit (v : View sg .tc .vmem S3x256x1024 .f32) (off : Fin 3 → ℕ) (inb hn) (f : v.ty.Contents (Elt F))
    (w : FVec F S256x1024 .f32) :
    rowStore (View.readAt (Elt F) v (Rect.unit (s := S3x256x1024) off ![1, 256, 1024] inb).toLoadRect
      (View.write (Elt F) ((v.slice (Rect.unit (s := S3x256x1024) off ![1, 256, 1024] inb)).reshape S256x1024 hn) f w Finset.univ))
      = truncf .bf16 w bitsLt_bf16_f32 := by
  have h := readAt_same_slot v (Rect.unit (s := S3x256x1024) off ![1, 256, 1024] inb) hn shapeCasts_S1x256x1024_S256x1024 f w
  unfold rowStore k0_pay4
  exact (shapeCast_self _ _).trans (congrArg (fun z => truncf .bf16 z bitsLt_bf16_f32) h)

/-- A copied column chunk of a layer-one up projection, truncated, is that chunk of the truncated matrix. -/
theorem truncf_copy_up (v : View sg .tc .hbm S2x1024x2816 .f32) (k : ℕ) (inb hn) (f : v.ty.Contents (Elt F)) :
    (truncf .bf16 (φ := .f32) (ReadAs.same.apply (View.read (Elt F) (View.reshape (s := S1x1024x256) (v.slice (Rect.unit (s := S2x1024x2816) ![1, 0, k] ![1, 1024, 256] inb)) S1024x256 hn) f))
        bitsLt_bf16_f32 : FVec F S1024x256 .bf16)
      = View.ld (upW (v.read (Elt F) f)) (Rect.unit (s := S1024x2816) ![0, k] S1024x256.size (by intro a; match a with | ⟨0, _⟩ => exact Nat.le_refl _ | ⟨1, _⟩ => exact inb ⟨2, by decide⟩)) := by
  funext p
  refine congrArg (FloatOps.truncf .bf16 bitsLt_bf16_f32) ?_
  refine (shapeCast_dropUnit_apply S1024x256.size (View.readAt (Elt F) v (Rect.unit (s := S2x1024x2816) ![1, 0, k] ![1, 1024, 256] inb).toLoadRect f) shapeCasts_S1x1024x256_S1024x256 p).trans
    (congrArg (View.read (Elt F) v f) ?_)
  funext a
  match a with
  | ⟨0, _⟩ => exact Fin.ext rfl
  | ⟨1, _⟩ => exact Fin.ext rfl
  | ⟨2, _⟩ => exact Fin.ext rfl

/-- A copied row chunk of the layer-one down projection, truncated, is that chunk of the truncated matrix. -/
theorem truncf_copy_down (v : View sg .tc .hbm S2x2816x1024 .f32) (k : ℕ) (inb hn) (f : v.ty.Contents (Elt F)) :
    (truncf .bf16 (φ := .f32) (ReadAs.same.apply (View.read (Elt F) (View.reshape (s := S1x256x1024) (v.slice (Rect.unit (s := S2x2816x1024) ![1, k, 0] ![1, 256, 1024] inb)) S256x1024 hn) f))
        bitsLt_bf16_f32 : FVec F S256x1024 .bf16)
      = View.ld (downW (v.read (Elt F) f)) (Rect.unit (s := S2816x1024) ![k, 0] S256x1024.size (by intro a; match a with | ⟨0, _⟩ => exact inb ⟨1, by decide⟩ | ⟨1, _⟩ => exact Nat.le_refl _)) := by
  funext p
  refine congrArg (FloatOps.truncf .bf16 bitsLt_bf16_f32) ?_
  refine (shapeCast_dropUnit_apply S256x1024.size (View.readAt (Elt F) v (Rect.unit (s := S2x2816x1024) ![1, k, 0] ![1, 256, 1024] inb).toLoadRect f) shapeCasts_S1x256x1024_S256x1024 p).trans
    (congrArg (View.read (Elt F) v f) ?_)
  funext a
  match a with
  | ⟨0, _⟩ => exact Fin.ext rfl
  | ⟨1, _⟩ => exact Fin.ext rfl
  | ⟨2, _⟩ => exact Fin.ext rfl

/-- A copied row chunk of the layer-one output projection, truncated, is that chunk of the truncated matrix. -/
theorem truncf_copy_mix (v : View sg .tc .hbm S2x1024x1024 .f32) (k : ℕ) (inb hn) (f : v.ty.Contents (Elt F)) :
    (truncf .bf16 (φ := .f32) (ReadAs.same.apply (View.read (Elt F) (View.reshape (s := S1x256x1024) (v.slice (Rect.unit (s := S2x1024x1024) ![1, k, 0] ![1, 256, 1024] inb)) S256x1024 hn) f))
        bitsLt_bf16_f32 : FVec F S256x1024 .bf16)
      = View.ld (mixW (v.read (Elt F) f)) (Rect.unit (s := S1024x1024) ![k, 0] S256x1024.size (by intro a; match a with | ⟨0, _⟩ => exact inb ⟨1, by decide⟩ | ⟨1, _⟩ => exact Nat.le_refl _)) := by
  funext p
  refine congrArg (FloatOps.truncf .bf16 bitsLt_bf16_f32) ?_
  refine (shapeCast_dropUnit_apply S256x1024.size (View.readAt (Elt F) v (Rect.unit (s := S2x1024x1024) ![1, k, 0] ![1, 256, 1024] inb).toLoadRect f) shapeCasts_S1x256x1024_S256x1024 p).trans
    (congrArg (View.read (Elt F) v f) ?_)
  funext a
  match a with
  | ⟨0, _⟩ => exact Fin.ext rfl
  | ⟨1, _⟩ => exact Fin.ext rfl
  | ⟨2, _⟩ => exact Fin.ext rfl

/-! The printed payloads that store a staged chunk are one function each way. -/

theorem colStore_eq : @k0_pay16 F _ = colStore := rfl
theorem rowStore_eq : @k0_pay4 F _ = rowStore := rfl
theorem colStore_eq17 : @k0_pay17 F _ = colStore := rfl
theorem colStore_eq22 : @k0_pay22 F _ = colStore := rfl
theorem colStore_eq25 : @k0_pay25 F _ = colStore := rfl
theorem colStore_eq26 : @k0_pay26 F _ = colStore := rfl
theorem colStore_eq29 : @k0_pay29 F _ = colStore := rfl
theorem colStore_eq30 : @k0_pay30 F _ = colStore := rfl
theorem colStore_eq36 : @k0_pay36 F _ = colStore := rfl
theorem colStore_eq37 : @k0_pay37 F _ = colStore := rfl
theorem colStore_eq41 : @k0_pay41 F _ = colStore := rfl
theorem colStore_eq42 : @k0_pay42 F _ = colStore := rfl
theorem colStore_eq45 : @k0_pay45 F _ = colStore := rfl
theorem colStore_eq46 : @k0_pay46 F _ = colStore := rfl
theorem colStore_eq49 : @k0_pay49 F _ = colStore := rfl
theorem colStore_eq55 : @k0_pay55 F _ = colStore := rfl
theorem colStore_eq56 : @k0_pay56 F _ = colStore := rfl
theorem colStore_eq60 : @k0_pay60 F _ = colStore := rfl
theorem colStore_eq61 : @k0_pay61 F _ = colStore := rfl
theorem colStore_eq66 : @k0_pay66 F _ = colStore := rfl
theorem rowStore_eq5 : @k0_pay5 F _ = rowStore := rfl
theorem rowStore_eq6 : @k0_pay6 F _ = rowStore := rfl
theorem rowStore_eq7 : @k0_pay7 F _ = rowStore := rfl
theorem rowStore_eq18 : @k0_pay18 F _ = rowStore := rfl
theorem rowStore_eq23 : @k0_pay23 F _ = rowStore := rfl
theorem rowStore_eq27 : @k0_pay27 F _ = rowStore := rfl
theorem rowStore_eq31 : @k0_pay31 F _ = rowStore := rfl
theorem rowStore_eq43 : @k0_pay43 F _ = rowStore := rfl
theorem rowStore_eq47 : @k0_pay47 F _ = rowStore := rfl
theorem rowStore_eq52 : @k0_pay52 F _ = rowStore := rfl
theorem rowStore_eq57 : @k0_pay57 F _ = rowStore := rfl
theorem rowStore_eq62 : @k0_pay62 F _ = rowStore := rfl
theorem rowStore_eq67 : @k0_pay67 F _ = rowStore := rfl
theorem colStore_eq21 (v : Vec F S1x1024x256 .f32) : k0_pay21 (k0_pay20 v) = colStore v := rfl
theorem colStore_eq51 (v : Vec F S1x1024x256 .f32) : k0_pay51 (k0_pay50 v) = colStore v := rfl
theorem colStore_eq65 (v : Vec F S1x1024x256 .f32) : k0_pay65 (k0_pay64 v) = colStore v := rfl
theorem rowStore_eq39 (v : Vec F S1x256x1024 .f32) : k0_pay39 (k0_pay38 v) = rowStore v := rfl

/-! The printed payloads that add a chunk's down projection are one function. -/

theorem chunk_eq28 : @k0_pay28 F _ = k0_pay24 := rfl
theorem chunk_eq40 : @k0_pay40 F _ = k0_pay24 := rfl
theorem chunk_eq44 : @k0_pay44 F _ = k0_pay24 := rfl
theorem chunk_eq48 : @k0_pay48 F _ = k0_pay24 := rfl
theorem chunk_eq63 : @k0_pay63 F _ = k0_pay24 := rfl
theorem chunk_eq35 (h : FVec F S512x1024 .bf16) (a : FVec F S512x1024 .f32) (wg wu : Vec F S1024x256 .bf16) (wd : Vec F S256x1024 .bf16) :
    k0_pay35 a (k0_pay32 h wg) (k0_pay33 h wu) (k0_pay34 h wg) wd = k0_pay24 h a wg wu wd := rfl
theorem chunk_eq54 (h : FVec F S512x1024 .bf16) (a : FVec F S512x1024 .f32) (wg wu : Vec F S1024x256 .bf16) (wd : Vec F S256x1024 .bf16) :
    k0_pay54 a (k0_pay53 h wg wu) wd = k0_pay24 h a wg wu wd := rfl
theorem chunk_eq59 (h : FVec F S512x1024 .bf16) (a : FVec F S512x1024 .f32) (wg wu : Vec F S1024x256 .bf16) (wd : Vec F S256x1024 .bf16) :
    k0_pay59 a (k0_pay58 h wg wu) wd = k0_pay24 h a wg wu wd := rfl

/-- A whole load of the output projection's scratch after its four row blocks were stored reads the matrix. -/
theorem readCov_mix (v : View sg .tc .vmem S1024x1024 .bf16) (G : Vec F S1024x1024 .bf16) (i0 i1 i2 i3 inb) :
    v.readCov [⟨Rect.unit (s := S1024x1024) ![768, 0] ![256, 1024] i3, View.ld G (Rect.unit (s := S1024x1024) ![768, 0] ![256, 1024] i3)⟩,
        ⟨Rect.unit (s := S1024x1024) ![512, 0] ![256, 1024] i2, View.ld G (Rect.unit (s := S1024x1024) ![512, 0] ![256, 1024] i2)⟩,
        ⟨Rect.unit (s := S1024x1024) ![256, 0] ![256, 1024] i1, View.ld G (Rect.unit (s := S1024x1024) ![256, 0] ![256, 1024] i1)⟩,
        ⟨Rect.unit (s := S1024x1024) ![0, 0] ![256, 1024] i0, View.ld G (Rect.unit (s := S1024x1024) ![0, 0] ![256, 1024] i0)⟩]
      (Rect.unit (s := S1024x1024) ![0, 0] ![1024, 1024] inb).toLoadRect = G := by
  have hc := View.cover_of_tiledL (Val := Elt F) [⟨Rect.unit (s := S1024x1024) ![768, 0] ![256, 1024] i3, View.ld G (Rect.unit (s := S1024x1024) ![768, 0] ![256, 1024] i3)⟩,
        ⟨Rect.unit (s := S1024x1024) ![512, 0] ![256, 1024] i2, View.ld G (Rect.unit (s := S1024x1024) ![512, 0] ![256, 1024] i2)⟩,
        ⟨Rect.unit (s := S1024x1024) ![256, 0] ![256, 1024] i1, View.ld G (Rect.unit (s := S1024x1024) ![256, 0] ![256, 1024] i1)⟩,
        ⟨Rect.unit (s := S1024x1024) ![0, 0] ![256, 1024] i0, View.ld G (Rect.unit (s := S1024x1024) ![0, 0] ![256, 1024] i0)⟩] S256x1024.size (by rfl)
  refine (View.readCov_eq_canon_ld v _ _ hc).trans ((View.ld_unit_lit _ _ (by decide)).trans ?_)
  funext y
  refine View.canon_apply_of_pieces G _ (View.PiecesOf.mem ?_) y (hc y)
  exact ⟨fun _ => rfl, fun _ => rfl, fun _ => rfl, fun _ => rfl, trivial⟩

end Cert.Kernel.Closing

end
-- ==== Proof.First.lean ====
/-
  The first grid point's run, for any values: it copies the four layer-one weight matrices through two staging rings into
  scratch, truncated, computes its output block chunk by chunk meanwhile, and leaves every semaphore at zero.
-/
module

public import proofs.«01_k».proof.Proof.Staging
public import Idealize.ShloMosaic.Lib.Pipeline.ValueKit
public import Idealize.ShloMosaic.Lib.VecWindow

@[expose] public section

set_option maxRecDepth 16384

noncomputable section

namespace Cert.Kernel.Closing

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

set_option maxHeartbeats 3460000 in
set_option sl_exec.dmaWindow true in
set_option sl_exec.dmaWindowSet true in
/-- The first point: the body copies the layer-one weights in, leaves their truncations in the four scratch matrices and
    `firstOut` in the first output window, and hands back everything else as it was, the staging rings at some contents. -/
theorem first_point (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x9x8x1024 .f32) (harg4 : arg4.IsWhole) (arg5 : Memref sig .tc .vmem S1x3x1024 .f32) (harg5 : arg5.IsWhole) (arg6 : Memref sig .tc .vmem S1x3x1024 .f32) (harg6 : arg6.IsWhole) (arg11 : Memref sig .tc .vmem S512x1024 .f32) (harg11 : arg11.IsWhole) (arg12 : Memref sig .tc .vmem S512x1024 .f32) (harg12 : arg12.IsWhole) (arg13 : Memref sig .tc .vmem S1024x2816 .bf16) (harg13 : arg13.IsWhole) (arg14 : Memref sig .tc .vmem S1024x2816 .bf16) (harg14 : arg14.IsWhole) (arg15 : Memref sig .tc .vmem S2816x1024 .bf16) (harg15 : arg15.IsWhole) (arg16 : Memref sig .tc .vmem S1024x1024 .bf16) (harg16 : arg16.IsWhole) (alloca_r0 : Memref sig .tc .vmem S6x1024x256 .f32) (halloca_r0 : alloca_r0.IsWhole) (alloca_48_r0 : Memref sig .tc .vmem S3x256x1024 .f32) (halloca_48_r0 : alloca_48_r0.IsWhole) (hc0 : cond0_0 i) (hc1 : cond0_1 i) (hc2 : ¬cond0_2 i) (hc3 : ¬cond0_3 i)
    (x0 : Vec F S512x1024 .f32) (x1 : Vec F S512x512 .bf16) (x2 : Vec F S512x512 .bf16) (x3 : Vec F S1x9x8x1024 .f32) (x4 : Vec F S1x3x1024 .f32) (x5 : Vec F S1x3x1024 .f32) (fh0 : HbBuf0 (F := F) c hbM0_0) (fh1 : HbBuf0 (F := F) c hbM0_1) (fh2 : HbBuf0 (F := F) c hbM0_2) (fh3 : HbBuf0 (F := F) c hbM0_3) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) alloca_r0 fullShare d) ∗ (∃ d, owns (c : Thread nD τ) alloca_48_r0 fullShare d) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg11 fullShare (firstOut i hc0 x0 x1 x2 x3 x4 x5 (upW (hbM0_0.view.read (Elt F) fh0)) (upW (hbM0_1.view.read (Elt F) fh1)) (downW (hbM0_2.view.read (Elt F) fh2)) (mixW (hbM0_3.view.read (Elt F) fh3))) ∗ (∃ d, owns (c : Thread nD τ) arg12 fullShare d) ∗ owns (c : Thread nD τ) arg13 fullShare (upW (hbM0_0.view.read (Elt F) fh0)) ∗ owns (c : Thread nD τ) arg14 fullShare (upW (hbM0_1.view.read (Elt F) fh1)) ∗ owns (c : Thread nD τ) arg15 fullShare (downW (hbM0_2.view.read (Elt F) fh2)) ∗ owns (c : Thread nD τ) arg16 fullShare (mixW (hbM0_3.view.read (Elt F) fh3)) ∗ (∃ d, owns (c : Thread nD τ) alloca_r0 fullShare d) ∗ (∃ d, owns (c : Thread nD τ) alloca_48_r0 fullShare d) ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_ffn2 i arg1 harg1 arg2 harg2 arg3 harg3 arg4 harg4 arg5 harg5 arg6 harg6 (Memref.whole main_arg6) (Memref.isWhole_whole _) (Memref.whole main_arg7) (Memref.isWhole_whole _) (Memref.whole main_arg8) (Memref.isWhole_whole _) (Memref.whole main_arg9) (Memref.isWhole_whole _) arg11 harg11 arg12 harg12 arg13 harg13 arg14 harg14 arg15 harg15 arg16 harg16 alloca_r0 halloca_r0 alloca_48_r0 halloca_48_r0 cc0_scoped2 cc0_scoped3) K := by
    intro W K
    simp only [cc0_ffn2_eq_skeleton]; unfold cc0_ffn2_skel
    simp only [k0_part30_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hq0, Hq1, Hq2, Hq3, Hq4, Hq5, Hq6, Hq7, Hq8, Hh0, Hh1, Hh2, Hh3, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3)
    sl_step
    iapply Hk
    isplitl [H0]
    · iexists _; isplitr [H0]
      · ipureintro; exact hf0
      · iexact H0
    isplitl [H1]
    · iexists _; isplitr [H1]
      · ipureintro; exact hf1
      · iexact H1
    isplitl [H2]
    · iexists _; isplitr [H2]
      · ipureintro; exact hf2
      · iexact H2
    isplitl [H3]
    · iexists _; isplitr [H3]
      · ipureintro; exact hf3
      · iexact H3
    isplitl [H4]
    · iexists _; isplitr [H4]
      · ipureintro; exact hf4
      · iexact H4
    isplitl [H5]
    · iexists _; isplitr [H5]
      · ipureintro; exact hf5
      · iexact H5
    isplitl [H6]
    · iexists _; isplitr; swap; · iexact H6
      · ipureintro
        refine (View.read_writes_full _ _ inb_S512x1024_S512x1024_0_0 _ []).trans ?_
        sl_unfold_words
        simp (disch := decide) only [colStore_eq, rowStore_eq, colStore_eq17, colStore_eq22, colStore_eq25, colStore_eq26, colStore_eq29, colStore_eq30, colStore_eq36, colStore_eq37, colStore_eq41, colStore_eq42, colStore_eq45, colStore_eq46, colStore_eq49, colStore_eq55, colStore_eq56, colStore_eq60, colStore_eq61, colStore_eq66, colStore_eq21, colStore_eq51, colStore_eq65, rowStore_eq5, rowStore_eq6, rowStore_eq7, rowStore_eq18, rowStore_eq23, rowStore_eq27, rowStore_eq31, rowStore_eq43, rowStore_eq47, rowStore_eq52, rowStore_eq57, rowStore_eq62, rowStore_eq67, rowStore_eq39, readAt_other_slot, colStore_hit, rowStore_hit, truncf_copy_up _ 0, truncf_copy_up _ 256, truncf_copy_up _ 512, truncf_copy_up _ 768, truncf_copy_up _ 1024, truncf_copy_up _ 1280, truncf_copy_up _ 1536, truncf_copy_up _ 1792, truncf_copy_up _ 2048, truncf_copy_up _ 2304, truncf_copy_up _ 2560, truncf_copy_down _ 0, truncf_copy_down _ 256, truncf_copy_down _ 512, truncf_copy_down _ 768, truncf_copy_down _ 1024, truncf_copy_down _ 1280, truncf_copy_down _ 1536, truncf_copy_down _ 1792, truncf_copy_down _ 2048, truncf_copy_down _ 2304, truncf_copy_down _ 2560, truncf_copy_mix _ 0, truncf_copy_mix _ 256, truncf_copy_mix _ 512, truncf_copy_mix _ 768, View.readCov_cons_toLoadRect, readCov_mix, chunk_eq28, chunk_eq40, chunk_eq44, chunk_eq48, chunk_eq63, chunk_eq35, chunk_eq54, chunk_eq59]
        simp only [View.readAt_eq_ld, Memref.IsWhole.read_unread]
        simp (disch := decide) only [View.ld_unit_lit]
        rfl
    isplitl [H7]
    · iexists _, _; isplitr; swap; · iexact H7
      · ipureintro; rfl
    isplitl [HS0]
    · iexists _; isplitr; swap; · iexact HS0
      · ipureintro
        refine read_blocks _ _ _ _ ?_ (View.cover_of_tiledL _ S1024x256.size (by rfl))
        sl_unfold_words
        simp (disch := decide) only [colStore_eq, rowStore_eq, colStore_eq17, colStore_eq22, colStore_eq25, colStore_eq26, colStore_eq29, colStore_eq30, colStore_eq36, colStore_eq37, colStore_eq41, colStore_eq42, colStore_eq45, colStore_eq46, colStore_eq49, colStore_eq55, colStore_eq56, colStore_eq60, colStore_eq61, colStore_eq66, colStore_eq21, colStore_eq51, colStore_eq65, rowStore_eq5, rowStore_eq6, rowStore_eq7, rowStore_eq18, rowStore_eq23, rowStore_eq27, rowStore_eq31, rowStore_eq43, rowStore_eq47, rowStore_eq52, rowStore_eq57, rowStore_eq62, rowStore_eq67, rowStore_eq39, readAt_other_slot, colStore_hit, rowStore_hit, truncf_copy_up _ 0, truncf_copy_up _ 256, truncf_copy_up _ 512, truncf_copy_up _ 768, truncf_copy_up _ 1024, truncf_copy_up _ 1280, truncf_copy_up _ 1536, truncf_copy_up _ 1792, truncf_copy_up _ 2048, truncf_copy_up _ 2304, truncf_copy_up _ 2560]
        exact ⟨fun _ => rfl, fun _ => rfl, fun _ => rfl, fun _ => rfl, fun _ => rfl, fun _ => rfl, fun _ => rfl, fun _ => rfl, fun _ => rfl, fun _ => rfl, fun _ => rfl, trivial⟩
    isplitl [HS1]
    · iexists _; isplitr; swap; · iexact HS1
      · ipureintro
        refine read_blocks _ _ _ _ ?_ (View.cover_of_tiledL _ S1024x256.size (by rfl))
        sl_unfold_words
        simp (disch := decide) only [colStore_eq, rowStore_eq, colStore_eq17, colStore_eq22, colStore_eq25, colStore_eq26, colStore_eq29, colStore_eq30, colStore_eq36, colStore_eq37, colStore_eq41, colStore_eq42, colStore_eq45, colStore_eq46, colStore_eq49, colStore_eq55, colStore_eq56, colStore_eq60, colStore_eq61, colStore_eq66, colStore_eq21, colStore_eq51, colStore_eq65, rowStore_eq5, rowStore_eq6, rowStore_eq7, rowStore_eq18, rowStore_eq23, rowStore_eq27, rowStore_eq31, rowStore_eq43, rowStore_eq47, rowStore_eq52, rowStore_eq57, rowStore_eq62, rowStore_eq67, rowStore_eq39, readAt_other_slot, colStore_hit, rowStore_hit, truncf_copy_up _ 0, truncf_copy_up _ 256, truncf_copy_up _ 512, truncf_copy_up _ 768, truncf_copy_up _ 1024, truncf_copy_up _ 1280, truncf_copy_up _ 1536, truncf_copy_up _ 1792, truncf_copy_up _ 2048, truncf_copy_up _ 2304, truncf_copy_up _ 2560]
        exact ⟨fun _ => rfl, fun _ => rfl, fun _ => rfl, fun _ => rfl, fun _ => rfl, fun _ => rfl, fun _ => rfl, fun _ => rfl, fun _ => rfl, fun _ => rfl, fun _ => rfl, trivial⟩
    isplitl [HS2]
    · iexists _; isplitr; swap; · iexact HS2
      · ipureintro
        refine read_blocks _ _ _ _ ?_ (View.cover_of_tiledL _ S256x1024.size (by rfl))
        sl_unfold_words
        simp (disch := decide) only [colStore_eq, rowStore_eq, colStore_eq17, colStore_eq22, colStore_eq25, colStore_eq26, colStore_eq29, colStore_eq30, colStore_eq36, colStore_eq37, colStore_eq41, colStore_eq42, colStore_eq45, colStore_eq46, colStore_eq49, colStore_eq55, colStore_eq56, colStore_eq60, colStore_eq61, colStore_eq66, colStore_eq21, colStore_eq51, colStore_eq65, rowStore_eq5, rowStore_eq6, rowStore_eq7, rowStore_eq18, rowStore_eq23, rowStore_eq27, rowStore_eq31, rowStore_eq43, rowStore_eq47, rowStore_eq52, rowStore_eq57, rowStore_eq62, rowStore_eq67, rowStore_eq39, readAt_other_slot, colStore_hit, rowStore_hit, truncf_copy_down _ 0, truncf_copy_down _ 256, truncf_copy_down _ 512, truncf_copy_down _ 768, truncf_copy_down _ 1024, truncf_copy_down _ 1280, truncf_copy_down _ 1536, truncf_copy_down _ 1792, truncf_copy_down _ 2048, truncf_copy_down _ 2304, truncf_copy_down _ 2560]
        exact ⟨fun _ => rfl, fun _ => rfl, fun _ => rfl, fun _ => rfl, fun _ => rfl, fun _ => rfl, fun _ => rfl, fun _ => rfl, fun _ => rfl, fun _ => rfl, fun _ => rfl, trivial⟩
    isplitl [HS3]
    · iexists _; isplitr; swap; · iexact HS3
      · ipureintro
        refine read_blocks _ _ _ _ ?_ (View.cover_of_tiledL _ S256x1024.size (by rfl))
        sl_unfold_words
        simp (disch := decide) only [colStore_eq, rowStore_eq, colStore_eq17, colStore_eq22, colStore_eq25, colStore_eq26, colStore_eq29, colStore_eq30, colStore_eq36, colStore_eq37, colStore_eq41, colStore_eq42, colStore_eq45, colStore_eq46, colStore_eq49, colStore_eq55, colStore_eq56, colStore_eq60, colStore_eq61, colStore_eq66, colStore_eq21, colStore_eq51, colStore_eq65, rowStore_eq5, rowStore_eq6, rowStore_eq7, rowStore_eq18, rowStore_eq23, rowStore_eq27, rowStore_eq31, rowStore_eq43, rowStore_eq47, rowStore_eq52, rowStore_eq57, rowStore_eq62, rowStore_eq67, rowStore_eq39, readAt_other_slot, colStore_hit, rowStore_hit, truncf_copy_mix _ 0, truncf_copy_mix _ 256, truncf_copy_mix _ 512, truncf_copy_mix _ 768]
        exact ⟨fun _ => rfl, fun _ => rfl, fun _ => rfl, fun _ => rfl, trivial⟩
    isplitl [HS4]
    · iexists _, _; isplitr; swap; · iexact HS4
      · ipureintro; rfl
    isplitl [HS5]
    · iexists _, _; isplitr; swap; · iexact HS5
      · ipureintro; rfl
    isplitl [Hq0]
    · iexact Hq0
    isplitl [Hq1]
    · iexact Hq1
    isplitl [Hq2]
    · iexact Hq2
    isplitl [Hq3]
    · iexact Hq3
    isplitl [Hq4]
    · iexact Hq4
    isplitl [Hq5]
    · iexact Hq5
    isplitl [Hq6]
    · iexact Hq6
    isplitl [Hq7]
    · iexact Hq7
    isplitl [Hq8]
    · iexact Hq8
    isplitl [Hh0]
    · iexact Hh0
    isplitl [Hh1]
    · iexact Hh1
    isplitl [Hh2]
    · iexact Hh2
    isplitl [Hh3]
    · iexact Hh3
    iexists _; iexact HW

end Cert.Kernel.Closing

end
-- ==== Proof.Run.lean ====
/-
  The program's run for any values: the proof data (what each output window holds after each point, the invariant that
  names the four weight matrices in scratch from the second point on), the body at every point, the launch, and the frame
  read from it.
-/
module

public import proofs.«01_k».proof.Proof.Steady
public import proofs.«01_k».proof.Proof.First
public import Idealize.ShloMosaic.Lib.Pipeline.TableIdle

@[expose] public section

set_option maxRecDepth 16384

noncomputable section

namespace Cert.Kernel.Closing

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the run leaves -/

/-- The gate projection the points after the first find in scratch. -/
def gateOf (c : Dev nD) : Vec F S1024x2816 .bf16 := upW (hbM0_0.view.read (Elt F) (V m c main_arg6))
/-- The up projection in scratch. -/
def upOf (c : Dev nD) : Vec F S1024x2816 .bf16 := upW (hbM0_1.view.read (Elt F) (V m c main_arg7))
/-- The down projection in scratch. -/
def downOf (c : Dev nD) : Vec F S2816x1024 .bf16 := downW (hbM0_2.view.read (Elt F) (V m c main_arg8))
/-- The output projection in scratch. -/
def mixOf (c : Dev nD) : Vec F S1024x1024 .bf16 := mixW (hbM0_3.view.read (Elt F) (V m c main_arg9))

/-- The block a point computes, from its input blocks and the layer-one weights. -/
def blockOut (c : Dev nD) (t : Fin cfg0.N) : Vec F S512x1024 .f32 :=
  if h : t.val % 16 = 0 then
    firstOut (grid0.coords t) ((hcond0_0 t).mpr h) (iblk m c 0 t) (iblk m c 1 t) (iblk m c 2 t) (iblk m c 3 t) (iblk m c 4 t) (iblk m c 5 t)
      (gateOf m c) (upOf m c) (downOf m c) (mixOf m c)
  else
    steadyOut (grid0.coords t) ((hcond0_3 t).mpr (by omega)) (iblk m c 0 t) (iblk m c 1 t) (iblk m c 2 t) (iblk m c 3 t) (iblk m c 4 t) (iblk m c 5 t)
      (gateOf m c) (upOf m c) (downOf m c) (mixOf m c)

/-- The last point at or before `t` that stores the context output. -/
def lastCtx (t : Fin cfg0.N) : Fin cfg0.N := if t.val < 8 then t else ⟨7, by decide⟩

/-- The invariant from the second point on: the four weight matrices named in scratch, the staging rings at some
    contents, the register, the body's own semaphores at zero and the weights' arrays as at the start. -/
def named (c : Dev nD) : sProp 𝕄 :=
  iprop(iprop(owns (c : Thread nD τ) scM0_0 fullShare (gateOf m c) ∗ owns (c : Thread nD τ) scM0_1 fullShare (upOf m c) ∗ owns (c : Thread nD τ) scM0_2 fullShare (downOf m c) ∗ owns (c : Thread nD τ) scM0_3 fullShare (mixOf m c) ∗ (∃ d, owns (c : Thread nD τ) scM0_4 fullShare d) ∗ (∃ d, owns (c : Thread nD τ) scM0_5 fullShare d))
    ∗ (∃ r, prngReg c r)
    ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0)
    ∗ iprop(hbPt0 c hbM0_0 (V m c main_arg6) ∗ hbPt0 c hbM0_1 (V m c main_arg7) ∗ hbPt0 c hbM0_2 (V m c main_arg8) ∗ hbPt0 c hbM0_3 (V m c main_arg9)))

/-- The proof data: inputs stay at their blocks; the context output holds the last block stored to it, the latent output
    the block of the point; the invariant starts as the launch gives it and is `named` after the first point. -/
def datsV (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blockOut m c (lastCtx t)
    | ⟨7, _⟩ => blockOut m c t
  Φ t := if t.val = 0 then Pipeline.ΦD osem0 spec0 H0 (V m) c else named m c
  q _ := fullShare
  owed _ := 0

theorem phi_zero (c : Dev nD) (t : Fin (cfg0.N + 1)) (h : t.val = 0) : (datsV m 0 c).Φ t = Pipeline.ΦD osem0 spec0 H0 (V m) c := by
  dsimp only [datsV]; rw [if_pos h]

theorem phi_pos (c : Dev nD) (t : Fin (cfg0.N + 1)) (h : t.val ≠ 0) : (datsV m 0 c).Φ t = named m c := by
  dsimp only [datsV]; rw [if_neg h]

theorem arr_eq (c : Dev nD) (w : Fin cfg0.W) : (datsV m 0 c).A w = V m c (Pipeline.arrRef spec0 w) := by dsimp only [datsV]

theorem afterV_0 (c : Dev nD) (t : Fin cfg0.N) : (datsV m 0 c).after 0 t = iblk m c 0 t := by dsimp only [datsV]
theorem afterV_1 (c : Dev nD) (t : Fin cfg0.N) : (datsV m 0 c).after 1 t = iblk m c 1 t := by dsimp only [datsV]
theorem afterV_2 (c : Dev nD) (t : Fin cfg0.N) : (datsV m 0 c).after 2 t = iblk m c 2 t := by dsimp only [datsV]
theorem afterV_3 (c : Dev nD) (t : Fin cfg0.N) : (datsV m 0 c).after 3 t = iblk m c 3 t := by dsimp only [datsV]
theorem afterV_4 (c : Dev nD) (t : Fin cfg0.N) : (datsV m 0 c).after 4 t = iblk m c 4 t := by dsimp only [datsV]
theorem afterV_5 (c : Dev nD) (t : Fin cfg0.N) : (datsV m 0 c).after 5 t = iblk m c 5 t := by dsimp only [datsV]
theorem afterV_6 (c : Dev nD) (t : Fin cfg0.N) : (datsV m 0 c).after 6 t = blockOut m c (lastCtx t) := by dsimp only [datsV]
theorem afterV_7 (c : Dev nD) (t : Fin cfg0.N) : (datsV m 0 c).after 7 t = blockOut m c t := by dsimp only [datsV]

theorem beforeV_0 (c : Dev nD) (t : Fin cfg0.N) (d) : (datsV m 0 c).before 0 t d = iblk m c 0 t :=
  before0_0_of m (datsV m 0 c) (arr_eq m c 0) (afterV_0 m c) t d
theorem beforeV_1 (c : Dev nD) (t : Fin cfg0.N) (d) : (datsV m 0 c).before 1 t d = iblk m c 1 t :=
  before0_1_of m (datsV m 0 c) (arr_eq m c 1) (afterV_1 m c) t d
theorem beforeV_2 (c : Dev nD) (t : Fin cfg0.N) (d) : (datsV m 0 c).before 2 t d = iblk m c 2 t :=
  before0_2_of m (datsV m 0 c) (arr_eq m c 2) (afterV_2 m c) t d
theorem beforeV_3 (c : Dev nD) (t : Fin cfg0.N) (d) : (datsV m 0 c).before 3 t d = iblk m c 3 t :=
  before0_3_of m (datsV m 0 c) (arr_eq m c 3) (afterV_3 m c) t d
theorem beforeV_4 (c : Dev nD) (t : Fin cfg0.N) (d) : (datsV m 0 c).before 4 t d = iblk m c 4 t :=
  before0_4_of m (datsV m 0 c) (arr_eq m c 4) (afterV_4 m c) t d
theorem beforeV_5 (c : Dev nD) (t : Fin cfg0.N) (d) : (datsV m 0 c).before 5 t d = iblk m c 5 t :=
  before0_5_of m (datsV m 0 c) (arr_eq m c 5) (afterV_5 m c) t d

/-! ## The output windows' schedules -/

theorem idle6_ctx : ∀ t : Fin cfg0.N, t.val < 8 → cfg0.idle 6 (grid0.coords t) = false := by decide +kernel
theorem idle6_lat : ∀ t : Fin cfg0.N, 8 ≤ t.val → cfg0.idle 6 (grid0.coords t) = true := by decide +kernel
theorem idle7_ctx : ∀ t : Fin cfg0.N, t.val < 8 → cfg0.idle 7 (grid0.coords t) = true := by decide +kernel
theorem idle7_lat : ∀ t : Fin cfg0.N, 8 ≤ t.val → cfg0.idle 7 (grid0.coords t) = false := by decide +kernel
theorem flush6_mid : ∀ t : Fin cfg0.N, 8 ≤ t.val → t.val < 15 → (cfg0.win 6).flush t = false := by decide +kernel
theorem flush6_last : ∀ t : Fin cfg0.N, t.val = 15 → (cfg0.win 6).flush t = true := by decide +kernel
theorem flush7_ctx : ∀ t : Fin cfg0.N, t.val < 8 → (cfg0.win 7).flush t = false := by decide +kernel
theorem stale6 : ∀ t : Fin cfg0.N, 8 ≤ t.val → cfg0.fresh 6 t.val = false := by decide +kernel

/-- The context output's buffer holds the eighth block at every later point. -/
theorem beforeV_6 (c : Dev nD) (t : Fin cfg0.N) (h : 8 ≤ t.val) (d) :
    (datsV m 0 c).before 6 t d = blockOut m c ⟨7, by decide⟩ := by
  have key := Pipeline.Dat.before_out_traj (datsV m 0 c) 6 rfl (fun _ _ => rfl)
    (fun t h0 hi hf => by
      have h8 : 8 ≤ t.val := by
        by_contra hlt
        rw [idle6_ctx t (by omega)] at hi
        exact Bool.false_ne_true hi
      rw [afterV_6, afterV_6]
      congr 1
      unfold lastCtx
      rw [if_neg (by omega)]
      split
      · next h7 => exact Fin.ext (show 7 = t.val - 1 by have : t.val - 1 < 8 := h7; omega)
      · rfl) t.val t rfl d
  rw [key, stale6 t h, if_neg Bool.false_ne_true, afterV_6]
  congr 1
  unfold lastCtx
  split
  · next h7 => exact Fin.ext (show t.val - 1 = 7 by have : t.val - 1 < 8 := h7; omega)
  · rfl

/-- The latent output's buffer holds whatever it did when the first point runs. -/
theorem beforeV_7 (c : Dev nD) (t : Fin cfg0.N) (h : t.val = 0) (d) : (datsV m 0 c).before 7 t d = d := by
  unfold Dat.before
  rw [if_neg (by rw [(cfg0.win 7).fetch_out rfl]; exact Bool.false_ne_true), if_pos h]

/-! ## The body at a point -/

/-- What the body is called with at point `t`. -/
def preV (c : Dev nD) (t : Fin cfg0.N) : sProp 𝕄 :=
  iprop((datsV m 0 c).Φ t.castSucc ∗ (datsV m 0 c).owesAt () t.castSucc
    ∗ (∃ d, owns (c : Thread nD τ) (ms0_0 t) fullShare ((datsV m 0 c).before 0 t d))
    ∗ (∃ d, owns (c : Thread nD τ) (ms0_1 t) fullShare ((datsV m 0 c).before 1 t d))
    ∗ (∃ d, owns (c : Thread nD τ) (ms0_2 t) fullShare ((datsV m 0 c).before 2 t d))
    ∗ (∃ d, owns (c : Thread nD τ) (ms0_3 t) fullShare ((datsV m 0 c).before 3 t d))
    ∗ (∃ d, owns (c : Thread nD τ) (ms0_4 t) fullShare ((datsV m 0 c).before 4 t d))
    ∗ (∃ d, owns (c : Thread nD τ) (ms0_5 t) fullShare ((datsV m 0 c).before 5 t d))
    ∗ (∃ d, owns (c : Thread nD τ) (ms0_6 t) fullShare ((datsV m 0 c).before 6 t d))
    ∗ (∃ d, owns (c : Thread nD τ) (ms0_7 t) fullShare ((datsV m 0 c).before 7 t d)))

/-- and what it returns. -/
def postV (c : Dev nD) (t : Fin cfg0.N) : sProp 𝕄 :=
  iprop((datsV m 0 c).Φ t.succ ∗ (datsV m 0 c).owesAt () t.succ
    ∗ (datsV m 0 c).leavesExact 0 t
    ∗ (datsV m 0 c).leavesExact 1 t
    ∗ (datsV m 0 c).leavesExact 2 t
    ∗ (datsV m 0 c).leavesExact 3 t
    ∗ (datsV m 0 c).leavesExact 4 t
    ∗ (datsV m 0 c).leavesExact 5 t
    ∗ (datsV m 0 c).leavesExact 6 t
    ∗ (datsV m 0 c).leavesExact 7 t)

/-- The inputs' windows at a point: each at its block, before and after. -/
theorem leavesV_in (c : Dev nD) (t : Fin cfg0.N) :
    (datsV m 0 c).leavesExact 0 t = owns (c : Thread nD τ) (ms0_0 t) fullShare (iblk m c 0 t)
    ∧ (datsV m 0 c).leavesExact 1 t = owns (c : Thread nD τ) (ms0_1 t) fullShare (iblk m c 1 t)
    ∧ (datsV m 0 c).leavesExact 2 t = owns (c : Thread nD τ) (ms0_2 t) fullShare (iblk m c 2 t)
    ∧ (datsV m 0 c).leavesExact 3 t = owns (c : Thread nD τ) (ms0_3 t) fullShare (iblk m c 3 t)
    ∧ (datsV m 0 c).leavesExact 4 t = owns (c : Thread nD τ) (ms0_4 t) fullShare (iblk m c 4 t)
    ∧ (datsV m 0 c).leavesExact 5 t = owns (c : Thread nD τ) (ms0_5 t) fullShare (iblk m c 5 t) := by
  refine ⟨?_, ?_, ?_, ?_, ?_, ?_⟩
  · unfold Dat.leavesExact; rw [liveAt0_0 t, afterV_0]
  · unfold Dat.leavesExact; rw [liveAt0_1 t, afterV_1]
  · unfold Dat.leavesExact; rw [liveAt0_2 t, afterV_2]
  · unfold Dat.leavesExact; rw [liveAt0_3 t, afterV_3]
  · unfold Dat.leavesExact; rw [liveAt0_4 t, afterV_4]
  · unfold Dat.leavesExact; rw [liveAt0_5 t, afterV_5]

set_option maxHeartbeats 3600000 in
/-- The body at the first point. -/
theorem body_first (c : Dev nD) (t : Fin cfg0.N) (ht : t.val = 0) :
    preV m c t ⊢ wp frame (wpE (defs₀ (F := F)) Variants.none c none) Set.univ (bodyAt0 t) (fun _ => postV m c t) := by
  unfold preV postV bodyAt0
  obtain ⟨e0, e1, e2, e3, e4, e5⟩ := leavesV_in m c t
  simp only [beforeV_0, beforeV_1, beforeV_2, beforeV_3, beforeV_4, beforeV_5]
  rw [e0, e1, e2, e3, e4, e5]
  rw [phi_pos m c t.succ (Nat.succ_ne_zero _)]
  unfold Dat.owesAt Pipeline.owesWithin named
  rw [show (datsV m 0 c).owed t.castSucc = 0 from rfl, show (datsV m 0 c).owed t.succ = 0 from rfl]
  rw [phi_zero m c t.castSucc ht, PhiD0_eq]
  have hx : lastCtx t = t := if_pos (by omega)
  have h16 : t.val % 16 = 0 := by omega
  have hb : blockOut m c t = firstOut (grid0.coords t) ((hcond0_0 t).mpr h16) (iblk m c 0 t) (iblk m c 1 t) (iblk m c 2 t) (iblk m c 3 t) (iblk m c 4 t) (iblk m c 5 t) (gateOf m c) (upOf m c) (downOf m c) (mixOf m c) := dif_pos h16
  rw [show (datsV m 0 c).leavesExact 6 t = owns (c : Thread nD τ) (ms0_6 t) fullShare ((datsV m 0 c).after 6 t) from by
    unfold Dat.leavesExact; rw [idle6_ctx t (by omega)], afterV_6, hx, hb]
  rw [(datsV m 0 c).leavesExact_idle 7 t (idle7_ctx t (by omega)) (flush7_ctx t (by omega))]
  simp only [beforeV_7 m c t ht]
  iintro ⟨⟨⟨HS0, HS1, HS2, HS3, HS4, HS5⟩, Hg, ⟨Hq0, Hq1, Hq2, Hq3, Hq4, Hq5, Hq6, Hq7, Hq8⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply ((first_point c (grid0.coords t) _ _ _ _ _ _ _ _ _ _ _ _ _ _ _ _ _ _ _ _ _ _ _ _ _ _ _ _ ((hcond0_0 t).mpr h16) ((hcond0_1 t).mpr (by omega)) (fun h => absurd ((hcond0_2 t).mp h) (by omega)) (fun h => absurd ((hcond0_3 t).mp h) (by omega)) (iblk m c 0 t) (iblk m c 1 t) (iblk m c 2 t) (iblk m c 3 t) (iblk m c 4 t) (iblk m c 5 t) (V m c main_arg6) (V m c main_arg7) (V m c main_arg8) (V m c main_arg9)) W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hh0]; · iexact Hh0
  isplitl [Hh1]; · iexact Hh1
  isplitl [Hh2]; · iexact Hh2
  isplitl [Hh3]; · iexact Hh3
  isplitl [HW]; · iexact HW
  iintro ⟨H0, H1, H2, H3, H4, H5, H6, H7, HS0, HS1, HS2, HS3, HS4, HS5, Hq0, Hq1, Hq2, Hq3, Hq4, Hq5, Hq6, Hq7, Hq8, Hh0, Hh1, Hh2, Hh3, ⟨%W', HW⟩⟩
  isplitl [HS0 HS1 HS2 HS3 HS4 HS5 Hg Hq0 Hq1 Hq2 Hq3 Hq4 Hq5 Hq6 Hq7 Hq8 Hh0 Hh1 Hh2 Hh3]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    isplitl [Hg]
    · iexact Hg
    isplitl [Hq0 Hq1 Hq2 Hq3 Hq4 Hq5 Hq6 Hq7 Hq8]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      iexact Hq8
    isplitl [Hh0]; · iexact Hh0
    isplitl [Hh1]; · iexact Hh1
    isplitl [Hh2]; · iexact Hh2
    iexact Hh3
  isplitl [HW]
  · iexists _; isplitr; swap; · iexact HW
    ipureintro; exact fun _ _ => Or.inl trivial
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 3600000 in
/-- A later context point. -/
theorem body_ctx (c : Dev nD) (t : Fin cfg0.N) (h1 : 1 ≤ t.val) (h8 : t.val < 8) :
    preV m c t ⊢ wp frame (wpE (defs₀ (F := F)) Variants.none c none) Set.univ (bodyAt0 t) (fun _ => postV m c t) := by
  unfold preV postV bodyAt0
  obtain ⟨e0, e1, e2, e3, e4, e5⟩ := leavesV_in m c t
  simp only [beforeV_0, beforeV_1, beforeV_2, beforeV_3, beforeV_4, beforeV_5]
  rw [e0, e1, e2, e3, e4, e5]
  rw [phi_pos m c t.succ (Nat.succ_ne_zero _)]
  unfold Dat.owesAt Pipeline.owesWithin named
  rw [show (datsV m 0 c).owed t.castSucc = 0 from rfl, show (datsV m 0 c).owed t.succ = 0 from rfl]
  have hN : t.val < 16 := lt_of_lt_of_eq t.isLt (show cfg0.N = 16 from N_0)
  rw [phi_pos m c t.castSucc (show t.val ≠ 0 by omega)]
  unfold named
  have h16 : ¬ t.val % 16 = 0 := by omega
  have hb : blockOut m c t = steadyOut (grid0.coords t) ((hcond0_3 t).mpr (by omega)) (iblk m c 0 t) (iblk m c 1 t) (iblk m c 2 t) (iblk m c 3 t) (iblk m c 4 t) (iblk m c 5 t) (gateOf m c) (upOf m c) (downOf m c) (mixOf m c) := dif_neg h16
  have hx : lastCtx t = t := if_pos h8
  rw [show (datsV m 0 c).leavesExact 6 t = owns (c : Thread nD τ) (ms0_6 t) fullShare ((datsV m 0 c).after 6 t) from by
    unfold Dat.leavesExact; rw [idle6_ctx t h8], afterV_6, hx, hb]
  rw [(datsV m 0 c).leavesExact_idle 7 t (idle7_ctx t h8) (flush7_ctx t h8)]
  iintro ⟨⟨⟨HS0, HS1, HS2, HS3, HS4, HS5⟩, Hg, ⟨Hq0, Hq1, Hq2, Hq3, Hq4, Hq5, Hq6, Hq7, Hq8⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (steady_ctx c (grid0.coords t) _ _ _ _ _ _ _ _ _ _ _ _ _ _ _ _ _ _ _ _ _ _ _ _ _ _ _ _ (fun h => absurd ((hcond0_0 t).mp h) (by omega)) ((hcond0_3 t).mpr h1) ((hcond0_4 t).mpr h8) (fun h => absurd ((hcond0_5 t).mp h) (by omega)) (iblk m c 0 t) (iblk m c 1 t) (iblk m c 2 t) (iblk m c 3 t) (iblk m c 4 t) (iblk m c 5 t) (gateOf m c) (upOf m c) (downOf m c) (mixOf m c) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 HS4 HS5 Hg Hq0 Hq1 Hq2 Hq3 Hq4 Hq5 Hq6 Hq7 Hq8 Hh0 Hh1 Hh2 Hh3]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    isplitl [Hg]
    · iexact Hg
    isplitl [Hq0 Hq1 Hq2 Hq3 Hq4 Hq5 Hq6 Hq7 Hq8]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      iexact Hq8
    isplitl [Hh0]; · iexact Hh0
    isplitl [Hh1]; · iexact Hh1
    isplitl [Hh2]; · iexact Hh2
    iexact Hh3
  isplitl [HW]
  · iexists _; isplitr; swap; · iexact HW
    ipureintro; exact fun _ _ => Or.inl trivial
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d7; iexact H7

set_option maxHeartbeats 3600000 in
/-- A latent point. -/
theorem body_lat (c : Dev nD) (t : Fin cfg0.N) (h8 : 8 ≤ t.val) :
    preV m c t ⊢ wp frame (wpE (defs₀ (F := F)) Variants.none c none) Set.univ (bodyAt0 t) (fun _ => postV m c t) := by
  unfold preV postV bodyAt0
  obtain ⟨e0, e1, e2, e3, e4, e5⟩ := leavesV_in m c t
  simp only [beforeV_0, beforeV_1, beforeV_2, beforeV_3, beforeV_4, beforeV_5]
  rw [e0, e1, e2, e3, e4, e5]
  rw [phi_pos m c t.succ (Nat.succ_ne_zero _)]
  unfold Dat.owesAt Pipeline.owesWithin named
  rw [show (datsV m 0 c).owed t.castSucc = 0 from rfl, show (datsV m 0 c).owed t.succ = 0 from rfl]
  have hN : t.val < 16 := lt_of_lt_of_eq t.isLt (show cfg0.N = 16 from N_0)
  rw [phi_pos m c t.castSucc (show t.val ≠ 0 by omega)]
  unfold named
  have h16 : ¬ t.val % 16 = 0 := by omega
  have hb : blockOut m c t = steadyOut (grid0.coords t) ((hcond0_3 t).mpr (by omega)) (iblk m c 0 t) (iblk m c 1 t) (iblk m c 2 t) (iblk m c 3 t) (iblk m c 4 t) (iblk m c 5 t) (gateOf m c) (upOf m c) (downOf m c) (mixOf m c) := dif_neg h16
  have h6 : (iprop(∃ d, owns (c : Thread nD τ) (ms0_6 t) fullShare ((datsV m 0 c).before 6 t d)) : sProp 𝕄) ⊢ (datsV m 0 c).leavesExact 6 t := by
    by_cases hl : t.val = 15
    · rw [show (datsV m 0 c).leavesExact 6 t = owns (c : Thread nD τ) (ms0_6 t) fullShare ((datsV m 0 c).after 6 t) from by
        unfold Dat.leavesExact; rw [idle6_lat t h8, flush6_last t hl], afterV_6, show lastCtx t = ⟨7, by decide⟩ from if_neg (by omega)]
      simp only [beforeV_6 m c t h8]
      iintro ⟨%d, H⟩; iexact H
    · rw [(datsV m 0 c).leavesExact_idle 6 t (idle6_lat t h8) (flush6_mid t h8 (by omega))]
  rw [show (datsV m 0 c).leavesExact 7 t = owns (c : Thread nD τ) (ms0_7 t) fullShare ((datsV m 0 c).after 7 t) from by
    unfold Dat.leavesExact; rw [idle7_lat t h8], afterV_7, hb]
  iintro ⟨⟨⟨HS0, HS1, HS2, HS3, HS4, HS5⟩, Hg, ⟨Hq0, Hq1, Hq2, Hq3, Hq4, Hq5, Hq6, Hq7, Hq8⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (steady_lat c (grid0.coords t) _ _ _ _ _ _ _ _ _ _ _ _ _ _ _ _ _ _ _ _ _ _ _ _ _ _ _ _ (fun h => absurd ((hcond0_0 t).mp h) (by omega)) ((hcond0_3 t).mpr (by omega)) (fun h => absurd ((hcond0_4 t).mp h) (by omega)) ((hcond0_5 t).mpr h8) (iblk m c 0 t) (iblk m c 1 t) (iblk m c 2 t) (iblk m c 3 t) (iblk m c 4 t) (iblk m c 5 t) (gateOf m c) (upOf m c) (downOf m c) (mixOf m c) _)
  isplitl [H0]; · iexact H0
  isplitl [H1]; · iexact H1
  isplitl [H2]; · iexact H2
  isplitl [H3]; · iexact H3
  isplitl [H4]; · iexact H4
  isplitl [H5]; · iexact H5
  isplitl [H7]; · iexists _; iexact H7
  isplitl [HS0]; · iexact HS0
  isplitl [HS1]; · iexact HS1
  isplitl [HS2]; · iexact HS2
  isplitl [HS3]; · iexact HS3
  iintro ⟨H0, H1, H2, H3, H4, H5, H7, HS0, HS1, HS2, HS3⟩
  isplitl [HS0 HS1 HS2 HS3 HS4 HS5 Hg Hq0 Hq1 Hq2 Hq3 Hq4 Hq5 Hq6 Hq7 Hq8 Hh0 Hh1 Hh2 Hh3]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    isplitl [Hg]
    · iexact Hg
    isplitl [Hq0 Hq1 Hq2 Hq3 Hq4 Hq5 Hq6 Hq7 Hq8]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      iexact Hq8
    isplitl [Hh0]; · iexact Hh0
    isplitl [Hh1]; · iexact Hh1
    isplitl [Hh2]; · iexact Hh2
    iexact Hh3
  isplitl [HW]
  · iexists _; isplitr; swap; · iexact HW
    ipureintro; exact fun _ _ => Or.inl trivial
  isplitl [H0]; · iexact H0
  isplitl [H1]; · iexact H1
  isplitl [H2]; · iexact H2
  isplitl [H3]; · iexact H3
  isplitl [H4]; · iexact H4
  isplitl [H5]; · iexact H5
  isplitl [H6]; · iapply h6; iexists d6; iexact H6
  iexact H7

/-- The body at any point. -/
theorem body_any (c : Dev nD) (t : Fin cfg0.N) :
    preV m c t ⊢ wp frame (wpE (defs₀ (F := F)) Variants.none c none) Set.univ (bodyAt0 t) (fun _ => postV m c t) := by
  by_cases h0 : t.val = 0
  · exact body_first m c t h0
  · by_cases h8 : t.val < 8
    · exact body_ctx m c t (by omega) h8
    · exact body_lat m c t (by omega)

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (datsV (F := F) m 0 c) (defs₀ (F := F)) Variants.none () Set.univ := fun t => by
  rw [bigSep_W0, bigSep_W0, body_row]
  exact triple_restated (body_any m c t) rfl .rfl fun _ => .rfl

/-- After the last point the invariant gives back what the launch gave. -/
theorem named_out (c : Dev nD) : named m c ⊢ (Pipeline.ΦD osem0 spec0 H0 (V m) c : sProp 𝕄) := by
  rw [PhiD0_eq]
  unfold named
  iintro ⟨⟨HS0, HS1, HS2, HS3, HS4, HS5⟩, Hrest⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexact HS4
    iexact HS5
  iexact Hrest

theorem phi_in (c : Dev nD) : (Pipeline.ΦD osem0 spec0 H0 (V m) c : sProp 𝕄) ⊢ (datsV m 0 c).Φ 0 := by
  dsimp only [datsV]
  rw [if_pos (show (0 : Fin (cfg0.N + 1)).val = 0 from rfl)]

theorem phi_out (c : Dev nD) : (datsV m 0 c).Φ (Fin.last cfg0.N) ⊢ (Pipeline.ΦD osem0 spec0 H0 (V m) c : sProp 𝕄) := by
  dsimp only [datsV]
  rw [if_neg (show (Fin.last cfg0.N).val ≠ 0 by decide)]
  exact named_out m c

set_option backward.isDefEq.respectTransparency.types false in
/-- The run: from any memory with zero counters every weakly fair execution terminates, each output array ends at the
    blocks the points left, every other array as it was, and every counter at zero. -/
theorem run_values : θ_run defs (onTc (τ := τ) (main (F := F))) (s₀ m ρ)
    (fun r => Pipeline.FramePost cfgs (datsV m) (0 : Fin 1) (V m) r ∧ r.2.sem = fun _ => 0) :=
  Pipeline.θ_run_frame_dma (Q' := _) cfgs (datsV m) (0 : Fin 1) launch0 osem0 defs₀ Variants.none ownSemFacts0 H0 H0_sub m ρ main
    (hbody := fun c => (obligation m c).loose) (hshare := fun c => (datsV m 0 c).share_full fun _ => rfl)
    (howed := fun _ _ => rfl) (V := V m) (hmain := hmain m Variants.none) (hA := arr_eq m)
    (hin := phi_in m) (hout := phi_out m)

/-- The frame: the arguments end unchanged and every counter at zero. -/
theorem frame_values : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and
    (frame_of m ρ (fun c => (datsV m 0 c).toR) (arr_eq m) ((θ_run defs _ _).mono
      (fun _ h c => ⟨fun w => ((datsV m 0 c).toR_arrAt_iff w _ _).mpr ((h.1 c).1 w), (h.1 c).2⟩) (run_values m ρ)))
    ((θ_run defs _ _).mono (fun _ h => h.2) (run_values m ρ))

end Cert.Kernel.Closing

end
-- ==== Proof.Same.lean ====
/-
  The kernel and its idealization are one program text: the run, proved once for any values, gives both frames.
-/
module

public import proofs.«01_k».proof.Proof.Run
public import proofs.«01_k».proof.Proof.Gen.KernelIdeal
public import proofs.«01_k».proof.Defs

@[expose] public section

noncomputable section

namespace Cert.Kernel.Closing

open Idealize.ShloMosaic

/-- The two printed programs have the same body. -/
theorem bodies : @Cert.KernelIdeal.cc0_ffn2 Ideal _ _ = @Cert.Kernel.cc0_ffn2 Ideal _ _ := rfl

/-- and the same body table, -/
theorem rows : @Cert.KernelIdeal.defs₀ Ideal _ _ = @Cert.Kernel.defs₀ Ideal _ _ := by
  unfold Cert.KernelIdeal.defs₀ Cert.Kernel.defs₀
  refine congrArg Defs.onTc ?_
  funext l x
  match l, x with
  | ⟨0, _⟩, (t, s) => exact rfl

/-- hence the same label table, -/
theorem tables : @Cert.KernelIdeal.defs Ideal _ _ = @Cert.Kernel.defs Ideal _ _ := by
  unfold Cert.KernelIdeal.defs Cert.Kernel.defs
  exact congrArg (fun d => Pipeline.defs Cert.Kernel.pcfgs d) rows

/-- and the same main. -/
theorem mains : @Cert.KernelIdeal.main Ideal _ = @Cert.Kernel.main Ideal _ := rfl

/-- The kernel as printed runs, leaves its arguments and ends with every counter at zero. -/
theorem frame_kernel : Cert.quiescent_Kernel := fun m ρ _ => frame_values (F := Bits) m ρ

/-- So does its idealization, by the same run. -/
theorem frame_ideal : Cert.quiescent_KernelIdeal := fun m ρ _ => by
  rw [tables]
  exact frame_values (F := Ideal) m ρ

end Cert.Kernel.Closing

end
-- ==== Proof.RefFrame.lean ====
/-
  The reference's run: it terminates, leaves its arguments as they were and no semaphore raised.
-/
module

public import proofs.«01_k».proof.Defs
public import proofs.«01_k».proof.Proof.Gen.ReferenceIdeal
public import proofs.«01_k».proof.Proof.Gen.ReferenceIdeal.Run

@[expose] public section

noncomputable section

namespace Cert.Closing

open Idealize.ShloMosaic Idealize.SL.Sem

/-- The reference ends with its arguments unchanged and every counter at zero; it declares no semaphore. -/
theorem frame_reference : Cert.quiescent_ReferenceIdeal (hReferenceIdeal := Cert.ReferenceIdeal.Gen.facts) := fun m g _ =>
  (θ_run _ _ _).mono (fun r h => ⟨fun c => (h c).2.2, sem_eq_zero_of_no_sems (by decide) r.2⟩) (Cert.ReferenceIdeal.Value.run (F := Ideal) m g)

end Cert.Closing

end
-- ==== Proof.Rows.lean ====
/-
  The closing call, one row at a time, over the extended reals: the row functions, and the vector operations of a
  kernel body read at one element of a matrix.
-/
module

public import Idealize.ShloMosaic.Lib.ValueIdx
public import Idealize.ShloMosaic.Lib.Pipeline.Value
public import Idealize.ShloMosaic.PureOps.Ideal.Laws

@[expose] public section

noncomputable section

namespace Cert.Closing

open Idealize.ShloMosaic Idealize.ShloMosaic.ValueIdx

/-- A row of `n` extended reals. -/
abbrev Row (n : ℕ) := Fin n → EReal

/-- A row times a matrix. -/
def vecMat {K N : ℕ} (v : Row K) (w : Fin K → Row N) : Row N := fun n => ∑ k, v k * w k n

/-- The two mixers' outputs side by side, in quarter rows: attention-convolution, attention, and again. -/
def catRow (a b : Row 512) : Row 1024 := fun k =>
  if h : k.val < 256 then a ⟨k.val, by omega⟩
  else if h : k.val < 512 then b ⟨k.val - 256, by omega⟩
  else if h : k.val < 768 then a ⟨k.val - 256, by omega⟩
  else b ⟨k.val - 512, by omega⟩

/-- A row over the root of its mean square, times a gain. -/
def normRow (v g : Row 1024) : Row 1024 := fun n =>
  v n * Ideal.rsqrt (Ideal.div (∑ k, v k * v k) (Ideal.ofBits .f32 0x44800000#32) + Ideal.ofBits .f32 0x358637BD#32) * g n

/-- The residual stream after the output projection. -/
def midRow (x cat gate g : Row 1024) (wo : Fin 1024 → Row 1024) : Row 1024 := fun n =>
  x n + gate n * normRow (vecMat cat wo) g n

/-- The feed-forward network's input. -/
def inRow (mid shift scale g : Row 1024) : Row 1024 := fun n =>
  normRow mid g n * (Ideal.ofBits .f32 0x3F800000#32 + scale n) + shift n

/-- The gated activation. -/
def actRow {N : ℕ} (h : Row 1024) (wg wu : Fin 1024 → Row N) : Row N := fun n =>
  vecMat h wg n * Ideal.logistic (vecMat h wg n) * vecMat h wu n

/-- The second half step: half the gated, normalised feed-forward output on top of the stream. -/
def stepRow (mid s gate g : Row 1024) : Row 1024 := fun n =>
  mid n + Ideal.ofBits .f32 0x3F000000#32 * (gate n * normRow s g n)

/-- The whole call on one token. -/
def closeRow (x cat gate1 post1 shift scale pre gate2 post2 : Row 1024) (wo : Fin 1024 → Row 1024)
    (wg wu : Fin 1024 → Row 2816) (wd : Fin 2816 → Row 1024) : Row 1024 :=
  stepRow (midRow x cat gate1 post1 wo)
    (vecMat (actRow (inRow (midRow x cat gate1 post1 wo) shift scale pre) wg wu) wd) gate2 post2

/-- The whole call on token `t` under modulation row `q`, from the argument arrays: the second layer's slices of the stacks. -/
def specRow (x : (⟨2, ![8192, 1024]⟩ : Shape).Idx → EReal) (ac att : (⟨2, ![8192, 512]⟩ : Shape).Idx → EReal)
    (md : (⟨4, ![2, 9, 8, 1024]⟩ : Shape).Idx → EReal) (pre post : (⟨3, ![2, 3, 1024]⟩ : Shape).Idx → EReal)
    (wg wu : (⟨3, ![2, 1024, 2816]⟩ : Shape).Idx → EReal) (wd : (⟨3, ![2, 2816, 1024]⟩ : Shape).Idx → EReal)
    (wo : (⟨3, ![2, 1024, 1024]⟩ : Shape).Idx → EReal) (t : Fin 8192) (q : Fin 8) : Row 1024 :=
  closeRow (fun n => x (ix2 t n)) (catRow (fun k => ac (ix2 t k)) (fun k => att (ix2 t k))) (fun n => md (ix4 1 5 q n))
    (fun n => post (ix3 1 1 n)) (fun n => md (ix4 1 6 q n)) (fun n => md (ix4 1 7 q n)) (fun n => pre (ix3 1 2 n))
    (fun n => md (ix4 1 8 q n)) (fun n => post (ix3 1 2 n)) (fun k n => wo (ix3 1 k n)) (fun k n => wg (ix3 1 k n))
    (fun k n => wu (ix3 1 k n)) (fun k n => wd (ix3 1 k n))

variable {M K N : ℕ}

/-- A plain product into zeros, at an element. -/
theorem matmul_read {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (i : Fin M) (j : Fin N) :
    matmul d none l r (constant ⟨2, ![M, N]⟩ .f32 0x00000000#32) (ix2 i j)
      = vecMat (fun k => l (ix2 i k)) (fun k n => r (ix2 k n)) j := by
  subst hd
  refine (Ideal.matmul_constant_zero_apply _ none l r _).trans ?_
  unfold vecMat
  refine Fintype.sum_equiv (contrEquiv1 (DotDims.plain M K N) K rfl rfl) _ _ fun k => ?_
  congr 1
  · exact congrArg l (Shape.idx_ext₂ rfl rfl)
  · exact congrArg r (Shape.idx_ext₂ rfl rfl)

/-- A sum along the rows, at a row. -/
theorem rowSum_read (v : FVec Ideal ⟨2, ![M, K]⟩ .f32) (h : (⟨2, ![M, K]⟩ : Shape).Reduces [1] ⟨1, ![M]⟩)
    (hφ : FKind.Formats .f32) (ha : 0x00000000#32 = FKind.add.neutral .f32 hφ) (i : Fin M) :
    multiReduction .add [1] ⟨1, ![M]⟩ v 0x00000000#32 h hφ ha (ix1 i) = ∑ k, v (ix2 i k) := by
  refine (Ideal.multiReduction_add_single v _ h hφ ha _).trans (Finset.sum_congr rfl fun k _ => congrArg v ?_)
  exact Shape.idx_ext₂ rfl rfl

/-- A column of row values, at a row. -/
theorem column_read {α : Type} (v : (⟨1, ![M]⟩ : Shape).Idx → α) (h : (⟨1, ![M]⟩ : Shape).ShapeCasts ⟨2, ![M, 1]⟩) (i : Fin M) (z : Fin 1) :
    shapeCast ⟨2, ![M, 1]⟩ v h (ix2 i z) = v (ix1 i) := by
  refine shapeCast_apply v h _ _ ?_
  rw [Shape.rowMajor_val_one, Shape.rowMajor_val_two]
  have := z.isLt
  show i.val = i.val * 1 + z.val
  omega

/-- A column broadcast along the rows, at an element. -/
theorem alongRow_read {α : Type} (v : (⟨2, ![M, 1]⟩ : Shape).Idx → α) (h : (⟨2, ![M, 1]⟩ : Shape).Broadcasts ⟨2, ![M, N]⟩)
    (i : Fin M) (j : Fin N) : broadcastTo ⟨2, ![M, N]⟩ v h (ix2 i j) = v (ix2 i 0) := by
  refine broadcastTo_apply v h _ _ fun a => ?_
  match a with
  | ⟨0, _⟩ =>
    show i.val = if M = 1 then 0 else i.val
    have := i.isLt
    split <;> omega
  | ⟨1, _⟩ => rfl

/-- A row broadcast down the columns, at an element. -/
theorem downColumns_read {α : Type} (v : (⟨2, ![1, N]⟩ : Shape).Idx → α) (h : (⟨2, ![1, N]⟩ : Shape).Broadcasts ⟨2, ![M, N]⟩)
    (i : Fin M) (j : Fin N) : broadcastTo ⟨2, ![M, N]⟩ v h (ix2 i j) = v (ix2 0 j) := by
  refine broadcastTo_apply v h _ _ fun a => ?_
  match a with
  | ⟨0, _⟩ => rfl
  | ⟨1, _⟩ =>
    show j.val = if N = 1 then 0 else j.val
    have := j.isLt
    split <;> omega

/-- A row under one unit axis, at an element. -/
theorem row3_read {α : Type} (v : (⟨3, ![1, 1, N]⟩ : Shape).Idx → α) (h : (⟨3, ![1, 1, N]⟩ : Shape).ShapeCasts ⟨2, ![1, N]⟩)
    (z : Fin 1) (j : Fin N) : shapeCast ⟨2, ![1, N]⟩ v h (ix2 z j) = v (ix3 0 0 j) := by
  refine shapeCast_apply v h _ _ ?_
  rw [Shape.rowMajor_val_three, Shape.rowMajor_val_two]
  have := z.isLt
  show (0 * 1 + 0) * N + j.val = z.val * N + j.val
  have hz : z.val = 0 := by omega
  rw [hz]

/-- A row under two unit axes, at an element. -/
theorem row4_read {α : Type} (v : (⟨4, ![1, 1, 1, N]⟩ : Shape).Idx → α) (h : (⟨4, ![1, 1, 1, N]⟩ : Shape).ShapeCasts ⟨2, ![1, N]⟩)
    (z : Fin 1) (j : Fin N) : shapeCast ⟨2, ![1, N]⟩ v h (ix2 z j) = v (ix4 0 0 0 j) := by
  refine shapeCast_apply v h _ _ ?_
  rw [Shape.rowMajor_val_four, Shape.rowMajor_val_two]
  have := z.isLt
  show ((0 * 1 + 0) * 1 + 0) * N + j.val = z.val * N + j.val
  have hz : z.val = 0 := by omega
  rw [hz]

/-- A block of rows, at an element. -/
theorem rows_read {α : Type} {L : ℕ} (o : ℕ) (v : (⟨2, ![M, N]⟩ : Shape).Idx → α) (h : (⟨2, ![M, N]⟩ : Shape).Slices ![o, 0] ⟨2, ![L, N]⟩)
    (i : Fin L) (j : Fin N) (i' : Fin M) (hi : i'.val = o + i.val) :
    extractStridedSlice ⟨2, ![L, N]⟩ ![o, 0] v h (ix2 i j) = v (ix2 i' j) := by
  refine extractStridedSlice_apply _ v h _ _ fun a => ?_
  match a with
  | ⟨0, _⟩ => exact hi
  | ⟨1, _⟩ => show j.val = 0 + j.val; omega

/-- The root of the mean square over one row's sum, as the vector operations write it. -/
theorem root_read (v : FVec Ideal ⟨2, ![M, 1]⟩ .f32) (i : Fin M) (z : Fin 1) :
    rsqrt (F := Ideal) v (ix2 i z) = Ideal.rsqrt (v (ix2 i z)) := rfl

/-- The gate's function, at an element. -/
theorem logistic_read (v : FVec Ideal ⟨2, ![M, N]⟩ .f32) (i : Fin M) (j : Fin N) :
    logistic (F := Ideal) v (ix2 i j) = Ideal.logistic (v (ix2 i j)) := rfl

/-- A number everywhere, at an element. -/
theorem number_read (b : BitVec 32) (i : Fin M) (j : Fin N) :
    broadcast (⟨2, ![M, N]⟩ : Shape) (Scalar.ofBits (F := Ideal) .f32 b) (ix2 i j) = Ideal.ofBits .f32 b := rfl

end Cert.Closing

end
-- ==== Proof.BlockRows.lean ====
/-
  What a grid point leaves in its output block, one row at a time, over the extended reals: both ways through the body,
  the first point's eleven chunks and the later points' two halves, leave `closeRow` of that row's inputs.
-/
module

public import proofs.«01_k».proof.Proof.Blocks
public import proofs.«01_k».proof.Proof.Rows
public import Idealize.ShloMosaic.Lib.Pipeline.ValueKit.Tiles

@[expose] public section

set_option maxRecDepth 16384

noncomputable section

namespace Cert.Kernel.Closing

open Idealize.ShloMosaic Idealize.ShloMosaic.ValueIdx
open Cert.Kernel.Gen Cert.Closing

theorem dot_mix (l : FVec Ideal S512x1024 .bf16) (r : FVec Ideal S1024x1024 .bf16) (i : Fin 512) (j : Fin 1024) :
    matmul dot_S512x1024_S1024x1024_S512x1024_1_0_0_1_n_n none l r (constant S512x1024 .f32 0x00000000#32) (ix2 i j)
      = vecMat (fun k => l (ix2 i k)) (fun k n => r (ix2 k n)) j := matmul_read _ rfl l r i j

theorem dot_chunk (l : FVec Ideal S512x1024 .bf16) (r : FVec Ideal S1024x256 .bf16) (i : Fin 512) (j : Fin 256) :
    matmul dot_S512x1024_S1024x256_S512x256_1_0_0_1_n_n none l r (constant S512x256 .f32 0x00000000#32) (ix2 i j)
      = vecMat (fun k => l (ix2 i k)) (fun k n => r (ix2 k n)) j := matmul_read _ rfl l r i j

theorem dot_chunkDown (l : FVec Ideal S512x256 .bf16) (r : FVec Ideal S256x1024 .bf16) (i : Fin 512) (j : Fin 1024) :
    matmul dot_S512x256_S256x1024_S512x1024_1_0_0_1_n_n none l r (constant S512x1024 .f32 0x00000000#32) (ix2 i j)
      = vecMat (fun k => l (ix2 i k)) (fun k n => r (ix2 k n)) j := matmul_read _ rfl l r i j

theorem dot_half (l : FVec Ideal S256x1024 .bf16) (r : FVec Ideal S1024x2816 .bf16) (i : Fin 256) (j : Fin 2816) :
    matmul dot_S256x1024_S1024x2816_S256x2816_1_0_0_1_n_n none l r (constant S256x2816 .f32 0x00000000#32) (ix2 i j)
      = vecMat (fun k => l (ix2 i k)) (fun k n => r (ix2 k n)) j := matmul_read _ rfl l r i j

theorem dot_halfDown (l : FVec Ideal S256x2816 .bf16) (r : FVec Ideal S2816x1024 .bf16) (i : Fin 256) (j : Fin 1024) :
    matmul dot_S256x2816_S2816x1024_S256x1024_1_0_0_1_n_n none l r (constant S256x1024 .f32 0x00000000#32) (ix2 i j)
      = vecMat (fun k => l (ix2 i k)) (fun k n => r (ix2 k n)) j := matmul_read _ rfl l r i j

theorem sum512 (v : FVec Ideal S512x1024 .f32) (i : Fin 512) :
    multiReduction .add [1] S512 v 0x00000000#32 reduces_S512x1024_S512 (.inl rfl) rfl (ix1 i) = ∑ k, v (ix2 i k) := rowSum_read v _ _ _ i

theorem sum256 (v : FVec Ideal S256x1024 .f32) (i : Fin 256) :
    multiReduction .add [1] S256 v 0x00000000#32 reduces_S256x1024_S256 (.inl rfl) rfl (ix1 i) = ∑ k, v (ix2 i k) := rowSum_read v _ _ _ i

/-- The first point's stream after the output projection, at an element. -/
theorem pay9_read (x : Vec Ideal S512x1024 .f32) (cat : FVec Ideal S512x1024 .bf16) (wo : Vec Ideal S1024x1024 .bf16)
    (gate : Vec Ideal S1x1x1x1024 .f32) (g : Vec Ideal S1x1x1024 .f32) (i : Fin 512) (j : Fin 1024) :
    k0_pay9 x cat wo gate g (ix2 i j)
      = midRow (fun n => x (ix2 i n)) (fun k => cat (ix2 i k)) (fun n => gate (ix4 0 0 0 n)) (fun n => g (ix3 0 0 n))
          (fun k n => wo (ix2 k n)) j := by
  simp only [k0_pay9, addf_apply, mulf_apply, divf_apply, alongRow_read, downColumns_read, row3_read, row4_read, root_read, number_read,
    column_read, dot_mix]
  erw [sum512]
  simp only [mulf_apply, dot_mix]
  rfl

/-- A later point's, from the four pieces of the concatenation. -/
theorem pay69_eq (x : Vec Ideal S512x1024 .f32) (a b c d : Vec Ideal S512x256 .bf16) (wo : Vec Ideal S1024x1024 .bf16)
    (gate : Vec Ideal S1x1x1x1024 .f32) (g : Vec Ideal S1x1x1024 .f32) :
    k0_pay69 x a b c d wo gate g = k0_pay9 x (k0_pay8 a b c d) wo gate g := rfl

/-- The feed-forward network's input at the first point, at an element. -/
theorem pay15_read (mid : FVec Ideal S512x1024 .f32) (shift scale g : FVec Ideal S1x1024 .f32) (q e : FVec Ideal S512x1 .f32)
    (i : Fin 512) (j : Fin 1024)
    (hq : q (ix2 i 0) = Ideal.div (∑ k, mid (ix2 i k) * mid (ix2 i k)) (Ideal.ofBits .f32 0x44800000#32))
    (he : e (ix2 i 0) = Ideal.ofBits .f32 0x358637BD#32) :
    k0_pay15 mid shift scale g q e (ix2 i j)
      = inRow (fun n => mid (ix2 i n)) (fun n => shift (ix2 0 n)) (fun n => scale (ix2 0 n)) (fun n => g (ix2 0 n)) j := by
  simp only [k0_pay15, truncf_apply, addf_apply, mulf_apply, alongRow_read, downColumns_read, root_read, number_read, hq, he]
  rfl

/-- The mean square of the first point's stream. -/
theorem pay13_read (x : Vec Ideal S512x1024 .f32) (cat : FVec Ideal S512x1024 .bf16) (wo : Vec Ideal S1024x1024 .bf16)
    (gate : Vec Ideal S1x1x1x1024 .f32) (g : Vec Ideal S1x1x1024 .f32) (i : Fin 512) :
    k0_pay13 x cat wo gate g (ix2 i 0)
      = Ideal.div (∑ k, k0_pay9 x cat wo gate g (ix2 i k) * k0_pay9 x cat wo gate g (ix2 i k)) (Ideal.ofBits .f32 0x44800000#32) := by
  simp only [k0_pay13, divf_apply, number_read, column_read]
  erw [sum512]
  rfl

/-- The feed-forward network's input at a later point, at an element. -/
theorem pay71_read (mid : FVec Ideal S512x1024 .f32) (shift : FVec Ideal S1x1024 .f32) (scale : Vec Ideal S1x1x1x1024 .f32)
    (g : Vec Ideal S1x1x1024 .f32) (i : Fin 512) (j : Fin 1024) :
    k0_pay71 mid shift scale g (ix2 i j)
      = inRow (fun n => mid (ix2 i n)) (fun n => shift (ix2 0 n)) (fun n => scale (ix4 0 0 0 n)) (fun n => g (ix3 0 0 n)) j := by
  simp only [k0_pay71, truncf_apply, addf_apply, mulf_apply, divf_apply, alongRow_read, downColumns_read, row3_read, row4_read, root_read,
    number_read, column_read]
  erw [sum512]
  rfl

/-- One chunk of the down projection, at an element. -/
theorem pay19_read (h : FVec Ideal S512x1024 .bf16) (wg wu : Vec Ideal S1024x256 .bf16) (wd : Vec Ideal S256x1024 .bf16)
    (i : Fin 512) (j : Fin 1024) :
    k0_pay19 h wg wu wd (ix2 i j)
      = vecMat (actRow (fun k => h (ix2 i k)) (fun k n => wg (ix2 k n)) (fun k n => wu (ix2 k n))) (fun k n => wd (ix2 k n)) j := by
  simp only [k0_pay19, truncf_apply, mulf_apply, logistic_read, dot_chunk, dot_chunkDown]
  rfl

/-- A further chunk added to the sum so far. -/
theorem pay24_eq (h : FVec Ideal S512x1024 .bf16) (s : FVec Ideal S512x1024 .f32) (wg wu : Vec Ideal S1024x256 .bf16)
    (wd : Vec Ideal S256x1024 .bf16) : k0_pay24 h s wg wu wd = addf s (k0_pay19 h wg wu wd) := rfl

/-- The last chunk added and the sum normalised, at an element. -/
theorem pay68_read (g : FVec Ideal S1x1024 .f32) (h : FVec Ideal S512x1024 .bf16) (s : FVec Ideal S512x1024 .f32)
    (wg wu : Vec Ideal S1024x256 .bf16) (wd : Vec Ideal S256x1024 .bf16) (i : Fin 512) (j : Fin 1024) :
    k0_pay68 g h s wg (constant S512x256 .f32 0x00000000#32) wu wd (ix2 i j)
      = normRow (fun n => k0_pay24 h s wg wu wd (ix2 i n)) (fun n => g (ix2 0 n)) j := by
  have e : k0_pay68 g h s wg (constant S512x256 .f32 0x00000000#32) wu wd
      = mulf (mulf (k0_pay24 h s wg wu wd) (broadcastTo S512x1024 (rsqrt (addf (divf (shapeCast S512x1
          (multiReduction .add [1] S512 (mulf (k0_pay24 h s wg wu wd) (k0_pay24 h s wg wu wd)) 0x00000000#32 reduces_S512x1024_S512
            (.inl rfl) rfl) shapeCasts_S512_S512x1) (broadcast S512x1 (Scalar.ofBits .f32 0x44800000#32)))
          (broadcast S512x1 (Scalar.ofBits .f32 0x358637BD#32)))) broadcasts_S512x1_S512x1024))
        (broadcastTo S512x1024 g broadcasts_S1x1024_S512x1024) := rfl
  rw [e]
  simp only [addf_apply, mulf_apply, divf_apply, alongRow_read, downColumns_read, root_read, number_read, column_read]
  erw [sum512]
  rfl

/-- The first point's block from its stream and its normalised feed-forward output. -/
theorem pay3_read (gate : Vec Ideal S1x1x1x1024 .f32) (mid y : FVec Ideal S512x1024 .f32) (i : Fin 512) (j : Fin 1024) :
    k0_pay3 gate mid y (ix2 i j)
      = mid (ix2 i j) + Ideal.ofBits .f32 0x3F000000#32 * (gate (ix4 0 0 0 j) * y (ix2 i j)) := by
  simp only [k0_pay3, k0_pay1, addf_apply, mulf_apply, downColumns_read, row4_read, number_read]

/-- The first half's feed-forward output, at an element. -/
theorem pay72_read (mid : FVec Ideal S512x1024 .f32) (shift : FVec Ideal S1x1024 .f32) (scale : Vec Ideal S1x1x1x1024 .f32)
    (g : Vec Ideal S1x1x1024 .f32) (wg wu : Vec Ideal S1024x2816 .bf16) (wd : Vec Ideal S2816x1024 .bf16)
    (i : Fin 256) (i' : Fin 512) (hi : i'.val = 0 + i.val) (j : Fin 1024) :
    k0_pay72 mid shift scale g wg wu wd (ix2 i j)
      = vecMat (actRow (fun k => k0_pay71 mid shift scale g (ix2 i' k)) (fun k n => wg (ix2 k n)) (fun k n => wu (ix2 k n)))
          (fun k n => wd (ix2 k n)) j := by
  simp only [k0_pay72, truncf_apply, mulf_apply, logistic_read, dot_half, dot_halfDown, rows_read 0 _ _ i _ i' hi]
  rfl

/-- The first half's mean square. -/
theorem pay74_read (mid : FVec Ideal S512x1024 .f32) (shift : FVec Ideal S1x1024 .f32) (scale : Vec Ideal S1x1x1x1024 .f32)
    (g : Vec Ideal S1x1x1024 .f32) (wg wu : Vec Ideal S1024x2816 .bf16) (wd : Vec Ideal S2816x1024 .bf16) (i : Fin 256) :
    k0_pay74 mid shift scale g wg wu wd (ix2 i 0)
      = Ideal.div (∑ k, k0_pay72 mid shift scale g wg wu wd (ix2 i k) * k0_pay72 mid shift scale g wg wu wd (ix2 i k))
          (Ideal.ofBits .f32 0x44800000#32) := by
  simp only [k0_pay74, divf_apply, number_read, column_read]
  erw [sum256]
  rfl

/-- A later point's block, a row of its first half. -/
theorem pay76_upper (gate g : FVec Ideal S1x1024 .f32) (mid : FVec Ideal S512x1024 .f32) (h : FVec Ideal S512x1024 .bf16)
    (y m : FVec Ideal S256x1024 .f32) (q e : FVec Ideal S256x1 .f32) (wg wu : Vec Ideal S1024x2816 .bf16) (wd : Vec Ideal S2816x1024 .bf16)
    (i : Fin 256) (i' : Fin 512) (hi : i'.val = i.val) (j : Fin 1024)
    (hq : q (ix2 i 0) = Ideal.div (∑ k, y (ix2 i k) * y (ix2 i k)) (Ideal.ofBits .f32 0x44800000#32))
    (he : e (ix2 i 0) = Ideal.ofBits .f32 0x358637BD#32) :
    k0_pay76 gate g mid h y m q e wg wu wd (ix2 i' j)
      = stepRow (fun n => m (ix2 i n)) (fun n => y (ix2 i n)) (fun n => gate (ix2 0 n)) (fun n => g (ix2 0 n)) j := by
  dsimp only [k0_pay76]
  refine (concatenate_pair_apply_left (s₁ := S256x1024) (s₂ := S256x1024) _ _ _ _ (ix2 i' j) rfl (ix2 i j) fun a => ?_).trans ?_
  · match a with
    | ⟨0, _⟩ => exact hi.symm
    | ⟨1, _⟩ => rfl
  simp only [addf_apply, mulf_apply, alongRow_read, downColumns_read, root_read, number_read, hq, he]
  rfl

/-- A later point's block, a row of its second half. -/
theorem pay76_lower (gate g : FVec Ideal S1x1024 .f32) (mid : FVec Ideal S512x1024 .f32) (h : FVec Ideal S512x1024 .bf16)
    (y m : FVec Ideal S256x1024 .f32) (q e : FVec Ideal S256x1 .f32) (wg wu : Vec Ideal S1024x2816 .bf16) (wd : Vec Ideal S2816x1024 .bf16)
    (i : Fin 256) (i' : Fin 512) (hi : i'.val = 256 + i.val) (j : Fin 1024) :
    k0_pay76 gate g mid h y m q e wg wu wd (ix2 i' j)
      = stepRow (fun n => mid (ix2 i' n))
          (vecMat (actRow (fun k => h (ix2 i' k)) (fun k n => wg (ix2 k n)) (fun k n => wu (ix2 k n))) (fun k n => wd (ix2 k n)))
          (fun n => gate (ix2 0 n)) (fun n => g (ix2 0 n)) j := by
  dsimp only [k0_pay76]
  refine (concatenate_pair_apply_right (s₁ := S256x1024) (s₂ := S256x1024) _ _ _ _ (ix2 i' j) rfl rfl (ix2 i j) (fun a ha => ?_) ?_).trans ?_
  · match a with
    | ⟨0, _⟩ => exact absurd rfl ha
    | ⟨1, _⟩ => rfl
  · show i.val + 256 = i'.val
    omega
  simp only [addf_apply, mulf_apply, divf_apply, truncf_apply, alongRow_read, downColumns_read, root_read, number_read, logistic_read,
    column_read, dot_half, dot_halfDown, rows_read 256 _ _ i _ i' hi]
  erw [sum256]
  simp only [mulf_apply, truncf_apply, logistic_read, dot_half, dot_halfDown, rows_read 256 _ _ i _ i' hi]
  rfl

/-- One chunk's share of a row of the down projection. -/
def chunkTerm (h : Row 1024) (wg wu : Fin 1024 → Row 2816) (wd : Fin 2816 → Row 1024) (c : Fin 11) : Row 1024 := fun n =>
  ∑ k : Fin 256, actRow h wg wu ⟨256 * c.val + k.val, by omega⟩ * wd ⟨256 * c.val + k.val, by omega⟩ n

/-- The eleven shares make the whole. -/
theorem sum_chunkTerm (h : Row 1024) (wg wu : Fin 1024 → Row 2816) (wd : Fin 2816 → Row 1024) (n : Fin 1024) :
    ∑ c, chunkTerm h wg wu wd c n = vecMat (actRow h wg wu) wd n := by
  unfold chunkTerm vecMat
  rw [← Fintype.sum_prod_type' (f := fun (c : Fin 11) (k : Fin 256) =>
    actRow h wg wu ⟨256 * c.val + k.val, by omega⟩ * wd ⟨256 * c.val + k.val, by omega⟩ n)]
  refine Fintype.sum_equiv (finProdFinEquiv (m := 11) (n := 256)) _ _ fun p => ?_
  have e : (⟨256 * p.1.val + p.2.val, by omega⟩ : Fin 2816) = finProdFinEquiv (m := 11) (n := 256) p :=
    Fin.ext (Nat.add_comm _ _)
  exact congrArg (fun k : Fin 2816 => actRow h wg wu k * wd k n) e

/-- A chunk of the weights gives its share. -/
theorem pay19_chunk (h : FVec Ideal S512x1024 .bf16) (wg wu : Vec Ideal S1024x2816 .bf16) (wd : Vec Ideal S2816x1024 .bf16) (c : Fin 11)
    (i : Fin 512) (j : Fin 1024) :
    k0_pay19 h (colChunk wg c) (colChunk wu c) (rowChunk wd c) (ix2 i j)
      = chunkTerm (fun k => h (ix2 i k)) (fun k n => wg (ix2 k n)) (fun k n => wu (ix2 k n)) (fun k n => wd (ix2 k n)) c j := by
  have col (w : Vec Ideal S1024x2816 .bf16) (k : Fin 1024) (n : Fin 256) :
      colChunk w c (ix2 k n) = w (ix2 k ⟨256 * c.val + n.val, by omega⟩) := by
    refine View.ld_unit_apply_of w _ _ _ _ _ fun a => ?_
    match a with
    | ⟨0, _⟩ => show k.val = 0 + k.val; omega
    | ⟨1, _⟩ => rfl
  have row (w : Vec Ideal S2816x1024 .bf16) (k : Fin 256) (n : Fin 1024) :
      rowChunk w c (ix2 k n) = w (ix2 ⟨256 * c.val + k.val, by omega⟩ n) := by
    refine View.ld_unit_apply_of w _ _ _ _ _ fun a => ?_
    match a with
    | ⟨0, _⟩ => rfl
    | ⟨1, _⟩ => show n.val = 0 + n.val; omega
  rw [pay19_read]
  simp only [col, row]
  rfl

/-- The sum so far is the sum of the shares so far. -/
theorem partialSum_read (h : FVec Ideal S512x1024 .bf16) (wg wu : Vec Ideal S1024x2816 .bf16) (wd : Vec Ideal S2816x1024 .bf16)
    (i : Fin 512) (j : Fin 1024) : ∀ (c : ℕ) (hc : c < 11), partialSum h wg wu wd c hc (ix2 i j)
      = ∑ b : Fin (c + 1), chunkTerm (fun k => h (ix2 i k)) (fun k n => wg (ix2 k n)) (fun k n => wu (ix2 k n)) (fun k n => wd (ix2 k n))
          ⟨b.val, by omega⟩ j
  | 0, hc => by
    rw [Fin.sum_univ_castSucc]
    simp only [Finset.univ_eq_empty, Finset.sum_empty, zero_add]
    exact pay19_chunk h wg wu wd ⟨0, hc⟩ i j
  | c + 1, hc => by
    rw [Fin.sum_univ_castSucc, partialSum, pay24_eq, addf_apply, partialSum_read h wg wu wd i j c (by omega), pay19_chunk]
    rfl

/-- With the last chunk it is the whole down projection. -/
theorem allChunks_read (h : FVec Ideal S512x1024 .bf16) (wg wu : Vec Ideal S1024x2816 .bf16) (wd : Vec Ideal S2816x1024 .bf16)
    (i : Fin 512) (j : Fin 1024) :
    k0_pay24 h (partialSum h wg wu wd 9 (by decide)) (colChunk wg ⟨10, by decide⟩) (colChunk wu ⟨10, by decide⟩)
        (rowChunk wd ⟨10, by decide⟩) (ix2 i j)
      = vecMat (actRow (fun k => h (ix2 i k)) (fun k n => wg (ix2 k n)) (fun k n => wu (ix2 k n))) (fun k n => wd (ix2 k n)) j :=
  (partialSum_read h wg wu wd i j 10 (by decide)).trans (sum_chunkTerm _ _ _ _ j)

/-! ## The blocks' pieces -/

/-- The modulation row a point reads: row 0 for the prompt, one row for each four points of the samples. -/
def condRow (i : grid0.Coords) : Fin 8 := ⟨if (i 0).val < 8 then 0 else 1 + ((i 0).val - 8) / 4, by have : (i 0).val < 16 := (i 0).isLt; split <;> omega⟩

theorem off1_eq : ∀ (i : grid0.Coords) a, k0_off1 i a = ![0, 8, (condRow i).val, 0] a := by decide +kernel
theorem off2_eq : ∀ (i : grid0.Coords) a, k0_off2 i a = ![0, 5, (condRow i).val, 0] a := by decide +kernel
theorem off3_eq : ∀ (i : grid0.Coords) a, k0_off3 i a = ![0, 6, (condRow i).val, 0] a := by decide +kernel
theorem off4_eq : ∀ (i : grid0.Coords) a, k0_off4 i a = ![0, 7, (condRow i).val, 0] a := by decide +kernel
theorem off5_eq : ∀ (i : grid0.Coords) a, k0_off5 i a = ![0, 5, (condRow i).val, 0] a := by decide +kernel
theorem off6_eq : ∀ (i : grid0.Coords) a, k0_off6 i a = ![0, 6, (condRow i).val, 0] a := by decide +kernel
theorem off7_eq : ∀ (i : grid0.Coords) a, k0_off7 i a = ![0, 7, (condRow i).val, 0] a := by decide +kernel

/-- One row of the modulation block. -/
theorem mod_read {i : grid0.Coords} (x3 : Vec Ideal S1x9x8x1024 .f32) (off : Fin 4 → ℕ) (inb) (k : Fin 9)
    (ho : ∀ a, off a = ![0, k.val, (condRow i).val, 0] a) (n : Fin 1024) :
    View.ld x3 (Rect.unit off S1x1x1x1024.size inb) (ix4 0 0 0 n) = x3 (ix4 0 k (condRow i) n) := by
  refine View.ld_unit_apply_of x3 _ _ _ _ _ fun a => ?_
  rw [ho a]
  match a with
  | ⟨0, _⟩ => rfl
  | ⟨1, _⟩ => rfl
  | ⟨2, _⟩ => rfl
  | ⟨3, _⟩ => show n.val = 0 + n.val; omega

/-- One row of a block of gains. -/
theorem gain_read (x : Vec Ideal S1x3x1024 .f32) (k : Fin 3) (o : ℕ) (ho : k.val = o) (inb) (n : Fin 1024) :
    View.ld x (Rect.unit ![0, o, 0] S1x1x1024.size inb) (ix3 0 0 n) = x (ix3 0 k n) := by
  refine View.ld_unit_apply_of x _ _ _ _ _ fun a => ?_
  match a with
  | ⟨0, _⟩ => rfl
  | ⟨1, _⟩ => exact ho
  | ⟨2, _⟩ => show n.val = 0 + n.val; omega

/-- Half the columns of a mixer's output. -/
theorem half_read (x : Vec Ideal S512x512 .bf16) (o : ℕ) (inb) (r : Fin 512) (k : Fin 256) (k' : Fin 512) (hk : k'.val = o + k.val) :
    View.ld x (Rect.unit ![0, o] S512x256.size inb) (ix2 r k) = x (ix2 r k') := by
  refine View.ld_unit_apply_of x _ _ _ _ _ fun a => ?_
  match a with
  | ⟨0, _⟩ => show r.val = 0 + r.val; omega
  | ⟨1, _⟩ => exact hk

/-- Four quarters side by side, at an element of one of them. -/
theorem pay8_read (a b c d : Vec Ideal S512x256 .bf16) (r : Fin 512) (k : Fin 1024) (p : Fin 4) (k' : Fin 256)
    (hk : 256 * p.val + k'.val = k.val) : k0_pay8 a b c d (ix2 r k) = ![a, b, c, d] p (ix2 r k') := by
  unfold k0_pay8
  refine concatenate_apply_piece 1 [⟨S512x256, a⟩, ⟨S512x256, b⟩, ⟨S512x256, c⟩, ⟨S512x256, d⟩] _ (ix2 r k) p.val p.isLt S512x256 _ ?_ rfl (256 * p.val) ?_ (ix2 r k') (fun e he => ?_) hk
  · match p with
    | 0 => rfl
    | 1 => rfl
    | 2 => rfl
    | 3 => rfl
  · match p with
    | 0 => rfl
    | 1 => rfl
    | 2 => rfl
    | 3 => rfl
  · match e with
    | ⟨0, _⟩ => rfl
    | ⟨1, _⟩ => exact absurd rfl he

/-- The two mixers' outputs side by side, at an element. -/
theorem firstCat_read (x1 x2 : Vec Ideal S512x512 .bf16) (r : Fin 512) (k : Fin 1024) :
    firstCat x1 x2 (ix2 r k) = catRow (fun k => x1 (ix2 r k)) (fun k => x2 (ix2 r k)) k := by
  unfold firstCat
  unfold catRow
  have hk := k.isLt
  split
  · exact (pay8_read _ _ _ _ r k 0 ⟨k.val, by omega⟩ (by simp)).trans (half_read x1 0 _ r _ _ (by simp))
  split
  · exact (pay8_read _ _ _ _ r k 1 ⟨k.val - 256, by omega⟩ (by simp; omega)).trans (half_read x2 0 _ r _ _ (by simp))
  split
  · exact (pay8_read _ _ _ _ r k 2 ⟨k.val - 512, by omega⟩ (by simp; omega)).trans (half_read x1 256 _ r _ _ (by simp; omega))
  · exact (pay8_read _ _ _ _ r k 3 ⟨k.val - 768, by omega⟩ (by simp; omega)).trans (half_read x2 256 _ r _ _ (by simp; omega))

/-! ## The blocks -/

/-- A row of a point's output block, from its input blocks and the weights. -/
def blockRow (i : grid0.Coords) (x0 : Vec Ideal S512x1024 .f32) (x1 x2 : Vec Ideal S512x512 .bf16) (x3 : Vec Ideal S1x9x8x1024 .f32)
    (x4 x5 : Vec Ideal S1x3x1024 .f32) (wg wu : Vec Ideal S1024x2816 .bf16) (wd : Vec Ideal S2816x1024 .bf16) (wo : Vec Ideal S1024x1024 .bf16)
    (r : Fin 512) : Row 1024 :=
  closeRow (fun n => x0 (ix2 r n)) (catRow (fun k => x1 (ix2 r k)) (fun k => x2 (ix2 r k))) (fun n => x3 (ix4 0 5 (condRow i) n))
    (fun n => x5 (ix3 0 1 n)) (fun n => x3 (ix4 0 6 (condRow i) n)) (fun n => x3 (ix4 0 7 (condRow i) n)) (fun n => x4 (ix3 0 2 n))
    (fun n => x3 (ix4 0 8 (condRow i) n)) (fun n => x5 (ix3 0 2 n)) (fun k n => wo (ix2 k n)) (fun k n => wg (ix2 k n))
    (fun k n => wu (ix2 k n)) (fun k n => wd (ix2 k n))

variable (i : grid0.Coords) (x0 : Vec Ideal S512x1024 .f32) (x1 x2 : Vec Ideal S512x512 .bf16) (x3 : Vec Ideal S1x9x8x1024 .f32)
    (x4 x5 : Vec Ideal S1x3x1024 .f32) (wg wu : Vec Ideal S1024x2816 .bf16) (wd : Vec Ideal S2816x1024 .bf16) (wo : Vec Ideal S1024x1024 .bf16)

/-- The first point's stream after the output projection. -/
theorem firstMid_read (h1 : k0_cond1 i = 1#1) (r : Fin 512) (n : Fin 1024) :
    firstMid i h1 x0 x1 x2 x3 x5 wo (ix2 r n)
      = midRow (fun n => x0 (ix2 r n)) (catRow (fun k => x1 (ix2 r k)) (fun k => x2 (ix2 r k))) (fun n => x3 (ix4 0 5 (condRow i) n))
          (fun n => x5 (ix3 0 1 n)) (fun k n => wo (ix2 k n)) n := by
  unfold firstMid
  rw [pay9_read]
  simp only [mod_read x3 _ _ 5 (off2_eq i), firstCat_read]
  simp only [gain_read x5 1 1 rfl]

/-- A later point's. -/
theorem steadyMid_read (h4 : k0_cond4 i = 1#1) (r : Fin 512) (n : Fin 1024) :
    steadyMid i h4 x0 x1 x2 x3 x5 wo (ix2 r n)
      = midRow (fun n => x0 (ix2 r n)) (catRow (fun k => x1 (ix2 r k)) (fun k => x2 (ix2 r k))) (fun n => x3 (ix4 0 5 (condRow i) n))
          (fun n => x5 (ix3 0 1 n)) (fun k n => wo (ix2 k n)) n := by
  unfold steadyMid
  rw [pay69_eq, ← firstCat, pay9_read]
  simp only [mod_read x3 _ _ 5 (off5_eq i), firstCat_read]
  simp only [gain_read x5 1 1 rfl]

/-- The feed-forward network's input at the first point. -/
theorem firstH_read (h1 : k0_cond1 i = 1#1) (r : Fin 512) (n : Fin 1024) :
    firstH i h1 x0 x1 x2 x3 x4 x5 wo (ix2 r n)
      = inRow (fun n => firstMid i h1 x0 x1 x2 x3 x5 wo (ix2 r n)) (fun n => x3 (ix4 0 6 (condRow i) n))
          (fun n => x3 (ix4 0 7 (condRow i) n)) (fun n => x4 (ix3 0 2 n)) n := by
  unfold firstH
  rw [pay15_read (firstMid i h1 x0 x1 x2 x3 x5 wo) _ _ _ _ _ r n (pay13_read _ _ _ _ _ r) rfl]
  simp only [k0_pay10, k0_pay11, k0_pay12, row3_read, row4_read, mod_read x3 _ _ 6 (off3_eq i), mod_read x3 _ _ 7 (off4_eq i)]
  simp only [gain_read x4 2 2 rfl]

/-- The first point's block, row by row. -/
theorem firstOut_read (h1 : k0_cond1 i = 1#1) (r : Fin 512) (n : Fin 1024) :
    firstOut i h1 x0 x1 x2 x3 x4 x5 wg wu wd wo (ix2 r n) = blockRow i x0 x1 x2 x3 x4 x5 wg wu wd wo r n := by
  unfold firstOut
  rw [pay3_read, pay68_read]
  simp only [allChunks_read, firstH_read, firstMid_read, mod_read x3 _ _ 8 (off1_eq i), k0_pay2, row3_read]
  simp only [gain_read x5 2 2 rfl]
  rfl

/-- A later point's block, row by row. -/
theorem steadyOut_read (h4 : k0_cond4 i = 1#1) (r : Fin 512) (n : Fin 1024) :
    steadyOut i h4 x0 x1 x2 x3 x4 x5 wg wu wd wo (ix2 r n) = blockRow i x0 x1 x2 x3 x4 x5 wg wu wd wo r n := by
  unfold steadyOut
  have hr := r.isLt
  by_cases h : r.val < 256
  · rw [pay76_upper _ _ _ _ _ _ _ _ _ _ _ ⟨r.val, h⟩ r rfl n (pay74_read _ _ _ _ _ _ _ _) rfl]
    simp only [pay72_read _ _ _ _ _ _ _ ⟨r.val, h⟩ r (by simp), k0_pay73, rows_read 0 _ _ ⟨r.val, h⟩ _ r (by simp), pay71_read,
      steadyMid_read, k0_pay70, k0_pay1, k0_pay2, row3_read, row4_read, mod_read x3 _ _ 6 (off6_eq i), mod_read x3 _ _ 7 (off7_eq i),
      mod_read x3 _ _ 8 (off1_eq i)]
    simp only [gain_read x5 2 2 rfl, gain_read x4 2 2 rfl]
    rfl
  · rw [pay76_lower _ _ _ _ _ _ _ _ _ _ _ ⟨r.val - 256, by omega⟩ r (by simp; omega) n]
    simp only [pay71_read,
      steadyMid_read, k0_pay70, k0_pay1, k0_pay2, row3_read, row4_read, mod_read x3 _ _ 6 (off6_eq i), mod_read x3 _ _ 7 (off7_eq i),
      mod_read x3 _ _ 8 (off1_eq i)]
    simp only [gain_read x5 2 2 rfl, gain_read x4 2 2 rfl]
    rfl

end Cert.Kernel.Closing

end
-- ==== Proof.Out.lean ====
/-
  The kernel's two result arrays after the run, over the extended reals: every row is `specRow` of the argument arrays,
  the prompt's under modulation row zero, each sample's under its own.
-/
module

public import proofs.«01_k».proof.Proof.Run
public import proofs.«01_k».proof.Proof.BlockRows
public import Idealize.ShloMosaic.Lib.Pipeline.ValueKit.Geometry

@[expose] public section

set_option maxRecDepth 16384

noncomputable section

namespace Cert.Kernel.Closing

open Idealize.ShloMosaic hiding ix1 ix2 ix3 ix4
open Idealize.ShloMosaic.TcCoe Idealize.ShloMosaic.ValueIdx
open Idealize.ShloMosaic.Pipeline (Dat)
open Cert.Kernel.Gen Cert.Closing

variable (m : (ℓ : Loc nD τ sig) → Buf (Elt Ideal) ℓ) (c : Dev nD)

/-! ## The input blocks, at coordinates -/

theorem index_0 : ∀ (t : Fin cfg0.N) a, win0_0.index t a = ![t.val, 0] a := by decide +kernel
theorem index_1 : ∀ (t : Fin cfg0.N) a, win0_1.index t a = ![t.val, 0] a := by decide +kernel
theorem index_2 : ∀ (t : Fin cfg0.N) a, win0_2.index t a = ![t.val, 0] a := by decide +kernel
theorem index_3 : ∀ (t : Fin cfg0.N) a, win0_3.index t a = ![1, 0, 0, 0] a := by decide +kernel
theorem index_4 : ∀ (t : Fin cfg0.N) a, win0_4.index t a = ![1, 0, 0] a := by decide +kernel
theorem index_5 : ∀ (t : Fin cfg0.N) a, win0_5.index t a = ![1, 0, 0] a := by decide +kernel
theorem index_6 : ∀ (t : Fin cfg0.N) a, win0_6.index t a = ![min t.val 7, 0] a := by decide +kernel
theorem index_7 : ∀ (t : Fin cfg0.N) a, win0_7.index t a = ![t.val - 8, 0] a := by decide +kernel

/-- The token a point's block row holds. -/
def token (t : Fin cfg0.N) (r : Fin 512) : Fin 8192 := ⟨512 * t.val + r.val, by have : t.val < 16 := t.isLt; omega⟩

theorem block_0 (t : Fin cfg0.N) (r : Fin 512) (n : Fin 1024) :
    iblk m c 0 t (ix2 r n) = m ((c : Thread nD τ).loc main_arg0) (ix2 (token t r) n) := by
  unfold iblk
  rw [View.read_apply]
  show m ((c : Thread nD τ).loc main_arg0) _ = _
  refine congrArg (m ((c : Thread nD τ).loc main_arg0)) (Shape.idx_ext₂ ?_ ?_)
  · show win0_0.index t 0 * 512 + 1 * r.val = 512 * t.val + r.val
    rw [index_0 t 0]; show t.val * 512 + 1 * r.val = _; omega
  · show win0_0.index t 1 * 1024 + 1 * n.val = n.val
    rw [index_0 t 1]; show 0 * 1024 + 1 * n.val = _; omega

theorem block_1 (t : Fin cfg0.N) (r : Fin 512) (n : Fin 512) :
    iblk m c 1 t (ix2 r n) = m ((c : Thread nD τ).loc main_arg1) (ix2 (token t r) n) := by
  unfold iblk
  rw [View.read_apply]
  show m ((c : Thread nD τ).loc main_arg1) _ = _
  refine congrArg (m ((c : Thread nD τ).loc main_arg1)) (Shape.idx_ext₂ ?_ ?_)
  · show win0_1.index t 0 * 512 + 1 * r.val = 512 * t.val + r.val
    rw [index_1 t 0]; show t.val * 512 + 1 * r.val = _; omega
  · show win0_1.index t 1 * 512 + 1 * n.val = n.val
    rw [index_1 t 1]; show 0 * 512 + 1 * n.val = _; omega

theorem block_2 (t : Fin cfg0.N) (r : Fin 512) (n : Fin 512) :
    iblk m c 2 t (ix2 r n) = m ((c : Thread nD τ).loc main_arg2) (ix2 (token t r) n) := by
  unfold iblk
  rw [View.read_apply]
  show m ((c : Thread nD τ).loc main_arg2) _ = _
  refine congrArg (m ((c : Thread nD τ).loc main_arg2)) (Shape.idx_ext₂ ?_ ?_)
  · show win0_2.index t 0 * 512 + 1 * r.val = 512 * t.val + r.val
    rw [index_2 t 0]; show t.val * 512 + 1 * r.val = _; omega
  · show win0_2.index t 1 * 512 + 1 * n.val = n.val
    rw [index_2 t 1]; show 0 * 512 + 1 * n.val = _; omega

theorem block_3 (t : Fin cfg0.N) (k : Fin 9) (q : Fin 8) (n : Fin 1024) :
    iblk m c 3 t (ix4 0 k q n) = m ((c : Thread nD τ).loc main_arg3) (ix4 1 k q n) := by
  unfold iblk
  rw [View.read_apply]
  show m ((c : Thread nD τ).loc main_arg3) _ = _
  refine congrArg (m ((c : Thread nD τ).loc main_arg3)) (funext fun a => Fin.ext ?_)
  match a with
  | ⟨0, _⟩ => show win0_3.index t 0 * 1 + 1 * 0 = 1; rw [index_3 t 0]; rfl
  | ⟨1, _⟩ => show win0_3.index t 1 * 9 + 1 * k.val = k.val; rw [index_3 t 1]; show 0 * 9 + 1 * k.val = _; omega
  | ⟨2, _⟩ => show win0_3.index t 2 * 8 + 1 * q.val = q.val; rw [index_3 t 2]; show 0 * 8 + 1 * q.val = _; omega
  | ⟨3, _⟩ => show win0_3.index t 3 * 1024 + 1 * n.val = n.val; rw [index_3 t 3]; show 0 * 1024 + 1 * n.val = _; omega

theorem block_4 (t : Fin cfg0.N) (k : Fin 3) (n : Fin 1024) :
    iblk m c 4 t (ix3 0 k n) = m ((c : Thread nD τ).loc main_arg4) (ix3 1 k n) := by
  unfold iblk
  rw [View.read_apply]
  show m ((c : Thread nD τ).loc main_arg4) _ = _
  refine congrArg (m ((c : Thread nD τ).loc main_arg4)) (funext fun a => Fin.ext ?_)
  match a with
  | ⟨0, _⟩ => show win0_4.index t 0 * 1 + 1 * 0 = 1; rw [index_4 t 0]; rfl
  | ⟨1, _⟩ => show win0_4.index t 1 * 3 + 1 * k.val = k.val; rw [index_4 t 1]; show 0 * 3 + 1 * k.val = _; omega
  | ⟨2, _⟩ => show win0_4.index t 2 * 1024 + 1 * n.val = n.val; rw [index_4 t 2]; show 0 * 1024 + 1 * n.val = _; omega

theorem block_5 (t : Fin cfg0.N) (k : Fin 3) (n : Fin 1024) :
    iblk m c 5 t (ix3 0 k n) = m ((c : Thread nD τ).loc main_arg5) (ix3 1 k n) := by
  unfold iblk
  rw [View.read_apply]
  show m ((c : Thread nD τ).loc main_arg5) _ = _
  refine congrArg (m ((c : Thread nD τ).loc main_arg5)) (funext fun a => Fin.ext ?_)
  match a with
  | ⟨0, _⟩ => show win0_5.index t 0 * 1 + 1 * 0 = 1; rw [index_5 t 0]; rfl
  | ⟨1, _⟩ => show win0_5.index t 1 * 3 + 1 * k.val = k.val; rw [index_5 t 1]; show 0 * 3 + 1 * k.val = _; omega
  | ⟨2, _⟩ => show win0_5.index t 2 * 1024 + 1 * n.val = n.val; rw [index_5 t 2]; show 0 * 1024 + 1 * n.val = _; omega

/-! ## The weights, at coordinates -/

theorem gate_at (k : Fin 1024) (n : Fin 2816) : gateOf m c (ix2 k n) = m ((c : Thread nD τ).loc main_arg6) (ix3 1 k n) := rfl
theorem up_at (k : Fin 1024) (n : Fin 2816) : upOf m c (ix2 k n) = m ((c : Thread nD τ).loc main_arg7) (ix3 1 k n) := rfl
theorem down_at (k : Fin 2816) (n : Fin 1024) : downOf m c (ix2 k n) = m ((c : Thread nD τ).loc main_arg8) (ix3 1 k n) := rfl
theorem mix_at (k : Fin 1024) (n : Fin 1024) : mixOf m c (ix2 k n) = m ((c : Thread nD τ).loc main_arg9) (ix3 1 k n) := rfl

/-! ## The output arrays -/

/-- A token's row from the launch contents. -/
def rowOf (t : Fin 8192) (q : Fin 8) : Row 1024 :=
  specRow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) t q

/-- The modulation row of a point. -/
theorem condRow_at : ∀ t : Fin cfg0.N, (condRow (grid0.coords t)).val = if t.val < 8 then 0 else 1 + (t.val - 8) / 4 := by decide +kernel

/-- What a point computes, row by row. -/
theorem blockOut_read (t : Fin cfg0.N) (r : Fin 512) (n : Fin 1024) :
    blockOut m c t (ix2 r n) = rowOf m c (token t r) (condRow (grid0.coords t)) n := by
  have h : blockOut m c t (ix2 r n) = blockRow (grid0.coords t) (iblk m c 0 t) (iblk m c 1 t) (iblk m c 2 t) (iblk m c 3 t) (iblk m c 4 t)
      (iblk m c 5 t) (gateOf m c) (upOf m c) (downOf m c) (mixOf m c) r n := by
    unfold blockOut
    split
    · exact firstOut_read _ _ _ _ _ _ _ _ _ _ _ _ r n
    · exact steadyOut_read _ _ _ _ _ _ _ _ _ _ _ _ r n
  rw [h]
  unfold blockRow rowOf specRow
  simp only [block_0, block_1, block_2, block_3, block_4, block_5, gate_at, up_at, down_at, mix_at]

/-- The prompt's result. -/
def promptOf : Buf (Elt Ideal) ((c : Thread nD τ).loc main_v0_0) := fun p =>
  rowOf m c ⟨(p 0).val, by have : (p 0).val < 4096 := (p 0).isLt; omega⟩ 0 (p 1)

/-- The samples' result. -/
def sampleOf : Buf (Elt Ideal) ((c : Thread nD τ).loc main_v0_1) := fun p =>
  rowOf m c ⟨4096 + (p 0).val, by have : (p 0).val < 4096 := (p 0).isLt; omega⟩
    ⟨1 + (p 0).val / 2048, by have : (p 0).val < 4096 := (p 0).isLt; omega⟩ (p 1)

theorem prompt_final : (datsV m 0 c).arrAt 6 cfg0.N = promptOf m c := by
  refine (datsV m 0 c).arrAt_eq_of_covers 6 _ (by decide +kernel) fun t hf y => ?_
  rw [afterV_6]
  show blockOut m c (lastCtx t) y = promptOf m c _
  obtain ⟨r, n, rfl⟩ : ∃ (r : Fin 512) (n : Fin 1024), y = ix2 r n := ⟨y 0, y 1, Shape.idx_ext₂ rfl rfl⟩
  have ht : t.val < 16 := t.isLt
  have hl : (lastCtx t).val = min t.val 7 := by
    unfold lastCtx
    split
    · omega
    · show 7 = _; omega
  rw [blockOut_read]
  unfold promptOf
  have e0 : ((((cfg0.win 6).blk t).view.emb (ix2 r n)) 0 : ℕ) = 512 * min t.val 7 + r.val := by
    show win0_6.index t 0 * 512 + 1 * r.val = _
    rw [index_6 t 0]; show min t.val 7 * 512 + 1 * r.val = _; omega
  have e1 : ((((cfg0.win 6).blk t).view.emb (ix2 r n)) 1 : ℕ) = n.val := by
    show win0_6.index t 1 * 1024 + 1 * n.val = _
    rw [index_6 t 1]; show 0 * 1024 + 1 * n.val = _; omega
  congr 1
  · exact Fin.ext (by show 512 * (lastCtx t).val + r.val = _; rw [hl]; exact e0.symm)
  · refine Fin.ext ?_
    rw [condRow_at, if_pos (by omega)]; rfl
  · exact Fin.ext e1.symm

theorem sample_final : (datsV m 0 c).arrAt 7 cfg0.N = sampleOf m c := by
  refine (datsV m 0 c).arrAt_eq_of_covers 7 _ (by decide +kernel) fun t hf y => ?_
  rw [afterV_7]
  show blockOut m c t y = sampleOf m c _
  obtain ⟨r, n, rfl⟩ : ∃ (r : Fin 512) (n : Fin 1024), y = ix2 r n := ⟨y 0, y 1, Shape.idx_ext₂ rfl rfl⟩
  have ht : t.val < 16 := t.isLt
  have h8 : 8 ≤ t.val := by
    by_contra hlt
    rw [flush7_ctx t (by omega)] at hf
    exact Bool.false_ne_true hf
  rw [blockOut_read]
  unfold sampleOf
  have e0 : ((((cfg0.win 7).blk t).view.emb (ix2 r n)) 0 : ℕ) = 512 * (t.val - 8) + r.val := by
    show win0_7.index t 0 * 512 + 1 * r.val = _
    rw [index_7 t 0]; show (t.val - 8) * 512 + 1 * r.val = _; omega
  have e1 : ((((cfg0.win 7).blk t).view.emb (ix2 r n)) 1 : ℕ) = n.val := by
    show win0_7.index t 1 * 1024 + 1 * n.val = _
    rw [index_7 t 1]; show 0 * 1024 + 1 * n.val = _; omega
  congr 1
  · exact Fin.ext (by show 512 * t.val + r.val = 4096 + _; rw [e0]; omega)
  · refine Fin.ext ?_
    rw [condRow_at, if_neg (by omega)]
    show 1 + (t.val - 8) / 4 = 1 + _ / 2048
    rw [e0]; omega
  · exact Fin.ext e1.symm

end Cert.Kernel.Closing

end
-- ==== Proof.HostRows.lean ====
/-
  What the two halves of the reference share: its operations on a batch of token rows, read at one element.
-/
module

public import proofs.«01_k».proof.Proof.Rows
public import Idealize.ShloMosaic.Lib.IdealHost

@[expose] public section

noncomputable section

namespace Cert.Closing

open Idealize.ShloMosaic Idealize.ShloMosaic.ValueIdx

/-- Two indices of rank three with the same coordinates are the same. -/
theorem ext3 {s : Fin 3 → ℕ} {i j : (a : Fin 3) → Fin (s a)} (h0 : (i 0 : ℕ) = j 0) (h1 : (i 1 : ℕ) = j 1) (h2 : (i 2 : ℕ) = j 2) : i = j :=
  funext fun a => match a with
    | ⟨0, _⟩ => Fin.ext h0
    | ⟨1, _⟩ => Fin.ext h1
    | ⟨2, _⟩ => Fin.ext h2

/-- Two indices of rank four with the same coordinates are the same. -/
theorem ext4 {s : Fin 4 → ℕ} {i j : (a : Fin 4) → Fin (s a)} (h0 : (i 0 : ℕ) = j 0) (h1 : (i 1 : ℕ) = j 1) (h2 : (i 2 : ℕ) = j 2)
    (h3 : (i 3 : ℕ) = j 3) : i = j :=
  funext fun a => match a with
    | ⟨0, _⟩ => Fin.ext h0
    | ⟨1, _⟩ => Fin.ext h1
    | ⟨2, _⟩ => Fin.ext h2
    | ⟨3, _⟩ => Fin.ext h3

/-- The host's root-mean-square normalisation of a row of any array, times a gain. -/
theorem hostNorm_read {ι : Type} (y : ι → EReal) (f i : Fin 1024 → ι) (hi : ∀ k, i k = f k) (gv : EReal) (g : Row 1024) (n : Fin 1024)
    (hg : gv = g n) :
    y (f n) * Ideal.rsqrt (Ideal.div (Ideal.ofBits .f32 0x00000000#32 + ∑ k, y (i k) * y (i k)) (Ideal.ofBits .f32 0x44800000#32)
        + Ideal.ofBits .f32 0x358637BD#32) * gv
      = normRow (fun k => y (f k)) g n := by
  unfold normRow
  rw [hg, Ideal.ofBits_zero_f32, zero_add]
  simp only [hi]

/-- The reference's gate: a value times one over one plus the exponential of its negative. -/
theorem hostGate_read (z u : EReal) :
    z * Ideal.div (Ideal.ofBits .f32 0x3F800000#32) (Ideal.ofBits .f32 0x3F800000#32 + Ideal.exp (-z)) * u = z * Ideal.logistic z * u := by
  rw [Ideal.ofBits_one_f32]
  rfl

/-- Four quarter rows side by side, the mixers' halves in turn. -/
theorem cat3_read {B S : ℕ} (w x y z : (⟨3, ![B, S, 256]⟩ : Shape).Idx → EReal)
    (h : Shape.Concatenates ([⟨⟨3, ![B, S, 256]⟩, w⟩, ⟨⟨3, ![B, S, 256]⟩, x⟩, ⟨⟨3, ![B, S, 256]⟩, y⟩, ⟨⟨3, ![B, S, 256]⟩, z⟩].map
      (fun p : (s : Shape) × (s.Idx → EReal) => p.1)) ⟨3, ![B, S, 1024]⟩ 2)
    (b : Fin B) (s : Fin S) (k : Fin 1024) (a att : Row 512)
    (hw : ∀ k' : Fin 256, w (ix3 b s k') = a ⟨k'.val, by omega⟩) (hx : ∀ k' : Fin 256, x (ix3 b s k') = att ⟨k'.val, by omega⟩)
    (hy : ∀ k' : Fin 256, y (ix3 b s k') = a ⟨256 + k'.val, by omega⟩) (hz : ∀ k' : Fin 256, z (ix3 b s k') = att ⟨256 + k'.val, by omega⟩) :
    concatenate (⟨3, ![B, S, 1024]⟩ : Shape) 2 [⟨⟨3, ![B, S, 256]⟩, w⟩, ⟨⟨3, ![B, S, 256]⟩, x⟩, ⟨⟨3, ![B, S, 256]⟩, y⟩, ⟨⟨3, ![B, S, 256]⟩, z⟩] h
      (ix3 b s k) = catRow a att k := by
  have piece : ∀ (p : Fin 4) (k' : Fin 256), 256 * p.val + k'.val = k.val →
      concatenate (⟨3, ![B, S, 1024]⟩ : Shape) 2 [⟨⟨3, ![B, S, 256]⟩, w⟩, ⟨⟨3, ![B, S, 256]⟩, x⟩, ⟨⟨3, ![B, S, 256]⟩, y⟩, ⟨⟨3, ![B, S, 256]⟩, z⟩] h
        (ix3 b s k) = ![w, x, y, z] p (ix3 b s k') := by
    intro p k' hk
    refine concatenate_apply_piece (t := ⟨3, ![B, S, 1024]⟩) 2 [⟨⟨3, ![B, S, 256]⟩, w⟩, ⟨⟨3, ![B, S, 256]⟩, x⟩, ⟨⟨3, ![B, S, 256]⟩, y⟩, ⟨⟨3, ![B, S, 256]⟩, z⟩] h (ix3 b s k)
      p.val p.isLt ⟨3, ![B, S, 256]⟩ _ ?_ rfl (256 * p.val) ?_ (ix3 b s k') (fun e he => ?_) hk
    · match p with
      | 0 => rfl
      | 1 => rfl
      | 2 => rfl
      | 3 => rfl
    · match p with
      | 0 => rfl
      | 1 => rfl
      | 2 => rfl
      | 3 => rfl
    · match e with
      | ⟨0, _⟩ => rfl
      | ⟨1, _⟩ => rfl
      | ⟨2, _⟩ => exact absurd rfl he
  have hk := k.isLt
  unfold catRow
  split
  · exact (piece 0 ⟨k.val, by omega⟩ (by simp)).trans (hw _)
  split
  · exact (piece 1 ⟨k.val - 256, by omega⟩ (by simp; omega)).trans (hx _)
  split
  · exact (piece 2 ⟨k.val - 512, by omega⟩ (by simp; omega)).trans ((hy _).trans (congrArg a (Fin.ext (by simp; omega))))
  · exact (piece 3 ⟨k.val - 768, by omega⟩ (by simp; omega)).trans ((hz _).trans (congrArg att (Fin.ext (by simp; omega))))

end Cert.Closing

end
-- ==== Proof.RefPrompt.lean ====
/-
  The reference's result on the prompt tokens, row by row: the value of every stage of its first half, up to the stacked result.
-/
module

public import proofs.«01_k».proof.Proof.HostRows
public import proofs.«01_k».proof.Proof.Gen.ReferenceIdeal.Run
public import proofs.«01_k».proof.Proof.Gen.ReferenceIdeal.Read

@[expose] public section

noncomputable section

namespace Cert.Closing.Prompt

open Idealize.ShloMosaic Idealize.ShloMosaic.ValueIdx
open Cert.ReferenceIdeal Cert.ReferenceIdeal.Read

variable (x0 : (⟨S8192x1024, .f32⟩ : BufTy).Contents (Elt Ideal)) (x1 x2 : (⟨S8192x512, .bf16⟩ : BufTy).Contents (Elt Ideal))
    (x3 : (⟨S2x9x8x1024, .f32⟩ : BufTy).Contents (Elt Ideal)) (x4 x5 : (⟨S2x3x1024, .f32⟩ : BufTy).Contents (Elt Ideal))
    (x6 x7 : (⟨S2x1024x2816, .f32⟩ : BufTy).Contents (Elt Ideal)) (x8 : (⟨S2x2816x1024, .f32⟩ : BufTy).Contents (Elt Ideal))
    (x9 : (⟨S2x1024x1024, .f32⟩ : BufTy).Contents (Elt Ideal))

/-- The modulation table of the prompt: the second layer's rows under the first condition. -/
theorem table_read (i : S1x1x9x1024.Idx) (r : Fin 9) (n : Fin 1024) (hr : (i 2).val = r.val) (hn : (i 3).val = n.val) :
    val_main_v22 x3 i = x3 (ix4 1 r 0 n) := by
  rw [val_main_v22_apply, val_main_v21_apply, val_main_v10_apply, val_main_v9_apply, val_main_v8_apply]
  have h2 := (i 2).isLt
  have h3 := (i 3).isLt
  have hr' := r.isLt
  have hn' := n.isLt
  refine congrArg x3 (ext4 rfl ?_ ?_ ?_)
  · show (((i 2).val * 8 + 0) * 1024 + (i 3).val) / 8192 % 9 = r.val
    omega
  · show (((i 2).val * 8 + 0) * 1024 + (i 3).val) / 1024 % 8 = 0
    omega
  · show (((i 2).val * 8 + 0) * 1024 + (i 3).val) % 1024 = n.val
    omega

/-- Every third row of it from the first. -/
theorem shifts_read (i : S1x1x3x1024.Idx) (r : Fin 9) (n : Fin 1024) (hr : 0 + 3 * (i 2).val = r.val) (hn : 0 + 1 * (i 3).val = n.val) :
    val_main_v23 x3 i = x3 (ix4 1 r 0 n) := by
  unfold val_main_v23 Host.slice
  exact table_read x3 _ r n hr hn

/-- Every third row of it from the second. -/
theorem scales_read (i : S1x1x3x1024.Idx) (r : Fin 9) (n : Fin 1024) (hr : 1 + 3 * (i 2).val = r.val) (hn : 0 + 1 * (i 3).val = n.val) :
    val_main_v24 x3 i = x3 (ix4 1 r 0 n) := by
  unfold val_main_v24 Host.slice
  exact table_read x3 _ r n hr hn

/-- Every third row of it from the third. -/
theorem gates_read (i : S1x1x3x1024.Idx) (r : Fin 9) (n : Fin 1024) (hr : 2 + 3 * (i 2).val = r.val) (hn : 0 + 1 * (i 3).val = n.val) :
    val_main_v25 x3 i = x3 (ix4 1 r 0 n) := by
  unfold val_main_v25 Host.slice
  exact table_read x3 _ r n hr hn

variable (t : Fin 8192) (b : Fin 16) (s : Fin 256) (ht : t.val = b.val * 256 + s.val)
include ht

/-- The stream's row. -/
theorem x_read (n : Fin 1024) : val_main_v12 x0 (ix3 b s n) = x0 (ix2 t n) := by
  rw [val_main_v12_apply, val_main_v11_apply]
  have hn := n.isLt
  refine congrArg x0 (Shape.idx_ext₂ ?_ ?_)
  · show ((b.val * 256 + s.val) * 1024 + n.val) / 1024 = t.val
    omega
  · show ((b.val * 256 + s.val) * 1024 + n.val) % 1024 = n.val
    omega

/-- The mixers' row. -/
theorem cat_read (k : Fin 1024) :
    val_main_v26 x1 x2 (ix3 b s k) = catRow (fun k => x1 (ix2 t k)) (fun k => x2 (ix2 t k)) k := by
  unfold val_main_v26
  refine cat3_read _ _ _ _ _ b s k _ _ (fun k' => ?_) (fun k' => ?_) (fun k' => ?_) (fun k' => ?_)
  · rw [val_main_v14_apply, val_main_v13_apply, val_main_v1_apply, val_main_v0_apply]
    refine congrArg x1 (Shape.idx_ext₂ ?_ ?_)
    · show ((b.val * 256 + s.val) * 256 + k'.val) / 256 = t.val
      omega
    · show ((b.val * 256 + s.val) * 256 + k'.val) % 256 = k'.val
      omega
  · rw [val_main_v16_apply, val_main_v15_apply, val_main_v5_apply, val_main_v4_apply]
    refine congrArg x2 (Shape.idx_ext₂ ?_ ?_)
    · show ((b.val * 256 + s.val) * 256 + k'.val) / 256 = t.val
      omega
    · show ((b.val * 256 + s.val) * 256 + k'.val) % 256 = k'.val
      omega
  · rw [val_main_v18_apply, val_main_v17_apply, val_main_v3_apply, val_main_v2_apply]
    refine congrArg x1 (Shape.idx_ext₂ ?_ ?_)
    · show ((b.val * 256 + s.val) * 256 + k'.val) / 256 = t.val
      omega
    · show 256 + ((b.val * 256 + s.val) * 256 + k'.val) % 256 = 256 + k'.val
      omega
  · rw [val_main_v20_apply, val_main_v19_apply, val_main_v7_apply, val_main_v6_apply]
    refine congrArg x2 (Shape.idx_ext₂ ?_ ?_)
    · show ((b.val * 256 + s.val) * 256 + k'.val) / 256 = t.val
      omega
    · show 256 + ((b.val * 256 + s.val) * 256 + k'.val) % 256 = 256 + k'.val
      omega

omit ht

/-- The output projection's row. -/
theorem proj_read (n : Fin 1024) :
    val_main_v29 x1 x2 x9 (ix3 b s n) = vecMat (fun k => val_main_v26 x1 x2 (ix3 b s k)) (fun k n => x9 (ix3 1 k n)) n := by
  rw [val_main_v29_apply]
  unfold vecMat
  refine Finset.sum_congr rfl fun k _ => congrArg₂ (· * ·) (congrArg _ (ext3 rfl rfl rfl)) ?_
  rw [val_main_v28_apply, val_main_v27_apply]
  have hk := k.isLt
  have hn := n.isLt
  refine congrArg x9 (ext3 rfl ?_ ?_)
  · show (k.val * 1024 + n.val) / 1024 % 1024 = k.val
    omega
  · show (k.val * 1024 + n.val) % 1024 = n.val
    omega

/-- The projection normalised. -/
theorem projNorm_read (n : Fin 1024) :
    val_main_v46 x1 x2 x5 x9 (ix3 b s n) = normRow (fun k => val_main_v29 x1 x2 x9 (ix3 b s k)) (fun n => x5 (ix3 1 1 n)) n := by
  rw [val_main_v46_apply, val_main_v43_apply, val_main_v42_apply, val_main_v41_apply, val_main_v40_apply, val_main_v38_apply,
    val_main_v36_apply, val_main_v35_apply, val_main_v37_apply, val_main_v39_apply, val_main_v45_apply, val_main_v44_apply,
    val_main_v33_apply, val_main_v32_apply]
  simp only [val_main_v34_apply]
  generalize val_main_v29 x1 x2 x9 = y
  refine hostNorm_read y (ix3 b s) _ ?_ _ _ n ?_
  · exact fun k => ext3 rfl rfl rfl
  · exact congrArg x5 (ext3 rfl rfl (Nat.mod_eq_of_lt n.isLt))

/-- The stream after the projection, normalised. -/
theorem midNorm_read (n : Fin 1024) :
    val_main_v64 x0 x1 x2 x3 x4 x5 x9 (ix3 b s n)
      = normRow (fun k => val_main_v49 x0 x1 x2 x3 x5 x9 (ix3 b s k)) (fun n => x4 (ix3 1 2 n)) n := by
  rw [val_main_v64_apply, val_main_v61_apply, val_main_v60_apply, val_main_v59_apply, val_main_v58_apply, val_main_v56_apply,
    val_main_v54_apply, val_main_v53_apply, val_main_v55_apply, val_main_v57_apply, val_main_v63_apply, val_main_v62_apply,
    val_main_v51_apply, val_main_v50_apply]
  simp only [val_main_v52_apply]
  generalize val_main_v49 x0 x1 x2 x3 x5 x9 = y
  refine hostNorm_read y (ix3 b s) _ ?_ _ _ n ?_
  · exact fun k => ext3 rfl rfl rfl
  · exact congrArg x4 (ext3 rfl rfl (Nat.mod_eq_of_lt n.isLt))

/-- The feed-forward output normalised. -/
theorem ffnNorm_read (n : Fin 1024) :
    val_main_v108 x0 x1 x2 x3 x4 x5 x6 x7 x8 x9 (ix3 b s n)
      = normRow (fun k => val_main_v91 x0 x1 x2 x3 x4 x5 x6 x7 x8 x9 (ix3 b s k)) (fun n => x5 (ix3 1 2 n)) n := by
  rw [val_main_v108_apply, val_main_v105_apply, val_main_v104_apply, val_main_v103_apply, val_main_v102_apply, val_main_v100_apply,
    val_main_v98_apply, val_main_v97_apply, val_main_v99_apply, val_main_v101_apply, val_main_v107_apply, val_main_v106_apply,
    val_main_v95_apply, val_main_v94_apply]
  simp only [val_main_v96_apply]
  generalize val_main_v91 x0 x1 x2 x3 x4 x5 x6 x7 x8 x9 = y
  refine hostNorm_read y (ix3 b s) _ ?_ _ _ n ?_
  · exact fun k => ext3 rfl rfl rfl
  · exact congrArg x5 (ext3 rfl rfl (Nat.mod_eq_of_lt n.isLt))

include ht

/-- The stream after the projection. -/
theorem mid_read (n : Fin 1024) :
    val_main_v49 x0 x1 x2 x3 x5 x9 (ix3 b s n)
      = midRow (fun n => x0 (ix2 t n)) (catRow (fun k => x1 (ix2 t k)) (fun k => x2 (ix2 t k))) (fun n => x3 (ix4 1 5 0 n))
          (fun n => x5 (ix3 1 1 n)) (fun k n => x9 (ix3 1 k n)) n := by
  rw [val_main_v49_apply, x_read x0 t b s ht, val_main_v48_apply, val_main_v47_apply, val_main_v31_apply, val_main_v30_apply, projNorm_read,
    gates_read x3 _ 5 n rfl (by show 0 + 1 * (((0 * 1 + 0) * 1024 + n.val) % 1024) = n.val; have := n.isLt; omega)]
  simp only [proj_read, cat_read x1 x2 t b s ht]
  rfl

omit ht

/-- The feed-forward network's input. -/
theorem in_read (n : Fin 1024) :
    val_main_v74 x0 x1 x2 x3 x4 x5 x9 (ix3 b s n)
      = inRow (fun n => val_main_v49 x0 x1 x2 x3 x5 x9 (ix3 b s n)) (fun n => x3 (ix4 1 6 0 n)) (fun n => x3 (ix4 1 7 0 n))
          (fun n => x4 (ix3 1 2 n)) n := by
  rw [val_main_v74_apply, val_main_v70_apply, midNorm_read, val_main_v69_apply, val_main_v68_apply, val_main_v67_apply,
    val_main_v66_apply, val_main_v65_apply, val_main_v73_apply, val_main_v72_apply, val_main_v71_apply,
    scales_read x3 _ 7 n rfl (by show 0 + 1 * (((0 * 1 + 0) * 1024 + n.val) % 1024) = n.val; have := n.isLt; omega),
    shifts_read x3 _ 6 n rfl (by show 0 + 1 * (((0 * 1 + 0) * 1024 + n.val) % 1024) = n.val; have := n.isLt; omega)]
  rfl

/-- The gate's product. -/
theorem gateProd_read (n : Fin 2816) :
    val_main_v77 x0 x1 x2 x3 x4 x5 x6 x9 (ix3 b s n)
      = vecMat (fun k => val_main_v74 x0 x1 x2 x3 x4 x5 x9 (ix3 b s k)) (fun k n => x6 (ix3 1 k n)) n := by
  rw [val_main_v77_apply]
  unfold vecMat
  refine Finset.sum_congr rfl fun k _ => congrArg₂ (· * ·) (congrArg _ (ext3 rfl rfl rfl)) ?_
  rw [val_main_v76_apply, val_main_v75_apply]
  have hk := k.isLt
  have hn := n.isLt
  refine congrArg x6 (ext3 rfl ?_ ?_)
  · show (k.val * 2816 + n.val) / 2816 % 1024 = k.val
    omega
  · show (k.val * 2816 + n.val) % 2816 = n.val
    omega

/-- The other factor's product. -/
theorem upProd_read (n : Fin 2816) :
    val_main_v87 x0 x1 x2 x3 x4 x5 x7 x9 (ix3 b s n)
      = vecMat (fun k => val_main_v74 x0 x1 x2 x3 x4 x5 x9 (ix3 b s k)) (fun k n => x7 (ix3 1 k n)) n := by
  rw [val_main_v87_apply]
  unfold vecMat
  refine Finset.sum_congr rfl fun k _ => congrArg₂ (· * ·) (congrArg _ (ext3 rfl rfl rfl)) ?_
  rw [val_main_v86_apply, val_main_v85_apply]
  have hk := k.isLt
  have hn := n.isLt
  refine congrArg x7 (ext3 rfl ?_ ?_)
  · show (k.val * 2816 + n.val) / 2816 % 1024 = k.val
    omega
  · show (k.val * 2816 + n.val) % 2816 = n.val
    omega

/-- The gated activation. -/
theorem act_read (n : Fin 2816) :
    val_main_v88 x0 x1 x2 x3 x4 x5 x6 x7 x9 (ix3 b s n)
      = actRow (fun k => val_main_v74 x0 x1 x2 x3 x4 x5 x9 (ix3 b s k)) (fun k n => x6 (ix3 1 k n)) (fun k n => x7 (ix3 1 k n)) n := by
  rw [val_main_v88_apply, val_main_v84_apply, val_main_v83_apply, val_main_v82_apply, val_main_v81_apply, val_main_v80_apply,
    val_main_v79_apply, val_main_v78_apply, gateProd_read, upProd_read]
  exact hostGate_read _ _

/-- The down projection. -/
theorem down_read (n : Fin 1024) :
    val_main_v91 x0 x1 x2 x3 x4 x5 x6 x7 x8 x9 (ix3 b s n)
      = vecMat (fun k => val_main_v88 x0 x1 x2 x3 x4 x5 x6 x7 x9 (ix3 b s k)) (fun k n => x8 (ix3 1 k n)) n := by
  rw [val_main_v91_apply]
  unfold vecMat
  refine Finset.sum_congr rfl fun k _ => congrArg₂ (· * ·) (congrArg _ (ext3 rfl rfl rfl)) ?_
  rw [val_main_v90_apply, val_main_v89_apply]
  have hk := k.isLt
  have hn := n.isLt
  refine congrArg x8 (ext3 rfl ?_ ?_)
  · show (k.val * 1024 + n.val) / 1024 % 2816 = k.val
    omega
  · show (k.val * 1024 + n.val) % 1024 = n.val
    omega

include ht

/-- The result's row, before the batch is laid out as one list of tokens. -/
theorem out_read (n : Fin 1024) :
    val_main_v113 x0 x1 x2 x3 x4 x5 x6 x7 x8 x9 (ix3 b s n) = specRow x0 x1 x2 x3 x4 x5 x6 x7 x8 x9 t 0 n := by
  rw [val_main_v113_apply, val_main_v112_apply, val_main_v111_apply, val_main_v110_apply, val_main_v109_apply, val_main_v93_apply,
    val_main_v92_apply, ffnNorm_read, gates_read x3 _ 8 n rfl (by show 0 + 1 * (((0 * 1 + 0) * 1024 + n.val) % 1024) = n.val; have := n.isLt; omega)]
  simp only [down_read, act_read, in_read, mid_read x0 x1 x2 x3 x5 x9 t b s ht]
  rfl

omit ht

/-- The reference's prompt result, at an element. -/
theorem result_read (i : S4096x1024.Idx) :
    val_main_v217 x0 x1 x2 x3 x4 x5 x6 x7 x8 x9 i
      = specRow x0 x1 x2 x3 x4 x5 x6 x7 x8 x9 ⟨(i 0).val, Nat.lt_of_lt_of_le (i 0).isLt (by decide)⟩ 0 (i 1) := by
  have h0 : (i 0).val < 4096 := (i 0).isLt
  have h1 : (i 1).val < 1024 := (i 1).isLt
  rw [val_main_v217_apply]
  have e : idx_main_v217 i = ix3 (⟨(i 0).val / 256, by omega⟩ : Fin 16) (⟨(i 0).val % 256, by omega⟩ : Fin 256) (i 1) := by
    refine ext3 ?_ ?_ ?_
    · show ((i 0).val * 1024 + (i 1).val) / 262144 = (i 0).val / 256
      omega
    · show ((i 0).val * 1024 + (i 1).val) / 1024 % 256 = (i 0).val % 256
      omega
    · show ((i 0).val * 1024 + (i 1).val) % 1024 = (i 1).val
      omega
  rw [e]
  exact out_read x0 x1 x2 x3 x4 x5 x6 x7 x8 x9 _ _ _ (by show (i 0).val = (i 0).val / 256 * 256 + (i 0).val % 256; omega) (i 1)

end Cert.Closing.Prompt

end
-- ==== Proof.RefSamples.lean ====
/-
  The reference's result on the samples, row by row: the value of every stage of its second half, up to the stacked result.
-/
module

public import proofs.«01_k».proof.Proof.HostRows
public import proofs.«01_k».proof.Proof.Gen.ReferenceIdeal.Run
public import proofs.«01_k».proof.Proof.Gen.ReferenceIdeal.Read

@[expose] public section

noncomputable section

namespace Cert.Closing.Samples

open Idealize.ShloMosaic Idealize.ShloMosaic.ValueIdx
open Cert.ReferenceIdeal Cert.ReferenceIdeal.Read

variable (x0 : (⟨S8192x1024, .f32⟩ : BufTy).Contents (Elt Ideal)) (x1 x2 : (⟨S8192x512, .bf16⟩ : BufTy).Contents (Elt Ideal))
    (x3 : (⟨S2x9x8x1024, .f32⟩ : BufTy).Contents (Elt Ideal)) (x4 x5 : (⟨S2x3x1024, .f32⟩ : BufTy).Contents (Elt Ideal))
    (x6 x7 : (⟨S2x1024x2816, .f32⟩ : BufTy).Contents (Elt Ideal)) (x8 : (⟨S2x2816x1024, .f32⟩ : BufTy).Contents (Elt Ideal))
    (x9 : (⟨S2x1024x1024, .f32⟩ : BufTy).Contents (Elt Ideal))

/-- The modulation tables of the samples: the second layer's rows, the first sample's under the second condition and the other's under the third. -/
theorem table_read (i : S2x1x9x1024.Idx) (q : Fin 8) (r : Fin 9) (n : Fin 1024) (hq : q.val = 1 + (i 0).val) (hr : (i 2).val = r.val) (hn : (i 3).val = n.val) :
    val_main_v125 x3 i = x3 (ix4 1 r q n) := by
  rw [val_main_v125_apply, val_main_v124_apply, val_main_v10_apply, val_main_v9_apply, val_main_v8_apply]
  have hq' := q.isLt
  have h2 := (i 2).isLt
  have h3 := (i 3).isLt
  have hr' := r.isLt
  have hn' := n.isLt
  refine congrArg x3 (ext4 rfl ?_ ?_ ?_)
  · show (((i 2).val * 8 + (1 + (i 0).val)) * 1024 + (i 3).val) / 8192 % 9 = r.val
    omega
  · show (((i 2).val * 8 + (1 + (i 0).val)) * 1024 + (i 3).val) / 1024 % 8 = q.val
    omega
  · show (((i 2).val * 8 + (1 + (i 0).val)) * 1024 + (i 3).val) % 1024 = n.val
    omega

/-- Every third row of it from the first. -/
theorem shifts_read (i : S2x1x3x1024.Idx) (q : Fin 8) (r : Fin 9) (n : Fin 1024) (hq : q.val = 1 + (i 0).val) (hr : 0 + 3 * (i 2).val = r.val) (hn : 0 + 1 * (i 3).val = n.val) :
    val_main_v126 x3 i = x3 (ix4 1 r q n) := by
  unfold val_main_v126 Host.slice
  exact table_read x3 _ q r n (by show q.val = 1 + (0 + 1 * (i 0).val); omega) hr hn

/-- Every third row of it from the second. -/
theorem scales_read (i : S2x1x3x1024.Idx) (q : Fin 8) (r : Fin 9) (n : Fin 1024) (hq : q.val = 1 + (i 0).val) (hr : 1 + 3 * (i 2).val = r.val) (hn : 0 + 1 * (i 3).val = n.val) :
    val_main_v127 x3 i = x3 (ix4 1 r q n) := by
  unfold val_main_v127 Host.slice
  exact table_read x3 _ q r n (by show q.val = 1 + (0 + 1 * (i 0).val); omega) hr hn

/-- Every third row of it from the third. -/
theorem gates_read (i : S2x1x3x1024.Idx) (q : Fin 8) (r : Fin 9) (n : Fin 1024) (hq : q.val = 1 + (i 0).val) (hr : 2 + 3 * (i 2).val = r.val) (hn : 0 + 1 * (i 3).val = n.val) :
    val_main_v128 x3 i = x3 (ix4 1 r q n) := by
  unfold val_main_v128 Host.slice
  exact table_read x3 _ q r n (by show q.val = 1 + (0 + 1 * (i 0).val); omega) hr hn

variable (t : Fin 8192) (b : Fin 2) (s : Fin 2048) (ht : t.val = 4096 + (b.val * 2048 + s.val)) (q : Fin 8) (hq : q.val = 1 + b.val)
include ht

/-- The stream's row. -/
theorem x_read (n : Fin 1024) : val_main_v115 x0 (ix3 b s n) = x0 (ix2 t n) := by
  rw [val_main_v115_apply, val_main_v114_apply]
  have hn := n.isLt
  refine congrArg x0 (Shape.idx_ext₂ ?_ ?_)
  · show 4096 + ((b.val * 2048 + s.val) * 1024 + n.val) / 1024 = t.val
    omega
  · show ((b.val * 2048 + s.val) * 1024 + n.val) % 1024 = n.val
    omega

/-- The mixers' row. -/
theorem cat_read (k : Fin 1024) :
    val_main_v129 x1 x2 (ix3 b s k) = catRow (fun k => x1 (ix2 t k)) (fun k => x2 (ix2 t k)) k := by
  unfold val_main_v129
  refine cat3_read _ _ _ _ _ b s k _ _ (fun k' => ?_) (fun k' => ?_) (fun k' => ?_) (fun k' => ?_)
  · rw [val_main_v117_apply, val_main_v116_apply, val_main_v1_apply, val_main_v0_apply]
    refine congrArg x1 (Shape.idx_ext₂ ?_ ?_)
    · show 4096 + ((b.val * 2048 + s.val) * 256 + k'.val) / 256 = t.val
      omega
    · show ((b.val * 2048 + s.val) * 256 + k'.val) % 256 = k'.val
      omega
  · rw [val_main_v119_apply, val_main_v118_apply, val_main_v5_apply, val_main_v4_apply]
    refine congrArg x2 (Shape.idx_ext₂ ?_ ?_)
    · show 4096 + ((b.val * 2048 + s.val) * 256 + k'.val) / 256 = t.val
      omega
    · show ((b.val * 2048 + s.val) * 256 + k'.val) % 256 = k'.val
      omega
  · rw [val_main_v121_apply, val_main_v120_apply, val_main_v3_apply, val_main_v2_apply]
    refine congrArg x1 (Shape.idx_ext₂ ?_ ?_)
    · show 4096 + ((b.val * 2048 + s.val) * 256 + k'.val) / 256 = t.val
      omega
    · show 256 + ((b.val * 2048 + s.val) * 256 + k'.val) % 256 = 256 + k'.val
      omega
  · rw [val_main_v123_apply, val_main_v122_apply, val_main_v7_apply, val_main_v6_apply]
    refine congrArg x2 (Shape.idx_ext₂ ?_ ?_)
    · show 4096 + ((b.val * 2048 + s.val) * 256 + k'.val) / 256 = t.val
      omega
    · show 256 + ((b.val * 2048 + s.val) * 256 + k'.val) % 256 = 256 + k'.val
      omega

omit ht

/-- The output projection's row. -/
theorem proj_read (n : Fin 1024) :
    val_main_v132 x1 x2 x9 (ix3 b s n) = vecMat (fun k => val_main_v129 x1 x2 (ix3 b s k)) (fun k n => x9 (ix3 1 k n)) n := by
  rw [val_main_v132_apply]
  unfold vecMat
  refine Finset.sum_congr rfl fun k _ => congrArg₂ (· * ·) (congrArg _ (ext3 rfl rfl rfl)) ?_
  rw [val_main_v131_apply, val_main_v130_apply]
  have hk := k.isLt
  have hn := n.isLt
  refine congrArg x9 (ext3 rfl ?_ ?_)
  · show (k.val * 1024 + n.val) / 1024 % 1024 = k.val
    omega
  · show (k.val * 1024 + n.val) % 1024 = n.val
    omega

/-- The projection normalised. -/
theorem projNorm_read (n : Fin 1024) :
    val_main_v149 x1 x2 x5 x9 (ix3 b s n) = normRow (fun k => val_main_v132 x1 x2 x9 (ix3 b s k)) (fun n => x5 (ix3 1 1 n)) n := by
  rw [val_main_v149_apply, val_main_v146_apply, val_main_v145_apply, val_main_v144_apply, val_main_v143_apply, val_main_v141_apply,
    val_main_v139_apply, val_main_v138_apply, val_main_v140_apply, val_main_v142_apply, val_main_v148_apply, val_main_v147_apply,
    val_main_v136_apply, val_main_v135_apply]
  simp only [val_main_v137_apply]
  generalize val_main_v132 x1 x2 x9 = y
  refine hostNorm_read y (ix3 b s) _ ?_ _ _ n ?_
  · exact fun k => ext3 rfl rfl rfl
  · exact congrArg x5 (ext3 rfl rfl (Nat.mod_eq_of_lt n.isLt))

/-- The stream after the projection, normalised. -/
theorem midNorm_read (n : Fin 1024) :
    val_main_v167 x0 x1 x2 x3 x4 x5 x9 (ix3 b s n)
      = normRow (fun k => val_main_v152 x0 x1 x2 x3 x5 x9 (ix3 b s k)) (fun n => x4 (ix3 1 2 n)) n := by
  rw [val_main_v167_apply, val_main_v164_apply, val_main_v163_apply, val_main_v162_apply, val_main_v161_apply, val_main_v159_apply,
    val_main_v157_apply, val_main_v156_apply, val_main_v158_apply, val_main_v160_apply, val_main_v166_apply, val_main_v165_apply,
    val_main_v154_apply, val_main_v153_apply]
  simp only [val_main_v155_apply]
  generalize val_main_v152 x0 x1 x2 x3 x5 x9 = y
  refine hostNorm_read y (ix3 b s) _ ?_ _ _ n ?_
  · exact fun k => ext3 rfl rfl rfl
  · exact congrArg x4 (ext3 rfl rfl (Nat.mod_eq_of_lt n.isLt))

/-- The feed-forward output normalised. -/
theorem ffnNorm_read (n : Fin 1024) :
    val_main_v211 x0 x1 x2 x3 x4 x5 x6 x7 x8 x9 (ix3 b s n)
      = normRow (fun k => val_main_v194 x0 x1 x2 x3 x4 x5 x6 x7 x8 x9 (ix3 b s k)) (fun n => x5 (ix3 1 2 n)) n := by
  rw [val_main_v211_apply, val_main_v208_apply, val_main_v207_apply, val_main_v206_apply, val_main_v205_apply, val_main_v203_apply,
    val_main_v201_apply, val_main_v200_apply, val_main_v202_apply, val_main_v204_apply, val_main_v210_apply, val_main_v209_apply,
    val_main_v198_apply, val_main_v197_apply]
  simp only [val_main_v199_apply]
  generalize val_main_v194 x0 x1 x2 x3 x4 x5 x6 x7 x8 x9 = y
  refine hostNorm_read y (ix3 b s) _ ?_ _ _ n ?_
  · exact fun k => ext3 rfl rfl rfl
  · exact congrArg x5 (ext3 rfl rfl (Nat.mod_eq_of_lt n.isLt))

include ht hq

/-- The stream after the projection. -/
theorem mid_read (n : Fin 1024) :
    val_main_v152 x0 x1 x2 x3 x5 x9 (ix3 b s n)
      = midRow (fun n => x0 (ix2 t n)) (catRow (fun k => x1 (ix2 t k)) (fun k => x2 (ix2 t k))) (fun n => x3 (ix4 1 5 q n))
          (fun n => x5 (ix3 1 1 n)) (fun k n => x9 (ix3 1 k n)) n := by
  rw [val_main_v152_apply, x_read x0 t b s ht, val_main_v151_apply, val_main_v150_apply, val_main_v134_apply, val_main_v133_apply, projNorm_read,
    gates_read x3 _ q 5 n (by show q.val = 1 + ((b.val * 1 + 0) * 1024 + n.val) / 1024; have := n.isLt; omega) rfl (by show 0 + 1 * (((b.val * 1 + 0) * 1024 + n.val) % 1024) = n.val; have := n.isLt; omega)]
  simp only [proj_read, cat_read x1 x2 t b s ht]
  rfl

omit ht

/-- The feed-forward network's input. -/
theorem in_read (n : Fin 1024) :
    val_main_v177 x0 x1 x2 x3 x4 x5 x9 (ix3 b s n)
      = inRow (fun n => val_main_v152 x0 x1 x2 x3 x5 x9 (ix3 b s n)) (fun n => x3 (ix4 1 6 q n)) (fun n => x3 (ix4 1 7 q n))
          (fun n => x4 (ix3 1 2 n)) n := by
  rw [val_main_v177_apply, val_main_v173_apply, midNorm_read, val_main_v172_apply, val_main_v171_apply, val_main_v170_apply,
    val_main_v169_apply, val_main_v168_apply, val_main_v176_apply, val_main_v175_apply, val_main_v174_apply,
    scales_read x3 _ q 7 n (by show q.val = 1 + ((b.val * 1 + 0) * 1024 + n.val) / 1024; have := n.isLt; omega) rfl (by show 0 + 1 * (((b.val * 1 + 0) * 1024 + n.val) % 1024) = n.val; have := n.isLt; omega),
    shifts_read x3 _ q 6 n (by show q.val = 1 + ((b.val * 1 + 0) * 1024 + n.val) / 1024; have := n.isLt; omega) rfl (by show 0 + 1 * (((b.val * 1 + 0) * 1024 + n.val) % 1024) = n.val; have := n.isLt; omega)]
  rfl

omit hq

/-- The gate's product. -/
theorem gateProd_read (n : Fin 2816) :
    val_main_v180 x0 x1 x2 x3 x4 x5 x6 x9 (ix3 b s n)
      = vecMat (fun k => val_main_v177 x0 x1 x2 x3 x4 x5 x9 (ix3 b s k)) (fun k n => x6 (ix3 1 k n)) n := by
  rw [val_main_v180_apply]
  unfold vecMat
  refine Finset.sum_congr rfl fun k _ => congrArg₂ (· * ·) (congrArg _ (ext3 rfl rfl rfl)) ?_
  rw [val_main_v179_apply, val_main_v178_apply]
  have hk := k.isLt
  have hn := n.isLt
  refine congrArg x6 (ext3 rfl ?_ ?_)
  · show (k.val * 2816 + n.val) / 2816 % 1024 = k.val
    omega
  · show (k.val * 2816 + n.val) % 2816 = n.val
    omega

/-- The other factor's product. -/
theorem upProd_read (n : Fin 2816) :
    val_main_v190 x0 x1 x2 x3 x4 x5 x7 x9 (ix3 b s n)
      = vecMat (fun k => val_main_v177 x0 x1 x2 x3 x4 x5 x9 (ix3 b s k)) (fun k n => x7 (ix3 1 k n)) n := by
  rw [val_main_v190_apply]
  unfold vecMat
  refine Finset.sum_congr rfl fun k _ => congrArg₂ (· * ·) (congrArg _ (ext3 rfl rfl rfl)) ?_
  rw [val_main_v189_apply, val_main_v188_apply]
  have hk := k.isLt
  have hn := n.isLt
  refine congrArg x7 (ext3 rfl ?_ ?_)
  · show (k.val * 2816 + n.val) / 2816 % 1024 = k.val
    omega
  · show (k.val * 2816 + n.val) % 2816 = n.val
    omega

/-- The gated activation. -/
theorem act_read (n : Fin 2816) :
    val_main_v191 x0 x1 x2 x3 x4 x5 x6 x7 x9 (ix3 b s n)
      = actRow (fun k => val_main_v177 x0 x1 x2 x3 x4 x5 x9 (ix3 b s k)) (fun k n => x6 (ix3 1 k n)) (fun k n => x7 (ix3 1 k n)) n := by
  rw [val_main_v191_apply, val_main_v187_apply, val_main_v186_apply, val_main_v185_apply, val_main_v184_apply, val_main_v183_apply,
    val_main_v182_apply, val_main_v181_apply, gateProd_read, upProd_read]
  exact hostGate_read _ _

/-- The down projection. -/
theorem down_read (n : Fin 1024) :
    val_main_v194 x0 x1 x2 x3 x4 x5 x6 x7 x8 x9 (ix3 b s n)
      = vecMat (fun k => val_main_v191 x0 x1 x2 x3 x4 x5 x6 x7 x9 (ix3 b s k)) (fun k n => x8 (ix3 1 k n)) n := by
  rw [val_main_v194_apply]
  unfold vecMat
  refine Finset.sum_congr rfl fun k _ => congrArg₂ (· * ·) (congrArg _ (ext3 rfl rfl rfl)) ?_
  rw [val_main_v193_apply, val_main_v192_apply]
  have hk := k.isLt
  have hn := n.isLt
  refine congrArg x8 (ext3 rfl ?_ ?_)
  · show (k.val * 1024 + n.val) / 1024 % 2816 = k.val
    omega
  · show (k.val * 1024 + n.val) % 1024 = n.val
    omega

include ht hq

/-- The result's row, before the batch is laid out as one list of tokens. -/
theorem out_read (n : Fin 1024) :
    val_main_v216 x0 x1 x2 x3 x4 x5 x6 x7 x8 x9 (ix3 b s n) = specRow x0 x1 x2 x3 x4 x5 x6 x7 x8 x9 t q n := by
  rw [val_main_v216_apply, val_main_v215_apply, val_main_v214_apply, val_main_v213_apply, val_main_v212_apply, val_main_v196_apply,
    val_main_v195_apply, ffnNorm_read, gates_read x3 _ q 8 n (by show q.val = 1 + ((b.val * 1 + 0) * 1024 + n.val) / 1024; have := n.isLt; omega) rfl (by show 0 + 1 * (((b.val * 1 + 0) * 1024 + n.val) % 1024) = n.val; have := n.isLt; omega)]
  simp only [down_read, act_read, in_read x0 x1 x2 x3 x4 x5 x9 b s q hq, mid_read x0 x1 x2 x3 x5 x9 t b s ht q hq]
  rfl

omit ht hq

/-- A sample's condition is one of the eight. -/
theorem half_lt (a : ℕ) (h : a < 4096) : 1 + a / 2048 < 8 := by omega

/-- The reference's result on the samples, at an element. -/
theorem result_read (i : S4096x1024.Idx) :
    val_main_v218 x0 x1 x2 x3 x4 x5 x6 x7 x8 x9 i
      = specRow x0 x1 x2 x3 x4 x5 x6 x7 x8 x9 ⟨4096 + (i 0).val, Nat.add_lt_add_left (i 0).isLt 4096⟩ ⟨1 + (i 0).val / 2048, half_lt _ (i 0).isLt⟩ (i 1) := by
  have h0 : (i 0).val < 4096 := (i 0).isLt
  have h1 : (i 1).val < 1024 := (i 1).isLt
  rw [val_main_v218_apply]
  have e : idx_main_v218 i = ix3 (⟨(i 0).val / 2048, by omega⟩ : Fin 2) (⟨(i 0).val % 2048, by omega⟩ : Fin 2048) (i 1) := by
    refine ext3 ?_ ?_ ?_
    · show ((i 0).val * 1024 + (i 1).val) / 2097152 = (i 0).val / 2048
      omega
    · show ((i 0).val * 1024 + (i 1).val) / 1024 % 2048 = (i 0).val % 2048
      omega
    · show ((i 0).val * 1024 + (i 1).val) % 1024 = (i 1).val
      omega
  rw [e]
  exact out_read x0 x1 x2 x3 x4 x5 x6 x7 x8 x9 _ _ _ (by show 4096 + (i 0).val = 4096 + ((i 0).val / 2048 * 2048 + (i 0).val % 2048); omega) _ rfl (i 1)

end Cert.Closing.Samples

end
-- ==== Proof.Equal.lean ====
/-
  The kernel over the extended reals and the reference leave the same two results.
-/
module

public import proofs.«01_k».proof.Proof.Same
public import proofs.«01_k».proof.Proof.Out
public import proofs.«01_k».proof.Proof.RefPrompt
public import proofs.«01_k».proof.Proof.RefSamples
public import proofs.«01_k».proof.Proof.Gen.ReferenceIdeal
public import proofs.«01_k».proof.Defs

@[expose] public section

noncomputable section

namespace Cert.Closing

open Idealize.ShloMosaic Idealize.SL.Sem

/-- The kernel's run over the extended reals: each result is the call's formula on every token, the arguments are as they were. -/
theorem kernel_values (m : (ℓ : Loc Cert.Kernel.nD Cert.Kernel.τ Cert.Kernel.sig) → Buf (Elt Ideal) ℓ) (g : Dev Cert.Kernel.nD → PrngReg) :
    θ_run (Cert.Kernel.defs (F := Ideal)) (onTc (τ := Cert.Kernel.τ) (Cert.Kernel.main (F := Ideal))) ⟨m, fun _ => 0, g⟩ (fun r =>
      (∀ c : Dev Cert.Kernel.nD,
        r.2.mem ((c.tc : Thread Cert.Kernel.nD Cert.Kernel.τ).loc Cert.Kernel.main_v0_0) = Cert.Kernel.Closing.promptOf m c
        ∧ r.2.mem ((c.tc : Thread Cert.Kernel.nD Cert.Kernel.τ).loc Cert.Kernel.main_v0_1) = Cert.Kernel.Closing.sampleOf m c)) :=
  (θ_run _ _ _).mono (fun _ h c =>
    ⟨((h.1 c).1 6).trans (Cert.Kernel.Closing.prompt_final m c), ((h.1 c).1 7).trans (Cert.Kernel.Closing.sample_final m c)⟩)
    (Cert.Kernel.Closing.run_values (F := Ideal) m g)

section results

open Cert.ReferenceIdeal

variable (m : (ℓ : Loc Cert.Kernel.nD Cert.Kernel.τ Cert.Kernel.sig) → Buf (Elt Ideal) ℓ) (c : Dev Cert.Kernel.nD)
    (x0 : (⟨S8192x1024, .f32⟩ : BufTy).Contents (Elt Ideal)) (x1 x2 : (⟨S8192x512, .bf16⟩ : BufTy).Contents (Elt Ideal))
    (x3 : (⟨S2x9x8x1024, .f32⟩ : BufTy).Contents (Elt Ideal)) (x4 x5 : (⟨S2x3x1024, .f32⟩ : BufTy).Contents (Elt Ideal))
    (x6 x7 : (⟨S2x1024x2816, .f32⟩ : BufTy).Contents (Elt Ideal)) (x8 : (⟨S2x2816x1024, .f32⟩ : BufTy).Contents (Elt Ideal))
    (x9 : (⟨S2x1024x1024, .f32⟩ : BufTy).Contents (Elt Ideal))
    (h0 : x0 = m ((c.tc : Thread Cert.Kernel.nD Cert.Kernel.τ).loc Cert.Kernel.main_arg0))
    (h1 : x1 = m ((c.tc : Thread Cert.Kernel.nD Cert.Kernel.τ).loc Cert.Kernel.main_arg1))
    (h2 : x2 = m ((c.tc : Thread Cert.Kernel.nD Cert.Kernel.τ).loc Cert.Kernel.main_arg2))
    (h3 : x3 = m ((c.tc : Thread Cert.Kernel.nD Cert.Kernel.τ).loc Cert.Kernel.main_arg3))
    (h4 : x4 = m ((c.tc : Thread Cert.Kernel.nD Cert.Kernel.τ).loc Cert.Kernel.main_arg4))
    (h5 : x5 = m ((c.tc : Thread Cert.Kernel.nD Cert.Kernel.τ).loc Cert.Kernel.main_arg5))
    (h6 : x6 = m ((c.tc : Thread Cert.Kernel.nD Cert.Kernel.τ).loc Cert.Kernel.main_arg6))
    (h7 : x7 = m ((c.tc : Thread Cert.Kernel.nD Cert.Kernel.τ).loc Cert.Kernel.main_arg7))
    (h8 : x8 = m ((c.tc : Thread Cert.Kernel.nD Cert.Kernel.τ).loc Cert.Kernel.main_arg8))
    (h9 : x9 = m ((c.tc : Thread Cert.Kernel.nD Cert.Kernel.τ).loc Cert.Kernel.main_arg9))
include h0 h1 h2 h3 h4 h5 h6 h7 h8 h9

/-- On the kernel's arguments the reference's prompt result is the kernel's. -/
theorem prompt_at : Read.val_main_v217 x0 x1 x2 x3 x4 x5 x6 x7 x8 x9 = Cert.Kernel.Closing.promptOf m c := by
  subst h0 h1 h2 h3 h4 h5 h6 h7 h8 h9
  exact funext fun i => Prompt.result_read _ _ _ _ _ _ _ _ _ _ i

/-- On the kernel's arguments the reference's result on the samples is the kernel's. -/
theorem samples_at : Read.val_main_v218 x0 x1 x2 x3 x4 x5 x6 x7 x8 x9 = Cert.Kernel.Closing.sampleOf m c := by
  subst h0 h1 h2 h3 h4 h5 h6 h7 h8 h9
  exact funext fun i => Samples.result_read _ _ _ _ _ _ _ _ _ _ i

end results

/-- From equal arguments the two programs leave equal results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.Kernel.Closing.promptOf m c, fun c => Cert.Kernel.Closing.sampleOf m c, ?_, ?_⟩
  · rw [Cert.Kernel.Closing.tables]
    exact (θ_run _ _ _).mono (fun _ h c => ⟨(h.1 c).1, (h.1 c).2, h.2.1 c⟩)
      (θ_run_and (kernel_values m g) (Cert.Kernel.Closing.frame_values (F := Ideal) m g))
  · refine (θ_run _ _ _).mono (fun r h c => ?_) (Cert.ReferenceIdeal.Value.run (F := Ideal) m' g')
    obtain ⟨e0, e1, e2, e3, e4, e5, e6, e7, e8, e9⟩ := hargs c
    obtain ⟨hp, hs, ha⟩ := h c
    refine ⟨hp.trans ?_, hs.trans ?_, ha⟩
    · exact (Cert.ReferenceIdeal.Read.val_main_v217_eq (StableHlo.launchContents m' c)).trans
        (prompt_at m c _ _ _ _ _ _ _ _ _ _ e0 e1 e2 e3 e4 e5 e6 e7 e8 e9)
    · exact (Cert.ReferenceIdeal.Read.val_main_v218_eq (StableHlo.launchContents m' c)).trans
        (samples_at m c _ _ _ _ _ _ _ _ _ _ e0 e1 e2 e3 e4 e5 e6 e7 e8 e9)

end Cert.Closing

end
-- ==== Proof.OpeningSetUp.lean ====
/-
  The launch of the opening call: the region's arrays and blocks as the launch finds them, the frame read from a run, the
  scratch buffers, the stacked weights and the cells of the two staging rings.
-/
module

public import proofs.«01_k».proof.Proof.Gen.Kernel2.Launch
public import proofs.«01_k».proof.Proof.Gen.Kernel2.Skeleton
public import proofs.«01_k».proof.Proof.Gen.Kernel2.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2.Opening

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

/-- What the region finds in its buffers: the launch contents. -/
abbrev V (c : Dev nD) (b : Ref sig .tc) : Buf (Elt F) ((c : Thread nD τ).loc b) := m ((c : Thread nD τ).loc b)

set_option maxHeartbeats 800000 in
/-- The main function is the region alone. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for data over these arrays whose body leaves the block. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for data over these arrays whose body leaves the block. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for data over these arrays whose body leaves the block. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, for data over these arrays whose body leaves the block. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame -/

/-- The frame, from a run that leaves the windows' arrays and the other buffers as the proof data say. -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans (hA c 0),
      (Pipeline.RDat.FramePost.arr_in h c 1 rfl).trans (hA c 1),
      (Pipeline.RDat.FramePost.arr_in h c 2 rfl).trans (hA c 2),
      (Pipeline.RDat.FramePost.arr_in h c 3 rfl).trans (hA c 3),
      ((h c).2 main_arg4 (Pipeline.mem_restRefs_of main_arg4 (by decide) (by decide))),
      ((h c).2 main_arg5 (Pipeline.mem_restRefs_of main_arg5 (by decide) (by decide))),
      ((h c).2 main_arg6 (Pipeline.mem_restRefs_of main_arg6 (by decide) (by decide)))⟩) h

/-! ## The input windows are never idle -/

/-- Window 0 is never idle. -/
theorem liveAt0_0 : ∀ t : Fin cfg0.N, cfg0.idle 0 (grid0.coords t) = false := fun _ => rfl
/-- Window 1 is never idle. -/
theorem liveAt0_1 : ∀ t : Fin cfg0.N, cfg0.idle 1 (grid0.coords t) = false := fun _ => rfl
/-- Window 2 is never idle. -/
theorem liveAt0_2 : ∀ t : Fin cfg0.N, cfg0.idle 2 (grid0.coords t) = false := fun _ => rfl
/-- Window 3 is never idle. -/
theorem liveAt0_3 : ∀ t : Fin cfg0.N, cfg0.idle 3 (grid0.coords t) = false := fun _ => rfl
/-- Window 4 stores at every point. -/
theorem liveAt0_4 : ∀ t : Fin cfg0.N, cfg0.idle 4 (grid0.coords t) = false := by decide +kernel
/-! ## The buffers the body works on -/

/-- Each window's staging memref at a point. -/
abbrev ms0_0 (t : Fin cfg0.N) : Memref sig .tc .vmem S512x1024 .f32 := win0_0.stage (cfg0.slots t 0)
abbrev ms0_1 (t : Fin cfg0.N) : Memref sig .tc .vmem S1x9x8x1024 .f32 := win0_1.stage (cfg0.slots t 1)
abbrev ms0_2 (t : Fin cfg0.N) : Memref sig .tc .vmem S1x3x1024 .f32 := win0_2.stage (cfg0.slots t 2)
abbrev ms0_3 (t : Fin cfg0.N) : Memref sig .tc .vmem S1x3x1024 .f32 := win0_3.stage (cfg0.slots t 3)
abbrev ms0_4 (t : Fin cfg0.N) : Memref sig .tc .vmem S512x1024 .f32 := win0_4.stage (cfg0.slots t 4)
/-- The scratch buffers, whole. -/
abbrev scM0_0 : Memref sig .tc .vmem S1024x2816 .bf16 := Memref.whole cc0_scratch0
abbrev scM0_1 : Memref sig .tc .vmem S1024x2816 .bf16 := Memref.whole cc0_scratch1
abbrev scM0_2 : Memref sig .tc .vmem S2816x1024 .bf16 := Memref.whole cc0_scratch2
abbrev scM0_3 : Memref sig .tc .vmem S6x1024x256 .f32 := Memref.whole cc0_scoped0
abbrev scM0_4 : Memref sig .tc .vmem S3x256x1024 .f32 := Memref.whole cc0_scoped1
/-- The stacked weights, whole. -/
abbrev hbM0_0 : Memref sig .tc .hbm S2x1024x2816 .f32 := Memref.whole main_arg4
abbrev hbM0_1 : Memref sig .tc .hbm S2x1024x2816 .f32 := Memref.whole main_arg5
abbrev hbM0_2 : Memref sig .tc .hbm S2x2816x1024 .f32 := Memref.whole main_arg6
/-- The contents of a memref's buffer, -/
abbrev HbBuf0 (c : Dev nD) {sp : Space} {S : Shape} {e : EltTy} (M : Memref sig .tc sp S e) : Type := Buf (Elt F) (M.view.loc (c : Thread nD τ))
/-- and the buffer held whole at given contents. -/
abbrev hbPt0 (c : Dev nD) {sp : Space} {S : Shape} {e : EltTy} (M : Memref sig .tc sp S e) (f : HbBuf0 (F := F) c M) : sProp 𝕄 :=
  M.view.loc (c : Thread nD τ) ↦{fullShare} f

/-- The nine cells of the two staging rings. -/
abbrev osem0 : Fin 9 → SemLoc sig := fun j => (![SemLoc.dma 7, SemLoc.dma 8, SemLoc.dma 9, SemLoc.dma 10, SemLoc.dma 11, SemLoc.dma 12, SemLoc.dma 13, SemLoc.dma 14, SemLoc.dma 15] : Fin 9 → SemLoc sig) j
/-- None of them is a window's. -/
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) := by
  rw [Pipeline.ownSems0_eq_of_list c osem0 [0, 1, 2, 3, 4, 5, 6, 7, 8] (by decide) (by decide)]; rfl
/-- The stacked weights, which the body copies from. -/
def H0 : Finset (Ref sig .tc) := {main_arg4, main_arg5, main_arg6}
/-- None of them is a window's array. -/
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg4) ∗ hbPt0 c hbM0_1 (V m c main_arg5) ∗ hbPt0 c hbM0_2 (V m c main_arg6) ) := by
  rw [BI.bigSep_eq_bigSepL_of_eq [main_arg4, main_arg5, main_arg6] (by decide) (by decide)]; rfl

/-- The launch invariant, conjunct by conjunct: scratch at some contents, the generator register, the ring cells at zero,
    the stacked weights as launched. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r) ∗ iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) ∗ iprop(hbPt0 c hbM0_0 (V m c main_arg4) ∗ hbPt0 c hbM0_1 (V m c main_arg5) ∗ hbPt0 c hbM0_2 (V m c main_arg6) )) := by
  rw [Pipeline.ΦD_eq, scopedRest0_eq, ownSems00_eq, hbmPts0_eq]; simp only [scM0_0, scM0_1, scM0_2, scM0_3, scM0_4, owns_whole]; try rfl

end Cert.Kernel2.Opening

end
-- ==== Proof.OpeningBlocks.lean ====
/-
  What one grid point of the first feed-forward call leaves in its output block, as a function of its input blocks and of
  the three weight matrices, for any values; and the printed pieces of this program that are pieces of the closing
  call's: the stores of staged weight chunks and the chunks' down projections.
-/
module

public import proofs.«01_k».proof.Proof.OpeningSetUp
public import proofs.«01_k».proof.Proof.Staging

@[expose] public section

set_option maxRecDepth 16384

noncomputable section

namespace Cert.Kernel2.Opening

open Idealize.ShloMosaic Idealize.ShloMosaic.ValueIdx
open Cert.Kernel2.Gen
open Cert.Kernel.Closing (upW downW colChunk rowChunk partialSum colStore rowStore)

variable {F : FTy → Type} [FloatOps F]

/-! The branch conditions of the body, in the point. -/

/-- The first point stages the weights. -/
abbrev cond0_0 (i : grid0.Coords) : Prop := k0_cond1 i = 1#1

/-- It is the point with number zero. -/
theorem hcond0_0 : ∀ t : Fin cfg0.N, cond0_0 (grid0.coords t) ↔ t.val = 0 := by decide

/-- A later point finds the weights in scratch. -/
abbrev cond0_1 (i : grid0.Coords) : Prop := k0_cond2 i = 1#1

/-- It is any other point. -/
theorem hcond0_1 : ∀ t : Fin cfg0.N, cond0_1 (grid0.coords t) ↔ 1 ≤ t.val := by decide

variable (i : grid0.Coords)

/-- The feed-forward network's input, at the first point. -/
def firstH (h1 : k0_cond1 i = 1#1) (x0 : Vec F S512x1024 .f32) (x1 : Vec F S1x9x8x1024 .f32) (x2 : Vec F S1x3x1024 .f32) :
    FVec F S512x1024 .bf16 :=
  k0_pay5 x0 (View.ld x1 (Rect.unit (k0_off2 i) S1x1x1x1024.size (k0_off2_inb i h1)))
    (View.ld x1 (Rect.unit (k0_off3 i) S1x1x1x1024.size (k0_off3_inb i h1)))
    (View.ld x2 (Rect.unit ![0, 0, 0] S1x1x1024.size inb_S1x3x1024_S1x1x1024_0_0_0))

/-- The first point's output block. -/
def firstOut (h1 : k0_cond1 i = 1#1) (x0 : Vec F S512x1024 .f32) (x1 : Vec F S1x9x8x1024 .f32) (x2 x3 : Vec F S1x3x1024 .f32)
    (wg wu : Vec F S1024x2816 .bf16) (wd : Vec F S2816x1024 .bf16) : FVec F S512x1024 .f32 :=
  k0_pay3 (View.ld x1 (Rect.unit (k0_off1 i) S1x1x1x1024.size (k0_off1_inb i)))
    (View.ld x3 (Rect.unit ![0, 0, 0] S1x1x1024.size inb_S1x3x1024_S1x1x1024_0_0_0)) x0
    (partialSum (firstH i h1 x0 x1 x2) wg wu wd 10 (by decide))
    (k0_pay60 (firstH i h1 x0 x1 x2) (partialSum (firstH i h1 x0 x1 x2) wg wu wd 9 (by decide))
      (colChunk wg ⟨10, by decide⟩) (colChunk wu ⟨10, by decide⟩) (rowChunk wd ⟨10, by decide⟩))

/-- A later point's output block, from the weights in scratch. -/
def steadyOut (h2 : k0_cond2 i = 1#1) (x0 : Vec F S512x1024 .f32) (x1 : Vec F S1x9x8x1024 .f32) (x2 x3 : Vec F S1x3x1024 .f32)
    (wg wu : Vec F S1024x2816 .bf16) (wd : Vec F S2816x1024 .bf16) : FVec F S512x1024 .f32 :=
  k0_pay4 (View.ld x1 (Rect.unit (k0_off1 i) S1x1x1x1024.size (k0_off1_inb i)))
    (k0_pay63 (k0_pay1 (View.ld x1 (Rect.unit (k0_off1 i) S1x1x1x1024.size (k0_off1_inb i))))
      (k0_pay2 (View.ld x3 (Rect.unit ![0, 0, 0] S1x1x1024.size inb_S1x3x1024_S1x1x1024_0_0_0))) x0
      (k0_pay62 x0 (View.ld x1 (Rect.unit (k0_off4 i) S1x1x1x1024.size (k0_off4_inb i h2)))
        (View.ld x1 (Rect.unit (k0_off5 i) S1x1x1x1024.size (k0_off5_inb i h2)))
        (View.ld x2 (Rect.unit ![0, 0, 0] S1x1x1024.size inb_S1x3x1024_S1x1x1024_0_0_0)) wg wu) wd)
    (k0_pay64 x0)
    (k0_pay65 (k0_pay61 x0 (View.ld x1 (Rect.unit (k0_off4 i) S1x1x1x1024.size (k0_off4_inb i h2)))
      (View.ld x1 (Rect.unit (k0_off5 i) S1x1x1x1024.size (k0_off5_inb i h2)))
      (View.ld x2 (Rect.unit ![0, 0, 0] S1x1x1024.size inb_S1x3x1024_S1x1x1024_0_0_0))) wg wu wd)
    (k0_pay66 (k0_pay2 (View.ld x3 (Rect.unit ![0, 0, 0] S1x1x1024.size inb_S1x3x1024_S1x1x1024_0_0_0))))

/-! The printed stores of a staged chunk are the closing call's. -/

theorem colStore_eq6 : @k0_pay6 F _ = colStore := rfl
theorem colStore_eq11 : @k0_pay11 F _ = colStore := rfl
theorem colStore_eq12 : @k0_pay12 F _ = colStore := rfl
theorem colStore_eq16 : @k0_pay16 F _ = colStore := rfl
theorem colStore_eq17 : @k0_pay17 F _ = colStore := rfl
theorem colStore_eq22 : @k0_pay22 F _ = colStore := rfl
theorem colStore_eq25 : @k0_pay25 F _ = colStore := rfl
theorem colStore_eq26 : @k0_pay26 F _ = colStore := rfl
theorem colStore_eq29 : @k0_pay29 F _ = colStore := rfl
theorem colStore_eq30 : @k0_pay30 F _ = colStore := rfl
theorem colStore_eq35 : @k0_pay35 F _ = colStore := rfl
theorem colStore_eq36 : @k0_pay36 F _ = colStore := rfl
theorem colStore_eq42 : @k0_pay42 F _ = colStore := rfl
theorem colStore_eq45 : @k0_pay45 F _ = colStore := rfl
theorem colStore_eq46 : @k0_pay46 F _ = colStore := rfl
theorem colStore_eq51 : @k0_pay51 F _ = colStore := rfl
theorem colStore_eq55 : @k0_pay55 F _ = colStore := rfl
theorem rowStore_eq9 : @k0_pay9 F _ = rowStore := rfl
theorem rowStore_eq13 : @k0_pay13 F _ = rowStore := rfl
theorem rowStore_eq18 : @k0_pay18 F _ = rowStore := rfl
theorem rowStore_eq23 : @k0_pay23 F _ = rowStore := rfl
theorem rowStore_eq27 : @k0_pay27 F _ = rowStore := rfl
theorem rowStore_eq31 : @k0_pay31 F _ = rowStore := rfl
theorem rowStore_eq43 : @k0_pay43 F _ = rowStore := rfl
theorem rowStore_eq47 : @k0_pay47 F _ = rowStore := rfl
theorem rowStore_eq52 : @k0_pay52 F _ = rowStore := rfl
theorem rowStore_eq58 : @k0_pay58 F _ = rowStore := rfl
theorem colStore_eq7 (v : Vec F S1x1024x256 .f32) : k0_pay8 (k0_pay7 v) = colStore v := rfl
theorem colStore_eq20 (v : Vec F S1x1024x256 .f32) : k0_pay21 (k0_pay20 v) = colStore v := rfl
theorem colStore_eq40 (v : Vec F S1x1024x256 .f32) : k0_pay41 (k0_pay40 v) = colStore v := rfl
theorem colStore_eq49 (v : Vec F S1x1024x256 .f32) : k0_pay50 (k0_pay49 v) = colStore v := rfl
theorem colStore_eq56 (v : Vec F S1x1024x256 .f32) : k0_pay57 (k0_pay56 v) = colStore v := rfl
theorem rowStore_eq37 (v : Vec F S1x256x1024 .f32) : k0_pay38 (k0_pay37 v) = rowStore v := rfl

/-! So are the chunks' down projections. -/

theorem chunk_eq10 : @k0_pay10 F _ = Cert.Kernel.Gen.k0_pay19 := rfl
theorem chunk_eq19 : @k0_pay19 F _ = Cert.Kernel.Gen.k0_pay24 := rfl
theorem chunk_eq24 : @k0_pay24 F _ = Cert.Kernel.Gen.k0_pay24 := rfl
theorem chunk_eq28 : @k0_pay28 F _ = Cert.Kernel.Gen.k0_pay24 := rfl
theorem chunk_eq39 : @k0_pay39 F _ = Cert.Kernel.Gen.k0_pay24 := rfl
theorem chunk_eq44 : @k0_pay44 F _ = Cert.Kernel.Gen.k0_pay24 := rfl
theorem chunk_eq48 : @k0_pay48 F _ = Cert.Kernel.Gen.k0_pay24 := rfl
theorem chunk_eq59 : @k0_pay59 F _ = Cert.Kernel.Gen.k0_pay24 := rfl
theorem chunk_eq15 (h : FVec F S512x1024 .bf16) (a : FVec F S512x1024 .f32) (wg wu : Vec F S1024x256 .bf16) (wd : Vec F S256x1024 .bf16) :
    k0_pay15 h a (k0_pay14 h wg) wu wd = Cert.Kernel.Gen.k0_pay24 h a wg wu wd := rfl
theorem chunk_eq34 (h : FVec F S512x1024 .bf16) (a : FVec F S512x1024 .f32) (wg wu : Vec F S1024x256 .bf16) (wd : Vec F S256x1024 .bf16) :
    k0_pay34 a (k0_pay32 h wg) (k0_pay33 h wu) wd = Cert.Kernel.Gen.k0_pay24 h a wg wu wd := rfl
theorem chunk_eq54 (h : FVec F S512x1024 .bf16) (a : FVec F S512x1024 .f32) (wg wu : Vec F S1024x256 .bf16) (wd : Vec F S256x1024 .bf16) :
    k0_pay54 h a (k0_pay53 h wg) wu wd = Cert.Kernel.Gen.k0_pay24 h a wg wu wd := rfl

end Cert.Kernel2.Opening

end
-- ==== Proof.OpeningSteady.lean ====
/-
  A later grid point's run of the first feed-forward call, for any values: over whole staging memrefs at the input blocks and
  the three weight scratch buffers at any weights, the body leaves `steadyOut` in its output block and changes nothing else.
-/
module

public import proofs.«01_k».proof.Proof.OpeningBlocks
public import Idealize.ShloMosaic.Lib.Pipeline.ValueKit
public import Idealize.ShloMosaic.Lib.VecWindow

@[expose] public section

set_option maxRecDepth 16384

noncomputable section

namespace Cert.Kernel2.Opening

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2.Gen
open Cert.Kernel.Closing (upW downW colStore rowStore readAt_other_slot colStore_hit rowStore_hit truncf_copy_up truncf_copy_down read_blocks)

variable {F : FTy → Type} [FloatOps F]

local notation "𝕄" => MT nD τ sig Unit (Elt F) ℕ (Pipeline.UD sig nD τ) ℕ

set_option maxHeartbeats 3460000 in
/-- A later point: the body leaves `steadyOut` in the output window. -/
theorem steady_point (c : Dev nD) (i : grid0.Coords) (arg1 : Memref sig .tc .vmem S512x1024 .f32) (harg1 : arg1.IsWhole) (arg2 : Memref sig .tc .vmem S1x9x8x1024 .f32) (harg2 : arg2.IsWhole) (arg3 : Memref sig .tc .vmem S1x3x1024 .f32) (harg3 : arg3.IsWhole) (arg4 : Memref sig .tc .vmem S1x3x1024 .f32) (harg4 : arg4.IsWhole) (arg8 : Memref sig .tc .vmem S512x1024 .f32) (harg8 : arg8.IsWhole) (arg9 : Memref sig .tc .vmem S1024x2816 .bf16) (harg9 : arg9.IsWhole) (arg10 : Memref sig .tc .vmem S1024x2816 .bf16) (harg10 : arg10.IsWhole) (arg11 : Memref sig .tc .vmem S2816x1024 .bf16) (harg11 : arg11.IsWhole) (alloca_r0 : Memref sig .tc .vmem S6x1024x256 .f32) (halloca_r0 : alloca_r0.IsWhole) (alloca_48_r0 : Memref sig .tc .vmem S3x256x1024 .f32) (halloca_48_r0 : alloca_48_r0.IsWhole) (hc0 : ¬cond0_0 i) (hc1 : cond0_1 i)
    (x0 : Vec F S512x1024 .f32) (x1 : Vec F S1x9x8x1024 .f32) (x2 x3 : Vec F S1x3x1024 .f32) (s0 s1 : Vec F S1024x2816 .bf16) (s2 : Vec F S2816x1024 .bf16) :
      ∀ (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg8 fullShare d) ∗ owns (c : Thread nD τ) arg9 fullShare s0 ∗ owns (c : Thread nD τ) arg10 fullShare s1 ∗ owns (c : Thread nD τ) arg11 fullShare s2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg8 fullShare (steadyOut i hc1 x0 x1 x2 x3 s0 s1 s2) ∗ owns (c : Thread nD τ) arg9 fullShare s0 ∗ owns (c : Thread nD τ) arg10 fullShare s1 ∗ owns (c : Thread nD τ) arg11 fullShare s2) -∗ K ⟨⟩))
          ⊢ wp frame (wpE (defs₀ (F := F)) Variants.none c none) Set.univ (cc0_ffn0 i arg1 harg1 arg2 harg2 arg3 harg3 arg4 harg4 (Memref.whole main_arg4) (Memref.isWhole_whole _) (Memref.whole main_arg5) (Memref.isWhole_whole _) (Memref.whole main_arg6) (Memref.isWhole_whole _) arg8 harg8 arg9 harg9 arg10 harg10 arg11 harg11 alloca_r0 halloca_r0 alloca_48_r0 halloca_48_r0 cc0_scoped2 cc0_scoped3) K := by
    intro K
    simp only [cc0_ffn0_eq_skeleton]; unfold cc0_ffn0_skel
    simp only [k0_part27_eq_skeleton, k0_part28_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg9.eq_unread hfs0; obtain rfl := harg10.eq_unread hfs1; obtain rfl := harg11.eq_unread hfs2
    sl_exec (disch := first | sl_exact hc0 | sl_exact hc1)
    sl_step
    iapply Hk
    isplitl [H0]
    · iexists _; isplitr [H0]
      · ipureintro; exact hf0
      · iexact H0
    isplitl [H1]
    · iexists _; isplitr [H1]
      · ipureintro; exact hf1
      · iexact H1
    isplitl [H2]
    · iexists _; isplitr [H2]
      · ipureintro; exact hf2
      · iexact H2
    isplitl [H3]
    · iexists _; isplitr [H3]
      · ipureintro; exact hf3
      · iexact H3
    isplitl [H4]
    · iexists _; isplitr [H4]
      rotate_left
      · iexact H4
      · ipureintro
        refine (View.read_writes_full _ _ inb_S512x1024_S512x1024_0_0 _ []).trans ?_
        sl_unfold_words
        simp only [View.readAt_eq_ld, Memref.IsWhole.read_unread]
        simp (disch := decide) only [View.ld_unit_lit]
        rfl
    isplitl [HS0]
    · iexists _; isplitr [HS0]
      · ipureintro; exact hfs0
      · iexact HS0
    isplitl [HS1]
    · iexists _; isplitr [HS1]
      · ipureintro; exact hfs1
      · iexact HS1
    · iexists _; isplitr [HS2]
      · ipureintro; exact hfs2
      · iexact HS2

end Cert.Kernel2.Opening

end
-- ==== Proof.OpeningFirst.lean ====
/-
  The first grid point's run of the first feed-forward call, for any values: it copies the three layer-one weight matrices
  through two staging rings into scratch, truncated, computes its output block chunk by chunk meanwhile, and leaves every
  semaphore at zero.
-/
module

public import proofs.«01_k».proof.Proof.OpeningBlocks
public import Idealize.ShloMosaic.Lib.Pipeline.ValueKit
public import Idealize.ShloMosaic.Lib.VecWindow

@[expose] public section

set_option maxRecDepth 16384

noncomputable section

namespace Cert.Kernel2.Opening

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2.Gen
open Cert.Kernel.Closing (upW downW colStore rowStore readAt_other_slot colStore_hit rowStore_hit truncf_copy_up truncf_copy_down read_blocks)

variable {F : FTy → Type} [FloatOps F]

local notation "𝕄" => MT nD τ sig Unit (Elt F) ℕ (Pipeline.UD sig nD τ) ℕ

set_option maxHeartbeats 3460000 in
set_option sl_exec.dmaWindow true in
set_option sl_exec.dmaWindowSet true in
/-- The first point: the body copies the layer-one weights in, leaves their truncations in the three scratch matrices and
    `firstOut` in the output window, and hands back everything else as it was, the staging rings at some contents. -/
theorem first_point (c : Dev nD) (i : grid0.Coords) (arg1 : Memref sig .tc .vmem S512x1024 .f32) (harg1 : arg1.IsWhole) (arg2 : Memref sig .tc .vmem S1x9x8x1024 .f32) (harg2 : arg2.IsWhole) (arg3 : Memref sig .tc .vmem S1x3x1024 .f32) (harg3 : arg3.IsWhole) (arg4 : Memref sig .tc .vmem S1x3x1024 .f32) (harg4 : arg4.IsWhole) (arg8 : Memref sig .tc .vmem S512x1024 .f32) (harg8 : arg8.IsWhole) (arg9 : Memref sig .tc .vmem S1024x2816 .bf16) (harg9 : arg9.IsWhole) (arg10 : Memref sig .tc .vmem S1024x2816 .bf16) (harg10 : arg10.IsWhole) (arg11 : Memref sig .tc .vmem S2816x1024 .bf16) (harg11 : arg11.IsWhole) (alloca_r0 : Memref sig .tc .vmem S6x1024x256 .f32) (halloca_r0 : alloca_r0.IsWhole) (alloca_48_r0 : Memref sig .tc .vmem S3x256x1024 .f32) (halloca_48_r0 : alloca_48_r0.IsWhole) (hc0 : cond0_0 i) (hc1 : ¬cond0_1 i)
    (x0 : Vec F S512x1024 .f32) (x1 : Vec F S1x9x8x1024 .f32) (x2 x3 : Vec F S1x3x1024 .f32) (fh0 : HbBuf0 (F := F) c hbM0_0) (fh1 : HbBuf0 (F := F) c hbM0_1) (fh2 : HbBuf0 (F := F) c hbM0_2) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) alloca_r0 fullShare d) ∗ (∃ d, owns (c : Thread nD τ) alloca_48_r0 fullShare d) ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg8 fullShare (firstOut i hc0 x0 x1 x2 x3 (upW (hbM0_0.view.read (Elt F) fh0)) (upW (hbM0_1.view.read (Elt F) fh1)) (downW (hbM0_2.view.read (Elt F) fh2))) ∗ owns (c : Thread nD τ) arg9 fullShare (upW (hbM0_0.view.read (Elt F) fh0)) ∗ owns (c : Thread nD τ) arg10 fullShare (upW (hbM0_1.view.read (Elt F) fh1)) ∗ owns (c : Thread nD τ) arg11 fullShare (downW (hbM0_2.view.read (Elt F) fh2)) ∗ (∃ d, owns (c : Thread nD τ) alloca_r0 fullShare d) ∗ (∃ d, owns (c : Thread nD τ) alloca_48_r0 fullShare d) ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_ffn0 i arg1 harg1 arg2 harg2 arg3 harg3 arg4 harg4 (Memref.whole main_arg4) (Memref.isWhole_whole _) (Memref.whole main_arg5) (Memref.isWhole_whole _) (Memref.whole main_arg6) (Memref.isWhole_whole _) arg8 harg8 arg9 harg9 arg10 harg10 arg11 harg11 alloca_r0 halloca_r0 alloca_48_r0 halloca_48_r0 cc0_scoped2 cc0_scoped3) K := by
    intro W K
    simp only [cc0_ffn0_eq_skeleton]; unfold cc0_ffn0_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, ⟨%ds4, %fs4, -, HS4⟩, Hq0, Hq1, Hq2, Hq3, Hq4, Hq5, Hq6, Hq7, Hq8, Hh0, Hh1, Hh2, HW, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr [H0]
      · ipureintro; exact hf0
      · iexact H0
    isplitl [H1]
    · iexists _; isplitr [H1]
      · ipureintro; exact hf1
      · iexact H1
    isplitl [H2]
    · iexists _; isplitr [H2]
      · ipureintro; exact hf2
      · iexact H2
    isplitl [H3]
    · iexists _; isplitr [H3]
      · ipureintro; exact hf3
      · iexact H3
    isplitl [H4]
    · iexists _; isplitr; swap; · iexact H4
      · ipureintro
        refine (View.read_writes_full _ _ inb_S512x1024_S512x1024_0_0 _ []).trans ?_
        sl_unfold_words
        simp (disch := decide) only [colStore_eq6, colStore_eq11, colStore_eq12, colStore_eq16, colStore_eq17, colStore_eq22, colStore_eq25, colStore_eq26, colStore_eq29, colStore_eq30, colStore_eq35, colStore_eq36, colStore_eq42, colStore_eq45, colStore_eq46, colStore_eq51, colStore_eq55, colStore_eq7, colStore_eq20, colStore_eq40, colStore_eq49, colStore_eq56, rowStore_eq9, rowStore_eq13, rowStore_eq18, rowStore_eq23, rowStore_eq27, rowStore_eq31, rowStore_eq43, rowStore_eq47, rowStore_eq52, rowStore_eq58, rowStore_eq37, readAt_other_slot, colStore_hit, rowStore_hit, truncf_copy_up _ 0, truncf_copy_up _ 256, truncf_copy_up _ 512, truncf_copy_up _ 768, truncf_copy_up _ 1024, truncf_copy_up _ 1280, truncf_copy_up _ 1536, truncf_copy_up _ 1792, truncf_copy_up _ 2048, truncf_copy_up _ 2304, truncf_copy_up _ 2560, truncf_copy_down _ 0, truncf_copy_down _ 256, truncf_copy_down _ 512, truncf_copy_down _ 768, truncf_copy_down _ 1024, truncf_copy_down _ 1280, truncf_copy_down _ 1536, truncf_copy_down _ 1792, truncf_copy_down _ 2048, truncf_copy_down _ 2304, truncf_copy_down _ 2560, View.readCov_cons_toLoadRect, chunk_eq10, chunk_eq19, chunk_eq24, chunk_eq28, chunk_eq39, chunk_eq44, chunk_eq48, chunk_eq59, chunk_eq15, chunk_eq34, chunk_eq54]
        simp only [View.readAt_eq_ld, Memref.IsWhole.read_unread]
        simp (disch := decide) only [View.ld_unit_lit]
        rfl
    isplitl [HS0]
    · iexists _; isplitr; swap; · iexact HS0
      · ipureintro
        refine read_blocks _ _ _ _ ?_ (View.cover_of_tiledL _ S1024x256.size (by rfl))
        sl_unfold_words
        simp (disch := decide) only [colStore_eq6, colStore_eq11, colStore_eq12, colStore_eq16, colStore_eq17, colStore_eq22, colStore_eq25, colStore_eq26, colStore_eq29, colStore_eq30, colStore_eq35, colStore_eq36, colStore_eq42, colStore_eq45, colStore_eq46, colStore_eq51, colStore_eq55, colStore_eq7, colStore_eq20, colStore_eq40, colStore_eq49, colStore_eq56, rowStore_eq9, rowStore_eq13, rowStore_eq18, rowStore_eq23, rowStore_eq27, rowStore_eq31, rowStore_eq43, rowStore_eq47, rowStore_eq52, rowStore_eq58, rowStore_eq37, readAt_other_slot, colStore_hit, rowStore_hit, truncf_copy_up _ 0, truncf_copy_up _ 256, truncf_copy_up _ 512, truncf_copy_up _ 768, truncf_copy_up _ 1024, truncf_copy_up _ 1280, truncf_copy_up _ 1536, truncf_copy_up _ 1792, truncf_copy_up _ 2048, truncf_copy_up _ 2304, truncf_copy_up _ 2560]
        exact ⟨fun _ => rfl, fun _ => rfl, fun _ => rfl, fun _ => rfl, fun _ => rfl, fun _ => rfl, fun _ => rfl, fun _ => rfl, fun _ => rfl, fun _ => rfl, fun _ => rfl, trivial⟩
    isplitl [HS1]
    · iexists _; isplitr; swap; · iexact HS1
      · ipureintro
        refine read_blocks _ _ _ _ ?_ (View.cover_of_tiledL _ S1024x256.size (by rfl))
        sl_unfold_words
        simp (disch := decide) only [colStore_eq6, colStore_eq11, colStore_eq12, colStore_eq16, colStore_eq17, colStore_eq22, colStore_eq25, colStore_eq26, colStore_eq29, colStore_eq30, colStore_eq35, colStore_eq36, colStore_eq42, colStore_eq45, colStore_eq46, colStore_eq51, colStore_eq55, colStore_eq7, colStore_eq20, colStore_eq40, colStore_eq49, colStore_eq56, rowStore_eq9, rowStore_eq13, rowStore_eq18, rowStore_eq23, rowStore_eq27, rowStore_eq31, rowStore_eq43, rowStore_eq47, rowStore_eq52, rowStore_eq58, rowStore_eq37, readAt_other_slot, colStore_hit, rowStore_hit, truncf_copy_up _ 0, truncf_copy_up _ 256, truncf_copy_up _ 512, truncf_copy_up _ 768, truncf_copy_up _ 1024, truncf_copy_up _ 1280, truncf_copy_up _ 1536, truncf_copy_up _ 1792, truncf_copy_up _ 2048, truncf_copy_up _ 2304, truncf_copy_up _ 2560]
        exact ⟨fun _ => rfl, fun _ => rfl, fun _ => rfl, fun _ => rfl, fun _ => rfl, fun _ => rfl, fun _ => rfl, fun _ => rfl, fun _ => rfl, fun _ => rfl, fun _ => rfl, trivial⟩
    isplitl [HS2]
    · iexists _; isplitr; swap; · iexact HS2
      · ipureintro
        refine read_blocks _ _ _ _ ?_ (View.cover_of_tiledL _ S256x1024.size (by rfl))
        sl_unfold_words
        simp (disch := decide) only [colStore_eq6, colStore_eq11, colStore_eq12, colStore_eq16, colStore_eq17, colStore_eq22, colStore_eq25, colStore_eq26, colStore_eq29, colStore_eq30, colStore_eq35, colStore_eq36, colStore_eq42, colStore_eq45, colStore_eq46, colStore_eq51, colStore_eq55, colStore_eq7, colStore_eq20, colStore_eq40, colStore_eq49, colStore_eq56, rowStore_eq9, rowStore_eq13, rowStore_eq18, rowStore_eq23, rowStore_eq27, rowStore_eq31, rowStore_eq43, rowStore_eq47, rowStore_eq52, rowStore_eq58, rowStore_eq37, readAt_other_slot, colStore_hit, rowStore_hit, truncf_copy_down _ 0, truncf_copy_down _ 256, truncf_copy_down _ 512, truncf_copy_down _ 768, truncf_copy_down _ 1024, truncf_copy_down _ 1280, truncf_copy_down _ 1536, truncf_copy_down _ 1792, truncf_copy_down _ 2048, truncf_copy_down _ 2304, truncf_copy_down _ 2560]
        exact ⟨fun _ => rfl, fun _ => rfl, fun _ => rfl, fun _ => rfl, fun _ => rfl, fun _ => rfl, fun _ => rfl, fun _ => rfl, fun _ => rfl, fun _ => rfl, fun _ => rfl, trivial⟩
    isplitl [HS3]
    · iexists _, _; isplitr; swap; · iexact HS3
      · ipureintro; rfl
    isplitl [HS4]
    · iexists _, _; isplitr; swap; · iexact HS4
      · ipureintro; rfl
    isplitl [Hq0]
    · iexact Hq0
    isplitl [Hq1]
    · iexact Hq1
    isplitl [Hq2]
    · iexact Hq2
    isplitl [Hq3]
    · iexact Hq3
    isplitl [Hq4]
    · iexact Hq4
    isplitl [Hq5]
    · iexact Hq5
    isplitl [Hq6]
    · iexact Hq6
    isplitl [Hq7]
    · iexact Hq7
    isplitl [Hq8]
    · iexact Hq8
    isplitl [Hh0]
    · iexact Hh0
    isplitl [Hh1]
    · iexact Hh1
    isplitl [Hh2]
    · iexact Hh2
    iexists _; iexact HW

end Cert.Kernel2.Opening

end
-- ==== Proof.OpeningRun.lean ====
/-
  The first feed-forward call's run for any values: the proof data (what the output window holds after each point, the
  invariant that names the three weight matrices in scratch from the second point on), the body at every point, the
  launch, and the frame read from it.
-/
module

public import proofs.«01_k».proof.Proof.OpeningSteady
public import proofs.«01_k».proof.Proof.OpeningFirst

@[expose] public section

set_option maxRecDepth 16384

noncomputable section

namespace Cert.Kernel2.Opening

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2.Gen
open Cert.Kernel.Closing (upW downW)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the run leaves -/

/-- The gate projection the points after the first find in scratch. -/
def gateOf (c : Dev nD) : Vec F S1024x2816 .bf16 := upW (hbM0_0.view.read (Elt F) (V m c main_arg4))
/-- The up projection in scratch. -/
def upOf (c : Dev nD) : Vec F S1024x2816 .bf16 := upW (hbM0_1.view.read (Elt F) (V m c main_arg5))
/-- The down projection in scratch. -/
def downOf (c : Dev nD) : Vec F S2816x1024 .bf16 := downW (hbM0_2.view.read (Elt F) (V m c main_arg6))

/-- The block a point computes, from its input blocks and the layer-one weights. -/
def blockOut (c : Dev nD) (t : Fin cfg0.N) : Vec F S512x1024 .f32 :=
  if h : t.val = 0 then
    firstOut (grid0.coords t) ((hcond0_0 t).mpr h) (iblk m c 0 t) (iblk m c 1 t) (iblk m c 2 t) (iblk m c 3 t) (gateOf m c) (upOf m c) (downOf m c)
  else
    steadyOut (grid0.coords t) ((hcond0_1 t).mpr (by omega)) (iblk m c 0 t) (iblk m c 1 t) (iblk m c 2 t) (iblk m c 3 t) (gateOf m c) (upOf m c) (downOf m c)

/-- The invariant from the second point on: the three weight matrices named in scratch, the staging rings at some
    contents, the register, the body's own semaphores at zero and the weights' arrays as at the start. -/
def named (c : Dev nD) : sProp 𝕄 :=
  iprop(iprop(owns (c : Thread nD τ) scM0_0 fullShare (gateOf m c) ∗ owns (c : Thread nD τ) scM0_1 fullShare (upOf m c) ∗ owns (c : Thread nD τ) scM0_2 fullShare (downOf m c) ∗ (∃ d, owns (c : Thread nD τ) scM0_3 fullShare d) ∗ (∃ d, owns (c : Thread nD τ) scM0_4 fullShare d))
    ∗ (∃ r, prngReg c r)
    ∗ iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0)
    ∗ iprop(hbPt0 c hbM0_0 (V m c main_arg4) ∗ hbPt0 c hbM0_1 (V m c main_arg5) ∗ hbPt0 c hbM0_2 (V m c main_arg6)))

/-- The proof data: inputs stay at their blocks, the output holds the block of the point; the invariant starts as the
    launch gives it and is `named` after the first point. -/
def datsV (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockOut m c t
  Φ t := if t.val = 0 then Pipeline.ΦD osem0 spec0 H0 (V m) c else named m c
  q _ := fullShare
  owed _ := 0

theorem phi_zero (c : Dev nD) (t : Fin (cfg0.N + 1)) (h : t.val = 0) : (datsV m 0 c).Φ t = Pipeline.ΦD osem0 spec0 H0 (V m) c := by
  dsimp only [datsV]; rw [if_pos h]

theorem phi_pos (c : Dev nD) (t : Fin (cfg0.N + 1)) (h : t.val ≠ 0) : (datsV m 0 c).Φ t = named m c := by
  dsimp only [datsV]; rw [if_neg h]

theorem arr_eq (c : Dev nD) (w : Fin cfg0.W) : (datsV m 0 c).A w = V m c (Pipeline.arrRef spec0 w) := by dsimp only [datsV]

theorem afterV_0 (c : Dev nD) (t : Fin cfg0.N) : (datsV m 0 c).after 0 t = iblk m c 0 t := by dsimp only [datsV]
theorem afterV_1 (c : Dev nD) (t : Fin cfg0.N) : (datsV m 0 c).after 1 t = iblk m c 1 t := by dsimp only [datsV]
theorem afterV_2 (c : Dev nD) (t : Fin cfg0.N) : (datsV m 0 c).after 2 t = iblk m c 2 t := by dsimp only [datsV]
theorem afterV_3 (c : Dev nD) (t : Fin cfg0.N) : (datsV m 0 c).after 3 t = iblk m c 3 t := by dsimp only [datsV]
theorem afterV_4 (c : Dev nD) (t : Fin cfg0.N) : (datsV m 0 c).after 4 t = blockOut m c t := by dsimp only [datsV]

theorem beforeV_0 (c : Dev nD) (t : Fin cfg0.N) (d) : (datsV m 0 c).before 0 t d = iblk m c 0 t :=
  before0_0_of m (datsV m 0 c) (arr_eq m c 0) (afterV_0 m c) t d
theorem beforeV_1 (c : Dev nD) (t : Fin cfg0.N) (d) : (datsV m 0 c).before 1 t d = iblk m c 1 t :=
  before0_1_of m (datsV m 0 c) (arr_eq m c 1) (afterV_1 m c) t d
theorem beforeV_2 (c : Dev nD) (t : Fin cfg0.N) (d) : (datsV m 0 c).before 2 t d = iblk m c 2 t :=
  before0_2_of m (datsV m 0 c) (arr_eq m c 2) (afterV_2 m c) t d
theorem beforeV_3 (c : Dev nD) (t : Fin cfg0.N) (d) : (datsV m 0 c).before 3 t d = iblk m c 3 t :=
  before0_3_of m (datsV m 0 c) (arr_eq m c 3) (afterV_3 m c) t d

/-! ## The body at a point -/

/-- What the body is called with at point `t`. -/
def preV (c : Dev nD) (t : Fin cfg0.N) : sProp 𝕄 :=
  iprop((datsV m 0 c).Φ t.castSucc ∗ (datsV m 0 c).owesAt () t.castSucc
    ∗ (∃ d, owns (c : Thread nD τ) (ms0_0 t) fullShare ((datsV m 0 c).before 0 t d))
    ∗ (∃ d, owns (c : Thread nD τ) (ms0_1 t) fullShare ((datsV m 0 c).before 1 t d))
    ∗ (∃ d, owns (c : Thread nD τ) (ms0_2 t) fullShare ((datsV m 0 c).before 2 t d))
    ∗ (∃ d, owns (c : Thread nD τ) (ms0_3 t) fullShare ((datsV m 0 c).before 3 t d))
    ∗ (∃ d, owns (c : Thread nD τ) (ms0_4 t) fullShare ((datsV m 0 c).before 4 t d)))

/-- and what it returns. -/
def postV (c : Dev nD) (t : Fin cfg0.N) : sProp 𝕄 :=
  iprop((datsV m 0 c).Φ t.succ ∗ (datsV m 0 c).owesAt () t.succ
    ∗ (datsV m 0 c).leavesExact 0 t
    ∗ (datsV m 0 c).leavesExact 1 t
    ∗ (datsV m 0 c).leavesExact 2 t
    ∗ (datsV m 0 c).leavesExact 3 t
    ∗ (datsV m 0 c).leavesExact 4 t)

/-- The windows after a point: the inputs at their blocks, the output at the point's. -/
theorem leavesV (c : Dev nD) (t : Fin cfg0.N) :
    (datsV m 0 c).leavesExact 0 t = owns (c : Thread nD τ) (ms0_0 t) fullShare (iblk m c 0 t)
    ∧ (datsV m 0 c).leavesExact 1 t = owns (c : Thread nD τ) (ms0_1 t) fullShare (iblk m c 1 t)
    ∧ (datsV m 0 c).leavesExact 2 t = owns (c : Thread nD τ) (ms0_2 t) fullShare (iblk m c 2 t)
    ∧ (datsV m 0 c).leavesExact 3 t = owns (c : Thread nD τ) (ms0_3 t) fullShare (iblk m c 3 t)
    ∧ (datsV m 0 c).leavesExact 4 t = owns (c : Thread nD τ) (ms0_4 t) fullShare (blockOut m c t) := by
  refine ⟨?_, ?_, ?_, ?_, ?_⟩
  · unfold Dat.leavesExact; rw [liveAt0_0 t, afterV_0]
  · unfold Dat.leavesExact; rw [liveAt0_1 t, afterV_1]
  · unfold Dat.leavesExact; rw [liveAt0_2 t, afterV_2]
  · unfold Dat.leavesExact; rw [liveAt0_3 t, afterV_3]
  · unfold Dat.leavesExact; rw [liveAt0_4 t, afterV_4]

set_option maxHeartbeats 3600000 in
/-- The body at the first point. -/
theorem body_first (c : Dev nD) (t : Fin cfg0.N) (ht : t.val = 0) :
    preV m c t ⊢ wp frame (wpE (defs₀ (F := F)) Variants.none c none) Set.univ (bodyAt0 t) (fun _ => postV m c t) := by
  unfold preV postV bodyAt0
  obtain ⟨e0, e1, e2, e3, e4⟩ := leavesV m c t
  simp only [beforeV_0, beforeV_1, beforeV_2, beforeV_3]
  rw [e0, e1, e2, e3, e4]
  rw [phi_pos m c t.succ (Nat.succ_ne_zero _)]
  unfold Dat.owesAt Pipeline.owesWithin named
  rw [show (datsV m 0 c).owed t.castSucc = 0 from rfl, show (datsV m 0 c).owed t.succ = 0 from rfl]
  rw [phi_zero m c t.castSucc ht, PhiD0_eq]
  rw [show blockOut m c t = firstOut (grid0.coords t) ((hcond0_0 t).mpr ht) (iblk m c 0 t) (iblk m c 1 t) (iblk m c 2 t) (iblk m c 3 t) (gateOf m c) (upOf m c) (downOf m c) from dif_pos ht]
  iintro ⟨⟨⟨HS0, HS1, HS2, HS3, HS4⟩, Hg, ⟨Hq0, Hq1, Hq2, Hq3, Hq4, Hq5, Hq6, Hq7, Hq8⟩, ⟨Hh0, Hh1, Hh2⟩⟩, ⟨%W, -, HW⟩, ⟨%d0, H0⟩, ⟨%d1, H1⟩, ⟨%d2, H2⟩, ⟨%d3, H3⟩, ⟨%d4, H4⟩⟩
  iapply ((first_point c (grid0.coords t) _ _ _ _ _ _ _ _ _ _ _ _ _ _ _ _ _ _ _ _ ((hcond0_0 t).mpr ht) (fun h => absurd ((hcond0_1 t).mp h) (by omega)) (iblk m c 0 t) (iblk m c 1 t) (iblk m c 2 t) (iblk m c 3 t) (V m c main_arg4) (V m c main_arg5) (V m c main_arg6)) W _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  isplitl [HS4]; · iexact HS4
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hh0]; · iexact Hh0
  isplitl [Hh1]; · iexact Hh1
  isplitl [Hh2]; · iexact Hh2
  isplitl [HW]; · iexact HW
  iintro ⟨H0, H1, H2, H3, H4, HS0, HS1, HS2, HS3, HS4, Hq0, Hq1, Hq2, Hq3, Hq4, Hq5, Hq6, Hq7, Hq8, Hh0, Hh1, Hh2, ⟨%W', HW⟩⟩
  isplitl [HS0 HS1 HS2 HS3 HS4 Hg Hq0 Hq1 Hq2 Hq3 Hq4 Hq5 Hq6 Hq7 Hq8 Hh0 Hh1 Hh2]
  · isplitl [HS0 HS1 HS2 HS3 HS4]
    · isplitl [HS0]; · iexact HS0
      isplitl [HS1]; · iexact HS1
      isplitl [HS2]; · iexact HS2
      isplitl [HS3]; · iexact HS3
      iexact HS4
    isplitl [Hg]
    · iexact Hg
    isplitl [Hq0 Hq1 Hq2 Hq3 Hq4 Hq5 Hq6 Hq7 Hq8]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      iexact Hq8
    isplitl [Hh0]; · iexact Hh0
    isplitl [Hh1]; · iexact Hh1
    iexact Hh2
  isplitl [HW]
  · iexists _; isplitr; swap; · iexact HW
    ipureintro; exact fun _ _ => Or.inl trivial
  isplitl [H0]; · iexact H0
  isplitl [H1]; · iexact H1
  isplitl [H2]; · iexact H2
  isplitl [H3]; · iexact H3
  iexact H4

set_option maxHeartbeats 3600000 in
/-- A later point. -/
theorem body_later (c : Dev nD) (t : Fin cfg0.N) (ht : t.val ≠ 0) :
    preV m c t ⊢ wp frame (wpE (defs₀ (F := F)) Variants.none c none) Set.univ (bodyAt0 t) (fun _ => postV m c t) := by
  unfold preV postV bodyAt0
  obtain ⟨e0, e1, e2, e3, e4⟩ := leavesV m c t
  simp only [beforeV_0, beforeV_1, beforeV_2, beforeV_3]
  rw [e0, e1, e2, e3, e4]
  rw [phi_pos m c t.succ (Nat.succ_ne_zero _)]
  unfold Dat.owesAt Pipeline.owesWithin named
  rw [show (datsV m 0 c).owed t.castSucc = 0 from rfl, show (datsV m 0 c).owed t.succ = 0 from rfl]
  rw [phi_pos m c t.castSucc ht]
  unfold named
  rw [show blockOut m c t = steadyOut (grid0.coords t) ((hcond0_1 t).mpr (by omega)) (iblk m c 0 t) (iblk m c 1 t) (iblk m c 2 t) (iblk m c 3 t) (gateOf m c) (upOf m c) (downOf m c) from dif_neg ht]
  iintro ⟨⟨⟨HS0, HS1, HS2, HS3, HS4⟩, Hg, ⟨Hq0, Hq1, Hq2, Hq3, Hq4, Hq5, Hq6, Hq7, Hq8⟩, ⟨Hh0, Hh1, Hh2⟩⟩, ⟨%W, -, HW⟩, ⟨%d0, H0⟩, ⟨%d1, H1⟩, ⟨%d2, H2⟩, ⟨%d3, H3⟩, ⟨%d4, H4⟩⟩
  iapply (steady_point c (grid0.coords t) _ _ _ _ _ _ _ _ _ _ _ _ _ _ _ _ _ _ _ _ (fun h => absurd ((hcond0_0 t).mp h) (by omega)) ((hcond0_1 t).mpr (by omega)) (iblk m c 0 t) (iblk m c 1 t) (iblk m c 2 t) (iblk m c 3 t) (gateOf m c) (upOf m c) (downOf m c) _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  iintro ⟨H0, H1, H2, H3, H4, HS0, HS1, HS2⟩
  isplitl [HS0 HS1 HS2 HS3 HS4 Hg Hq0 Hq1 Hq2 Hq3 Hq4 Hq5 Hq6 Hq7 Hq8 Hh0 Hh1 Hh2]
  · isplitl [HS0 HS1 HS2 HS3 HS4]
    · isplitl [HS0]; · iexact HS0
      isplitl [HS1]; · iexact HS1
      isplitl [HS2]; · iexact HS2
      isplitl [HS3]; · iexact HS3
      iexact HS4
    isplitl [Hg]
    · iexact Hg
    isplitl [Hq0 Hq1 Hq2 Hq3 Hq4 Hq5 Hq6 Hq7 Hq8]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      iexact Hq8
    isplitl [Hh0]; · iexact Hh0
    isplitl [Hh1]; · iexact Hh1
    iexact Hh2
  isplitl [HW]
  · iexists _; isplitr; swap; · iexact HW
    ipureintro; exact fun _ _ => Or.inl trivial
  isplitl [H0]; · iexact H0
  isplitl [H1]; · iexact H1
  isplitl [H2]; · iexact H2
  isplitl [H3]; · iexact H3
  iexact H4

/-- The body at any point. -/
theorem body_any (c : Dev nD) (t : Fin cfg0.N) :
    preV m c t ⊢ wp frame (wpE (defs₀ (F := F)) Variants.none c none) Set.univ (bodyAt0 t) (fun _ => postV m c t) := by
  by_cases h0 : t.val = 0
  · exact body_first m c t h0
  · exact body_later m c t h0

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (datsV (F := F) m 0 c) (defs₀ (F := F)) Variants.none () Set.univ := fun t => by
  rw [bigSep_W0, bigSep_W0, body_row]
  exact triple_restated (body_any m c t) rfl .rfl fun _ => .rfl

/-- After the last point the invariant gives back what the launch gave. -/
theorem named_out (c : Dev nD) : named m c ⊢ (Pipeline.ΦD osem0 spec0 H0 (V m) c : sProp 𝕄) := by
  rw [PhiD0_eq]
  unfold named
  iintro ⟨⟨HS0, HS1, HS2, HS3, HS4⟩, Hrest⟩
  isplitl [HS0 HS1 HS2 HS3 HS4]
  · isplitl [HS0]; · iexists _; iexact HS0
    isplitl [HS1]; · iexists _; iexact HS1
    isplitl [HS2]; · iexists _; iexact HS2
    isplitl [HS3]; · iexact HS3
    iexact HS4
  iexact Hrest

theorem phi_in (c : Dev nD) : (Pipeline.ΦD osem0 spec0 H0 (V m) c : sProp 𝕄) ⊢ (datsV m 0 c).Φ 0 := by
  dsimp only [datsV]
  rw [if_pos (show (0 : Fin (cfg0.N + 1)).val = 0 from rfl)]

theorem phi_out (c : Dev nD) : (datsV m 0 c).Φ (Fin.last cfg0.N) ⊢ (Pipeline.ΦD osem0 spec0 H0 (V m) c : sProp 𝕄) := by
  dsimp only [datsV]
  rw [if_neg (show (Fin.last cfg0.N).val ≠ 0 by decide)]
  exact named_out m c

set_option backward.isDefEq.respectTransparency.types false in
/-- The run: from any memory with zero counters every weakly fair execution terminates, each output array ends at the
    blocks the points left, every other array as it was, and every counter at zero. -/
theorem run_values : θ_run defs (onTc (τ := τ) (main (F := F))) (s₀ m ρ)
    (fun r => Pipeline.FramePost cfgs (datsV m) (0 : Fin 1) (V m) r ∧ r.2.sem = fun _ => 0) :=
  Pipeline.θ_run_frame_dma (Q' := _) cfgs (datsV m) (0 : Fin 1) launch0 osem0 defs₀ Variants.none ownSemFacts0 H0 H0_sub m ρ main
    (hbody := fun c => (obligation m c).loose) (hshare := fun c => (datsV m 0 c).share_full fun _ => rfl)
    (howed := fun _ _ => rfl) (V := V m) (hmain := hmain m Variants.none) (hA := arr_eq m)
    (hin := phi_in m) (hout := phi_out m)

/-- The frame: the arguments end unchanged and every counter at zero. -/
theorem frame_values : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and
    (frame_of m ρ (fun c => (datsV m 0 c).toR) (arr_eq m) ((θ_run defs _ _).mono
      (fun _ h c => ⟨fun w => ((datsV m 0 c).toR_arrAt_iff w _ _).mpr ((h.1 c).1 w), (h.1 c).2⟩) (run_values m ρ)))
    ((θ_run defs _ _).mono (fun _ h => h.2) (run_values m ρ))

end Cert.Kernel2.Opening

end
-- ==== Proof.OpeningSame.lean ====
/-
  The first feed-forward call and its idealization are one program text: the run, proved once for any values, gives both frames.
-/
module

public import proofs.«01_k».proof.Proof.OpeningRun
public import proofs.«01_k».proof.Proof.Gen.Kernel2Ideal
public import proofs.«01_k».proof.Defs

@[expose] public section

noncomputable section

namespace Cert.Kernel2.Opening

open Idealize.ShloMosaic

/-- The two printed programs have the same body. -/
theorem bodies : @Cert.Kernel2Ideal.cc0_ffn0 Ideal _ _ = @Cert.Kernel2.cc0_ffn0 Ideal _ _ := rfl

/-- and the same body table, -/
theorem rows : @Cert.Kernel2Ideal.defs₀ Ideal _ _ = @Cert.Kernel2.defs₀ Ideal _ _ := by
  unfold Cert.Kernel2Ideal.defs₀ Cert.Kernel2.defs₀
  refine congrArg Defs.onTc ?_
  funext l x
  match l, x with
  | ⟨0, _⟩, (t, s) => exact rfl

/-- hence the same label table, -/
theorem tables : @Cert.Kernel2Ideal.defs Ideal _ _ = @Cert.Kernel2.defs Ideal _ _ := by
  unfold Cert.Kernel2Ideal.defs Cert.Kernel2.defs
  exact congrArg (fun d => Pipeline.defs Cert.Kernel2.pcfgs d) rows

/-- and the same main. -/
theorem mains : @Cert.Kernel2Ideal.main Ideal _ = @Cert.Kernel2.main Ideal _ := rfl

/-- The call as printed runs, leaves its arguments and ends with every counter at zero. -/
theorem frame_kernel : Cert.quiescent_Kernel2 := fun m ρ _ => frame_values (F := Bits) m ρ

/-- So does its idealization, by the same run. -/
theorem frame_ideal : Cert.quiescent_Kernel2Ideal := fun m ρ _ => by
  rw [tables]
  exact frame_values (F := Ideal) m ρ

end Cert.Kernel2.Opening

end
-- ==== Proof.OpeningRefFrame.lean ====
/-
  The run of the first feed-forward call's reference: it terminates, leaves its arguments as they were and no semaphore raised.
-/
module

public import proofs.«01_k».proof.Defs
public import proofs.«01_k».proof.Proof.Gen.Reference2Ideal
public import proofs.«01_k».proof.Proof.Gen.Reference2Ideal.Run

@[expose] public section

noncomputable section

namespace Cert.Opening

open Idealize.ShloMosaic Idealize.SL.Sem

/-- The reference ends with its arguments unchanged and every counter at zero; it declares no semaphore. -/
theorem frame_reference : Cert.quiescent_Reference2Ideal (hReference2Ideal := Cert.Reference2Ideal.Gen.facts) := fun m g _ =>
  (θ_run _ _ _).mono (fun r h => ⟨fun c => (h c).2, sem_eq_zero_of_no_sems (by decide) r.2⟩) (Cert.Reference2Ideal.Value.run (F := Ideal) m g)

end Cert.Opening

end
-- ==== Proof.OpeningRows.lean ====
/-
  What a grid point of the first feed-forward call leaves in its output block, one row at a time, over the extended reals:
  both ways through the body leave `openRow` of that row's inputs.
-/
module

public import proofs.«01_k».proof.Proof.OpeningBlocks
public import proofs.«01_k».proof.Proof.BlockRows

@[expose] public section

set_option maxRecDepth 16384

noncomputable section

namespace Cert.Opening

open Idealize.ShloMosaic hiding ix1 ix2 ix3 ix4
open Idealize.ShloMosaic.ValueIdx
open Cert.Closing

/-- The first half step on one token. -/
def openRow (x shift scale pre gate post : Row 1024) (wg wu : Fin 1024 → Row 2816) (wd : Fin 2816 → Row 1024) : Row 1024 :=
  stepRow x (vecMat (actRow (inRow x shift scale pre) wg wu) wd) gate post

/-- The first half step on token `t` under modulation row `q`, from the argument arrays: the second layer's slices of the stacks. -/
def specRow (x : (⟨2, ![8192, 1024]⟩ : Shape).Idx → EReal) (md : (⟨4, ![2, 9, 8, 1024]⟩ : Shape).Idx → EReal)
    (pre post : (⟨3, ![2, 3, 1024]⟩ : Shape).Idx → EReal) (wg wu : (⟨3, ![2, 1024, 2816]⟩ : Shape).Idx → EReal)
    (wd : (⟨3, ![2, 2816, 1024]⟩ : Shape).Idx → EReal) (t : Fin 8192) (q : Fin 8) : Row 1024 :=
  openRow (fun n => x (ix2 t n)) (fun n => md (ix4 1 0 q n)) (fun n => md (ix4 1 1 q n)) (fun n => pre (ix3 1 0 n))
    (fun n => md (ix4 1 2 q n)) (fun n => post (ix3 1 0 n)) (fun k n => wg (ix3 1 k n)) (fun k n => wu (ix3 1 k n))
    (fun k n => wd (ix3 1 k n))

/-- The modulation row of a token: the first for the prompt's, one for each sample's. -/
def tokenRow (t : Fin 8192) : Fin 8 := ⟨if t.val < 4096 then 0 else 1 + (t.val - 4096) / 2048, by have := t.isLt; split <;> omega⟩

/-- The first half step on every token. -/
def specOut (x : (⟨2, ![8192, 1024]⟩ : Shape).Idx → EReal) (md : (⟨4, ![2, 9, 8, 1024]⟩ : Shape).Idx → EReal)
    (pre post : (⟨3, ![2, 3, 1024]⟩ : Shape).Idx → EReal) (wg wu : (⟨3, ![2, 1024, 2816]⟩ : Shape).Idx → EReal)
    (wd : (⟨3, ![2, 2816, 1024]⟩ : Shape).Idx → EReal) : (⟨2, ![8192, 1024]⟩ : Shape).Idx → EReal :=
  fun p => specRow x md pre post wg wu wd (p 0) (tokenRow (p 0)) (p 1)

end Cert.Opening

namespace Cert.Kernel2.Opening

open Idealize.ShloMosaic hiding ix1 ix2 ix3 ix4
open Idealize.ShloMosaic.ValueIdx
open Cert.Kernel2.Gen Cert.Closing Cert.Opening
open Cert.Kernel.Closing (sum512 sum256 gain_read partialSum partialSum_read sum_chunkTerm colChunk rowChunk)

theorem dot_half (l : FVec Ideal S256x1024 .bf16) (r : FVec Ideal S1024x2816 .bf16) (i : Fin 256) (j : Fin 2816) :
    matmul dot_S256x1024_S1024x2816_S256x2816_1_0_0_1_n_n none l r (constant S256x2816 .f32 0x00000000#32) (ix2 i j)
      = vecMat (fun k => l (ix2 i k)) (fun k n => r (ix2 k n)) j := matmul_read _ rfl l r i j

theorem dot_halfDown (l : FVec Ideal S256x2816 .bf16) (r : FVec Ideal S2816x1024 .bf16) (i : Fin 256) (j : Fin 1024) :
    matmul dot_S256x2816_S2816x1024_S256x1024_1_0_0_1_n_n none l r (constant S256x1024 .f32 0x00000000#32) (ix2 i j)
      = vecMat (fun k => l (ix2 i k)) (fun k n => r (ix2 k n)) j := matmul_read _ rfl l r i j

/-- The feed-forward network's input, at an element. -/
theorem pay5_read (x : Vec Ideal S512x1024 .f32) (shift scale : Vec Ideal S1x1x1x1024 .f32) (g : Vec Ideal S1x1x1024 .f32)
    (i : Fin 512) (j : Fin 1024) :
    k0_pay5 x shift scale g (ix2 i j)
      = inRow (fun n => x (ix2 i n)) (fun n => shift (ix4 0 0 0 n)) (fun n => scale (ix4 0 0 0 n)) (fun n => g (ix3 0 0 n)) j := by
  simp only [k0_pay5, truncf_apply, addf_apply, mulf_apply, divf_apply, alongRow_read, downColumns_read, row3_read, row4_read, root_read,
    number_read, column_read]
  erw [sum512]
  rfl

/-- A later point computes it the same way. -/
theorem pay61_eq : @k0_pay61 Ideal _ = k0_pay5 := rfl

/-- The root of the mean square of the first point's feed-forward output. -/
theorem pay60_read (h : FVec Ideal S512x1024 .bf16) (a : FVec Ideal S512x1024 .f32) (wg wu : Vec Ideal S1024x256 .bf16)
    (wd : Vec Ideal S256x1024 .bf16) (i : Fin 512) :
    k0_pay60 h a wg wu wd (ix2 i 0)
      = Ideal.rsqrt (Ideal.div (∑ k, Cert.Kernel.Gen.k0_pay24 h a wg wu wd (ix2 i k) * Cert.Kernel.Gen.k0_pay24 h a wg wu wd (ix2 i k))
          (Ideal.ofBits .f32 0x44800000#32) + Ideal.ofBits .f32 0x358637BD#32) := by
  simp only [k0_pay60, addf_apply, divf_apply, root_read, number_read, column_read]
  erw [sum512]
  rfl

/-- The first point's block from its stream and its feed-forward output. -/
theorem pay3_read (gate : Vec Ideal S1x1x1x1024 .f32) (g : Vec Ideal S1x1x1024 .f32) (x : Vec Ideal S512x1024 .f32)
    (s : FVec Ideal S512x1024 .f32) (q : FVec Ideal S512x1 .f32) (i : Fin 512) (j : Fin 1024)
    (hq : q (ix2 i 0) = Ideal.rsqrt (Ideal.div (∑ k, s (ix2 i k) * s (ix2 i k)) (Ideal.ofBits .f32 0x44800000#32)
      + Ideal.ofBits .f32 0x358637BD#32)) :
    k0_pay3 gate g x s q (ix2 i j)
      = stepRow (fun n => x (ix2 i n)) (fun n => s (ix2 i n)) (fun n => gate (ix4 0 0 0 n)) (fun n => g (ix3 0 0 n)) j := by
  simp only [k0_pay3, k0_pay1, k0_pay2, addf_apply, mulf_apply, alongRow_read, downColumns_read, row3_read, row4_read, number_read, hq]
  rfl

/-- The gated activation of a later point's first half. -/
theorem pay62_read (x : Vec Ideal S512x1024 .f32) (shift scale : Vec Ideal S1x1x1x1024 .f32) (g : Vec Ideal S1x1x1024 .f32)
    (wg wu : Vec Ideal S1024x2816 .bf16) (i : Fin 256) (i' : Fin 512) (hi : i'.val = 0 + i.val) (j : Fin 2816) :
    k0_pay62 x shift scale g wg wu (ix2 i j)
      = actRow (fun k => k0_pay5 x shift scale g (ix2 i' k)) (fun k n => wg (ix2 k n)) (fun k n => wu (ix2 k n)) j := by
  simp only [k0_pay62, truncf_apply, mulf_apply, logistic_read, dot_half, rows_read 0 _ _ i _ i' hi, pay61_eq]
  rfl

/-- A row of a later point's first half, from its activation. -/
theorem pay63_read (gate g : FVec Ideal S1x1024 .f32) (x : Vec Ideal S512x1024 .f32) (act : FVec Ideal S256x2816 .bf16)
    (wd : Vec Ideal S2816x1024 .bf16) (i : Fin 256) (i' : Fin 512) (hi : i'.val = 0 + i.val) (j : Fin 1024) :
    k0_pay63 gate g x act wd (ix2 i j)
      = stepRow (fun n => x (ix2 i' n)) (vecMat (fun k => act (ix2 i k)) (fun k n => wd (ix2 k n))) (fun n => gate (ix2 0 n))
          (fun n => g (ix2 0 n)) j := by
  simp only [k0_pay63, addf_apply, mulf_apply, divf_apply, alongRow_read, downColumns_read, root_read, number_read, column_read,
    dot_halfDown, rows_read 0 _ _ i _ i' hi]
  erw [sum256]
  simp only [mulf_apply, dot_halfDown]
  rfl

/-- The feed-forward output of a later point's second half, over the root of its mean square. -/
theorem pay65_read (h : FVec Ideal S512x1024 .bf16) (wg wu : Vec Ideal S1024x2816 .bf16) (wd : Vec Ideal S2816x1024 .bf16)
    (i : Fin 256) (i' : Fin 512) (hi : i'.val = 256 + i.val) (j : Fin 1024) (s : Row 1024)
    (hs : s = vecMat (actRow (fun k => h (ix2 i' k)) (fun k n => wg (ix2 k n)) (fun k n => wu (ix2 k n))) (fun k n => wd (ix2 k n))) :
    k0_pay65 h wg wu wd (ix2 i j)
      = s j * Ideal.rsqrt (Ideal.div (∑ k, s k * s k) (Ideal.ofBits .f32 0x44800000#32) + Ideal.ofBits .f32 0x358637BD#32) := by
  subst hs
  simp only [k0_pay65, addf_apply, mulf_apply, divf_apply, truncf_apply, alongRow_read, root_read, number_read, logistic_read,
    column_read, dot_half, dot_halfDown, rows_read 256 _ _ i _ i' hi]
  erw [sum256]
  simp only [mulf_apply, truncf_apply, logistic_read, dot_half, dot_halfDown, rows_read 256 _ _ i _ i' hi]
  rfl

/-- A later point's block, a row of its first half. -/
theorem pay4_upper (gate : Vec Ideal S1x1x1x1024 .f32) (a b c d : FVec Ideal S256x1024 .f32) (i : Fin 256) (i' : Fin 512)
    (hi : i'.val = i.val) (j : Fin 1024) : k0_pay4 gate a b c d (ix2 i' j) = a (ix2 i j) := by
  dsimp only [k0_pay4]
  refine concatenate_pair_apply_left (s₁ := S256x1024) (s₂ := S256x1024) _ _ _ _ (ix2 i' j) rfl (ix2 i j) fun e => ?_
  match e with
  | ⟨0, _⟩ => exact hi.symm
  | ⟨1, _⟩ => rfl

/-- A later point's block, a row of its second half. -/
theorem pay4_lower (gate : Vec Ideal S1x1x1x1024 .f32) (a b c d : FVec Ideal S256x1024 .f32) (i : Fin 256) (i' : Fin 512)
    (hi : i'.val = 256 + i.val) (j : Fin 1024) :
    k0_pay4 gate a b c d (ix2 i' j)
      = b (ix2 i j) + Ideal.ofBits .f32 0x3F000000#32 * (gate (ix4 0 0 0 j) * (c (ix2 i j) * d (ix2 i j))) := by
  dsimp only [k0_pay4]
  refine (concatenate_pair_apply_right (s₁ := S256x1024) (s₂ := S256x1024) _ _ _ _ (ix2 i' j) rfl rfl (ix2 i j) (fun e he => ?_) ?_).trans ?_
  · match e with
    | ⟨0, _⟩ => exact absurd rfl he
    | ⟨1, _⟩ => rfl
  · show i.val + 256 = i'.val
    omega
  simp only [k0_pay1, addf_apply, mulf_apply, downColumns_read, row4_read, number_read]

/-- The eleven chunks are the whole down projection. -/
theorem allChunks_read (h : FVec Ideal S512x1024 .bf16) (wg wu : Vec Ideal S1024x2816 .bf16) (wd : Vec Ideal S2816x1024 .bf16)
    (i : Fin 512) (j : Fin 1024) :
    partialSum h wg wu wd 10 (by decide) (ix2 i j)
      = vecMat (actRow (fun k => h (ix2 i k)) (fun k n => wg (ix2 k n)) (fun k n => wu (ix2 k n))) (fun k n => wd (ix2 k n)) j :=
  (partialSum_read h wg wu wd i j 10 (by decide)).trans (sum_chunkTerm _ _ _ _ j)

/-! ## The blocks' pieces -/

/-- The modulation row a point reads: row 0 for the prompt, one row for each four points of the samples. -/
def condRow (i : grid0.Coords) : Fin 8 := ⟨if (i 0).val < 8 then 0 else 1 + ((i 0).val - 8) / 4, by have : (i 0).val < 16 := (i 0).isLt; split <;> omega⟩

theorem off1_eq : ∀ (i : grid0.Coords) a, k0_off1 i a = ![0, 2, (condRow i).val, 0] a := by decide +kernel
theorem off2_eq : ∀ (i : grid0.Coords) a, k0_off2 i a = ![0, 0, (condRow i).val, 0] a := by decide +kernel
theorem off3_eq : ∀ (i : grid0.Coords) a, k0_off3 i a = ![0, 1, (condRow i).val, 0] a := by decide +kernel
theorem off4_eq : ∀ (i : grid0.Coords) a, k0_off4 i a = ![0, 0, (condRow i).val, 0] a := by decide +kernel
theorem off5_eq : ∀ (i : grid0.Coords) a, k0_off5 i a = ![0, 1, (condRow i).val, 0] a := by decide +kernel

/-- One row of the modulation block. -/
theorem mod_read (x : Vec Ideal S1x9x8x1024 .f32) (off : Fin 4 → ℕ) (inb) (k : Fin 9) (q : Fin 8)
    (ho : ∀ a, off a = ![0, k.val, q.val, 0] a) (n : Fin 1024) :
    View.ld x (Rect.unit off S1x1x1x1024.size inb) (ix4 0 0 0 n) = x (ix4 0 k q n) := by
  refine View.ld_unit_apply_of x _ _ _ _ _ fun a => ?_
  rw [ho a]
  match a with
  | ⟨0, _⟩ => rfl
  | ⟨1, _⟩ => rfl
  | ⟨2, _⟩ => rfl
  | ⟨3, _⟩ => show n.val = 0 + n.val; omega

/-! ## The blocks -/

variable (i : grid0.Coords) (x0 : Vec Ideal S512x1024 .f32) (x1 : Vec Ideal S1x9x8x1024 .f32) (x2 x3 : Vec Ideal S1x3x1024 .f32)
    (wg wu : Vec Ideal S1024x2816 .bf16) (wd : Vec Ideal S2816x1024 .bf16)

/-- A row of a point's output block, from its input blocks and the weights. -/
def blockRow (r : Fin 512) : Row 1024 :=
  openRow (fun n => x0 (ix2 r n)) (fun n => x1 (ix4 0 0 (condRow i) n)) (fun n => x1 (ix4 0 1 (condRow i) n)) (fun n => x2 (ix3 0 0 n))
    (fun n => x1 (ix4 0 2 (condRow i) n)) (fun n => x3 (ix3 0 0 n)) (fun k n => wg (ix2 k n)) (fun k n => wu (ix2 k n))
    (fun k n => wd (ix2 k n))

/-- The feed-forward network's input at the first point. -/
theorem firstH_read (h1 : k0_cond1 i = 1#1) (r : Fin 512) (n : Fin 1024) :
    firstH i h1 x0 x1 x2 (ix2 r n)
      = inRow (fun n => x0 (ix2 r n)) (fun n => x1 (ix4 0 0 (condRow i) n)) (fun n => x1 (ix4 0 1 (condRow i) n))
          (fun n => x2 (ix3 0 0 n)) n := by
  unfold firstH
  rw [pay5_read]
  simp only [mod_read x1 _ _ 0 _ (off2_eq i), mod_read x1 _ _ 1 _ (off3_eq i)]
  simp only [gain_read x2 0 0 rfl]

/-- The first point's block, row by row. -/
theorem firstOut_read (h1 : k0_cond1 i = 1#1) (r : Fin 512) (n : Fin 1024) :
    firstOut i h1 x0 x1 x2 x3 wg wu wd (ix2 r n) = blockRow i x0 x1 x2 x3 wg wu wd r n := by
  unfold firstOut
  refine (pay3_read _ _ _ _ _ r n (pay60_read _ _ _ _ _ r)).trans ?_
  show stepRow _ (fun n => partialSum (firstH i h1 x0 x1 x2) wg wu wd 10 (by decide) (ix2 r n)) _ _ n = _
  simp only [allChunks_read, firstH_read, mod_read x1 _ _ 2 _ (off1_eq i)]
  simp only [gain_read x3 0 0 rfl]
  rfl

/-- A later point's block, row by row. -/
theorem steadyOut_read (h2 : k0_cond2 i = 1#1) (r : Fin 512) (n : Fin 1024) :
    steadyOut i h2 x0 x1 x2 x3 wg wu wd (ix2 r n) = blockRow i x0 x1 x2 x3 wg wu wd r n := by
  unfold steadyOut
  have hr := r.isLt
  by_cases h : r.val < 256
  · rw [pay4_upper _ _ _ _ _ ⟨r.val, h⟩ r rfl n, pay63_read _ _ _ _ _ ⟨r.val, h⟩ r (by simp) n]
    simp only [pay62_read _ _ _ _ _ _ ⟨r.val, h⟩ r (by simp), pay5_read, k0_pay1, k0_pay2, row3_read, row4_read,
      mod_read x1 _ _ 2 _ (off1_eq i), mod_read x1 _ _ 0 _ (off4_eq i), mod_read x1 _ _ 1 _ (off5_eq i)]
    simp only [gain_read x2 0 0 rfl, gain_read x3 0 0 rfl]
    rfl
  · have hi : r.val = 256 + (⟨r.val - 256, by omega⟩ : Fin 256).val := by simp; omega
    rw [pay4_lower _ _ _ _ _ ⟨r.val - 256, by omega⟩ r hi n, pay65_read _ _ _ _ _ r hi n _ rfl]
    simp only [k0_pay64, k0_pay66, rows_read 256 _ _ _ _ r hi, downColumns_read, pay61_eq, pay5_read, k0_pay2, row3_read,
      mod_read x1 _ _ 2 _ (off1_eq i), mod_read x1 _ _ 0 _ (off4_eq i), mod_read x1 _ _ 1 _ (off5_eq i)]
    simp only [gain_read x2 0 0 rfl, gain_read x3 0 0 rfl]
    rfl

end Cert.Kernel2.Opening

end
-- ==== Proof.OpeningOut.lean ====
/-
  The first feed-forward call's result array after the run, over the extended reals: every row is `specRow` of the
  argument arrays under its token's modulation row.
-/
module

public import proofs.«01_k».proof.Proof.OpeningRun
public import proofs.«01_k».proof.Proof.OpeningRows
public import Idealize.ShloMosaic.Lib.Pipeline.ValueKit.Geometry

@[expose] public section

set_option maxRecDepth 16384

noncomputable section

namespace Cert.Kernel2.Opening

open Idealize.ShloMosaic hiding ix1 ix2 ix3 ix4
open Idealize.ShloMosaic.TcCoe Idealize.ShloMosaic.ValueIdx
open Idealize.ShloMosaic.Pipeline (Dat)
open Cert.Kernel2.Gen Cert.Opening
open Cert.Closing (Row)

variable (m : (ℓ : Loc nD τ sig) → Buf (Elt Ideal) ℓ) (c : Dev nD)

/-! ## The input blocks, at coordinates -/

theorem index_0 : ∀ (t : Fin cfg0.N) a, win0_0.index t a = ![t.val, 0] a := by decide +kernel
theorem index_1 : ∀ (t : Fin cfg0.N) a, win0_1.index t a = ![1, 0, 0, 0] a := by decide +kernel
theorem index_2 : ∀ (t : Fin cfg0.N) a, win0_2.index t a = ![1, 0, 0] a := by decide +kernel
theorem index_3 : ∀ (t : Fin cfg0.N) a, win0_3.index t a = ![1, 0, 0] a := by decide +kernel
theorem index_4 : ∀ (t : Fin cfg0.N) a, win0_4.index t a = ![t.val, 0] a := by decide +kernel

/-- The token a point's block row holds. -/
def token (t : Fin cfg0.N) (r : Fin 512) : Fin 8192 := ⟨512 * t.val + r.val, by have : t.val < 16 := t.isLt; omega⟩

theorem block_0 (t : Fin cfg0.N) (r : Fin 512) (n : Fin 1024) :
    iblk m c 0 t (ix2 r n) = m ((c : Thread nD τ).loc main_arg0) (ix2 (token t r) n) := by
  unfold iblk
  rw [View.read_apply]
  show m ((c : Thread nD τ).loc main_arg0) _ = _
  refine congrArg (m ((c : Thread nD τ).loc main_arg0)) (Shape.idx_ext₂ ?_ ?_)
  · show win0_0.index t 0 * 512 + 1 * r.val = 512 * t.val + r.val
    rw [index_0 t 0]; show t.val * 512 + 1 * r.val = _; omega
  · show win0_0.index t 1 * 1024 + 1 * n.val = n.val
    rw [index_0 t 1]; show 0 * 1024 + 1 * n.val = _; omega

theorem block_1 (t : Fin cfg0.N) (k : Fin 9) (q : Fin 8) (n : Fin 1024) :
    iblk m c 1 t (ix4 0 k q n) = m ((c : Thread nD τ).loc main_arg1) (ix4 1 k q n) := by
  unfold iblk
  rw [View.read_apply]
  show m ((c : Thread nD τ).loc main_arg1) _ = _
  refine congrArg (m ((c : Thread nD τ).loc main_arg1)) (funext fun a => Fin.ext ?_)
  match a with
  | ⟨0, _⟩ => show win0_1.index t 0 * 1 + 1 * 0 = 1; rw [index_1 t 0]; rfl
  | ⟨1, _⟩ => show win0_1.index t 1 * 9 + 1 * k.val = k.val; rw [index_1 t 1]; show 0 * 9 + 1 * k.val = _; omega
  | ⟨2, _⟩ => show win0_1.index t 2 * 8 + 1 * q.val = q.val; rw [index_1 t 2]; show 0 * 8 + 1 * q.val = _; omega
  | ⟨3, _⟩ => show win0_1.index t 3 * 1024 + 1 * n.val = n.val; rw [index_1 t 3]; show 0 * 1024 + 1 * n.val = _; omega

theorem block_2 (t : Fin cfg0.N) (k : Fin 3) (n : Fin 1024) :
    iblk m c 2 t (ix3 0 k n) = m ((c : Thread nD τ).loc main_arg2) (ix3 1 k n) := by
  unfold iblk
  rw [View.read_apply]
  show m ((c : Thread nD τ).loc main_arg2) _ = _
  refine congrArg (m ((c : Thread nD τ).loc main_arg2)) (funext fun a => Fin.ext ?_)
  match a with
  | ⟨0, _⟩ => show win0_2.index t 0 * 1 + 1 * 0 = 1; rw [index_2 t 0]; rfl
  | ⟨1, _⟩ => show win0_2.index t 1 * 3 + 1 * k.val = k.val; rw [index_2 t 1]; show 0 * 3 + 1 * k.val = _; omega
  | ⟨2, _⟩ => show win0_2.index t 2 * 1024 + 1 * n.val = n.val; rw [index_2 t 2]; show 0 * 1024 + 1 * n.val = _; omega

theorem block_3 (t : Fin cfg0.N) (k : Fin 3) (n : Fin 1024) :
    iblk m c 3 t (ix3 0 k n) = m ((c : Thread nD τ).loc main_arg3) (ix3 1 k n) := by
  unfold iblk
  rw [View.read_apply]
  show m ((c : Thread nD τ).loc main_arg3) _ = _
  refine congrArg (m ((c : Thread nD τ).loc main_arg3)) (funext fun a => Fin.ext ?_)
  match a with
  | ⟨0, _⟩ => show win0_3.index t 0 * 1 + 1 * 0 = 1; rw [index_3 t 0]; rfl
  | ⟨1, _⟩ => show win0_3.index t 1 * 3 + 1 * k.val = k.val; rw [index_3 t 1]; show 0 * 3 + 1 * k.val = _; omega
  | ⟨2, _⟩ => show win0_3.index t 2 * 1024 + 1 * n.val = n.val; rw [index_3 t 2]; show 0 * 1024 + 1 * n.val = _; omega

/-! ## The weights, at coordinates -/

theorem gate_at (k : Fin 1024) (n : Fin 2816) : gateOf m c (ix2 k n) = m ((c : Thread nD τ).loc main_arg4) (ix3 1 k n) := rfl
theorem up_at (k : Fin 1024) (n : Fin 2816) : upOf m c (ix2 k n) = m ((c : Thread nD τ).loc main_arg5) (ix3 1 k n) := rfl
theorem down_at (k : Fin 2816) (n : Fin 1024) : downOf m c (ix2 k n) = m ((c : Thread nD τ).loc main_arg6) (ix3 1 k n) := rfl

/-! ## The output array -/

/-- A token's row from the launch contents. -/
def rowOf (t : Fin 8192) (q : Fin 8) : Row 1024 :=
  specRow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) t q

/-- The modulation row of a point. -/
theorem condRow_at : ∀ t : Fin cfg0.N, (condRow (grid0.coords t)).val = if t.val < 8 then 0 else 1 + (t.val - 8) / 4 := by decide +kernel

/-- It is that of each of its tokens. -/
theorem condRow_token (t : Fin cfg0.N) (r : Fin 512) : condRow (grid0.coords t) = tokenRow (token t r) := by
  refine Fin.ext ((condRow_at t).trans ?_)
  have hr := r.isLt
  show _ = if 512 * t.val + r.val < 4096 then 0 else 1 + (512 * t.val + r.val - 4096) / 2048
  split <;> split <;> omega

/-- What a point computes, row by row. -/
theorem blockOut_read (t : Fin cfg0.N) (r : Fin 512) (n : Fin 1024) :
    blockOut m c t (ix2 r n) = rowOf m c (token t r) (condRow (grid0.coords t)) n := by
  have h : blockOut m c t (ix2 r n) = blockRow (grid0.coords t) (iblk m c 0 t) (iblk m c 1 t) (iblk m c 2 t) (iblk m c 3 t)
      (gateOf m c) (upOf m c) (downOf m c) r n := by
    unfold blockOut
    split
    · exact firstOut_read _ _ _ _ _ _ _ _ _ r n
    · exact steadyOut_read _ _ _ _ _ _ _ _ _ r n
  rw [h]
  unfold blockRow rowOf specRow
  simp only [block_0, block_1, block_2, block_3, gate_at, up_at, down_at]

/-- The result. -/
def resultOf : Buf (Elt Ideal) ((c : Thread nD τ).loc main_v0) :=
  specOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem result_final : (datsV m 0 c).arrAt 4 cfg0.N = resultOf m c := by
  refine (datsV m 0 c).arrAt_eq_of_covers 4 _ (by decide +kernel) fun t hf y => ?_
  rw [afterV_4]
  show blockOut m c t y = resultOf m c _
  obtain ⟨r, n, rfl⟩ : ∃ (r : Fin 512) (n : Fin 1024), y = ix2 r n := ⟨y 0, y 1, Shape.idx_ext₂ rfl rfl⟩
  rw [blockOut_read, condRow_token t r]
  have e0 : (((cfg0.win 4).blk t).view.emb (ix2 r n)) 0 = token t r := by
    refine Fin.ext ?_
    show win0_4.index t 0 * 512 + 1 * r.val = 512 * t.val + r.val
    rw [index_4 t 0]; show t.val * 512 + 1 * r.val = _; omega
  have e1 : (((cfg0.win 4).blk t).view.emb (ix2 r n)) 1 = n := by
    refine Fin.ext ?_
    show win0_4.index t 1 * 1024 + 1 * n.val = n.val
    rw [index_4 t 1]; show 0 * 1024 + 1 * n.val = _; omega
  unfold resultOf specOut
  rw [e0, e1]
  rfl

end Cert.Kernel2.Opening

end
-- ==== Proof.OpeningPrompt.lean ====
/-
  The opening call's reference on the prompt tokens, row by row, up to the stacked result.
-/
module

public import proofs.«01_k».proof.Proof.HostRows
public import proofs.«01_k».proof.Proof.OpeningRows
public import proofs.«01_k».proof.Proof.Gen.Reference2Ideal.Run
public import proofs.«01_k».proof.Proof.Gen.Reference2Ideal.Read

@[expose] public section

noncomputable section

namespace Cert.Opening.Prompt

open Idealize.ShloMosaic hiding ix1 ix2 ix3 ix4
open Idealize.ShloMosaic.ValueIdx
open Cert.Closing Cert.Reference2Ideal Cert.Reference2Ideal.Read

variable (x0 : (⟨S8192x1024, .f32⟩ : BufTy).Contents (Elt Ideal)) (x1 : (⟨S2x9x8x1024, .f32⟩ : BufTy).Contents (Elt Ideal))
    (x2 x3 : (⟨S2x3x1024, .f32⟩ : BufTy).Contents (Elt Ideal)) (x4 x5 : (⟨S2x1024x2816, .f32⟩ : BufTy).Contents (Elt Ideal))
    (x6 : (⟨S2x2816x1024, .f32⟩ : BufTy).Contents (Elt Ideal))

/-- The modulation table of the prompt: the second layer's rows under the first condition. -/
theorem table_read (i : S1x1x9x1024.Idx) (r : Fin 9) (n : Fin 1024) (hr : (i 2).val = r.val) (hn : (i 3).val = n.val) :
    val_main_v6 x1 i = x1 (ix4 1 r 0 n) := by
  rw [val_main_v6_apply, val_main_v5_apply, val_main_v2_apply, val_main_v1_apply, val_main_v0_apply]
  have h2 := (i 2).isLt
  have h3 := (i 3).isLt
  have hr' := r.isLt
  have hn' := n.isLt
  refine congrArg x1 (ext4 rfl ?_ ?_ ?_)
  · show (((i 2).val * 8 + 0) * 1024 + (i 3).val) / 8192 % 9 = r.val
    omega
  · show (((i 2).val * 8 + 0) * 1024 + (i 3).val) / 1024 % 8 = 0
    omega
  · show (((i 2).val * 8 + 0) * 1024 + (i 3).val) % 1024 = n.val
    omega

/-- Every third row of it from the first. -/
theorem shifts_read (i : S1x1x3x1024.Idx) (r : Fin 9) (n : Fin 1024) (hr : 0 + 3 * (i 2).val = r.val) (hn : 0 + 1 * (i 3).val = n.val) :
    val_main_v7 x1 i = x1 (ix4 1 r 0 n) := by
  unfold val_main_v7 Host.slice
  exact table_read x1 _ r n hr hn

/-- Every third row of it from the second. -/
theorem scales_read (i : S1x1x3x1024.Idx) (r : Fin 9) (n : Fin 1024) (hr : 1 + 3 * (i 2).val = r.val) (hn : 0 + 1 * (i 3).val = n.val) :
    val_main_v8 x1 i = x1 (ix4 1 r 0 n) := by
  unfold val_main_v8 Host.slice
  exact table_read x1 _ r n hr hn

/-- Every third row of it from the third. -/
theorem gates_read (i : S1x1x3x1024.Idx) (r : Fin 9) (n : Fin 1024) (hr : 2 + 3 * (i 2).val = r.val) (hn : 0 + 1 * (i 3).val = n.val) :
    val_main_v9 x1 i = x1 (ix4 1 r 0 n) := by
  unfold val_main_v9 Host.slice
  exact table_read x1 _ r n hr hn

variable (t : Fin 8192) (b : Fin 16) (s : Fin 256) (ht : t.val = b.val * 256 + s.val)
include ht

/-- The stream's row. -/
theorem x_read (n : Fin 1024) : val_main_v4 x0 (ix3 b s n) = x0 (ix2 t n) := by
  rw [val_main_v4_apply, val_main_v3_apply]
  have hn := n.isLt
  refine congrArg x0 (Shape.idx_ext₂ ?_ ?_)
  · show ((b.val * 256 + s.val) * 1024 + n.val) / 1024 = t.val
    omega
  · show ((b.val * 256 + s.val) * 1024 + n.val) % 1024 = n.val
    omega

omit ht

/-- The stream normalised. -/
theorem xNorm_read (n : Fin 1024) :
    val_main_v24 x0 x2 (ix3 b s n) = normRow (fun k => val_main_v4 x0 (ix3 b s k)) (fun n => x2 (ix3 1 0 n)) n := by
  rw [val_main_v24_apply, val_main_v21_apply, val_main_v20_apply, val_main_v19_apply, val_main_v18_apply, val_main_v16_apply, val_main_v14_apply, val_main_v13_apply, val_main_v15_apply, val_main_v17_apply, val_main_v23_apply, val_main_v22_apply, val_main_v11_apply, val_main_v10_apply]
  simp only [val_main_v12_apply]
  generalize val_main_v4 x0 = y
  refine hostNorm_read y (ix3 b s) _ ?_ _ _ n ?_
  · exact fun k => ext3 rfl rfl rfl
  · exact congrArg x2 (ext3 rfl rfl (Nat.mod_eq_of_lt n.isLt))

/-- The feed-forward output normalised. -/
theorem ffnNorm_read (n : Fin 1024) :
    val_main_v68 x0 x1 x2 x3 x4 x5 x6 (ix3 b s n) = normRow (fun k => val_main_v51 x0 x1 x2 x4 x5 x6 (ix3 b s k)) (fun n => x3 (ix3 1 0 n)) n := by
  rw [val_main_v68_apply, val_main_v65_apply, val_main_v64_apply, val_main_v63_apply, val_main_v62_apply, val_main_v60_apply, val_main_v58_apply, val_main_v57_apply, val_main_v59_apply, val_main_v61_apply, val_main_v67_apply, val_main_v66_apply, val_main_v55_apply, val_main_v54_apply]
  simp only [val_main_v56_apply]
  generalize val_main_v51 x0 x1 x2 x4 x5 x6 = y
  refine hostNorm_read y (ix3 b s) _ ?_ _ _ n ?_
  · exact fun k => ext3 rfl rfl rfl
  · exact congrArg x3 (ext3 rfl rfl (Nat.mod_eq_of_lt n.isLt))

/-- The feed-forward network's input. -/
theorem in_read (n : Fin 1024) :
    val_main_v34 x0 x1 x2 (ix3 b s n)
      = inRow (fun n => val_main_v4 x0 (ix3 b s n)) (fun n => x1 (ix4 1 0 0 n)) (fun n => x1 (ix4 1 1 0 n))
          (fun n => x2 (ix3 1 0 n)) n := by
  rw [val_main_v34_apply, val_main_v30_apply, xNorm_read, val_main_v29_apply, val_main_v28_apply, val_main_v27_apply, val_main_v26_apply, val_main_v25_apply, val_main_v33_apply, val_main_v32_apply, val_main_v31_apply,
    scales_read x1 _ 1 n rfl (by show 0 + 1 * (((0 * 1 + 0) * 1024 + n.val) % 1024) = n.val; have := n.isLt; omega),
    shifts_read x1 _ 0 n rfl (by show 0 + 1 * (((0 * 1 + 0) * 1024 + n.val) % 1024) = n.val; have := n.isLt; omega)]
  rfl

/-- The gate's product. -/
theorem gateProd_read (n : Fin 2816) :
    val_main_v37 x0 x1 x2 x4 (ix3 b s n)
      = vecMat (fun k => val_main_v34 x0 x1 x2 (ix3 b s k)) (fun k n => x4 (ix3 1 k n)) n := by
  rw [val_main_v37_apply]
  unfold vecMat
  refine Finset.sum_congr rfl fun k _ => congrArg₂ (· * ·) (congrArg _ (ext3 rfl rfl rfl)) ?_
  rw [val_main_v36_apply, val_main_v35_apply]
  have hk := k.isLt
  have hn := n.isLt
  refine congrArg x4 (ext3 rfl ?_ ?_)
  · show (k.val * 2816 + n.val) / 2816 % 1024 = k.val
    omega
  · show (k.val * 2816 + n.val) % 2816 = n.val
    omega

/-- The other factor's product. -/
theorem upProd_read (n : Fin 2816) :
    val_main_v47 x0 x1 x2 x5 (ix3 b s n)
      = vecMat (fun k => val_main_v34 x0 x1 x2 (ix3 b s k)) (fun k n => x5 (ix3 1 k n)) n := by
  rw [val_main_v47_apply]
  unfold vecMat
  refine Finset.sum_congr rfl fun k _ => congrArg₂ (· * ·) (congrArg _ (ext3 rfl rfl rfl)) ?_
  rw [val_main_v46_apply, val_main_v45_apply]
  have hk := k.isLt
  have hn := n.isLt
  refine congrArg x5 (ext3 rfl ?_ ?_)
  · show (k.val * 2816 + n.val) / 2816 % 1024 = k.val
    omega
  · show (k.val * 2816 + n.val) % 2816 = n.val
    omega

/-- The gated activation. -/
theorem act_read (n : Fin 2816) :
    val_main_v48 x0 x1 x2 x4 x5 (ix3 b s n)
      = actRow (fun k => val_main_v34 x0 x1 x2 (ix3 b s k)) (fun k n => x4 (ix3 1 k n)) (fun k n => x5 (ix3 1 k n)) n := by
  rw [val_main_v48_apply, val_main_v44_apply, val_main_v43_apply, val_main_v42_apply, val_main_v41_apply, val_main_v40_apply, val_main_v39_apply, val_main_v38_apply, gateProd_read, upProd_read]
  exact hostGate_read _ _

/-- The down projection. -/
theorem down_read (n : Fin 1024) :
    val_main_v51 x0 x1 x2 x4 x5 x6 (ix3 b s n)
      = vecMat (fun k => val_main_v48 x0 x1 x2 x4 x5 (ix3 b s k)) (fun k n => x6 (ix3 1 k n)) n := by
  rw [val_main_v51_apply]
  unfold vecMat
  refine Finset.sum_congr rfl fun k _ => congrArg₂ (· * ·) (congrArg _ (ext3 rfl rfl rfl)) ?_
  rw [val_main_v50_apply, val_main_v49_apply]
  have hk := k.isLt
  have hn := n.isLt
  refine congrArg x6 (ext3 rfl ?_ ?_)
  · show (k.val * 1024 + n.val) / 1024 % 2816 = k.val
    omega
  · show (k.val * 1024 + n.val) % 1024 = n.val
    omega

include ht

/-- The result's row, before the batch is laid out as one list of tokens. -/
theorem out_read (n : Fin 1024) :
    val_main_v73 x0 x1 x2 x3 x4 x5 x6 (ix3 b s n) = specRow x0 x1 x2 x3 x4 x5 x6 t 0 n := by
  rw [val_main_v73_apply, val_main_v72_apply, val_main_v71_apply, val_main_v70_apply, val_main_v69_apply, val_main_v53_apply, val_main_v52_apply, ffnNorm_read,
    gates_read x1 _ 2 n rfl (by show 0 + 1 * (((0 * 1 + 0) * 1024 + n.val) % 1024) = n.val; have := n.isLt; omega), x_read x0 t b s ht]
  simp only [down_read, act_read, in_read, x_read x0 t b s ht]
  rfl

omit ht

/-- The rows laid out as one list of tokens. -/
theorem list_read (i : S4096x1024.Idx) (t : Fin 8192) (ht : t.val = (i 0).val) :
    val_main_v145 x0 x1 x2 x3 x4 x5 x6 i = specRow x0 x1 x2 x3 x4 x5 x6 t (tokenRow t) (i 1) := by
  have h0 : (i 0).val < 4096 := (i 0).isLt
  have h1 : (i 1).val < 1024 := (i 1).isLt
  rw [val_main_v145_apply]
  have e : idx_main_v145 i = ix3 (⟨(i 0).val / 256, by omega⟩ : Fin 16) (⟨(i 0).val % 256, by omega⟩ : Fin 256) (i 1) := by
    refine ext3 ?_ ?_ ?_
    · show ((i 0).val * 1024 + (i 1).val) / 262144 = (i 0).val / 256
      omega
    · show ((i 0).val * 1024 + (i 1).val) / 1024 % 256 = (i 0).val % 256
      omega
    · show ((i 0).val * 1024 + (i 1).val) % 1024 = (i 1).val
      omega
  rw [e]
  have hq : tokenRow t = 0 := Fin.ext (if_pos (by omega))
  rw [hq]
  exact out_read x0 x1 x2 x3 x4 x5 x6 t _ _ (by show t.val = (i 0).val / 256 * 256 + (i 0).val % 256; omega) (i 1)

end Cert.Opening.Prompt

end
-- ==== Proof.OpeningSamples.lean ====
/-
  The opening call's reference on the samples' tokens, row by row, up to the stacked result.
-/
module

public import proofs.«01_k».proof.Proof.HostRows
public import proofs.«01_k».proof.Proof.OpeningRows
public import proofs.«01_k».proof.Proof.Gen.Reference2Ideal.Run
public import proofs.«01_k».proof.Proof.Gen.Reference2Ideal.Read

@[expose] public section

noncomputable section

namespace Cert.Opening.Samples

open Idealize.ShloMosaic hiding ix1 ix2 ix3 ix4
open Idealize.ShloMosaic.ValueIdx
open Cert.Closing Cert.Reference2Ideal Cert.Reference2Ideal.Read

variable (x0 : (⟨S8192x1024, .f32⟩ : BufTy).Contents (Elt Ideal)) (x1 : (⟨S2x9x8x1024, .f32⟩ : BufTy).Contents (Elt Ideal))
    (x2 x3 : (⟨S2x3x1024, .f32⟩ : BufTy).Contents (Elt Ideal)) (x4 x5 : (⟨S2x1024x2816, .f32⟩ : BufTy).Contents (Elt Ideal))
    (x6 : (⟨S2x2816x1024, .f32⟩ : BufTy).Contents (Elt Ideal))

/-- The modulation tables of the samples: the second layer's rows, the first sample's under the second condition and the other's under the third. -/
theorem table_read (i : S2x1x9x1024.Idx) (q : Fin 8) (r : Fin 9) (n : Fin 1024) (hq : q.val = 1 + (i 0).val) (hr : (i 2).val = r.val) (hn : (i 3).val = n.val) :
    val_main_v77 x1 i = x1 (ix4 1 r q n) := by
  rw [val_main_v77_apply, val_main_v76_apply, val_main_v2_apply, val_main_v1_apply, val_main_v0_apply]
  have hq' := q.isLt
  have h2 := (i 2).isLt
  have h3 := (i 3).isLt
  have hr' := r.isLt
  have hn' := n.isLt
  refine congrArg x1 (ext4 rfl ?_ ?_ ?_)
  · show (((i 2).val * 8 + (1 + (i 0).val)) * 1024 + (i 3).val) / 8192 % 9 = r.val
    omega
  · show (((i 2).val * 8 + (1 + (i 0).val)) * 1024 + (i 3).val) / 1024 % 8 = q.val
    omega
  · show (((i 2).val * 8 + (1 + (i 0).val)) * 1024 + (i 3).val) % 1024 = n.val
    omega

/-- Every third row of it from the first. -/
theorem shifts_read (i : S2x1x3x1024.Idx) (q : Fin 8) (r : Fin 9) (n : Fin 1024) (hq : q.val = 1 + (i 0).val) (hr : 0 + 3 * (i 2).val = r.val) (hn : 0 + 1 * (i 3).val = n.val) :
    val_main_v78 x1 i = x1 (ix4 1 r q n) := by
  unfold val_main_v78 Host.slice
  exact table_read x1 _ q r n (by show q.val = 1 + (0 + 1 * (i 0).val); omega) hr hn

/-- Every third row of it from the second. -/
theorem scales_read (i : S2x1x3x1024.Idx) (q : Fin 8) (r : Fin 9) (n : Fin 1024) (hq : q.val = 1 + (i 0).val) (hr : 1 + 3 * (i 2).val = r.val) (hn : 0 + 1 * (i 3).val = n.val) :
    val_main_v79 x1 i = x1 (ix4 1 r q n) := by
  unfold val_main_v79 Host.slice
  exact table_read x1 _ q r n (by show q.val = 1 + (0 + 1 * (i 0).val); omega) hr hn

/-- Every third row of it from the third. -/
theorem gates_read (i : S2x1x3x1024.Idx) (q : Fin 8) (r : Fin 9) (n : Fin 1024) (hq : q.val = 1 + (i 0).val) (hr : 2 + 3 * (i 2).val = r.val) (hn : 0 + 1 * (i 3).val = n.val) :
    val_main_v80 x1 i = x1 (ix4 1 r q n) := by
  unfold val_main_v80 Host.slice
  exact table_read x1 _ q r n (by show q.val = 1 + (0 + 1 * (i 0).val); omega) hr hn

variable (t : Fin 8192) (b : Fin 2) (s : Fin 2048) (ht : t.val = 4096 + (b.val * 2048 + s.val)) (q : Fin 8) (hq : q.val = 1 + b.val)
include ht

/-- The stream's row. -/
theorem x_read (n : Fin 1024) : val_main_v75 x0 (ix3 b s n) = x0 (ix2 t n) := by
  rw [val_main_v75_apply, val_main_v74_apply]
  have hn := n.isLt
  refine congrArg x0 (Shape.idx_ext₂ ?_ ?_)
  · show 4096 + ((b.val * 2048 + s.val) * 1024 + n.val) / 1024 = t.val
    omega
  · show ((b.val * 2048 + s.val) * 1024 + n.val) % 1024 = n.val
    omega

omit ht

/-- The stream normalised. -/
theorem xNorm_read (n : Fin 1024) :
    val_main_v95 x0 x2 (ix3 b s n) = normRow (fun k => val_main_v75 x0 (ix3 b s k)) (fun n => x2 (ix3 1 0 n)) n := by
  rw [val_main_v95_apply, val_main_v92_apply, val_main_v91_apply, val_main_v90_apply, val_main_v89_apply, val_main_v87_apply, val_main_v85_apply, val_main_v84_apply, val_main_v86_apply, val_main_v88_apply, val_main_v94_apply, val_main_v93_apply, val_main_v82_apply, val_main_v81_apply]
  simp only [val_main_v83_apply]
  generalize val_main_v75 x0 = y
  refine hostNorm_read y (ix3 b s) _ ?_ _ _ n ?_
  · exact fun k => ext3 rfl rfl rfl
  · exact congrArg x2 (ext3 rfl rfl (Nat.mod_eq_of_lt n.isLt))

/-- The feed-forward output normalised. -/
theorem ffnNorm_read (n : Fin 1024) :
    val_main_v139 x0 x1 x2 x3 x4 x5 x6 (ix3 b s n) = normRow (fun k => val_main_v122 x0 x1 x2 x4 x5 x6 (ix3 b s k)) (fun n => x3 (ix3 1 0 n)) n := by
  rw [val_main_v139_apply, val_main_v136_apply, val_main_v135_apply, val_main_v134_apply, val_main_v133_apply, val_main_v131_apply, val_main_v129_apply, val_main_v128_apply, val_main_v130_apply, val_main_v132_apply, val_main_v138_apply, val_main_v137_apply, val_main_v126_apply, val_main_v125_apply]
  simp only [val_main_v127_apply]
  generalize val_main_v122 x0 x1 x2 x4 x5 x6 = y
  refine hostNorm_read y (ix3 b s) _ ?_ _ _ n ?_
  · exact fun k => ext3 rfl rfl rfl
  · exact congrArg x3 (ext3 rfl rfl (Nat.mod_eq_of_lt n.isLt))

include hq

/-- The feed-forward network's input. -/
theorem in_read (n : Fin 1024) :
    val_main_v105 x0 x1 x2 (ix3 b s n)
      = inRow (fun n => val_main_v75 x0 (ix3 b s n)) (fun n => x1 (ix4 1 0 q n)) (fun n => x1 (ix4 1 1 q n))
          (fun n => x2 (ix3 1 0 n)) n := by
  rw [val_main_v105_apply, val_main_v101_apply, xNorm_read, val_main_v100_apply, val_main_v99_apply, val_main_v98_apply, val_main_v97_apply, val_main_v96_apply, val_main_v104_apply, val_main_v103_apply, val_main_v102_apply,
    scales_read x1 _ q 1 n (by show q.val = 1 + ((b.val * 1 + 0) * 1024 + n.val) / 1024; have := n.isLt; omega) rfl (by show 0 + 1 * (((b.val * 1 + 0) * 1024 + n.val) % 1024) = n.val; have := n.isLt; omega),
    shifts_read x1 _ q 0 n (by show q.val = 1 + ((b.val * 1 + 0) * 1024 + n.val) / 1024; have := n.isLt; omega) rfl (by show 0 + 1 * (((b.val * 1 + 0) * 1024 + n.val) % 1024) = n.val; have := n.isLt; omega)]
  rfl

omit hq

/-- The gate's product. -/
theorem gateProd_read (n : Fin 2816) :
    val_main_v108 x0 x1 x2 x4 (ix3 b s n)
      = vecMat (fun k => val_main_v105 x0 x1 x2 (ix3 b s k)) (fun k n => x4 (ix3 1 k n)) n := by
  rw [val_main_v108_apply]
  unfold vecMat
  refine Finset.sum_congr rfl fun k _ => congrArg₂ (· * ·) (congrArg _ (ext3 rfl rfl rfl)) ?_
  rw [val_main_v107_apply, val_main_v106_apply]
  have hk := k.isLt
  have hn := n.isLt
  refine congrArg x4 (ext3 rfl ?_ ?_)
  · show (k.val * 2816 + n.val) / 2816 % 1024 = k.val
    omega
  · show (k.val * 2816 + n.val) % 2816 = n.val
    omega

/-- The other factor's product. -/
theorem upProd_read (n : Fin 2816) :
    val_main_v118 x0 x1 x2 x5 (ix3 b s n)
      = vecMat (fun k => val_main_v105 x0 x1 x2 (ix3 b s k)) (fun k n => x5 (ix3 1 k n)) n := by
  rw [val_main_v118_apply]
  unfold vecMat
  refine Finset.sum_congr rfl fun k _ => congrArg₂ (· * ·) (congrArg _ (ext3 rfl rfl rfl)) ?_
  rw [val_main_v117_apply, val_main_v116_apply]
  have hk := k.isLt
  have hn := n.isLt
  refine congrArg x5 (ext3 rfl ?_ ?_)
  · show (k.val * 2816 + n.val) / 2816 % 1024 = k.val
    omega
  · show (k.val * 2816 + n.val) % 2816 = n.val
    omega

/-- The gated activation. -/
theorem act_read (n : Fin 2816) :
    val_main_v119 x0 x1 x2 x4 x5 (ix3 b s n)
      = actRow (fun k => val_main_v105 x0 x1 x2 (ix3 b s k)) (fun k n => x4 (ix3 1 k n)) (fun k n => x5 (ix3 1 k n)) n := by
  rw [val_main_v119_apply, val_main_v115_apply, val_main_v114_apply, val_main_v113_apply, val_main_v112_apply, val_main_v111_apply, val_main_v110_apply, val_main_v109_apply, gateProd_read, upProd_read]
  exact hostGate_read _ _

/-- The down projection. -/
theorem down_read (n : Fin 1024) :
    val_main_v122 x0 x1 x2 x4 x5 x6 (ix3 b s n)
      = vecMat (fun k => val_main_v119 x0 x1 x2 x4 x5 (ix3 b s k)) (fun k n => x6 (ix3 1 k n)) n := by
  rw [val_main_v122_apply]
  unfold vecMat
  refine Finset.sum_congr rfl fun k _ => congrArg₂ (· * ·) (congrArg _ (ext3 rfl rfl rfl)) ?_
  rw [val_main_v121_apply, val_main_v120_apply]
  have hk := k.isLt
  have hn := n.isLt
  refine congrArg x6 (ext3 rfl ?_ ?_)
  · show (k.val * 1024 + n.val) / 1024 % 2816 = k.val
    omega
  · show (k.val * 1024 + n.val) % 1024 = n.val
    omega

include ht hq

/-- The result's row, before the batch is laid out as one list of tokens. -/
theorem out_read (n : Fin 1024) :
    val_main_v144 x0 x1 x2 x3 x4 x5 x6 (ix3 b s n) = specRow x0 x1 x2 x3 x4 x5 x6 t q n := by
  rw [val_main_v144_apply, val_main_v143_apply, val_main_v142_apply, val_main_v141_apply, val_main_v140_apply, val_main_v124_apply, val_main_v123_apply, ffnNorm_read,
    gates_read x1 _ q 2 n (by show q.val = 1 + ((b.val * 1 + 0) * 1024 + n.val) / 1024; have := n.isLt; omega) rfl (by show 0 + 1 * (((b.val * 1 + 0) * 1024 + n.val) % 1024) = n.val; have := n.isLt; omega), x_read x0 t b s ht]
  simp only [down_read, act_read, in_read x0 x1 x2 b s q hq, x_read x0 t b s ht]
  rfl

omit ht hq

/-- The rows laid out as one list of tokens. -/
theorem list_read (i : S4096x1024.Idx) (t : Fin 8192) (ht : t.val = 4096 + (i 0).val) :
    val_main_v146 x0 x1 x2 x3 x4 x5 x6 i = specRow x0 x1 x2 x3 x4 x5 x6 t (tokenRow t) (i 1) := by
  have h0 : (i 0).val < 4096 := (i 0).isLt
  have h1 : (i 1).val < 1024 := (i 1).isLt
  rw [val_main_v146_apply]
  have e : idx_main_v146 i = ix3 (⟨(i 0).val / 2048, by omega⟩ : Fin 2) (⟨(i 0).val % 2048, by omega⟩ : Fin 2048) (i 1) := by
    refine ext3 ?_ ?_ ?_
    · show ((i 0).val * 1024 + (i 1).val) / 2097152 = (i 0).val / 2048
      omega
    · show ((i 0).val * 1024 + (i 1).val) / 1024 % 2048 = (i 0).val % 2048
      omega
    · show ((i 0).val * 1024 + (i 1).val) % 1024 = (i 1).val
      omega
  rw [e]
  refine out_read x0 x1 x2 x3 x4 x5 x6 t _ _ (by show t.val = 4096 + ((i 0).val / 2048 * 2048 + (i 0).val % 2048); omega) _ ?_ (i 1)
  show (if t.val < 4096 then 0 else 1 + (t.val - 4096) / 2048) = 1 + (i 0).val / 2048
  rw [if_neg (by omega)]
  omega

end Cert.Opening.Samples

end
-- ==== Proof.OpeningEqual.lean ====
/-
  The first feed-forward call over the extended reals and its reference leave the same result.
-/
module

public import proofs.«01_k».proof.Proof.OpeningSame
public import proofs.«01_k».proof.Proof.OpeningOut
public import proofs.«01_k».proof.Proof.OpeningPrompt
public import proofs.«01_k».proof.Proof.OpeningSamples
public import proofs.«01_k».proof.Proof.Gen.Reference2Ideal
public import proofs.«01_k».proof.Defs

@[expose] public section

noncomputable section

namespace Cert.Opening

open Idealize.ShloMosaic hiding ix1 ix2 ix3 ix4
open Idealize.SL.Sem Idealize.ShloMosaic.ValueIdx

/-- The kernel's run over the extended reals: the result is the call's formula on every token. -/
theorem kernel_values (m : (ℓ : Loc Cert.Kernel2.nD Cert.Kernel2.τ Cert.Kernel2.sig) → Buf (Elt Ideal) ℓ) (g : Dev Cert.Kernel2.nD → PrngReg) :
    θ_run (Cert.Kernel2.defs (F := Ideal)) (onTc (τ := Cert.Kernel2.τ) (Cert.Kernel2.main (F := Ideal))) ⟨m, fun _ => 0, g⟩ (fun r =>
      (∀ c : Dev Cert.Kernel2.nD,
        r.2.mem ((c.tc : Thread Cert.Kernel2.nD Cert.Kernel2.τ).loc Cert.Kernel2.main_v0) = Cert.Kernel2.Opening.resultOf m c)) :=
  (θ_run _ _ _).mono (fun _ h c => ((h.1 c).1 4).trans (Cert.Kernel2.Opening.result_final m c))
    (Cert.Kernel2.Opening.run_values (F := Ideal) m g)

section results

open Cert.Reference2Ideal

variable (x0 : (⟨S8192x1024, .f32⟩ : BufTy).Contents (Elt Ideal)) (x1 : (⟨S2x9x8x1024, .f32⟩ : BufTy).Contents (Elt Ideal))
    (x2 x3 : (⟨S2x3x1024, .f32⟩ : BufTy).Contents (Elt Ideal)) (x4 x5 : (⟨S2x1024x2816, .f32⟩ : BufTy).Contents (Elt Ideal))
    (x6 : (⟨S2x2816x1024, .f32⟩ : BufTy).Contents (Elt Ideal))

/-- The reference's result, at an element: the prompt's rows above the samples'. -/
theorem result_read (i : S8192x1024.Idx) : Read.val_main_v147 x0 x1 x2 x3 x4 x5 x6 i = specOut x0 x1 x2 x3 x4 x5 x6 i := by
  have h0 : (i 0).val < 8192 := (i 0).isLt
  unfold Read.val_main_v147
  by_cases h : (i 0).val < 4096
  · refine (concatenate_pair_apply_left (s₁ := S4096x1024) (s₂ := S4096x1024) _ _ _ _ i rfl (ix2 ⟨(i 0).val, h⟩ (i 1)) fun a => ?_).trans ?_
    · match a with
      | ⟨0, _⟩ => rfl
      | ⟨1, _⟩ => rfl
    exact Prompt.list_read x0 x1 x2 x3 x4 x5 x6 (ix2 ⟨(i 0).val, h⟩ (i 1)) (i 0) rfl
  · refine (concatenate_pair_apply_right (s₁ := S4096x1024) (s₂ := S4096x1024) _ _ _ _ i rfl rfl
      (ix2 ⟨(i 0).val - 4096, by omega⟩ (i 1)) (fun a ha => ?_) ?_).trans ?_
    · match a with
      | ⟨0, _⟩ => exact absurd rfl ha
      | ⟨1, _⟩ => rfl
    · show (i 0).val - 4096 + 4096 = (i 0).val
      omega
    exact Samples.list_read x0 x1 x2 x3 x4 x5 x6 (ix2 ⟨(i 0).val - 4096, by omega⟩ (i 1)) (i 0)
      (by show (i 0).val = 4096 + ((i 0).val - 4096); omega)

variable (m : (ℓ : Loc Cert.Kernel2.nD Cert.Kernel2.τ Cert.Kernel2.sig) → Buf (Elt Ideal) ℓ) (c : Dev Cert.Kernel2.nD)
    (h0 : x0 = m ((c.tc : Thread Cert.Kernel2.nD Cert.Kernel2.τ).loc Cert.Kernel2.main_arg0))
    (h1 : x1 = m ((c.tc : Thread Cert.Kernel2.nD Cert.Kernel2.τ).loc Cert.Kernel2.main_arg1))
    (h2 : x2 = m ((c.tc : Thread Cert.Kernel2.nD Cert.Kernel2.τ).loc Cert.Kernel2.main_arg2))
    (h3 : x3 = m ((c.tc : Thread Cert.Kernel2.nD Cert.Kernel2.τ).loc Cert.Kernel2.main_arg3))
    (h4 : x4 = m ((c.tc : Thread Cert.Kernel2.nD Cert.Kernel2.τ).loc Cert.Kernel2.main_arg4))
    (h5 : x5 = m ((c.tc : Thread Cert.Kernel2.nD Cert.Kernel2.τ).loc Cert.Kernel2.main_arg5))
    (h6 : x6 = m ((c.tc : Thread Cert.Kernel2.nD Cert.Kernel2.τ).loc Cert.Kernel2.main_arg6))
include h0 h1 h2 h3 h4 h5 h6

/-- On the kernel's arguments the reference's result is the kernel's. -/
theorem result_at : Read.val_main_v147 x0 x1 x2 x3 x4 x5 x6 = Cert.Kernel2.Opening.resultOf m c := by
  subst h0 h1 h2 h3 h4 h5 h6
  exact funext fun i => result_read _ _ _ _ _ _ _ i

end results

/-- From equal arguments the two programs leave equal results. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Kernel2.Opening.resultOf m c, ?_, ?_⟩
  · rw [Cert.Kernel2.Opening.tables]
    exact (θ_run _ _ _).mono (fun _ h c => ⟨h.1 c, h.2.1 c⟩)
      (θ_run_and (kernel_values m g) (Cert.Kernel2.Opening.frame_values (F := Ideal) m g))
  · refine (θ_run _ _ _).mono (fun r h c => ?_) (Cert.Reference2Ideal.Value.run (F := Ideal) m' g')
    obtain ⟨e0, e1, e2, e3, e4, e5, e6⟩ := hargs c
    obtain ⟨hr, ha⟩ := h c
    refine ⟨hr.trans ?_, ha⟩
    exact (Cert.Reference2Ideal.Read.val_main_v147_eq m' c).trans
      (result_at _ _ _ _ _ _ _ m c e0 e1 e2 e3 e4 e5 e6)

end Cert.Opening

end
-- ==== Proof.EntrySetUp.lean ====
/-
  The launch of the first layer's opening call: the region's arrays and blocks as the launch finds them, the frame read from a run, the
  scratch buffers, the stacked weights and the cells of the two staging rings.
-/
module

public import proofs.«01_k».proof.Proof.Gen.Kernel3.Launch
public import proofs.«01_k».proof.Proof.Gen.Kernel3.Skeleton
public import proofs.«01_k».proof.Proof.Gen.Kernel3.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3.Entry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

/-- What the region finds in its buffers: the launch contents. -/
abbrev V (c : Dev nD) (b : Ref sig .tc) : Buf (Elt F) ((c : Thread nD τ).loc b) := m ((c : Thread nD τ).loc b)

set_option maxHeartbeats 800000 in
/-- The main function is the region alone. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for data over these arrays whose body leaves the block. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for data over these arrays whose body leaves the block. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for data over these arrays whose body leaves the block. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, for data over these arrays whose body leaves the block. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, for data over these arrays whose body leaves the block. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame -/

/-- The frame, from a run that leaves the windows' arrays and the other buffers as the proof data say. -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans (hA c 0),
      (Pipeline.RDat.FramePost.arr_in h c 1 rfl).trans (hA c 1),
      (Pipeline.RDat.FramePost.arr_in h c 2 rfl).trans (hA c 2),
      (Pipeline.RDat.FramePost.arr_in h c 3 rfl).trans (hA c 3),
      (Pipeline.RDat.FramePost.arr_in h c 4 rfl).trans (hA c 4),
      ((h c).2 main_arg5 (Pipeline.mem_restRefs_of main_arg5 (by decide) (by decide))),
      ((h c).2 main_arg6 (Pipeline.mem_restRefs_of main_arg6 (by decide) (by decide))),
      ((h c).2 main_arg7 (Pipeline.mem_restRefs_of main_arg7 (by decide) (by decide)))⟩) h

/-! ## The input windows are never idle -/

/-- Window 0 is never idle. -/
theorem liveAt0_0 : ∀ t : Fin cfg0.N, cfg0.idle 0 (grid0.coords t) = false := fun _ => rfl
/-- Window 1 is never idle. -/
theorem liveAt0_1 : ∀ t : Fin cfg0.N, cfg0.idle 1 (grid0.coords t) = false := fun _ => rfl
/-- Window 2 is never idle. -/
theorem liveAt0_2 : ∀ t : Fin cfg0.N, cfg0.idle 2 (grid0.coords t) = false := fun _ => rfl
/-- Window 3 is never idle. -/
theorem liveAt0_3 : ∀ t : Fin cfg0.N, cfg0.idle 3 (grid0.coords t) = false := fun _ => rfl
/-- Window 4 is never idle. -/
theorem liveAt0_4 : ∀ t : Fin cfg0.N, cfg0.idle 4 (grid0.coords t) = false := fun _ => rfl
/-- Window 5 stores at every point. -/
theorem liveAt0_5 : ∀ t : Fin cfg0.N, cfg0.idle 5 (grid0.coords t) = false := by decide +kernel
/-! ## The buffers the body works on -/

/-- Each window's staging memref at a point. -/
abbrev ms0_0 (t : Fin cfg0.N) : Memref sig .tc .vmem S512x1024 .f32 := win0_0.stage (cfg0.slots t 0)
abbrev ms0_1 (t : Fin cfg0.N) : Memref sig .tc .vmem S512x1024 .f32 := win0_1.stage (cfg0.slots t 1)
abbrev ms0_2 (t : Fin cfg0.N) : Memref sig .tc .vmem S1x9x8x1024 .f32 := win0_2.stage (cfg0.slots t 2)
abbrev ms0_3 (t : Fin cfg0.N) : Memref sig .tc .vmem S1x3x1024 .f32 := win0_3.stage (cfg0.slots t 3)
abbrev ms0_4 (t : Fin cfg0.N) : Memref sig .tc .vmem S1x3x1024 .f32 := win0_4.stage (cfg0.slots t 4)
abbrev ms0_5 (t : Fin cfg0.N) : Memref sig .tc .vmem S512x1024 .f32 := win0_5.stage (cfg0.slots t 5)
/-- The scratch buffers, whole. -/
abbrev scM0_0 : Memref sig .tc .vmem S1024x2816 .bf16 := Memref.whole cc0_scratch0
abbrev scM0_1 : Memref sig .tc .vmem S1024x2816 .bf16 := Memref.whole cc0_scratch1
abbrev scM0_2 : Memref sig .tc .vmem S2816x1024 .bf16 := Memref.whole cc0_scratch2
abbrev scM0_3 : Memref sig .tc .vmem S6x1024x256 .f32 := Memref.whole cc0_scoped0
abbrev scM0_4 : Memref sig .tc .vmem S3x256x1024 .f32 := Memref.whole cc0_scoped1
/-- The stacked weights, whole. -/
abbrev hbM0_0 : Memref sig .tc .hbm S2x1024x2816 .f32 := Memref.whole main_arg5
abbrev hbM0_1 : Memref sig .tc .hbm S2x1024x2816 .f32 := Memref.whole main_arg6
abbrev hbM0_2 : Memref sig .tc .hbm S2x2816x1024 .f32 := Memref.whole main_arg7
/-- The contents of a memref's buffer, -/
abbrev HbBuf0 (c : Dev nD) {sp : Space} {S : Shape} {e : EltTy} (M : Memref sig .tc sp S e) : Type := Buf (Elt F) (M.view.loc (c : Thread nD τ))
/-- and the buffer held whole at given contents. -/
abbrev hbPt0 (c : Dev nD) {sp : Space} {S : Shape} {e : EltTy} (M : Memref sig .tc sp S e) (f : HbBuf0 (F := F) c M) : sProp 𝕄 :=
  M.view.loc (c : Thread nD τ) ↦{fullShare} f

/-- The nine cells of the two staging rings. -/
abbrev osem0 : Fin 9 → SemLoc sig := fun j => (![SemLoc.dma 9, SemLoc.dma 10, SemLoc.dma 11, SemLoc.dma 12, SemLoc.dma 13, SemLoc.dma 14, SemLoc.dma 15, SemLoc.dma 16, SemLoc.dma 17] : Fin 9 → SemLoc sig) j
/-- None of them is a window's. -/
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) := by
  rw [Pipeline.ownSems0_eq_of_list c osem0 [0, 1, 2, 3, 4, 5, 6, 7, 8] (by decide) (by decide)]; rfl
/-- The stacked weights, which the body copies from. -/
def H0 : Finset (Ref sig .tc) := {main_arg5, main_arg6, main_arg7}
/-- None of them is a window's array. -/
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg5) ∗ hbPt0 c hbM0_1 (V m c main_arg6) ∗ hbPt0 c hbM0_2 (V m c main_arg7) ) := by
  rw [BI.bigSep_eq_bigSepL_of_eq [main_arg5, main_arg6, main_arg7] (by decide) (by decide)]; rfl

/-- The launch invariant, conjunct by conjunct: scratch at some contents, the generator register, the ring cells at zero,
    the stacked weights as launched. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r) ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) ∗ iprop(hbPt0 c hbM0_0 (V m c main_arg5) ∗ hbPt0 c hbM0_1 (V m c main_arg6) ∗ hbPt0 c hbM0_2 (V m c main_arg7) )) := by
  rw [Pipeline.ΦD_eq, scopedRest0_eq, ownSems00_eq, hbmPts0_eq]; simp only [scM0_0, scM0_1, scM0_2, scM0_3, scM0_4, owns_whole]; try rfl

end Cert.Kernel3.Entry

end
-- ==== Proof.EntryBlocks.lean ====
/-
  What one grid point of the first layer's opening call leaves in its output block: what a point of the second layer's
  leaves, of the block selected from the two streams and of the layer-zero weights; and the printed pieces of this program
  that are pieces of the other calls.
-/
module

public import proofs.«01_k».proof.Proof.EntrySetUp
public import proofs.«01_k».proof.Proof.OpeningBlocks

@[expose] public section

set_option maxRecDepth 16384

noncomputable section

namespace Cert.Kernel3.Entry

open Idealize.ShloMosaic Idealize.ShloMosaic.TcCoe
open Cert.Kernel3.Gen
open Cert.Kernel.Closing (colChunk rowChunk partialSum colStore rowStore)
open Cert.Kernel2.Opening (firstOut steadyOut firstH)

variable {F : FTy → Type} [FloatOps F] {sg : RefSig}

/-! ## The layer-zero weights -/

/-- The layer-zero gate or up projection, truncated. -/
def upW (f : Vec F S2x1024x2816 .f32) : Vec F S1024x2816 .bf16 :=
  fun p => FloatOps.truncf .bf16 bitsLt_bf16_f32 (f (ValueIdx.ix3 (0 : Fin 2) (p 0) (p 1)))

/-- The layer-zero down projection, truncated. -/
def downW (f : Vec F S2x2816x1024 .f32) : Vec F S2816x1024 .bf16 :=
  fun p => FloatOps.truncf .bf16 bitsLt_bf16_f32 (f (ValueIdx.ix3 (0 : Fin 2) (p 0) (p 1)))

/-- A copied column chunk of a layer-zero up projection, truncated, is that chunk of the truncated matrix. -/
theorem truncf_copy_up (v : View sg .tc .hbm S2x1024x2816 .f32) (k : ℕ) (inb hn) (f : v.ty.Contents (Elt F)) :
    (truncf .bf16 (φ := .f32) (ReadAs.same.apply (View.read (Elt F) (View.reshape (s := S1x1024x256) (v.slice (Rect.unit (s := S2x1024x2816) ![0, 0, k] ![1, 1024, 256] inb)) S1024x256 hn) f))
        bitsLt_bf16_f32 : FVec F S1024x256 .bf16)
      = View.ld (upW (v.read (Elt F) f)) (Rect.unit (s := S1024x2816) ![0, k] S1024x256.size (by intro a; match a with | ⟨0, _⟩ => exact Nat.le_refl _ | ⟨1, _⟩ => exact inb ⟨2, by decide⟩)) := by
  funext p
  refine congrArg (FloatOps.truncf .bf16 bitsLt_bf16_f32) ?_
  refine (shapeCast_dropUnit_apply S1024x256.size (View.readAt (Elt F) v (Rect.unit (s := S2x1024x2816) ![0, 0, k] ![1, 1024, 256] inb).toLoadRect f) shapeCasts_S1x1024x256_S1024x256 p).trans
    (congrArg (View.read (Elt F) v f) ?_)
  funext a
  match a with
  | ⟨0, _⟩ => exact Fin.ext rfl
  | ⟨1, _⟩ => exact Fin.ext rfl
  | ⟨2, _⟩ => exact Fin.ext rfl

/-- A copied row chunk of the layer-zero down projection, truncated, is that chunk of the truncated matrix. -/
theorem truncf_copy_down (v : View sg .tc .hbm S2x2816x1024 .f32) (k : ℕ) (inb hn) (f : v.ty.Contents (Elt F)) :
    (truncf .bf16 (φ := .f32) (ReadAs.same.apply (View.read (Elt F) (View.reshape (s := S1x256x1024) (v.slice (Rect.unit (s := S2x2816x1024) ![0, k, 0] ![1, 256, 1024] inb)) S256x1024 hn) f))
        bitsLt_bf16_f32 : FVec F S256x1024 .bf16)
      = View.ld (downW (v.read (Elt F) f)) (Rect.unit (s := S2816x1024) ![k, 0] S256x1024.size (by intro a; match a with | ⟨0, _⟩ => exact inb ⟨1, by decide⟩ | ⟨1, _⟩ => exact Nat.le_refl _)) := by
  funext p
  refine congrArg (FloatOps.truncf .bf16 bitsLt_bf16_f32) ?_
  refine (shapeCast_dropUnit_apply S256x1024.size (View.readAt (Elt F) v (Rect.unit (s := S2x2816x1024) ![0, k, 0] ![1, 256, 1024] inb).toLoadRect f) shapeCasts_S1x256x1024_S256x1024 p).trans
    (congrArg (View.read (Elt F) v f) ?_)
  funext a
  match a with
  | ⟨0, _⟩ => exact Fin.ext rfl
  | ⟨1, _⟩ => exact Fin.ext rfl
  | ⟨2, _⟩ => exact Fin.ext rfl

/-! ## The branch conditions of the body, in the point -/

/-- The first point stages the weights. -/
abbrev cond0_0 (i : grid0.Coords) : Prop := k0_cond1 i = 1#1

/-- It is the point with number zero. -/
theorem hcond0_0 : ∀ t : Fin cfg0.N, cond0_0 (grid0.coords t) ↔ t.val = 0 := by decide

/-- A later point finds the weights in scratch. -/
abbrev cond0_1 (i : grid0.Coords) : Prop := k0_cond2 i = 1#1

/-- It is any other point. -/
theorem hcond0_1 : ∀ t : Fin cfg0.N, cond0_1 (grid0.coords t) ↔ 1 ≤ t.val := by decide

variable (i : grid0.Coords)

/-- The block of the stream that a point works on: the prompt's at the first eight points, then the samples'. -/
def picked (x0 x1 : Vec F S512x1024 .f32) : Vec F S512x1024 .f32 :=
  k0_pay5 (Scalar.cmpi .slt (BitVec.ofNat 32 (i 0).val) 8#32) x0 x1

/-! The modulation rows are read where the second layer's call reads them. -/

theorem off1_eq : k0_off1 i = Cert.Kernel2.k0_off1 i := rfl
theorem off2_eq : k0_off2 i = Cert.Kernel2.k0_off2 i := rfl
theorem off3_eq : k0_off3 i = Cert.Kernel2.k0_off3 i := rfl
theorem off4_eq : k0_off4 i = Cert.Kernel2.k0_off4 i := rfl
theorem off5_eq : k0_off5 i = Cert.Kernel2.k0_off5 i := rfl

/-- The feed-forward network's input at the first point is the second layer's of the selected block. -/
theorem firstH_eq (h1 : k0_cond1 i = 1#1) (x0 x1 : Vec F S512x1024 .f32) (x2 : Vec F S1x9x8x1024 .f32) (x3 : Vec F S1x3x1024 .f32) :
    k0_pay6 (Scalar.cmpi .slt (BitVec.ofNat 32 (i 0).val) 8#32) x0 x1
      (View.ld x2 (Rect.unit (k0_off2 i) S1x1x1x1024.size (k0_off2_inb i h1)))
      (View.ld x2 (Rect.unit (k0_off3 i) S1x1x1x1024.size (k0_off3_inb i h1)))
      (View.ld x3 (Rect.unit ![0, 0, 0] S1x1x1024.size inb_S1x3x1024_S1x1x1024_0_0_0)) = firstH i h1 (picked i x0 x1) x2 x3 := rfl

/-- A later point's block is the second layer's of the selected block. -/
theorem steady_eq (h2 : k0_cond2 i = 1#1) (x0 x1 : Vec F S512x1024 .f32) (x2 : Vec F S1x9x8x1024 .f32) (x3 x4 : Vec F S1x3x1024 .f32)
    (wg wu : Vec F S1024x2816 .bf16) (wd : Vec F S2816x1024 .bf16) (b : BitVec 1) (hb : b = Scalar.cmpi .slt (BitVec.ofNat 32 (i 0).val) 8#32)
    (sh sc gt : Vec F S1x1x1x1024 .f32) (pr po : Vec F S1x1x1024 .f32)
    (hgt : gt = View.ld x2 (Rect.unit (k0_off1 i) S1x1x1x1024.size (k0_off1_inb i)))
    (hsh : sh = View.ld x2 (Rect.unit (k0_off4 i) S1x1x1x1024.size (k0_off4_inb i h2)))
    (hsc : sc = View.ld x2 (Rect.unit (k0_off5 i) S1x1x1x1024.size (k0_off5_inb i h2)))
    (hpr : pr = View.ld x3 (Rect.unit ![0, 0, 0] S1x1x1024.size inb_S1x3x1024_S1x1x1024_0_0_0))
    (hpo : po = View.ld x4 (Rect.unit ![0, 0, 0] S1x1x1024.size inb_S1x3x1024_S1x1x1024_0_0_0)) :
    k0_pay4 gt po (k0_pay62 (k0_pay1 gt) (k0_pay2 po) (k0_pay57 b x0 x1) (k0_pay60 b x0 x1 sh sc pr wu) (k0_pay61 b x0 x1 sh sc pr wg) wd)
      (k0_pay63 (k0_pay58 b x0 x1 sh sc pr) wg wu wd) (k0_pay64 (k0_pay57 b x0 x1)) (k0_pay65 (k0_pay58 b x0 x1 sh sc pr) wg wu wd)
      = steadyOut i h2 (picked i x0 x1) x2 x3 x4 wg wu wd := by
  subst hb hgt hsh hsc hpr hpo
  rfl

/-- The first point's block from its stream, its feed-forward output and the last chunk. -/
theorem first_eq (gt : Vec F S1x1x1x1024 .f32) (po : Vec F S1x1x1024 .f32) (x : Vec F S512x1024 .f32) (h : FVec F S512x1024 .bf16)
    (a : FVec F S512x1024 .f32) (wg wu : Vec F S1024x256 .bf16) (wd : Vec F S256x1024 .bf16) :
    k0_pay3 gt po x (k0_pay55 h a wg wu wd) (k0_pay56 h a wg wu wd)
      = Cert.Kernel2.Gen.k0_pay3 gt po x (Cert.Kernel.Gen.k0_pay24 h a wg wu wd) (Cert.Kernel2.Gen.k0_pay60 h a wg wu wd) := rfl

/-! The printed stores of a staged chunk are the closing call's. -/

theorem colStore_eq7 : @k0_pay7 F _ = colStore := rfl
theorem colStore_eq13 : @k0_pay13 F _ = colStore := rfl
theorem colStore_eq14 : @k0_pay14 F _ = colStore := rfl
theorem colStore_eq17 : @k0_pay17 F _ = colStore := rfl
theorem colStore_eq18 : @k0_pay18 F _ = colStore := rfl
theorem colStore_eq21 : @k0_pay21 F _ = colStore := rfl
theorem colStore_eq22 : @k0_pay22 F _ = colStore := rfl
theorem colStore_eq25 : @k0_pay25 F _ = colStore := rfl
theorem colStore_eq30 : @k0_pay30 F _ = colStore := rfl
theorem colStore_eq31 : @k0_pay31 F _ = colStore := rfl
theorem colStore_eq35 : @k0_pay35 F _ = colStore := rfl
theorem colStore_eq36 : @k0_pay36 F _ = colStore := rfl
theorem colStore_eq41 : @k0_pay41 F _ = colStore := rfl
theorem colStore_eq44 : @k0_pay44 F _ = colStore := rfl
theorem colStore_eq45 : @k0_pay45 F _ = colStore := rfl
theorem colStore_eq48 : @k0_pay48 F _ = colStore := rfl
theorem colStore_eq49 : @k0_pay49 F _ = colStore := rfl
theorem colStore_eq52 : @k0_pay52 F _ = colStore := rfl
theorem colStore_eq53 : @k0_pay53 F _ = colStore := rfl
theorem rowStore_eq10 : @k0_pay10 F _ = rowStore := rfl
theorem rowStore_eq15 : @k0_pay15 F _ = rowStore := rfl
theorem rowStore_eq19 : @k0_pay19 F _ = rowStore := rfl
theorem rowStore_eq23 : @k0_pay23 F _ = rowStore := rfl
theorem rowStore_eq28 : @k0_pay28 F _ = rowStore := rfl
theorem rowStore_eq32 : @k0_pay32 F _ = rowStore := rfl
theorem rowStore_eq37 : @k0_pay37 F _ = rowStore := rfl
theorem rowStore_eq42 : @k0_pay42 F _ = rowStore := rfl
theorem rowStore_eq46 : @k0_pay46 F _ = rowStore := rfl
theorem rowStore_eq50 : @k0_pay50 F _ = rowStore := rfl
theorem rowStore_eq54 : @k0_pay54 F _ = rowStore := rfl
theorem colStore_eq8 (v : Vec F S1x1024x256 .f32) : k0_pay9 (k0_pay8 v) = colStore v := rfl
theorem colStore_eq26 (v : Vec F S1x1024x256 .f32) : k0_pay27 (k0_pay26 v) = colStore v := rfl
theorem colStore_eq39 (v : Vec F S1x1024x256 .f32) : k0_pay40 (k0_pay39 v) = colStore v := rfl

/-! So are the chunks' down projections. -/

theorem chunk_eq16 : @k0_pay16 F _ = Cert.Kernel.Gen.k0_pay24 := rfl
theorem chunk_eq20 : @k0_pay20 F _ = Cert.Kernel.Gen.k0_pay24 := rfl
theorem chunk_eq24 : @k0_pay24 F _ = Cert.Kernel.Gen.k0_pay24 := rfl
theorem chunk_eq29 : @k0_pay29 F _ = Cert.Kernel.Gen.k0_pay24 := rfl
theorem chunk_eq38 : @k0_pay38 F _ = Cert.Kernel.Gen.k0_pay24 := rfl
theorem chunk_eq43 : @k0_pay43 F _ = Cert.Kernel.Gen.k0_pay24 := rfl
theorem chunk_eq47 : @k0_pay47 F _ = Cert.Kernel.Gen.k0_pay24 := rfl
theorem chunk_eq51 : @k0_pay51 F _ = Cert.Kernel.Gen.k0_pay24 := rfl
theorem chunk_eq11 (h : FVec F S512x1024 .bf16) (wg wu : Vec F S1024x256 .bf16) (wd : Vec F S256x1024 .bf16) :
    k0_pay12 (k0_pay11 h wg wu) wd = Cert.Kernel.Gen.k0_pay19 h wg wu wd := rfl
theorem chunk_eq33 (h : FVec F S512x1024 .bf16) (a : FVec F S512x1024 .f32) (wg wu : Vec F S1024x256 .bf16) (wd : Vec F S256x1024 .bf16) :
    k0_pay34 h a (k0_pay33 h wg) wu wd = Cert.Kernel.Gen.k0_pay24 h a wg wu wd := rfl

end Cert.Kernel3.Entry

end
-- ==== Proof.EntrySteady.lean ====
/-
  A later grid point's run of the first layer's opening call, for any values: over whole staging memrefs at the input blocks and
  the three weight scratch buffers at any weights, the body leaves `steadyOut` in its output block and changes nothing else.
-/
module

public import proofs.«01_k».proof.Proof.EntryBlocks
public import Idealize.ShloMosaic.Lib.Pipeline.ValueKit
public import Idealize.ShloMosaic.Lib.VecWindow

@[expose] public section

set_option maxRecDepth 16384

noncomputable section

namespace Cert.Kernel3.Entry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3.Gen
open Cert.Kernel.Closing (colStore rowStore readAt_other_slot colStore_hit rowStore_hit read_blocks)
open Cert.Kernel2.Opening (firstOut steadyOut)

variable {F : FTy → Type} [FloatOps F]

local notation "𝕄" => MT nD τ sig Unit (Elt F) ℕ (Pipeline.UD sig nD τ) ℕ

set_option maxHeartbeats 3460000 in
/-- A later point: the body leaves `steadyOut` in the output window. -/
theorem steady_point (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x9x8x1024 .f32) (harg3 : arg3.IsWhole) (arg4 : Memref sig .tc .vmem S1x3x1024 .f32) (harg4 : arg4.IsWhole) (arg5 : Memref sig .tc .vmem S1x3x1024 .f32) (harg5 : arg5.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (alloca_r0 : Memref sig .tc .vmem S6x1024x256 .f32) (halloca_r0 : alloca_r0.IsWhole) (alloca_49_r0 : Memref sig .tc .vmem S3x256x1024 .f32) (halloca_49_r0 : alloca_49_r0.IsWhole) (hc0 : ¬cond0_0 i) (hc1 : cond0_1 i)
    (x0 x1 : Vec F S512x1024 .f32) (x2 : Vec F S1x9x8x1024 .f32) (x3 x4 : Vec F S1x3x1024 .f32) (s0 s1 : Vec F S1024x2816 .bf16) (s2 : Vec F S2816x1024 .bf16) :
      ∀ (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg9 fullShare d) ∗ owns (c : Thread nD τ) arg10 fullShare s0 ∗ owns (c : Thread nD τ) arg11 fullShare s1 ∗ owns (c : Thread nD τ) arg12 fullShare s2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg9 fullShare (steadyOut i hc1 (picked i x0 x1) x2 x3 x4 s0 s1 s2) ∗ owns (c : Thread nD τ) arg10 fullShare s0 ∗ owns (c : Thread nD τ) arg11 fullShare s1 ∗ owns (c : Thread nD τ) arg12 fullShare s2) -∗ K ⟨⟩))
          ⊢ wp frame (wpE (defs₀ (F := F)) Variants.none c none) Set.univ (cc0_ffn0 i arg1 harg1 arg2 harg2 arg3 harg3 arg4 harg4 arg5 harg5 (Memref.whole main_arg5) (Memref.isWhole_whole _) (Memref.whole main_arg6) (Memref.isWhole_whole _) (Memref.whole main_arg7) (Memref.isWhole_whole _) arg9 harg9 arg10 harg10 arg11 harg11 arg12 harg12 alloca_r0 halloca_r0 alloca_49_r0 halloca_49_r0 cc0_scoped2 cc0_scoped3) K := by
    intro K
    simp only [cc0_ffn0_eq_skeleton]; unfold cc0_ffn0_skel
    simp only [k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg10.eq_unread hfs0; obtain rfl := harg11.eq_unread hfs1; obtain rfl := harg12.eq_unread hfs2
    sl_exec (disch := first | sl_exact hc0 | sl_exact hc1)
    sl_step
    iapply Hk
    isplitl [H0]
    · iexists _; isplitr [H0]
      · ipureintro; exact hf0
      · iexact H0
    isplitl [H1]
    · iexists _; isplitr [H1]
      · ipureintro; exact hf1
      · iexact H1
    isplitl [H2]
    · iexists _; isplitr [H2]
      · ipureintro; exact hf2
      · iexact H2
    isplitl [H3]
    · iexists _; isplitr [H3]
      · ipureintro; exact hf3
      · iexact H3
    isplitl [H4]
    · iexists _; isplitr [H4]
      · ipureintro; exact hf4
      · iexact H4
    isplitl [H5]
    · iexists _; isplitr [H5]
      rotate_left
      · iexact H5
      · ipureintro
        refine (View.read_writes_full _ _ inb_S512x1024_S512x1024_0_0 _ []).trans ?_
        sl_unfold_words
        simp only [View.readAt_eq_ld, Memref.IsWhole.read_unread]
        simp (disch := decide) only [View.ld_unit_lit]
        first
          | exact steady_eq i hc1 x0 x1 x2 x3 x4 s0 s1 s2 _ rfl _ _ _ _ _ rfl rfl rfl rfl rfl
          | rfl
    isplitl [HS0]
    · iexists _; isplitr [HS0]
      · ipureintro; exact hfs0
      · iexact HS0
    isplitl [HS1]
    · iexists _; isplitr [HS1]
      · ipureintro; exact hfs1
      · iexact HS1
    · iexists _; isplitr [HS2]
      · ipureintro; exact hfs2
      · iexact HS2

end Cert.Kernel3.Entry

end
-- ==== Proof.EntryFirst.lean ====
/-
  The first grid point's run of the first layer's opening call, for any values: it copies the three layer-zero weight matrices
  through two staging rings into scratch, truncated, computes its output block chunk by chunk meanwhile, and leaves every
  semaphore at zero.
-/
module

public import proofs.«01_k».proof.Proof.EntryBlocks
public import Idealize.ShloMosaic.Lib.Pipeline.ValueKit
public import Idealize.ShloMosaic.Lib.VecWindow

@[expose] public section

set_option maxRecDepth 16384

noncomputable section

namespace Cert.Kernel3.Entry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3.Gen
open Cert.Kernel.Closing (colStore rowStore readAt_other_slot colStore_hit rowStore_hit read_blocks)
open Cert.Kernel2.Opening (firstOut steadyOut)

variable {F : FTy → Type} [FloatOps F]

local notation "𝕄" => MT nD τ sig Unit (Elt F) ℕ (Pipeline.UD sig nD τ) ℕ

set_option maxHeartbeats 3460000 in
set_option sl_exec.dmaWindow true in
set_option sl_exec.dmaWindowSet true in
/-- The first point: the body copies the layer-zero weights in, leaves their truncations in the three scratch matrices and
    `firstOut` in the output window, and hands back everything else as it was, the staging rings at some contents. -/
theorem first_point (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x9x8x1024 .f32) (harg3 : arg3.IsWhole) (arg4 : Memref sig .tc .vmem S1x3x1024 .f32) (harg4 : arg4.IsWhole) (arg5 : Memref sig .tc .vmem S1x3x1024 .f32) (harg5 : arg5.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (alloca_r0 : Memref sig .tc .vmem S6x1024x256 .f32) (halloca_r0 : alloca_r0.IsWhole) (alloca_49_r0 : Memref sig .tc .vmem S3x256x1024 .f32) (halloca_49_r0 : alloca_49_r0.IsWhole) (hc0 : cond0_0 i) (hc1 : ¬cond0_1 i)
    (x0 x1 : Vec F S512x1024 .f32) (x2 : Vec F S1x9x8x1024 .f32) (x3 x4 : Vec F S1x3x1024 .f32) (fh0 : HbBuf0 (F := F) c hbM0_0) (fh1 : HbBuf0 (F := F) c hbM0_1) (fh2 : HbBuf0 (F := F) c hbM0_2) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) alloca_r0 fullShare d) ∗ (∃ d, owns (c : Thread nD τ) alloca_49_r0 fullShare d) ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ hbPt0 c hbM0_0 fh0 ∗ hbPt0 c hbM0_1 fh1 ∗ hbPt0 c hbM0_2 fh2 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg9 fullShare (firstOut i hc0 (picked i x0 x1) x2 x3 x4 (upW (hbM0_0.view.read (Elt F) fh0)) (upW (hbM0_1.view.read (Elt F) fh1)) (downW (hbM0_2.view.read (Elt F) fh2))) ∗ owns (c : Thread nD τ) arg10 fullShare (upW (hbM0_0.view.read (Elt F) fh0)) ∗ owns (c : Thread nD τ) arg11 fullShare (upW (hbM0_1.view.read (Elt F) fh1)) ∗ owns (c : Thread nD τ) arg12 fullShare (downW (hbM0_2.view.read (Elt F) fh2)) ∗ (∃ d, owns (c : Thread nD τ) alloca_r0 fullShare d) ∗ (∃ d, owns (c : Thread nD τ) alloca_49_r0 fullShare d) ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_ffn0 i arg1 harg1 arg2 harg2 arg3 harg3 arg4 harg4 arg5 harg5 (Memref.whole main_arg5) (Memref.isWhole_whole _) (Memref.whole main_arg6) (Memref.isWhole_whole _) (Memref.whole main_arg7) (Memref.isWhole_whole _) arg9 harg9 arg10 harg10 arg11 harg11 arg12 harg12 alloca_r0 halloca_r0 alloca_49_r0 halloca_49_r0 cc0_scoped2 cc0_scoped3) K := by
    intro W K
    simp only [cc0_ffn0_eq_skeleton]; unfold cc0_ffn0_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, Hq0, Hq1, Hq2, Hq3, Hq4, Hq5, Hq6, Hq7, Hq8, Hh0, Hh1, Hh2, HW, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr [H0]
      · ipureintro; exact hf0
      · iexact H0
    isplitl [H1]
    · iexists _; isplitr [H1]
      · ipureintro; exact hf1
      · iexact H1
    isplitl [H2]
    · iexists _; isplitr [H2]
      · ipureintro; exact hf2
      · iexact H2
    isplitl [H3]
    · iexists _; isplitr [H3]
      · ipureintro; exact hf3
      · iexact H3
    isplitl [H4]
    · iexists _; isplitr [H4]
      · ipureintro; exact hf4
      · iexact H4
    isplitl [H5]
    · iexists _; isplitr; swap; · iexact H5
      · ipureintro
        refine (View.read_writes_full _ _ inb_S512x1024_S512x1024_0_0 _ []).trans ?_
        sl_unfold_words
        simp (disch := decide) only [colStore_eq7, colStore_eq13, colStore_eq14, colStore_eq17, colStore_eq18, colStore_eq21, colStore_eq22, colStore_eq25, colStore_eq30, colStore_eq31, colStore_eq35, colStore_eq36, colStore_eq41, colStore_eq44, colStore_eq45, colStore_eq48, colStore_eq49, colStore_eq52, colStore_eq53, colStore_eq8, colStore_eq26, colStore_eq39, rowStore_eq10, rowStore_eq15, rowStore_eq19, rowStore_eq23, rowStore_eq28, rowStore_eq32, rowStore_eq37, rowStore_eq42, rowStore_eq46, rowStore_eq50, rowStore_eq54, readAt_other_slot, colStore_hit, rowStore_hit, truncf_copy_up _ 0, truncf_copy_up _ 256, truncf_copy_up _ 512, truncf_copy_up _ 768, truncf_copy_up _ 1024, truncf_copy_up _ 1280, truncf_copy_up _ 1536, truncf_copy_up _ 1792, truncf_copy_up _ 2048, truncf_copy_up _ 2304, truncf_copy_up _ 2560, truncf_copy_down _ 0, truncf_copy_down _ 256, truncf_copy_down _ 512, truncf_copy_down _ 768, truncf_copy_down _ 1024, truncf_copy_down _ 1280, truncf_copy_down _ 1536, truncf_copy_down _ 1792, truncf_copy_down _ 2048, truncf_copy_down _ 2304, truncf_copy_down _ 2560, View.readCov_cons_toLoadRect, chunk_eq16, chunk_eq20, chunk_eq24, chunk_eq29, chunk_eq38, chunk_eq43, chunk_eq47, chunk_eq51, chunk_eq11, chunk_eq33]
        simp only [View.readAt_eq_ld, Memref.IsWhole.read_unread]
        simp (disch := decide) only [View.ld_unit_lit]
        first
          | exact first_eq _ _ _ _ _ _ _ _
          | exact (first_eq _ _ _ _ _ _ _ _).trans rfl
          | rfl
    isplitl [HS0]
    · iexists _; isplitr; swap; · iexact HS0
      · ipureintro
        refine read_blocks _ _ _ _ ?_ (View.cover_of_tiledL _ S1024x256.size (by rfl))
        sl_unfold_words
        simp (disch := decide) only [colStore_eq7, colStore_eq13, colStore_eq14, colStore_eq17, colStore_eq18, colStore_eq21, colStore_eq22, colStore_eq25, colStore_eq30, colStore_eq31, colStore_eq35, colStore_eq36, colStore_eq41, colStore_eq44, colStore_eq45, colStore_eq48, colStore_eq49, colStore_eq52, colStore_eq53, colStore_eq8, colStore_eq26, colStore_eq39, rowStore_eq10, rowStore_eq15, rowStore_eq19, rowStore_eq23, rowStore_eq28, rowStore_eq32, rowStore_eq37, rowStore_eq42, rowStore_eq46, rowStore_eq50, rowStore_eq54, readAt_other_slot, colStore_hit, rowStore_hit, truncf_copy_up _ 0, truncf_copy_up _ 256, truncf_copy_up _ 512, truncf_copy_up _ 768, truncf_copy_up _ 1024, truncf_copy_up _ 1280, truncf_copy_up _ 1536, truncf_copy_up _ 1792, truncf_copy_up _ 2048, truncf_copy_up _ 2304, truncf_copy_up _ 2560]
        exact ⟨fun _ => rfl, fun _ => rfl, fun _ => rfl, fun _ => rfl, fun _ => rfl, fun _ => rfl, fun _ => rfl, fun _ => rfl, fun _ => rfl, fun _ => rfl, fun _ => rfl, trivial⟩
    isplitl [HS1]
    · iexists _; isplitr; swap; · iexact HS1
      · ipureintro
        refine read_blocks _ _ _ _ ?_ (View.cover_of_tiledL _ S1024x256.size (by rfl))
        sl_unfold_words
        simp (disch := decide) only [colStore_eq7, colStore_eq13, colStore_eq14, colStore_eq17, colStore_eq18, colStore_eq21, colStore_eq22, colStore_eq25, colStore_eq30, colStore_eq31, colStore_eq35, colStore_eq36, colStore_eq41, colStore_eq44, colStore_eq45, colStore_eq48, colStore_eq49, colStore_eq52, colStore_eq53, colStore_eq8, colStore_eq26, colStore_eq39, rowStore_eq10, rowStore_eq15, rowStore_eq19, rowStore_eq23, rowStore_eq28, rowStore_eq32, rowStore_eq37, rowStore_eq42, rowStore_eq46, rowStore_eq50, rowStore_eq54, readAt_other_slot, colStore_hit, rowStore_hit, truncf_copy_up _ 0, truncf_copy_up _ 256, truncf_copy_up _ 512, truncf_copy_up _ 768, truncf_copy_up _ 1024, truncf_copy_up _ 1280, truncf_copy_up _ 1536, truncf_copy_up _ 1792, truncf_copy_up _ 2048, truncf_copy_up _ 2304, truncf_copy_up _ 2560]
        exact ⟨fun _ => rfl, fun _ => rfl, fun _ => rfl, fun _ => rfl, fun _ => rfl, fun _ => rfl, fun _ => rfl, fun _ => rfl, fun _ => rfl, fun _ => rfl, fun _ => rfl, trivial⟩
    isplitl [HS2]
    · iexists _; isplitr; swap; · iexact HS2
      · ipureintro
        refine read_blocks _ _ _ _ ?_ (View.cover_of_tiledL _ S256x1024.size (by rfl))
        sl_unfold_words
        simp (disch := decide) only [colStore_eq7, colStore_eq13, colStore_eq14, colStore_eq17, colStore_eq18, colStore_eq21, colStore_eq22, colStore_eq25, colStore_eq30, colStore_eq31, colStore_eq35, colStore_eq36, colStore_eq41, colStore_eq44, colStore_eq45, colStore_eq48, colStore_eq49, colStore_eq52, colStore_eq53, colStore_eq8, colStore_eq26, colStore_eq39, rowStore_eq10, rowStore_eq15, rowStore_eq19, rowStore_eq23, rowStore_eq28, rowStore_eq32, rowStore_eq37, rowStore_eq42, rowStore_eq46, rowStore_eq50, rowStore_eq54, readAt_other_slot, colStore_hit, rowStore_hit, truncf_copy_down _ 0, truncf_copy_down _ 256, truncf_copy_down _ 512, truncf_copy_down _ 768, truncf_copy_down _ 1024, truncf_copy_down _ 1280, truncf_copy_down _ 1536, truncf_copy_down _ 1792, truncf_copy_down _ 2048, truncf_copy_down _ 2304, truncf_copy_down _ 2560]
        exact ⟨fun _ => rfl, fun _ => rfl, fun _ => rfl, fun _ => rfl, fun _ => rfl, fun _ => rfl, fun _ => rfl, fun _ => rfl, fun _ => rfl, fun _ => rfl, fun _ => rfl, trivial⟩
    isplitl [HS3]
    · iexists _, _; isplitr; swap; · iexact HS3
      · ipureintro; rfl
    isplitl [HS4]
    · iexists _, _; isplitr; swap; · iexact HS4
      · ipureintro; rfl
    isplitl [Hq0]
    · iexact Hq0
    isplitl [Hq1]
    · iexact Hq1
    isplitl [Hq2]
    · iexact Hq2
    isplitl [Hq3]
    · iexact Hq3
    isplitl [Hq4]
    · iexact Hq4
    isplitl [Hq5]
    · iexact Hq5
    isplitl [Hq6]
    · iexact Hq6
    isplitl [Hq7]
    · iexact Hq7
    isplitl [Hq8]
    · iexact Hq8
    isplitl [Hh0]
    · iexact Hh0
    isplitl [Hh1]
    · iexact Hh1
    isplitl [Hh2]
    · iexact Hh2
    iexists _; iexact HW

end Cert.Kernel3.Entry

end
-- ==== Proof.EntryRun.lean ====
/-
  The first layer's opening call's run for any values: the proof data (what the output window holds after each point, the
  invariant that names the three weight matrices in scratch from the second point on), the body at every point, the
  launch, and the frame read from it.
-/
module

public import proofs.«01_k».proof.Proof.EntrySteady
public import proofs.«01_k».proof.Proof.EntryFirst

@[expose] public section

set_option maxRecDepth 16384

noncomputable section

namespace Cert.Kernel3.Entry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3.Gen
open Cert.Kernel2.Opening (firstOut steadyOut)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the run leaves -/

/-- The gate projection the points after the first find in scratch. -/
def gateOf (c : Dev nD) : Vec F S1024x2816 .bf16 := upW (hbM0_0.view.read (Elt F) (V m c main_arg5))
/-- The up projection in scratch. -/
def upOf (c : Dev nD) : Vec F S1024x2816 .bf16 := upW (hbM0_1.view.read (Elt F) (V m c main_arg6))
/-- The down projection in scratch. -/
def downOf (c : Dev nD) : Vec F S2816x1024 .bf16 := downW (hbM0_2.view.read (Elt F) (V m c main_arg7))

/-- The block a point computes, from its input blocks and the layer-zero weights. -/
def blockOut (c : Dev nD) (t : Fin cfg0.N) : Vec F S512x1024 .f32 :=
  if h : t.val = 0 then
    firstOut (grid0.coords t) ((hcond0_0 t).mpr h) (picked (grid0.coords t) (iblk m c 0 t) (iblk m c 1 t)) (iblk m c 2 t) (iblk m c 3 t) (iblk m c 4 t) (gateOf m c) (upOf m c) (downOf m c)
  else
    steadyOut (grid0.coords t) ((hcond0_1 t).mpr (by omega)) (picked (grid0.coords t) (iblk m c 0 t) (iblk m c 1 t)) (iblk m c 2 t) (iblk m c 3 t) (iblk m c 4 t) (gateOf m c) (upOf m c) (downOf m c)

/-- The invariant from the second point on: the three weight matrices named in scratch, the staging rings at some
    contents, the register, the body's own semaphores at zero and the weights' arrays as at the start. -/
def named (c : Dev nD) : sProp 𝕄 :=
  iprop(iprop(owns (c : Thread nD τ) scM0_0 fullShare (gateOf m c) ∗ owns (c : Thread nD τ) scM0_1 fullShare (upOf m c) ∗ owns (c : Thread nD τ) scM0_2 fullShare (downOf m c) ∗ (∃ d, owns (c : Thread nD τ) scM0_3 fullShare d) ∗ (∃ d, owns (c : Thread nD τ) scM0_4 fullShare d))
    ∗ (∃ r, prngReg c r)
    ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0)
    ∗ iprop(hbPt0 c hbM0_0 (V m c main_arg5) ∗ hbPt0 c hbM0_1 (V m c main_arg6) ∗ hbPt0 c hbM0_2 (V m c main_arg7)))

/-- The proof data: inputs stay at their blocks, the output holds the block of the point; the invariant starts as the
    launch gives it and is `named` after the first point. -/
def datsV (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockOut m c t
  Φ t := if t.val = 0 then Pipeline.ΦD osem0 spec0 H0 (V m) c else named m c
  q _ := fullShare
  owed _ := 0

theorem phi_zero (c : Dev nD) (t : Fin (cfg0.N + 1)) (h : t.val = 0) : (datsV m 0 c).Φ t = Pipeline.ΦD osem0 spec0 H0 (V m) c := by
  dsimp only [datsV]; rw [if_pos h]

theorem phi_pos (c : Dev nD) (t : Fin (cfg0.N + 1)) (h : t.val ≠ 0) : (datsV m 0 c).Φ t = named m c := by
  dsimp only [datsV]; rw [if_neg h]

theorem arr_eq (c : Dev nD) (w : Fin cfg0.W) : (datsV m 0 c).A w = V m c (Pipeline.arrRef spec0 w) := by dsimp only [datsV]

theorem afterV_0 (c : Dev nD) (t : Fin cfg0.N) : (datsV m 0 c).after 0 t = iblk m c 0 t := by dsimp only [datsV]
theorem afterV_1 (c : Dev nD) (t : Fin cfg0.N) : (datsV m 0 c).after 1 t = iblk m c 1 t := by dsimp only [datsV]
theorem afterV_2 (c : Dev nD) (t : Fin cfg0.N) : (datsV m 0 c).after 2 t = iblk m c 2 t := by dsimp only [datsV]
theorem afterV_3 (c : Dev nD) (t : Fin cfg0.N) : (datsV m 0 c).after 3 t = iblk m c 3 t := by dsimp only [datsV]
theorem afterV_4 (c : Dev nD) (t : Fin cfg0.N) : (datsV m 0 c).after 4 t = iblk m c 4 t := by dsimp only [datsV]
theorem afterV_5 (c : Dev nD) (t : Fin cfg0.N) : (datsV m 0 c).after 5 t = blockOut m c t := by dsimp only [datsV]

theorem beforeV_0 (c : Dev nD) (t : Fin cfg0.N) (d) : (datsV m 0 c).before 0 t d = iblk m c 0 t :=
  before0_0_of m (datsV m 0 c) (arr_eq m c 0) (afterV_0 m c) t d
theorem beforeV_1 (c : Dev nD) (t : Fin cfg0.N) (d) : (datsV m 0 c).before 1 t d = iblk m c 1 t :=
  before0_1_of m (datsV m 0 c) (arr_eq m c 1) (afterV_1 m c) t d
theorem beforeV_2 (c : Dev nD) (t : Fin cfg0.N) (d) : (datsV m 0 c).before 2 t d = iblk m c 2 t :=
  before0_2_of m (datsV m 0 c) (arr_eq m c 2) (afterV_2 m c) t d
theorem beforeV_3 (c : Dev nD) (t : Fin cfg0.N) (d) : (datsV m 0 c).before 3 t d = iblk m c 3 t :=
  before0_3_of m (datsV m 0 c) (arr_eq m c 3) (afterV_3 m c) t d
theorem beforeV_4 (c : Dev nD) (t : Fin cfg0.N) (d) : (datsV m 0 c).before 4 t d = iblk m c 4 t :=
  before0_4_of m (datsV m 0 c) (arr_eq m c 4) (afterV_4 m c) t d

/-! ## The body at a point -/

/-- What the body is called with at point `t`. -/
def preV (c : Dev nD) (t : Fin cfg0.N) : sProp 𝕄 :=
  iprop((datsV m 0 c).Φ t.castSucc ∗ (datsV m 0 c).owesAt () t.castSucc
    ∗ (∃ d, owns (c : Thread nD τ) (ms0_0 t) fullShare ((datsV m 0 c).before 0 t d))
    ∗ (∃ d, owns (c : Thread nD τ) (ms0_1 t) fullShare ((datsV m 0 c).before 1 t d))
    ∗ (∃ d, owns (c : Thread nD τ) (ms0_2 t) fullShare ((datsV m 0 c).before 2 t d))
    ∗ (∃ d, owns (c : Thread nD τ) (ms0_3 t) fullShare ((datsV m 0 c).before 3 t d))
    ∗ (∃ d, owns (c : Thread nD τ) (ms0_4 t) fullShare ((datsV m 0 c).before 4 t d))
    ∗ (∃ d, owns (c : Thread nD τ) (ms0_5 t) fullShare ((datsV m 0 c).before 5 t d)))

/-- and what it returns. -/
def postV (c : Dev nD) (t : Fin cfg0.N) : sProp 𝕄 :=
  iprop((datsV m 0 c).Φ t.succ ∗ (datsV m 0 c).owesAt () t.succ
    ∗ (datsV m 0 c).leavesExact 0 t
    ∗ (datsV m 0 c).leavesExact 1 t
    ∗ (datsV m 0 c).leavesExact 2 t
    ∗ (datsV m 0 c).leavesExact 3 t
    ∗ (datsV m 0 c).leavesExact 4 t
    ∗ (datsV m 0 c).leavesExact 5 t)

/-- The windows after a point: the inputs at their blocks, the output at the point's. -/
theorem leavesV (c : Dev nD) (t : Fin cfg0.N) :
    (datsV m 0 c).leavesExact 0 t = owns (c : Thread nD τ) (ms0_0 t) fullShare (iblk m c 0 t)
    ∧ (datsV m 0 c).leavesExact 1 t = owns (c : Thread nD τ) (ms0_1 t) fullShare (iblk m c 1 t)
    ∧ (datsV m 0 c).leavesExact 2 t = owns (c : Thread nD τ) (ms0_2 t) fullShare (iblk m c 2 t)
    ∧ (datsV m 0 c).leavesExact 3 t = owns (c : Thread nD τ) (ms0_3 t) fullShare (iblk m c 3 t)
    ∧ (datsV m 0 c).leavesExact 4 t = owns (c : Thread nD τ) (ms0_4 t) fullShare (iblk m c 4 t)
    ∧ (datsV m 0 c).leavesExact 5 t = owns (c : Thread nD τ) (ms0_5 t) fullShare (blockOut m c t) := by
  refine ⟨?_, ?_, ?_, ?_, ?_, ?_⟩
  · unfold Dat.leavesExact; rw [liveAt0_0 t, afterV_0]
  · unfold Dat.leavesExact; rw [liveAt0_1 t, afterV_1]
  · unfold Dat.leavesExact; rw [liveAt0_2 t, afterV_2]
  · unfold Dat.leavesExact; rw [liveAt0_3 t, afterV_3]
  · unfold Dat.leavesExact; rw [liveAt0_4 t, afterV_4]
  · unfold Dat.leavesExact; rw [liveAt0_5 t, afterV_5]

set_option maxHeartbeats 3600000 in
/-- The body at the first point. -/
theorem body_first (c : Dev nD) (t : Fin cfg0.N) (ht : t.val = 0) :
    preV m c t ⊢ wp frame (wpE (defs₀ (F := F)) Variants.none c none) Set.univ (bodyAt0 t) (fun _ => postV m c t) := by
  unfold preV postV bodyAt0
  obtain ⟨e0, e1, e2, e3, e4, e5⟩ := leavesV m c t
  simp only [beforeV_0, beforeV_1, beforeV_2, beforeV_3, beforeV_4]
  rw [e0, e1, e2, e3, e4, e5]
  rw [phi_pos m c t.succ (Nat.succ_ne_zero _)]
  unfold Dat.owesAt Pipeline.owesWithin named
  rw [show (datsV m 0 c).owed t.castSucc = 0 from rfl, show (datsV m 0 c).owed t.succ = 0 from rfl]
  rw [phi_zero m c t.castSucc ht, PhiD0_eq]
  rw [show blockOut m c t = firstOut (grid0.coords t) ((hcond0_0 t).mpr ht) (picked (grid0.coords t) (iblk m c 0 t) (iblk m c 1 t)) (iblk m c 2 t) (iblk m c 3 t) (iblk m c 4 t) (gateOf m c) (upOf m c) (downOf m c) from dif_pos ht]
  iintro ⟨⟨⟨HS0, HS1, HS2, HS3, HS4⟩, Hg, ⟨Hq0, Hq1, Hq2, Hq3, Hq4, Hq5, Hq6, Hq7, Hq8⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩⟩
  iapply ((first_point c (grid0.coords t) _ _ _ _ _ _ _ _ _ _ _ _ _ _ _ _ _ _ _ _ _ _ ((hcond0_0 t).mpr ht) (fun h => absurd ((hcond0_1 t).mp h) (by omega)) (iblk m c 0 t) (iblk m c 1 t) (iblk m c 2 t) (iblk m c 3 t) (iblk m c 4 t) (V m c main_arg5) (V m c main_arg6) (V m c main_arg7)) W _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hh0]; · iexact Hh0
  isplitl [Hh1]; · iexact Hh1
  isplitl [Hh2]; · iexact Hh2
  isplitl [HW]; · iexact HW
  iintro ⟨H0, H1, H2, H3, H4, H5, HS0, HS1, HS2, HS3, HS4, Hq0, Hq1, Hq2, Hq3, Hq4, Hq5, Hq6, Hq7, Hq8, Hh0, Hh1, Hh2, ⟨%W', HW⟩⟩
  isplitl [HS0 HS1 HS2 HS3 HS4 Hg Hq0 Hq1 Hq2 Hq3 Hq4 Hq5 Hq6 Hq7 Hq8 Hh0 Hh1 Hh2]
  · isplitl [HS0 HS1 HS2 HS3 HS4]
    · isplitl [HS0]; · iexact HS0
      isplitl [HS1]; · iexact HS1
      isplitl [HS2]; · iexact HS2
      isplitl [HS3]; · iexact HS3
      iexact HS4
    isplitl [Hg]
    · iexact Hg
    isplitl [Hq0 Hq1 Hq2 Hq3 Hq4 Hq5 Hq6 Hq7 Hq8]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      iexact Hq8
    isplitl [Hh0]; · iexact Hh0
    isplitl [Hh1]; · iexact Hh1
    iexact Hh2
  isplitl [HW]
  · iexists _; isplitr; swap; · iexact HW
    ipureintro; exact fun _ _ => Or.inl trivial
  isplitl [H0]; · iexact H0
  isplitl [H1]; · iexact H1
  isplitl [H2]; · iexact H2
  isplitl [H3]; · iexact H3
  isplitl [H4]; · iexact H4
  iexact H5

set_option maxHeartbeats 3600000 in
/-- A later point. -/
theorem body_later (c : Dev nD) (t : Fin cfg0.N) (ht : t.val ≠ 0) :
    preV m c t ⊢ wp frame (wpE (defs₀ (F := F)) Variants.none c none) Set.univ (bodyAt0 t) (fun _ => postV m c t) := by
  unfold preV postV bodyAt0
  obtain ⟨e0, e1, e2, e3, e4, e5⟩ := leavesV m c t
  simp only [beforeV_0, beforeV_1, beforeV_2, beforeV_3, beforeV_4]
  rw [e0, e1, e2, e3, e4, e5]
  rw [phi_pos m c t.succ (Nat.succ_ne_zero _)]
  unfold Dat.owesAt Pipeline.owesWithin named
  rw [show (datsV m 0 c).owed t.castSucc = 0 from rfl, show (datsV m 0 c).owed t.succ = 0 from rfl]
  rw [phi_pos m c t.castSucc ht]
  unfold named
  rw [show blockOut m c t = steadyOut (grid0.coords t) ((hcond0_1 t).mpr (by omega)) (picked (grid0.coords t) (iblk m c 0 t) (iblk m c 1 t)) (iblk m c 2 t) (iblk m c 3 t) (iblk m c 4 t) (gateOf m c) (upOf m c) (downOf m c) from dif_neg ht]
  iintro ⟨⟨⟨HS0, HS1, HS2, HS3, HS4⟩, Hg, ⟨Hq0, Hq1, Hq2, Hq3, Hq4, Hq5, Hq6, Hq7, Hq8⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩⟩
  iapply (steady_point c (grid0.coords t) _ _ _ _ _ _ _ _ _ _ _ _ _ _ _ _ _ _ _ _ _ _ (fun h => absurd ((hcond0_0 t).mp h) (by omega)) ((hcond0_1 t).mpr (by omega)) (iblk m c 0 t) (iblk m c 1 t) (iblk m c 2 t) (iblk m c 3 t) (iblk m c 4 t) (gateOf m c) (upOf m c) (downOf m c) _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro ⟨H0, H1, H2, H3, H4, H5, HS0, HS1, HS2⟩
  isplitl [HS0 HS1 HS2 HS3 HS4 Hg Hq0 Hq1 Hq2 Hq3 Hq4 Hq5 Hq6 Hq7 Hq8 Hh0 Hh1 Hh2]
  · isplitl [HS0 HS1 HS2 HS3 HS4]
    · isplitl [HS0]; · iexact HS0
      isplitl [HS1]; · iexact HS1
      isplitl [HS2]; · iexact HS2
      isplitl [HS3]; · iexact HS3
      iexact HS4
    isplitl [Hg]
    · iexact Hg
    isplitl [Hq0 Hq1 Hq2 Hq3 Hq4 Hq5 Hq6 Hq7 Hq8]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      iexact Hq8
    isplitl [Hh0]; · iexact Hh0
    isplitl [Hh1]; · iexact Hh1
    iexact Hh2
  isplitl [HW]
  · iexists _; isplitr; swap; · iexact HW
    ipureintro; exact fun _ _ => Or.inl trivial
  isplitl [H0]; · iexact H0
  isplitl [H1]; · iexact H1
  isplitl [H2]; · iexact H2
  isplitl [H3]; · iexact H3
  isplitl [H4]; · iexact H4
  iexact H5

/-- The body at any point. -/
theorem body_any (c : Dev nD) (t : Fin cfg0.N) :
    preV m c t ⊢ wp frame (wpE (defs₀ (F := F)) Variants.none c none) Set.univ (bodyAt0 t) (fun _ => postV m c t) := by
  by_cases h0 : t.val = 0
  · exact body_first m c t h0
  · exact body_later m c t h0

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (datsV (F := F) m 0 c) (defs₀ (F := F)) Variants.none () Set.univ := fun t => by
  rw [bigSep_W0, bigSep_W0, body_row]
  exact triple_restated (body_any m c t) rfl .rfl fun _ => .rfl

/-- After the last point the invariant gives back what the launch gave. -/
theorem named_out (c : Dev nD) : named m c ⊢ (Pipeline.ΦD osem0 spec0 H0 (V m) c : sProp 𝕄) := by
  rw [PhiD0_eq]
  unfold named
  iintro ⟨⟨HS0, HS1, HS2, HS3, HS4⟩, Hrest⟩
  isplitl [HS0 HS1 HS2 HS3 HS4]
  · isplitl [HS0]; · iexists _; iexact HS0
    isplitl [HS1]; · iexists _; iexact HS1
    isplitl [HS2]; · iexists _; iexact HS2
    isplitl [HS3]; · iexact HS3
    iexact HS4
  iexact Hrest

theorem phi_in (c : Dev nD) : (Pipeline.ΦD osem0 spec0 H0 (V m) c : sProp 𝕄) ⊢ (datsV m 0 c).Φ 0 := by
  dsimp only [datsV]
  rw [if_pos (show (0 : Fin (cfg0.N + 1)).val = 0 from rfl)]

theorem phi_out (c : Dev nD) : (datsV m 0 c).Φ (Fin.last cfg0.N) ⊢ (Pipeline.ΦD osem0 spec0 H0 (V m) c : sProp 𝕄) := by
  dsimp only [datsV]
  rw [if_neg (show (Fin.last cfg0.N).val ≠ 0 by decide)]
  exact named_out m c

set_option backward.isDefEq.respectTransparency.types false in
/-- The run: from any memory with zero counters every weakly fair execution terminates, each output array ends at the
    blocks the points left, every other array as it was, and every counter at zero. -/
theorem run_values : θ_run defs (onTc (τ := τ) (main (F := F))) (s₀ m ρ)
    (fun r => Pipeline.FramePost cfgs (datsV m) (0 : Fin 1) (V m) r ∧ r.2.sem = fun _ => 0) :=
  Pipeline.θ_run_frame_dma (Q' := _) cfgs (datsV m) (0 : Fin 1) launch0 osem0 defs₀ Variants.none ownSemFacts0 H0 H0_sub m ρ main
    (hbody := fun c => (obligation m c).loose) (hshare := fun c => (datsV m 0 c).share_full fun _ => rfl)
    (howed := fun _ _ => rfl) (V := V m) (hmain := hmain m Variants.none) (hA := arr_eq m)
    (hin := phi_in m) (hout := phi_out m)

/-- The frame: the arguments end unchanged and every counter at zero. -/
theorem frame_values : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and
    (frame_of m ρ (fun c => (datsV m 0 c).toR) (arr_eq m) ((θ_run defs _ _).mono
      (fun _ h c => ⟨fun w => ((datsV m 0 c).toR_arrAt_iff w _ _).mpr ((h.1 c).1 w), (h.1 c).2⟩) (run_values m ρ)))
    ((θ_run defs _ _).mono (fun _ h => h.2) (run_values m ρ))

end Cert.Kernel3.Entry

end
-- ==== Proof.EntrySame.lean ====
/-
  The first layer's opening call and its idealization are one program text: the run, proved once for any values, gives both frames.
-/
module

public import proofs.«01_k».proof.Proof.EntryRun
public import proofs.«01_k».proof.Proof.Gen.Kernel3Ideal
public import proofs.«01_k».proof.Defs

@[expose] public section

noncomputable section

namespace Cert.Kernel3.Entry

open Idealize.ShloMosaic

/-- The two printed programs have the same body. -/
theorem bodies : @Cert.Kernel3Ideal.cc0_ffn0 Ideal _ _ = @Cert.Kernel3.cc0_ffn0 Ideal _ _ := rfl

/-- and the same body table, -/
theorem rows : @Cert.Kernel3Ideal.defs₀ Ideal _ _ = @Cert.Kernel3.defs₀ Ideal _ _ := by
  unfold Cert.Kernel3Ideal.defs₀ Cert.Kernel3.defs₀
  refine congrArg Defs.onTc ?_
  funext l x
  match l, x with
  | ⟨0, _⟩, (t, s) => exact rfl

/-- hence the same label table, -/
theorem tables : @Cert.Kernel3Ideal.defs Ideal _ _ = @Cert.Kernel3.defs Ideal _ _ := by
  unfold Cert.Kernel3Ideal.defs Cert.Kernel3.defs
  exact congrArg (fun d => Pipeline.defs Cert.Kernel3.pcfgs d) rows

/-- and the same main. -/
theorem mains : @Cert.Kernel3Ideal.main Ideal _ = @Cert.Kernel3.main Ideal _ := rfl

/-- The call as printed runs, leaves its arguments and ends with every counter at zero. -/
theorem frame_kernel : Cert.quiescent_Kernel3 := fun m ρ _ => frame_values (F := Bits) m ρ

/-- So does its idealization, by the same run. -/
theorem frame_ideal : Cert.quiescent_Kernel3Ideal := fun m ρ _ => by
  rw [tables]
  exact frame_values (F := Ideal) m ρ

end Cert.Kernel3.Entry

end
-- ==== Proof.EntryRefFrame.lean ====
/-
  The run of the first layer's opening call's reference: it terminates, leaves its arguments as they were and no semaphore raised.
-/
module

public import proofs.«01_k».proof.Defs
public import proofs.«01_k».proof.Proof.Gen.Reference3Ideal
public import proofs.«01_k».proof.Proof.Gen.Reference3Ideal.Run

@[expose] public section

noncomputable section

namespace Cert.Entry

open Idealize.ShloMosaic Idealize.SL.Sem

/-- The reference ends with its arguments unchanged and every counter at zero; it declares no semaphore. -/
theorem frame_reference : Cert.quiescent_Reference3Ideal (hReference3Ideal := Cert.Reference3Ideal.Gen.facts) := fun m g _ =>
  (θ_run _ _ _).mono (fun r h => ⟨fun c => (h c).2, sem_eq_zero_of_no_sems (by decide) r.2⟩) (Cert.Reference3Ideal.Value.run (F := Ideal) m g)

end Cert.Entry

end
-- ==== Proof.EntryRows.lean ====
/-
  What the first layer's opening call computes, row by row over the extended reals, from the argument arrays.
-/
module

public import proofs.«01_k».proof.Proof.OpeningRows

@[expose] public section

noncomputable section

namespace Cert.Entry

open Idealize.ShloMosaic hiding ix1 ix2 ix3 ix4
open Idealize.ShloMosaic.ValueIdx
open Cert.Closing (Row)
open Cert.Opening (openRow tokenRow)

/-- The prompt's tokens and after them the samples', as one list. -/
def joined (x0 x1 : (⟨2, ![4096, 1024]⟩ : Shape).Idx → EReal) : (⟨2, ![8192, 1024]⟩ : Shape).Idx → EReal := fun p =>
  if h : (p 0).val < 4096 then x0 (ix2 ⟨(p 0).val, h⟩ (p 1))
  else x1 (ix2 ⟨(p 0).val - 4096, by have : (p 0).val < 8192 := (p 0).isLt; omega⟩ (p 1))

/-- One of the prompt's rows of it. -/
theorem joined_prompt (x0 x1 : (⟨2, ![4096, 1024]⟩ : Shape).Idx → EReal) (t : Fin 8192) (u : Fin 4096) (h : t.val = u.val) (n : Fin 1024) :
    joined x0 x1 (ix2 t n) = x0 (ix2 u n) := by
  have hu := u.isLt
  exact (dif_pos (show t.val < 4096 by omega)).trans (congrArg x0 (Shape.idx_ext₂ h rfl))

/-- One of the samples'. -/
theorem joined_samples (x0 x1 : (⟨2, ![4096, 1024]⟩ : Shape).Idx → EReal) (t : Fin 8192) (u : Fin 4096) (h : t.val = 4096 + u.val) (n : Fin 1024) :
    joined x0 x1 (ix2 t n) = x1 (ix2 u n) := by
  have hv : t.val - 4096 = u.val := by omega
  unfold joined
  rw [dif_neg (show ¬((ix2 t n : (⟨2, ![8192, 1024]⟩ : Shape).Idx) 0).val < 4096 from (show ¬t.val < 4096 by omega))]
  exact congrArg (fun v => x1 (ix2 v n)) (Fin.ext hv)

/-- The first half step on token `t` under modulation row `q`, from the argument arrays: the first layer's slices of the stacks. -/
def firstRow (x : (⟨2, ![8192, 1024]⟩ : Shape).Idx → EReal) (md : (⟨4, ![2, 9, 8, 1024]⟩ : Shape).Idx → EReal)
    (pre post : (⟨3, ![2, 3, 1024]⟩ : Shape).Idx → EReal) (wg wu : (⟨3, ![2, 1024, 2816]⟩ : Shape).Idx → EReal)
    (wd : (⟨3, ![2, 2816, 1024]⟩ : Shape).Idx → EReal) (t : Fin 8192) (q : Fin 8) : Row 1024 :=
  openRow (fun n => x (ix2 t n)) (fun n => md (ix4 0 0 q n)) (fun n => md (ix4 0 1 q n)) (fun n => pre (ix3 0 0 n))
    (fun n => md (ix4 0 2 q n)) (fun n => post (ix3 0 0 n)) (fun k n => wg (ix3 0 k n)) (fun k n => wu (ix3 0 k n))
    (fun k n => wd (ix3 0 k n))

/-- The first half step on every token. -/
def firstList (x0 x1 : (⟨2, ![4096, 1024]⟩ : Shape).Idx → EReal) (md : (⟨4, ![2, 9, 8, 1024]⟩ : Shape).Idx → EReal)
    (pre post : (⟨3, ![2, 3, 1024]⟩ : Shape).Idx → EReal) (wg wu : (⟨3, ![2, 1024, 2816]⟩ : Shape).Idx → EReal)
    (wd : (⟨3, ![2, 2816, 1024]⟩ : Shape).Idx → EReal) : (⟨2, ![8192, 1024]⟩ : Shape).Idx → EReal :=
  fun p => firstRow (joined x0 x1) md pre post wg wu wd (p 0) (tokenRow (p 0)) (p 1)

end Cert.Entry

end
-- ==== Proof.EntryOut.lean ====
/-
  The first layer's opening call's result array after the run, over the extended reals: every row is `firstRow` of the
  argument arrays under its token's modulation row.
-/
module

public import proofs.«01_k».proof.Proof.EntryRun
public import proofs.«01_k».proof.Proof.EntryRows
public import Idealize.ShloMosaic.Lib.Pipeline.ValueKit.Geometry

@[expose] public section

set_option maxRecDepth 16384

noncomputable section

namespace Cert.Kernel3.Entry

open Idealize.ShloMosaic hiding ix1 ix2 ix3 ix4
open Idealize.ShloMosaic.TcCoe Idealize.ShloMosaic.ValueIdx
open Idealize.ShloMosaic.Pipeline (Dat)
open Cert.Kernel3.Gen Cert.Entry
open Cert.Kernel2.Opening (firstOut steadyOut firstOut_read steadyOut_read blockRow condRow)
open Cert.Opening (tokenRow)
open Cert.Closing (Row)

variable (m : (ℓ : Loc nD τ sig) → Buf (Elt Ideal) ℓ) (c : Dev nD)

/-! ## The input blocks, at coordinates -/

theorem index_0 : ∀ (t : Fin cfg0.N) a, win0_0.index t a = ![min t.val 7, 0] a := by decide +kernel
theorem index_1 : ∀ (t : Fin cfg0.N) a, win0_1.index t a = ![t.val - 8, 0] a := by decide +kernel
theorem index_2 : ∀ (t : Fin cfg0.N) a, win0_2.index t a = ![0, 0, 0, 0] a := by decide +kernel
theorem index_3 : ∀ (t : Fin cfg0.N) a, win0_3.index t a = ![0, 0, 0] a := by decide +kernel
theorem index_4 : ∀ (t : Fin cfg0.N) a, win0_4.index t a = ![0, 0, 0] a := by decide +kernel
theorem index_5 : ∀ (t : Fin cfg0.N) a, win0_5.index t a = ![t.val, 0] a := by decide +kernel

/-- The token a point's block row holds. -/
def token (t : Fin cfg0.N) (r : Fin 512) : Fin 8192 := ⟨512 * t.val + r.val, by have : t.val < 16 := t.isLt; omega⟩

theorem block_0 (t : Fin cfg0.N) (h : t.val < 8) (r : Fin 512) (n : Fin 1024) (u : Fin 4096) (hu : (token t r).val = u.val) :
    iblk m c 0 t (ix2 r n) = m ((c : Thread nD τ).loc main_arg0) (ix2 u n) := by
  unfold iblk
  rw [View.read_apply]
  show m ((c : Thread nD τ).loc main_arg0) _ = _
  have hu' : 512 * t.val + r.val = u.val := hu
  refine congrArg (m ((c : Thread nD τ).loc main_arg0)) (Shape.idx_ext₂ ?_ ?_)
  · show win0_0.index t 0 * 512 + 1 * r.val = u.val
    rw [index_0 t 0]; show min t.val 7 * 512 + 1 * r.val = _; omega
  · show win0_0.index t 1 * 1024 + 1 * n.val = n.val
    rw [index_0 t 1]; show 0 * 1024 + 1 * n.val = _; omega

theorem block_1 (t : Fin cfg0.N) (h : ¬t.val < 8) (r : Fin 512) (n : Fin 1024) (u : Fin 4096) (hu : (token t r).val = 4096 + u.val) :
    iblk m c 1 t (ix2 r n) = m ((c : Thread nD τ).loc main_arg1) (ix2 u n) := by
  unfold iblk
  rw [View.read_apply]
  show m ((c : Thread nD τ).loc main_arg1) _ = _
  have hu' : 512 * t.val + r.val = 4096 + u.val := hu
  refine congrArg (m ((c : Thread nD τ).loc main_arg1)) (Shape.idx_ext₂ ?_ ?_)
  · show win0_1.index t 0 * 512 + 1 * r.val = u.val
    rw [index_1 t 0]; show (t.val - 8) * 512 + 1 * r.val = _; omega
  · show win0_1.index t 1 * 1024 + 1 * n.val = n.val
    rw [index_1 t 1]; show 0 * 1024 + 1 * n.val = _; omega

/-- The first eight points select the prompt's block. -/
theorem select_at : ∀ t : Fin cfg0.N, Scalar.cmpi .slt (BitVec.ofNat 32 ((grid0.coords t) 0).val) 8#32 = if t.val < 8 then 1#1 else 0#1 := by
  decide +kernel

/-- The selected block holds the point's tokens. -/
theorem picked_read (t : Fin cfg0.N) (r : Fin 512) (n : Fin 1024) :
    picked (grid0.coords t) (iblk m c 0 t) (iblk m c 1 t) (ix2 r n)
      = joined (m ((c : Thread nD τ).loc main_arg0)) (m ((c : Thread nD τ).loc main_arg1)) (ix2 (token t r) n) := by
  have ht : t.val < 16 := t.isLt
  have hr := r.isLt
  unfold picked
  rw [select_at t]
  by_cases h : t.val < 8
  · rw [if_pos h]
    have e : (token t r).val = (⟨512 * t.val + r.val, by omega⟩ : Fin 4096).val := rfl
    exact (block_0 m c t h r n _ e).trans (joined_prompt _ _ _ _ e n).symm
  · rw [if_neg h]
    have e : (token t r).val = 4096 + (⟨512 * t.val + r.val - 4096, by omega⟩ : Fin 4096).val := by
      show 512 * t.val + r.val = 4096 + (512 * t.val + r.val - 4096); omega
    exact (block_1 m c t h r n _ e).trans (joined_samples _ _ _ _ e n).symm

theorem block_2 (t : Fin cfg0.N) (k : Fin 9) (q : Fin 8) (n : Fin 1024) :
    iblk m c 2 t (ix4 0 k q n) = m ((c : Thread nD τ).loc main_arg2) (ix4 0 k q n) := by
  unfold iblk
  rw [View.read_apply]
  show m ((c : Thread nD τ).loc main_arg2) _ = _
  refine congrArg (m ((c : Thread nD τ).loc main_arg2)) (funext fun a => Fin.ext ?_)
  match a with
  | ⟨0, _⟩ => show win0_2.index t 0 * 1 + 1 * 0 = 0; rw [index_2 t 0]; rfl
  | ⟨1, _⟩ => show win0_2.index t 1 * 9 + 1 * k.val = k.val; rw [index_2 t 1]; show 0 * 9 + 1 * k.val = _; omega
  | ⟨2, _⟩ => show win0_2.index t 2 * 8 + 1 * q.val = q.val; rw [index_2 t 2]; show 0 * 8 + 1 * q.val = _; omega
  | ⟨3, _⟩ => show win0_2.index t 3 * 1024 + 1 * n.val = n.val; rw [index_2 t 3]; show 0 * 1024 + 1 * n.val = _; omega

theorem block_3 (t : Fin cfg0.N) (k : Fin 3) (n : Fin 1024) :
    iblk m c 3 t (ix3 0 k n) = m ((c : Thread nD τ).loc main_arg3) (ix3 0 k n) := by
  unfold iblk
  rw [View.read_apply]
  show m ((c : Thread nD τ).loc main_arg3) _ = _
  refine congrArg (m ((c : Thread nD τ).loc main_arg3)) (funext fun a => Fin.ext ?_)
  match a with
  | ⟨0, _⟩ => show win0_3.index t 0 * 1 + 1 * 0 = 0; rw [index_3 t 0]; rfl
  | ⟨1, _⟩ => show win0_3.index t 1 * 3 + 1 * k.val = k.val; rw [index_3 t 1]; show 0 * 3 + 1 * k.val = _; omega
  | ⟨2, _⟩ => show win0_3.index t 2 * 1024 + 1 * n.val = n.val; rw [index_3 t 2]; show 0 * 1024 + 1 * n.val = _; omega

theorem block_4 (t : Fin cfg0.N) (k : Fin 3) (n : Fin 1024) :
    iblk m c 4 t (ix3 0 k n) = m ((c : Thread nD τ).loc main_arg4) (ix3 0 k n) := by
  unfold iblk
  rw [View.read_apply]
  show m ((c : Thread nD τ).loc main_arg4) _ = _
  refine congrArg (m ((c : Thread nD τ).loc main_arg4)) (funext fun a => Fin.ext ?_)
  match a with
  | ⟨0, _⟩ => show win0_4.index t 0 * 1 + 1 * 0 = 0; rw [index_4 t 0]; rfl
  | ⟨1, _⟩ => show win0_4.index t 1 * 3 + 1 * k.val = k.val; rw [index_4 t 1]; show 0 * 3 + 1 * k.val = _; omega
  | ⟨2, _⟩ => show win0_4.index t 2 * 1024 + 1 * n.val = n.val; rw [index_4 t 2]; show 0 * 1024 + 1 * n.val = _; omega

/-! ## The weights, at coordinates -/

theorem gate_at (k : Fin 1024) (n : Fin 2816) : gateOf m c (ix2 k n) = m ((c : Thread nD τ).loc main_arg5) (ix3 0 k n) := rfl
theorem up_at (k : Fin 1024) (n : Fin 2816) : upOf m c (ix2 k n) = m ((c : Thread nD τ).loc main_arg6) (ix3 0 k n) := rfl
theorem down_at (k : Fin 2816) (n : Fin 1024) : downOf m c (ix2 k n) = m ((c : Thread nD τ).loc main_arg7) (ix3 0 k n) := rfl

/-! ## The output array -/

/-- A token's row from the launch contents. -/
def rowOf (t : Fin 8192) (q : Fin 8) : Row 1024 :=
  firstRow (joined (m ((c : Thread nD τ).loc main_arg0)) (m ((c : Thread nD τ).loc main_arg1))) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) t q

/-- The modulation row of a point. -/
theorem condRow_at : ∀ t : Fin cfg0.N, (condRow (grid0.coords t)).val = if t.val < 8 then 0 else 1 + (t.val - 8) / 4 := by decide +kernel

/-- It is that of each of its tokens. -/
theorem condRow_token (t : Fin cfg0.N) (r : Fin 512) : condRow (grid0.coords t) = tokenRow (token t r) := by
  refine Fin.ext ((condRow_at t).trans ?_)
  have hr := r.isLt
  show _ = if 512 * t.val + r.val < 4096 then 0 else 1 + (512 * t.val + r.val - 4096) / 2048
  split <;> split <;> omega

/-- What a point computes, row by row. -/
theorem blockOut_read (t : Fin cfg0.N) (r : Fin 512) (n : Fin 1024) :
    blockOut m c t (ix2 r n) = rowOf m c (token t r) (condRow (grid0.coords t)) n := by
  have h : blockOut m c t (ix2 r n) = blockRow (grid0.coords t) (picked (grid0.coords t) (iblk m c 0 t) (iblk m c 1 t)) (iblk m c 2 t) (iblk m c 3 t) (iblk m c 4 t)
      (gateOf m c) (upOf m c) (downOf m c) r n := by
    unfold blockOut
    split
    · exact firstOut_read _ _ _ _ _ _ _ _ _ r n
    · exact steadyOut_read _ _ _ _ _ _ _ _ _ r n
  rw [h]
  unfold blockRow rowOf firstRow
  simp only [picked_read, block_2, block_3, block_4, gate_at, up_at, down_at]

/-- The result. -/
def resultOf : Buf (Elt Ideal) ((c : Thread nD τ).loc main_v0) :=
  firstList (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7))

theorem result_final : (datsV m 0 c).arrAt 5 cfg0.N = resultOf m c := by
  refine (datsV m 0 c).arrAt_eq_of_covers 5 _ (by decide +kernel) fun t hf y => ?_
  rw [afterV_5]
  show blockOut m c t y = resultOf m c _
  obtain ⟨r, n, rfl⟩ : ∃ (r : Fin 512) (n : Fin 1024), y = ix2 r n := ⟨y 0, y 1, Shape.idx_ext₂ rfl rfl⟩
  rw [blockOut_read, condRow_token t r]
  have e0 : (((cfg0.win 5).blk t).view.emb (ix2 r n)) 0 = token t r := by
    refine Fin.ext ?_
    show win0_5.index t 0 * 512 + 1 * r.val = 512 * t.val + r.val
    rw [index_5 t 0]; show t.val * 512 + 1 * r.val = _; omega
  have e1 : (((cfg0.win 5).blk t).view.emb (ix2 r n)) 1 = n := by
    refine Fin.ext ?_
    show win0_5.index t 1 * 1024 + 1 * n.val = n.val
    rw [index_5 t 1]; show 0 * 1024 + 1 * n.val = _; omega
  unfold resultOf firstList
  rw [e0, e1]
  rfl

end Cert.Kernel3.Entry

end
-- ==== Proof.EntryPrompt.lean ====
/-
  The first layer's opening call's reference on the prompt tokens, row by row, up to the stacked result.
-/
module

public import proofs.«01_k».proof.Proof.HostRows
public import proofs.«01_k».proof.Proof.EntryRows
public import proofs.«01_k».proof.Proof.Gen.Reference3Ideal.Run
public import proofs.«01_k».proof.Proof.Gen.Reference3Ideal.Read

@[expose] public section

noncomputable section

namespace Cert.Entry.Prompt

open Idealize.ShloMosaic hiding ix1 ix2 ix3 ix4
open Idealize.ShloMosaic.ValueIdx
open Cert.Opening (tokenRow)
open Cert.Closing Cert.Entry Cert.Reference3Ideal Cert.Reference3Ideal.Read

variable (x0 x1 : (⟨S4096x1024, .f32⟩ : BufTy).Contents (Elt Ideal)) (x2 : (⟨S2x9x8x1024, .f32⟩ : BufTy).Contents (Elt Ideal))
    (x3 x4 : (⟨S2x3x1024, .f32⟩ : BufTy).Contents (Elt Ideal)) (x5 x6 : (⟨S2x1024x2816, .f32⟩ : BufTy).Contents (Elt Ideal))
    (x7 : (⟨S2x2816x1024, .f32⟩ : BufTy).Contents (Elt Ideal))

/-- The modulation table of the prompt: the first layer's rows under the first condition. -/
theorem table_read (i : S1x1x9x1024.Idx) (r : Fin 9) (n : Fin 1024) (hr : (i 2).val = r.val) (hn : (i 3).val = n.val) :
    val_main_v5 x2 i = x2 (ix4 0 r 0 n) := by
  rw [val_main_v5_apply, val_main_v4_apply, val_main_v2_apply, val_main_v1_apply, val_main_v0_apply]
  have h2 := (i 2).isLt
  have h3 := (i 3).isLt
  have hr' := r.isLt
  have hn' := n.isLt
  refine congrArg x2 (ext4 rfl ?_ ?_ ?_)
  · show (((i 2).val * 8 + 0) * 1024 + (i 3).val) / 8192 % 9 = r.val
    omega
  · show (((i 2).val * 8 + 0) * 1024 + (i 3).val) / 1024 % 8 = 0
    omega
  · show (((i 2).val * 8 + 0) * 1024 + (i 3).val) % 1024 = n.val
    omega

/-- Every third row of it from the first. -/
theorem shifts_read (i : S1x1x3x1024.Idx) (r : Fin 9) (n : Fin 1024) (hr : 0 + 3 * (i 2).val = r.val) (hn : 0 + 1 * (i 3).val = n.val) :
    val_main_v6 x2 i = x2 (ix4 0 r 0 n) := by
  unfold val_main_v6 Host.slice
  exact table_read x2 _ r n hr hn

/-- Every third row of it from the second. -/
theorem scales_read (i : S1x1x3x1024.Idx) (r : Fin 9) (n : Fin 1024) (hr : 1 + 3 * (i 2).val = r.val) (hn : 0 + 1 * (i 3).val = n.val) :
    val_main_v7 x2 i = x2 (ix4 0 r 0 n) := by
  unfold val_main_v7 Host.slice
  exact table_read x2 _ r n hr hn

/-- Every third row of it from the third. -/
theorem gates_read (i : S1x1x3x1024.Idx) (r : Fin 9) (n : Fin 1024) (hr : 2 + 3 * (i 2).val = r.val) (hn : 0 + 1 * (i 3).val = n.val) :
    val_main_v8 x2 i = x2 (ix4 0 r 0 n) := by
  unfold val_main_v8 Host.slice
  exact table_read x2 _ r n hr hn

variable (t : Fin 8192) (b : Fin 16) (s : Fin 256) (ht : t.val = b.val * 256 + s.val)
include ht

/-- The stream's row. -/
theorem x_read (n : Fin 1024) : val_main_v3 x0 (ix3 b s n) = joined x0 x1 (ix2 t n) := by
  rw [val_main_v3_apply]
  have hn := n.isLt
  have hb := b.isLt
  have hs := s.isLt
  refine Eq.trans ?_ (joined_prompt x0 x1 t ⟨b.val * 256 + s.val, by omega⟩ ht n).symm
  refine congrArg x0 (Shape.idx_ext₂ ?_ ?_)
  · show ((b.val * 256 + s.val) * 1024 + n.val) / 1024 = b.val * 256 + s.val
    omega
  · show ((b.val * 256 + s.val) * 1024 + n.val) % 1024 = n.val
    omega

omit ht

/-- The stream normalised. -/
theorem xNorm_read (n : Fin 1024) :
    val_main_v23 x0 x3 (ix3 b s n) = normRow (fun k => val_main_v3 x0 (ix3 b s k)) (fun n => x3 (ix3 0 0 n)) n := by
  rw [val_main_v23_apply, val_main_v20_apply, val_main_v19_apply, val_main_v18_apply, val_main_v17_apply, val_main_v15_apply, val_main_v13_apply, val_main_v12_apply, val_main_v14_apply, val_main_v16_apply, val_main_v22_apply, val_main_v21_apply, val_main_v10_apply, val_main_v9_apply]
  simp only [val_main_v11_apply]
  generalize val_main_v3 x0 = y
  refine hostNorm_read y (ix3 b s) _ ?_ _ _ n ?_
  · exact fun k => ext3 rfl rfl rfl
  · exact congrArg x3 (ext3 rfl rfl (Nat.mod_eq_of_lt n.isLt))

/-- The feed-forward output normalised. -/
theorem ffnNorm_read (n : Fin 1024) :
    val_main_v67 x0 x2 x3 x4 x5 x6 x7 (ix3 b s n) = normRow (fun k => val_main_v50 x0 x2 x3 x5 x6 x7 (ix3 b s k)) (fun n => x4 (ix3 0 0 n)) n := by
  rw [val_main_v67_apply, val_main_v64_apply, val_main_v63_apply, val_main_v62_apply, val_main_v61_apply, val_main_v59_apply, val_main_v57_apply, val_main_v56_apply, val_main_v58_apply, val_main_v60_apply, val_main_v66_apply, val_main_v65_apply, val_main_v54_apply, val_main_v53_apply]
  simp only [val_main_v55_apply]
  generalize val_main_v50 x0 x2 x3 x5 x6 x7 = y
  refine hostNorm_read y (ix3 b s) _ ?_ _ _ n ?_
  · exact fun k => ext3 rfl rfl rfl
  · exact congrArg x4 (ext3 rfl rfl (Nat.mod_eq_of_lt n.isLt))

/-- The feed-forward network's input. -/
theorem in_read (n : Fin 1024) :
    val_main_v33 x0 x2 x3 (ix3 b s n)
      = inRow (fun n => val_main_v3 x0 (ix3 b s n)) (fun n => x2 (ix4 0 0 0 n)) (fun n => x2 (ix4 0 1 0 n))
          (fun n => x3 (ix3 0 0 n)) n := by
  rw [val_main_v33_apply, val_main_v29_apply, xNorm_read, val_main_v28_apply, val_main_v27_apply, val_main_v26_apply, val_main_v25_apply, val_main_v24_apply, val_main_v32_apply, val_main_v31_apply, val_main_v30_apply,
    scales_read x2 _ 1 n rfl (by show 0 + 1 * (((0 * 1 + 0) * 1024 + n.val) % 1024) = n.val; have := n.isLt; omega),
    shifts_read x2 _ 0 n rfl (by show 0 + 1 * (((0 * 1 + 0) * 1024 + n.val) % 1024) = n.val; have := n.isLt; omega)]
  rfl

/-- The gate's product. -/
theorem gateProd_read (n : Fin 2816) :
    val_main_v36 x0 x2 x3 x5 (ix3 b s n)
      = vecMat (fun k => val_main_v33 x0 x2 x3 (ix3 b s k)) (fun k n => x5 (ix3 0 k n)) n := by
  rw [val_main_v36_apply]
  unfold vecMat
  refine Finset.sum_congr rfl fun k _ => congrArg₂ (· * ·) (congrArg _ (ext3 rfl rfl rfl)) ?_
  rw [val_main_v35_apply, val_main_v34_apply]
  have hk := k.isLt
  have hn := n.isLt
  refine congrArg x5 (ext3 rfl ?_ ?_)
  · show (k.val * 2816 + n.val) / 2816 % 1024 = k.val
    omega
  · show (k.val * 2816 + n.val) % 2816 = n.val
    omega

/-- The other factor's product. -/
theorem upProd_read (n : Fin 2816) :
    val_main_v46 x0 x2 x3 x6 (ix3 b s n)
      = vecMat (fun k => val_main_v33 x0 x2 x3 (ix3 b s k)) (fun k n => x6 (ix3 0 k n)) n := by
  rw [val_main_v46_apply]
  unfold vecMat
  refine Finset.sum_congr rfl fun k _ => congrArg₂ (· * ·) (congrArg _ (ext3 rfl rfl rfl)) ?_
  rw [val_main_v45_apply, val_main_v44_apply]
  have hk := k.isLt
  have hn := n.isLt
  refine congrArg x6 (ext3 rfl ?_ ?_)
  · show (k.val * 2816 + n.val) / 2816 % 1024 = k.val
    omega
  · show (k.val * 2816 + n.val) % 2816 = n.val
    omega

/-- The gated activation. -/
theorem act_read (n : Fin 2816) :
    val_main_v47 x0 x2 x3 x5 x6 (ix3 b s n)
      = actRow (fun k => val_main_v33 x0 x2 x3 (ix3 b s k)) (fun k n => x5 (ix3 0 k n)) (fun k n => x6 (ix3 0 k n)) n := by
  rw [val_main_v47_apply, val_main_v43_apply, val_main_v42_apply, val_main_v41_apply, val_main_v40_apply, val_main_v39_apply, val_main_v38_apply, val_main_v37_apply, gateProd_read, upProd_read]
  exact hostGate_read _ _

/-- The down projection. -/
theorem down_read (n : Fin 1024) :
    val_main_v50 x0 x2 x3 x5 x6 x7 (ix3 b s n)
      = vecMat (fun k => val_main_v47 x0 x2 x3 x5 x6 (ix3 b s k)) (fun k n => x7 (ix3 0 k n)) n := by
  rw [val_main_v50_apply]
  unfold vecMat
  refine Finset.sum_congr rfl fun k _ => congrArg₂ (· * ·) (congrArg _ (ext3 rfl rfl rfl)) ?_
  rw [val_main_v49_apply, val_main_v48_apply]
  have hk := k.isLt
  have hn := n.isLt
  refine congrArg x7 (ext3 rfl ?_ ?_)
  · show (k.val * 1024 + n.val) / 1024 % 2816 = k.val
    omega
  · show (k.val * 1024 + n.val) % 1024 = n.val
    omega

include ht

/-- The result's row, before the batch is laid out as one list of tokens. -/
theorem out_read (n : Fin 1024) :
    val_main_v72 x0 x2 x3 x4 x5 x6 x7 (ix3 b s n) = firstRow (joined x0 x1) x2 x3 x4 x5 x6 x7 t 0 n := by
  rw [val_main_v72_apply, val_main_v71_apply, val_main_v70_apply, val_main_v69_apply, val_main_v68_apply, val_main_v52_apply, val_main_v51_apply, ffnNorm_read,
    gates_read x2 _ 2 n rfl (by show 0 + 1 * (((0 * 1 + 0) * 1024 + n.val) % 1024) = n.val; have := n.isLt; omega), x_read x0 x1 t b s ht]
  simp only [down_read, act_read, in_read, x_read x0 x1 t b s ht]
  rfl

omit ht

/-- The rows laid out as one list of tokens. -/
theorem list_read (i : S4096x1024.Idx) (t : Fin 8192) (ht : t.val = (i 0).val) :
    val_main_v143 x0 x2 x3 x4 x5 x6 x7 i = firstRow (joined x0 x1) x2 x3 x4 x5 x6 x7 t (tokenRow t) (i 1) := by
  have h0 : (i 0).val < 4096 := (i 0).isLt
  have h1 : (i 1).val < 1024 := (i 1).isLt
  rw [val_main_v143_apply]
  have e : idx_main_v143 i = ix3 (⟨(i 0).val / 256, by omega⟩ : Fin 16) (⟨(i 0).val % 256, by omega⟩ : Fin 256) (i 1) := by
    refine ext3 ?_ ?_ ?_
    · show ((i 0).val * 1024 + (i 1).val) / 262144 = (i 0).val / 256
      omega
    · show ((i 0).val * 1024 + (i 1).val) / 1024 % 256 = (i 0).val % 256
      omega
    · show ((i 0).val * 1024 + (i 1).val) % 1024 = (i 1).val
      omega
  rw [e]
  have hq : tokenRow t = 0 := Fin.ext (if_pos (by omega))
  rw [hq]
  exact out_read x0 x1 x2 x3 x4 x5 x6 x7 t _ _ (by show t.val = (i 0).val / 256 * 256 + (i 0).val % 256; omega) (i 1)

end Cert.Entry.Prompt

end
-- ==== Proof.EntrySamples.lean ====
/-
  The first layer's opening call's reference on the samples' tokens, row by row, up to the stacked result.
-/
module

public import proofs.«01_k».proof.Proof.HostRows
public import proofs.«01_k».proof.Proof.EntryRows
public import proofs.«01_k».proof.Proof.Gen.Reference3Ideal.Run
public import proofs.«01_k».proof.Proof.Gen.Reference3Ideal.Read

@[expose] public section

noncomputable section

namespace Cert.Entry.Samples

open Idealize.ShloMosaic hiding ix1 ix2 ix3 ix4
open Idealize.ShloMosaic.ValueIdx
open Cert.Opening (tokenRow)
open Cert.Closing Cert.Entry Cert.Reference3Ideal Cert.Reference3Ideal.Read

variable (x0 x1 : (⟨S4096x1024, .f32⟩ : BufTy).Contents (Elt Ideal)) (x2 : (⟨S2x9x8x1024, .f32⟩ : BufTy).Contents (Elt Ideal))
    (x3 x4 : (⟨S2x3x1024, .f32⟩ : BufTy).Contents (Elt Ideal)) (x5 x6 : (⟨S2x1024x2816, .f32⟩ : BufTy).Contents (Elt Ideal))
    (x7 : (⟨S2x2816x1024, .f32⟩ : BufTy).Contents (Elt Ideal))

/-- The modulation tables of the samples: the first layer's rows, the first sample's under the second condition and the other's under the third. -/
theorem table_read (i : S2x1x9x1024.Idx) (q : Fin 8) (r : Fin 9) (n : Fin 1024) (hq : q.val = 1 + (i 0).val) (hr : (i 2).val = r.val) (hn : (i 3).val = n.val) :
    val_main_v75 x2 i = x2 (ix4 0 r q n) := by
  rw [val_main_v75_apply, val_main_v74_apply, val_main_v2_apply, val_main_v1_apply, val_main_v0_apply]
  have hq' := q.isLt
  have h2 := (i 2).isLt
  have h3 := (i 3).isLt
  have hr' := r.isLt
  have hn' := n.isLt
  refine congrArg x2 (ext4 rfl ?_ ?_ ?_)
  · show (((i 2).val * 8 + (1 + (i 0).val)) * 1024 + (i 3).val) / 8192 % 9 = r.val
    omega
  · show (((i 2).val * 8 + (1 + (i 0).val)) * 1024 + (i 3).val) / 1024 % 8 = q.val
    omega
  · show (((i 2).val * 8 + (1 + (i 0).val)) * 1024 + (i 3).val) % 1024 = n.val
    omega

/-- Every third row of it from the first. -/
theorem shifts_read (i : S2x1x3x1024.Idx) (q : Fin 8) (r : Fin 9) (n : Fin 1024) (hq : q.val = 1 + (i 0).val) (hr : 0 + 3 * (i 2).val = r.val) (hn : 0 + 1 * (i 3).val = n.val) :
    val_main_v76 x2 i = x2 (ix4 0 r q n) := by
  unfold val_main_v76 Host.slice
  exact table_read x2 _ q r n (by show q.val = 1 + (0 + 1 * (i 0).val); omega) hr hn

/-- Every third row of it from the second. -/
theorem scales_read (i : S2x1x3x1024.Idx) (q : Fin 8) (r : Fin 9) (n : Fin 1024) (hq : q.val = 1 + (i 0).val) (hr : 1 + 3 * (i 2).val = r.val) (hn : 0 + 1 * (i 3).val = n.val) :
    val_main_v77 x2 i = x2 (ix4 0 r q n) := by
  unfold val_main_v77 Host.slice
  exact table_read x2 _ q r n (by show q.val = 1 + (0 + 1 * (i 0).val); omega) hr hn

/-- Every third row of it from the third. -/
theorem gates_read (i : S2x1x3x1024.Idx) (q : Fin 8) (r : Fin 9) (n : Fin 1024) (hq : q.val = 1 + (i 0).val) (hr : 2 + 3 * (i 2).val = r.val) (hn : 0 + 1 * (i 3).val = n.val) :
    val_main_v78 x2 i = x2 (ix4 0 r q n) := by
  unfold val_main_v78 Host.slice
  exact table_read x2 _ q r n (by show q.val = 1 + (0 + 1 * (i 0).val); omega) hr hn

variable (t : Fin 8192) (b : Fin 2) (s : Fin 2048) (ht : t.val = 4096 + (b.val * 2048 + s.val)) (q : Fin 8) (hq : q.val = 1 + b.val)
include ht

/-- The stream's row. -/
theorem x_read (n : Fin 1024) : val_main_v73 x1 (ix3 b s n) = joined x0 x1 (ix2 t n) := by
  rw [val_main_v73_apply]
  have hn := n.isLt
  have hb := b.isLt
  have hs := s.isLt
  refine Eq.trans ?_ (joined_samples x0 x1 t ⟨b.val * 2048 + s.val, by omega⟩ ht n).symm
  refine congrArg x1 (Shape.idx_ext₂ ?_ ?_)
  · show ((b.val * 2048 + s.val) * 1024 + n.val) / 1024 = b.val * 2048 + s.val
    omega
  · show ((b.val * 2048 + s.val) * 1024 + n.val) % 1024 = n.val
    omega

omit ht

/-- The stream normalised. -/
theorem xNorm_read (n : Fin 1024) :
    val_main_v93 x1 x3 (ix3 b s n) = normRow (fun k => val_main_v73 x1 (ix3 b s k)) (fun n => x3 (ix3 0 0 n)) n := by
  rw [val_main_v93_apply, val_main_v90_apply, val_main_v89_apply, val_main_v88_apply, val_main_v87_apply, val_main_v85_apply, val_main_v83_apply, val_main_v82_apply, val_main_v84_apply, val_main_v86_apply, val_main_v92_apply, val_main_v91_apply, val_main_v80_apply, val_main_v79_apply]
  simp only [val_main_v81_apply]
  generalize val_main_v73 x1 = y
  refine hostNorm_read y (ix3 b s) _ ?_ _ _ n ?_
  · exact fun k => ext3 rfl rfl rfl
  · exact congrArg x3 (ext3 rfl rfl (Nat.mod_eq_of_lt n.isLt))

/-- The feed-forward output normalised. -/
theorem ffnNorm_read (n : Fin 1024) :
    val_main_v137 x1 x2 x3 x4 x5 x6 x7 (ix3 b s n) = normRow (fun k => val_main_v120 x1 x2 x3 x5 x6 x7 (ix3 b s k)) (fun n => x4 (ix3 0 0 n)) n := by
  rw [val_main_v137_apply, val_main_v134_apply, val_main_v133_apply, val_main_v132_apply, val_main_v131_apply, val_main_v129_apply, val_main_v127_apply, val_main_v126_apply, val_main_v128_apply, val_main_v130_apply, val_main_v136_apply, val_main_v135_apply, val_main_v124_apply, val_main_v123_apply]
  simp only [val_main_v125_apply]
  generalize val_main_v120 x1 x2 x3 x5 x6 x7 = y
  refine hostNorm_read y (ix3 b s) _ ?_ _ _ n ?_
  · exact fun k => ext3 rfl rfl rfl
  · exact congrArg x4 (ext3 rfl rfl (Nat.mod_eq_of_lt n.isLt))

include hq

/-- The feed-forward network's input. -/
theorem in_read (n : Fin 1024) :
    val_main_v103 x1 x2 x3 (ix3 b s n)
      = inRow (fun n => val_main_v73 x1 (ix3 b s n)) (fun n => x2 (ix4 0 0 q n)) (fun n => x2 (ix4 0 1 q n))
          (fun n => x3 (ix3 0 0 n)) n := by
  rw [val_main_v103_apply, val_main_v99_apply, xNorm_read, val_main_v98_apply, val_main_v97_apply, val_main_v96_apply, val_main_v95_apply, val_main_v94_apply, val_main_v102_apply, val_main_v101_apply, val_main_v100_apply,
    scales_read x2 _ q 1 n (by show q.val = 1 + ((b.val * 1 + 0) * 1024 + n.val) / 1024; have := n.isLt; omega) rfl (by show 0 + 1 * (((b.val * 1 + 0) * 1024 + n.val) % 1024) = n.val; have := n.isLt; omega),
    shifts_read x2 _ q 0 n (by show q.val = 1 + ((b.val * 1 + 0) * 1024 + n.val) / 1024; have := n.isLt; omega) rfl (by show 0 + 1 * (((b.val * 1 + 0) * 1024 + n.val) % 1024) = n.val; have := n.isLt; omega)]
  rfl

omit hq

/-- The gate's product. -/
theorem gateProd_read (n : Fin 2816) :
    val_main_v106 x1 x2 x3 x5 (ix3 b s n)
      = vecMat (fun k => val_main_v103 x1 x2 x3 (ix3 b s k)) (fun k n => x5 (ix3 0 k n)) n := by
  rw [val_main_v106_apply]
  unfold vecMat
  refine Finset.sum_congr rfl fun k _ => congrArg₂ (· * ·) (congrArg _ (ext3 rfl rfl rfl)) ?_
  rw [val_main_v105_apply, val_main_v104_apply]
  have hk := k.isLt
  have hn := n.isLt
  refine congrArg x5 (ext3 rfl ?_ ?_)
  · show (k.val * 2816 + n.val) / 2816 % 1024 = k.val
    omega
  · show (k.val * 2816 + n.val) % 2816 = n.val
    omega

/-- The other factor's product. -/
theorem upProd_read (n : Fin 2816) :
    val_main_v116 x1 x2 x3 x6 (ix3 b s n)
      = vecMat (fun k => val_main_v103 x1 x2 x3 (ix3 b s k)) (fun k n => x6 (ix3 0 k n)) n := by
  rw [val_main_v116_apply]
  unfold vecMat
  refine Finset.sum_congr rfl fun k _ => congrArg₂ (· * ·) (congrArg _ (ext3 rfl rfl rfl)) ?_
  rw [val_main_v115_apply, val_main_v114_apply]
  have hk := k.isLt
  have hn := n.isLt
  refine congrArg x6 (ext3 rfl ?_ ?_)
  · show (k.val * 2816 + n.val) / 2816 % 1024 = k.val
    omega
  · show (k.val * 2816 + n.val) % 2816 = n.val
    omega

/-- The gated activation. -/
theorem act_read (n : Fin 2816) :
    val_main_v117 x1 x2 x3 x5 x6 (ix3 b s n)
      = actRow (fun k => val_main_v103 x1 x2 x3 (ix3 b s k)) (fun k n => x5 (ix3 0 k n)) (fun k n => x6 (ix3 0 k n)) n := by
  rw [val_main_v117_apply, val_main_v113_apply, val_main_v112_apply, val_main_v111_apply, val_main_v110_apply, val_main_v109_apply, val_main_v108_apply, val_main_v107_apply, gateProd_read, upProd_read]
  exact hostGate_read _ _

/-- The down projection. -/
theorem down_read (n : Fin 1024) :
    val_main_v120 x1 x2 x3 x5 x6 x7 (ix3 b s n)
      = vecMat (fun k => val_main_v117 x1 x2 x3 x5 x6 (ix3 b s k)) (fun k n => x7 (ix3 0 k n)) n := by
  rw [val_main_v120_apply]
  unfold vecMat
  refine Finset.sum_congr rfl fun k _ => congrArg₂ (· * ·) (congrArg _ (ext3 rfl rfl rfl)) ?_
  rw [val_main_v119_apply, val_main_v118_apply]
  have hk := k.isLt
  have hn := n.isLt
  refine congrArg x7 (ext3 rfl ?_ ?_)
  · show (k.val * 1024 + n.val) / 1024 % 2816 = k.val
    omega
  · show (k.val * 1024 + n.val) % 1024 = n.val
    omega

include ht hq

/-- The result's row, before the batch is laid out as one list of tokens. -/
theorem out_read (n : Fin 1024) :
    val_main_v142 x1 x2 x3 x4 x5 x6 x7 (ix3 b s n) = firstRow (joined x0 x1) x2 x3 x4 x5 x6 x7 t q n := by
  rw [val_main_v142_apply, val_main_v141_apply, val_main_v140_apply, val_main_v139_apply, val_main_v138_apply, val_main_v122_apply, val_main_v121_apply, ffnNorm_read,
    gates_read x2 _ q 2 n (by show q.val = 1 + ((b.val * 1 + 0) * 1024 + n.val) / 1024; have := n.isLt; omega) rfl (by show 0 + 1 * (((b.val * 1 + 0) * 1024 + n.val) % 1024) = n.val; have := n.isLt; omega), x_read x0 x1 t b s ht]
  simp only [down_read, act_read, in_read x1 x2 x3 b s q hq, x_read x0 x1 t b s ht]
  rfl

omit ht hq

/-- The rows laid out as one list of tokens. -/
theorem list_read (i : S4096x1024.Idx) (t : Fin 8192) (ht : t.val = 4096 + (i 0).val) :
    val_main_v144 x1 x2 x3 x4 x5 x6 x7 i = firstRow (joined x0 x1) x2 x3 x4 x5 x6 x7 t (tokenRow t) (i 1) := by
  have h0 : (i 0).val < 4096 := (i 0).isLt
  have h1 : (i 1).val < 1024 := (i 1).isLt
  rw [val_main_v144_apply]
  have e : idx_main_v144 i = ix3 (⟨(i 0).val / 2048, by omega⟩ : Fin 2) (⟨(i 0).val % 2048, by omega⟩ : Fin 2048) (i 1) := by
    refine ext3 ?_ ?_ ?_
    · show ((i 0).val * 1024 + (i 1).val) / 2097152 = (i 0).val / 2048
      omega
    · show ((i 0).val * 1024 + (i 1).val) / 1024 % 2048 = (i 0).val % 2048
      omega
    · show ((i 0).val * 1024 + (i 1).val) % 1024 = (i 1).val
      omega
  rw [e]
  refine out_read x0 x1 x2 x3 x4 x5 x6 x7 t _ _ (by show t.val = 4096 + ((i 0).val / 2048 * 2048 + (i 0).val % 2048); omega) _ ?_ (i 1)
  show (if t.val < 4096 then 0 else 1 + (t.val - 4096) / 2048) = 1 + (i 0).val / 2048
  rw [if_neg (by omega)]
  omega

end Cert.Entry.Samples

end
-- ==== Proof.EntryEqual.lean ====
/-
  The first layer's opening call over the extended reals and its reference leave the same result.
-/
module

public import proofs.«01_k».proof.Proof.EntrySame
public import proofs.«01_k».proof.Proof.EntryOut
public import proofs.«01_k».proof.Proof.EntryPrompt
public import proofs.«01_k».proof.Proof.EntrySamples
public import proofs.«01_k».proof.Proof.Gen.Reference3Ideal
public import proofs.«01_k».proof.Defs

@[expose] public section

noncomputable section

namespace Cert.Entry

open Idealize.ShloMosaic hiding ix1 ix2 ix3 ix4
open Idealize.SL.Sem Idealize.ShloMosaic.ValueIdx

/-- The kernel's run over the extended reals: the result is the call's formula on every token. -/
theorem kernel_values (m : (ℓ : Loc Cert.Kernel3.nD Cert.Kernel3.τ Cert.Kernel3.sig) → Buf (Elt Ideal) ℓ) (g : Dev Cert.Kernel3.nD → PrngReg) :
    θ_run (Cert.Kernel3.defs (F := Ideal)) (onTc (τ := Cert.Kernel3.τ) (Cert.Kernel3.main (F := Ideal))) ⟨m, fun _ => 0, g⟩ (fun r =>
      (∀ c : Dev Cert.Kernel3.nD,
        r.2.mem ((c.tc : Thread Cert.Kernel3.nD Cert.Kernel3.τ).loc Cert.Kernel3.main_v0) = Cert.Kernel3.Entry.resultOf m c)) :=
  (θ_run _ _ _).mono (fun _ h c => ((h.1 c).1 5).trans (Cert.Kernel3.Entry.result_final m c))
    (Cert.Kernel3.Entry.run_values (F := Ideal) m g)

section results

open Cert.Reference3Ideal

variable (x0 x1 : (⟨S4096x1024, .f32⟩ : BufTy).Contents (Elt Ideal)) (x2 : (⟨S2x9x8x1024, .f32⟩ : BufTy).Contents (Elt Ideal))
    (x3 x4 : (⟨S2x3x1024, .f32⟩ : BufTy).Contents (Elt Ideal)) (x5 x6 : (⟨S2x1024x2816, .f32⟩ : BufTy).Contents (Elt Ideal))
    (x7 : (⟨S2x2816x1024, .f32⟩ : BufTy).Contents (Elt Ideal))

/-- The reference's result, at an element: the prompt's rows above the samples'. -/
theorem result_read (i : S8192x1024.Idx) : Read.val_main_v145 x0 x1 x2 x3 x4 x5 x6 x7 i = firstList x0 x1 x2 x3 x4 x5 x6 x7 i := by
  have h0 : (i 0).val < 8192 := (i 0).isLt
  unfold Read.val_main_v145
  by_cases h : (i 0).val < 4096
  · refine (concatenate_pair_apply_left (s₁ := S4096x1024) (s₂ := S4096x1024) _ _ _ _ i rfl (ix2 ⟨(i 0).val, h⟩ (i 1)) fun a => ?_).trans ?_
    · match a with
      | ⟨0, _⟩ => rfl
      | ⟨1, _⟩ => rfl
    exact Prompt.list_read x0 x1 x2 x3 x4 x5 x6 x7 (ix2 ⟨(i 0).val, h⟩ (i 1)) (i 0) rfl
  · refine (concatenate_pair_apply_right (s₁ := S4096x1024) (s₂ := S4096x1024) _ _ _ _ i rfl rfl
      (ix2 ⟨(i 0).val - 4096, by omega⟩ (i 1)) (fun a ha => ?_) ?_).trans ?_
    · match a with
      | ⟨0, _⟩ => exact absurd rfl ha
      | ⟨1, _⟩ => rfl
    · show (i 0).val - 4096 + 4096 = (i 0).val
      omega
    exact Samples.list_read x0 x1 x2 x3 x4 x5 x6 x7 (ix2 ⟨(i 0).val - 4096, by omega⟩ (i 1)) (i 0)
      (by show (i 0).val = 4096 + ((i 0).val - 4096); omega)

variable (m : (ℓ : Loc Cert.Kernel3.nD Cert.Kernel3.τ Cert.Kernel3.sig) → Buf (Elt Ideal) ℓ) (c : Dev Cert.Kernel3.nD)
    (h0 : x0 = m ((c.tc : Thread Cert.Kernel3.nD Cert.Kernel3.τ).loc Cert.Kernel3.main_arg0))
    (h1 : x1 = m ((c.tc : Thread Cert.Kernel3.nD Cert.Kernel3.τ).loc Cert.Kernel3.main_arg1))
    (h2 : x2 = m ((c.tc : Thread Cert.Kernel3.nD Cert.Kernel3.τ).loc Cert.Kernel3.main_arg2))
    (h3 : x3 = m ((c.tc : Thread Cert.Kernel3.nD Cert.Kernel3.τ).loc Cert.Kernel3.main_arg3))
    (h4 : x4 = m ((c.tc : Thread Cert.Kernel3.nD Cert.Kernel3.τ).loc Cert.Kernel3.main_arg4))
    (h5 : x5 = m ((c.tc : Thread Cert.Kernel3.nD Cert.Kernel3.τ).loc Cert.Kernel3.main_arg5))
    (h6 : x6 = m ((c.tc : Thread Cert.Kernel3.nD Cert.Kernel3.τ).loc Cert.Kernel3.main_arg6))
    (h7 : x7 = m ((c.tc : Thread Cert.Kernel3.nD Cert.Kernel3.τ).loc Cert.Kernel3.main_arg7))
include h0 h1 h2 h3 h4 h5 h6 h7

/-- On the kernel's arguments the reference's result is the kernel's. -/
theorem result_at : Read.val_main_v145 x0 x1 x2 x3 x4 x5 x6 x7 = Cert.Kernel3.Entry.resultOf m c := by
  subst h0 h1 h2 h3 h4 h5 h6 h7
  exact funext fun i => result_read _ _ _ _ _ _ _ _ i

end results

/-- From equal arguments the two programs leave equal results. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3.Entry.resultOf m c, ?_, ?_⟩
  · rw [Cert.Kernel3.Entry.tables]
    exact (θ_run _ _ _).mono (fun _ h c => ⟨h.1 c, h.2.1 c⟩)
      (θ_run_and (kernel_values m g) (Cert.Kernel3.Entry.frame_values (F := Ideal) m g))
  · refine (θ_run _ _ _).mono (fun r h c => ?_) (Cert.Reference3Ideal.Value.run (F := Ideal) m' g')
    obtain ⟨e0, e1, e2, e3, e4, e5, e6, e7⟩ := hargs c
    obtain ⟨hr, ha⟩ := h c
    refine ⟨hr.trans ?_, ha⟩
    exact (Cert.Reference3Ideal.Read.val_main_v145_eq m' c).trans
      (result_at _ _ _ _ _ _ _ _ m c e0 e1 e2 e3 e4 e5 e6 e7)

end Cert.Entry

end
-- ==== Proof.FinishSetUp.lean ====
/-
  The launch of the first layer's closing call: the region's arrays and blocks as the launch finds them, the frame read from a run, the
  scratch buffers, the stacked weights and the cells of the two staging rings.
-/
module

public import proofs.«01_k».proof.Proof.Gen.Kernel4.Launch
public import proofs.«01_k».proof.Proof.Gen.Kernel4.Skeleton
public import proofs.«01_k».proof.Proof.Gen.Kernel4.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel4.Finish

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

/-- What the region finds in its buffers: the launch contents. -/
abbrev V (c : Dev nD) (b : Ref sig .tc) : Buf (Elt F) ((c : Thread nD τ).loc b) := m ((c : Thread nD τ).loc b)

set_option maxHeartbeats 800000 in
/-- The main function is the region alone. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for data over these arrays whose body leaves the block. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for data over these arrays whose body leaves the block. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for data over these arrays whose body leaves the block. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, for data over these arrays whose body leaves the block. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, for data over these arrays whose body leaves the block. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, for data over these arrays whose body leaves the block. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame -/

/-- The frame, from a run that leaves the windows' arrays and the other buffers as the proof data say. -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePost.arr_in h c 0 rfl).trans (hA c 0),
      (Pipeline.RDat.FramePost.arr_in h c 1 rfl).trans (hA c 1),
      (Pipeline.RDat.FramePost.arr_in h c 2 rfl).trans (hA c 2),
      (Pipeline.RDat.FramePost.arr_in h c 3 rfl).trans (hA c 3),
      (Pipeline.RDat.FramePost.arr_in h c 4 rfl).trans (hA c 4),
      (Pipeline.RDat.FramePost.arr_in h c 5 rfl).trans (hA c 5),
      ((h c).2 main_arg6 (Pipeline.mem_restRefs_of main_arg6 (by decide) (by decide))),
      ((h c).2 main_arg7 (Pipeline.mem_restRefs_of main_arg7 (by decide) (by decide))),
      ((h c).2 main_arg8 (Pipeline.mem_restRefs_of main_arg8 (by decide) (by decide))),
      ((h c).2 main_arg9 (Pipeline.mem_restRefs_of main_arg9 (by decide) (by decide)))⟩) h

/-! ## The input windows are never idle -/

/-- Window 0 is never idle. -/
theorem liveAt0_0 : ∀ t : Fin cfg0.N, cfg0.idle 0 (grid0.coords t) = false := fun _ => rfl
/-- Window 1 is never idle. -/
theorem liveAt0_1 : ∀ t : Fin cfg0.N, cfg0.idle 1 (grid0.coords t) = false := fun _ => rfl
/-- Window 2 is never idle. -/
theorem liveAt0_2 : ∀ t : Fin cfg0.N, cfg0.idle 2 (grid0.coords t) = false := fun _ => rfl
/-- Window 3 is never idle. -/
theorem liveAt0_3 : ∀ t : Fin cfg0.N, cfg0.idle 3 (grid0.coords t) = false := fun _ => rfl
/-- Window 4 is never idle. -/
theorem liveAt0_4 : ∀ t : Fin cfg0.N, cfg0.idle 4 (grid0.coords t) = false := fun _ => rfl
/-- Window 5 is never idle. -/
theorem liveAt0_5 : ∀ t : Fin cfg0.N, cfg0.idle 5 (grid0.coords t) = false := fun _ => rfl
/-- Window 6 stores at every point. -/
theorem liveAt0_6 : ∀ t : Fin cfg0.N, cfg0.idle 6 (grid0.coords t) = false := by decide +kernel

/-! ## The buffers the body works on -/

/-- Each window's staging memref at a point. -/
abbrev ms0_0 (t : Fin cfg0.N) : Memref sig .tc .vmem S512x1024 .f32 := win0_0.stage (cfg0.slots t 0)
abbrev ms0_1 (t : Fin cfg0.N) : Memref sig .tc .vmem S512x512 .bf16 := win0_1.stage (cfg0.slots t 1)
abbrev ms0_2 (t : Fin cfg0.N) : Memref sig .tc .vmem S512x512 .bf16 := win0_2.stage (cfg0.slots t 2)
abbrev ms0_3 (t : Fin cfg0.N) : Memref sig .tc .vmem S1x9x8x1024 .f32 := win0_3.stage (cfg0.slots t 3)
abbrev ms0_4 (t : Fin cfg0.N) : Memref sig .tc .vmem S1x3x1024 .f32 := win0_4.stage (cfg0.slots t 4)
abbrev ms0_5 (t : Fin cfg0.N) : Memref sig .tc .vmem S1x3x1024 .f32 := win0_5.stage (cfg0.slots t 5)
abbrev ms0_6 (t : Fin cfg0.N) : Memref sig .tc .vmem S512x1024 .f32 := win0_6.stage (cfg0.slots t 6)
/-- The scratch buffers, whole. -/
abbrev scM0_0 : Memref sig .tc .vmem S1024x2816 .bf16 := Memref.whole cc0_scratch0
abbrev scM0_1 : Memref sig .tc .vmem S1024x2816 .bf16 := Memref.whole cc0_scratch1
abbrev scM0_2 : Memref sig .tc .vmem S2816x1024 .bf16 := Memref.whole cc0_scratch2
abbrev scM0_3 : Memref sig .tc .vmem S1024x1024 .bf16 := Memref.whole cc0_scratch3
abbrev scM0_4 : Memref sig .tc .vmem S6x1024x256 .f32 := Memref.whole cc0_scoped0
abbrev scM0_5 : Memref sig .tc .vmem S3x256x1024 .f32 := Memref.whole cc0_scoped1
/-- The stacked weights, whole. -/
abbrev hbM0_0 : Memref sig .tc .hbm S2x1024x2816 .f32 := Memref.whole main_arg6
abbrev hbM0_1 : Memref sig .tc .hbm S2x1024x2816 .f32 := Memref.whole main_arg7
abbrev hbM0_2 : Memref sig .tc .hbm S2x2816x1024 .f32 := Memref.whole main_arg8
abbrev hbM0_3 : Memref sig .tc .hbm S2x1024x1024 .f32 := Memref.whole main_arg9
/-- The contents of a memref's buffer, -/
abbrev HbBuf0 (c : Dev nD) {sp : Space} {S : Shape} {e : EltTy} (M : Memref sig .tc sp S e) : Type := Buf (Elt F) (M.view.loc (c : Thread nD τ))
/-- and the buffer held whole at given contents. -/
abbrev hbPt0 (c : Dev nD) {sp : Space} {S : Shape} {e : EltTy} (M : Memref sig .tc sp S e) (f : HbBuf0 (F := F) c M) : sProp 𝕄 :=
  M.view.loc (c : Thread nD τ) ↦{fullShare} f

/-- The nine cells of the two staging rings. -/
abbrev osem0 : Fin 9 → SemLoc sig := fun j => (![SemLoc.dma 11, SemLoc.dma 12, SemLoc.dma 13, SemLoc.dma 14, SemLoc.dma 15, SemLoc.dma 16, SemLoc.dma 17, SemLoc.dma 18, SemLoc.dma 19] : Fin 9 → SemLoc sig) j
/-- None of them is a window's. -/
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0) := by
  rw [Pipeline.ownSems0_eq_of_list c osem0 [0, 1, 2, 3, 4, 5, 6, 7, 8] (by decide) (by decide)]; rfl
/-- The stacked weights, which the body copies from. -/
def H0 : Finset (Ref sig .tc) := {main_arg6, main_arg7, main_arg8, main_arg9}
/-- None of them is a window's array. -/
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg6) ∗ hbPt0 c hbM0_1 (V m c main_arg7) ∗ hbPt0 c hbM0_2 (V m c main_arg8) ∗ hbPt0 c hbM0_3 (V m c main_arg9)) := by
  rw [BI.bigSep_eq_bigSepL_of_eq [main_arg6, main_arg7, main_arg8, main_arg9] (by decide) (by decide)]; rfl

/-- The launch invariant, conjunct by conjunct: scratch at some contents, the generator register, the ring cells at zero,
    the stacked weights as launched. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r) ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0) ∗ iprop(hbPt0 c hbM0_0 (V m c main_arg6) ∗ hbPt0 c hbM0_1 (V m c main_arg7) ∗ hbPt0 c hbM0_2 (V m c main_arg8) ∗ hbPt0 c hbM0_3 (V m c main_arg9))) := by
  rw [Pipeline.ΦD_eq, scopedRest0_eq, ownSems00_eq, hbmPts0_eq]; simp only [scM0_0, scM0_1, scM0_2, scM0_3, scM0_4, scM0_5, owns_whole]; try rfl

end Cert.Kernel4.Finish

end
-- ==== Proof.FinishBlocks.lean ====
/-
  What one grid point of the first layer's closing call leaves in its output block: what a point of the second layer's
  leaves, of the layer-zero weights; and the printed pieces of this program that are pieces of the other calls.
-/
module

public import proofs.«01_k».proof.Proof.FinishSetUp
public import proofs.«01_k».proof.Proof.Staging
public import proofs.«01_k».proof.Proof.EntryBlocks

@[expose] public section

set_option maxRecDepth 16384

noncomputable section

namespace Cert.Kernel4.Finish

open Idealize.ShloMosaic Idealize.ShloMosaic.TcCoe
open Cert.Kernel4.Gen
open Cert.Kernel.Closing (colStore rowStore)

variable {F : FTy → Type} [FloatOps F] {sg : RefSig}

/-! ## The layer-zero output projection -/

/-- The layer-zero output projection, truncated. -/
def mixW (f : Vec F S2x1024x1024 .f32) : Vec F S1024x1024 .bf16 :=
  fun p => FloatOps.truncf .bf16 bitsLt_bf16_f32 (f (ValueIdx.ix3 (0 : Fin 2) (p 0) (p 1)))

/-- A copied row chunk of the layer-zero output projection, truncated, is that chunk of the truncated matrix. -/
theorem truncf_copy_mix (v : View sg .tc .hbm S2x1024x1024 .f32) (k : ℕ) (inb hn) (f : v.ty.Contents (Elt F)) :
    (truncf .bf16 (φ := .f32) (ReadAs.same.apply (View.read (Elt F) (View.reshape (s := S1x256x1024) (v.slice (Rect.unit (s := S2x1024x1024) ![0, k, 0] ![1, 256, 1024] inb)) S256x1024 hn) f))
        bitsLt_bf16_f32 : FVec F S256x1024 .bf16)
      = View.ld (mixW (v.read (Elt F) f)) (Rect.unit (s := S1024x1024) ![k, 0] S256x1024.size (by intro a; match a with | ⟨0, _⟩ => exact inb ⟨1, by decide⟩ | ⟨1, _⟩ => exact Nat.le_refl _)) := by
  funext p
  refine congrArg (FloatOps.truncf .bf16 bitsLt_bf16_f32) ?_
  refine (shapeCast_dropUnit_apply S256x1024.size (View.readAt (Elt F) v (Rect.unit (s := S2x1024x1024) ![0, k, 0] ![1, 256, 1024] inb).toLoadRect f) shapeCasts_S1x256x1024_S256x1024 p).trans
    (congrArg (View.read (Elt F) v f) ?_)
  funext a
  match a with
  | ⟨0, _⟩ => exact Fin.ext rfl
  | ⟨1, _⟩ => exact Fin.ext rfl
  | ⟨2, _⟩ => exact Fin.ext rfl

/-! ## The branch conditions of the body, in the point -/

/-- The first point stages the weights. -/
abbrev cond0_0 (i : grid0.Coords) : Prop := k0_cond1 i = 1#1

/-- It is the point with number zero. -/
theorem hcond0_0 : ∀ t : Fin cfg0.N, cond0_0 (grid0.coords t) ↔ t.val = 0 := by decide

/-- A later point finds the weights in scratch. -/
abbrev cond0_1 (i : grid0.Coords) : Prop := k0_cond2 i = 1#1

/-- It is any other point. -/
theorem hcond0_1 : ∀ t : Fin cfg0.N, cond0_1 (grid0.coords t) ↔ 1 ≤ t.val := by decide

variable (i : grid0.Coords)

/-! The modulation rows are read where the second layer's call reads them. -/

theorem off1_eq : k0_off1 i = Cert.Kernel.k0_off1 i := rfl
theorem off2_eq : k0_off2 i = Cert.Kernel.k0_off2 i := rfl
theorem off3_eq : k0_off3 i = Cert.Kernel.k0_off3 i := rfl
theorem off4_eq : k0_off4 i = Cert.Kernel.k0_off4 i := rfl
theorem off5_eq : k0_off5 i = Cert.Kernel.k0_off5 i := rfl
theorem off6_eq : k0_off6 i = Cert.Kernel.k0_off6 i := rfl
theorem off7_eq : k0_off7 i = Cert.Kernel.k0_off7 i := rfl

/-! The printed pieces outside the chunks are the second layer's. -/

theorem pay1_eq : @k0_pay1 F = @Cert.Kernel.Gen.k0_pay1 F := rfl
theorem pay2_eq : @k0_pay2 F = @Cert.Kernel.Gen.k0_pay2 F := rfl
theorem pay3_eq : @k0_pay3 F _ = @Cert.Kernel.Gen.k0_pay3 F _ := rfl
theorem pay8_eq : @k0_pay8 F = @Cert.Kernel.Gen.k0_pay8 F := rfl
theorem pay9_eq : @k0_pay9 F _ = @Cert.Kernel.Gen.k0_pay9 F _ := rfl
theorem pay10_eq : @k0_pay10 F = @Cert.Kernel.Gen.k0_pay10 F := rfl
theorem pay11_eq : @k0_pay11 F = @Cert.Kernel.Gen.k0_pay11 F := rfl
theorem pay12_eq : @k0_pay12 F = @Cert.Kernel.Gen.k0_pay12 F := rfl
theorem pay13_eq : @k0_pay13 F _ = @Cert.Kernel.Gen.k0_pay13 F _ := rfl
theorem pay14_eq : @k0_pay14 F _ = @Cert.Kernel.Gen.k0_pay14 F _ := rfl
theorem pay15_eq : @k0_pay15 F _ = @Cert.Kernel.Gen.k0_pay15 F _ := rfl
theorem pay68_eq : @k0_pay68 F _ = @Cert.Kernel.Gen.k0_pay68 F _ := rfl
theorem pay69_eq : @k0_pay69 F _ = @Cert.Kernel.Gen.k0_pay69 F _ := rfl
theorem pay70_eq : @k0_pay70 F = @Cert.Kernel.Gen.k0_pay70 F := rfl
theorem pay71_eq : @k0_pay71 F _ = @Cert.Kernel.Gen.k0_pay71 F _ := rfl
theorem pay72_eq : @k0_pay72 F _ = @Cert.Kernel.Gen.k0_pay72 F _ := rfl
theorem pay73_eq : @k0_pay73 F = @Cert.Kernel.Gen.k0_pay73 F := rfl
theorem pay74_eq : @k0_pay74 F _ = @Cert.Kernel.Gen.k0_pay74 F _ := rfl
theorem pay75_eq : @k0_pay75 F _ = @Cert.Kernel.Gen.k0_pay75 F _ := rfl
theorem pay76_eq : @k0_pay76 F _ = @Cert.Kernel.Gen.k0_pay76 F _ := rfl

/-! The printed stores of a staged chunk are the closing call's; so are the chunks' down projections. -/

theorem colStore_eq16 : @k0_pay16 F _ = colStore := rfl
theorem rowStore_eq4 : @k0_pay4 F _ = rowStore := rfl
theorem colStore_eq17 : @k0_pay17 F _ = colStore := rfl
theorem colStore_eq22 : @k0_pay22 F _ = colStore := rfl
theorem colStore_eq25 : @k0_pay25 F _ = colStore := rfl
theorem colStore_eq26 : @k0_pay26 F _ = colStore := rfl
theorem colStore_eq29 : @k0_pay29 F _ = colStore := rfl
theorem colStore_eq30 : @k0_pay30 F _ = colStore := rfl
theorem colStore_eq36 : @k0_pay36 F _ = colStore := rfl
theorem colStore_eq37 : @k0_pay37 F _ = colStore := rfl
theorem colStore_eq41 : @k0_pay41 F _ = colStore := rfl
theorem colStore_eq42 : @k0_pay42 F _ = colStore := rfl
theorem colStore_eq45 : @k0_pay45 F _ = colStore := rfl
theorem colStore_eq46 : @k0_pay46 F _ = colStore := rfl
theorem colStore_eq49 : @k0_pay49 F _ = colStore := rfl
theorem colStore_eq55 : @k0_pay55 F _ = colStore := rfl
theorem colStore_eq56 : @k0_pay56 F _ = colStore := rfl
theorem colStore_eq60 : @k0_pay60 F _ = colStore := rfl
theorem colStore_eq61 : @k0_pay61 F _ = colStore := rfl
theorem colStore_eq66 : @k0_pay66 F _ = colStore := rfl
theorem rowStore_eq5 : @k0_pay5 F _ = rowStore := rfl
theorem rowStore_eq6 : @k0_pay6 F _ = rowStore := rfl
theorem rowStore_eq7 : @k0_pay7 F _ = rowStore := rfl
theorem rowStore_eq18 : @k0_pay18 F _ = rowStore := rfl
theorem rowStore_eq23 : @k0_pay23 F _ = rowStore := rfl
theorem rowStore_eq27 : @k0_pay27 F _ = rowStore := rfl
theorem rowStore_eq31 : @k0_pay31 F _ = rowStore := rfl
theorem rowStore_eq43 : @k0_pay43 F _ = rowStore := rfl
theorem rowStore_eq47 : @k0_pay47 F _ = rowStore := rfl
theorem rowStore_eq52 : @k0_pay52 F _ = rowStore := rfl
theorem rowStore_eq57 : @k0_pay57 F _ = rowStore := rfl
theorem rowStore_eq62 : @k0_pay62 F _ = rowStore := rfl
theorem rowStore_eq67 : @k0_pay67 F _ = rowStore := rfl
theorem colStore_eq21 (v : Vec F S1x1024x256 .f32) : k0_pay21 (k0_pay20 v) = colStore v := rfl
theorem colStore_eq51 (v : Vec F S1x1024x256 .f32) : k0_pay51 (k0_pay50 v) = colStore v := rfl
theorem colStore_eq65 (v : Vec F S1x1024x256 .f32) : k0_pay65 (k0_pay64 v) = colStore v := rfl
theorem rowStore_eq39 (v : Vec F S1x256x1024 .f32) : k0_pay39 (k0_pay38 v) = rowStore v := rfl
theorem chunk_eq28 : @k0_pay28 F _ = Cert.Kernel.Gen.k0_pay24 := rfl
theorem chunk_eq40 : @k0_pay40 F _ = Cert.Kernel.Gen.k0_pay24 := rfl
theorem chunk_eq44 : @k0_pay44 F _ = Cert.Kernel.Gen.k0_pay24 := rfl
theorem chunk_eq48 : @k0_pay48 F _ = Cert.Kernel.Gen.k0_pay24 := rfl
theorem chunk_eq63 : @k0_pay63 F _ = Cert.Kernel.Gen.k0_pay24 := rfl
theorem chunk_eq24 : @k0_pay24 F _ = Cert.Kernel.Gen.k0_pay24 := rfl
theorem chunk_eq19 : @k0_pay19 F _ = Cert.Kernel.Gen.k0_pay19 := rfl
theorem chunk_eq35 (h : FVec F S512x1024 .bf16) (a : FVec F S512x1024 .f32) (wg wu : Vec F S1024x256 .bf16) (wd : Vec F S256x1024 .bf16) :
    k0_pay35 a (k0_pay32 h wg) (k0_pay33 h wu) (k0_pay34 h wg) wd = Cert.Kernel.Gen.k0_pay24 h a wg wu wd := rfl
theorem chunk_eq54 (h : FVec F S512x1024 .bf16) (a : FVec F S512x1024 .f32) (wg wu : Vec F S1024x256 .bf16) (wd : Vec F S256x1024 .bf16) :
    k0_pay54 a (k0_pay53 h wg wu) wd = Cert.Kernel.Gen.k0_pay24 h a wg wu wd := rfl
theorem chunk_eq59 (h : FVec F S512x1024 .bf16) (a : FVec F S512x1024 .f32) (wg wu : Vec F S1024x256 .bf16) (wd : Vec F S256x1024 .bf16) :
    k0_pay59 a (k0_pay58 h wg wu) wd = Cert.Kernel.Gen.k0_pay24 h a wg wu wd := rfl

end Cert.Kernel4.Finish

end
-- ==== Proof.FinishSteady.lean ====
/-
  A later grid point's run, for any values: over whole staging memrefs at the input blocks and the four weight scratch
  buffers at any weights, the body leaves `steadyOut` in the output window and changes nothing else.
-/
module

public import proofs.«01_k».proof.Proof.FinishBlocks
public import Idealize.ShloMosaic.Lib.Pipeline.ValueKit
public import Idealize.ShloMosaic.Lib.VecWindow

@[expose] public section

set_option maxRecDepth 16384

noncomputable section

namespace Cert.Kernel4.Finish

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4.Gen
open Cert.Kernel.Closing (firstOut steadyOut)

variable {F : FTy → Type} [FloatOps F]

local notation "𝕄" => MT nD τ sig Unit (Elt F) ℕ (Pipeline.UD sig nD τ) ℕ

set_option maxHeartbeats 3460000 in
/-- A point after the first: the body leaves the second layer's `steadyOut`, of this layer's weights, in the output window. -/
theorem steady_point (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x9x8x1024 .f32) (harg4 : arg4.IsWhole) (arg5 : Memref sig .tc .vmem S1x3x1024 .f32) (harg5 : arg5.IsWhole) (arg6 : Memref sig .tc .vmem S1x3x1024 .f32) (harg6 : arg6.IsWhole) (arg11 : Memref sig .tc .vmem S512x1024 .f32) (harg11 : arg11.IsWhole) (arg12 : Memref sig .tc .vmem S1024x2816 .bf16) (harg12 : arg12.IsWhole) (arg13 : Memref sig .tc .vmem S1024x2816 .bf16) (harg13 : arg13.IsWhole) (arg14 : Memref sig .tc .vmem S2816x1024 .bf16) (harg14 : arg14.IsWhole) (arg15 : Memref sig .tc .vmem S1024x1024 .bf16) (harg15 : arg15.IsWhole) (alloca_r0 : Memref sig .tc .vmem S6x1024x256 .f32) (halloca_r0 : alloca_r0.IsWhole) (alloca_47_r0 : Memref sig .tc .vmem S3x256x1024 .f32) (halloca_47_r0 : alloca_47_r0.IsWhole) (hc0 : ¬cond0_0 i) (hc3 : cond0_1 i)
    (x0 : Vec F S512x1024 .f32) (x1 : Vec F S512x512 .bf16) (x2 : Vec F S512x512 .bf16) (x3 : Vec F S1x9x8x1024 .f32) (x4 : Vec F S1x3x1024 .f32) (x5 : Vec F S1x3x1024 .f32) (s0 s1 : Vec F S1024x2816 .bf16) (s2 : Vec F S2816x1024 .bf16) (s3 : Vec F S1024x1024 .bf16) :
      ∀ (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg11 fullShare d) ∗ owns (c : Thread nD τ) arg12 fullShare s0 ∗ owns (c : Thread nD τ) arg13 fullShare s1 ∗ owns (c : Thread nD τ) arg14 fullShare s2 ∗ owns (c : Thread nD τ) arg15 fullShare s3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg11 fullShare (steadyOut i hc3 x0 x1 x2 x3 x4 x5 s0 s1 s2 s3) ∗ owns (c : Thread nD τ) arg12 fullShare s0 ∗ owns (c : Thread nD τ) arg13 fullShare s1 ∗ owns (c : Thread nD τ) arg14 fullShare s2 ∗ owns (c : Thread nD τ) arg15 fullShare s3 ) -∗ K ⟨⟩))
          ⊢ wp frame (wpE (defs₀ (F := F)) Variants.none c none) Set.univ (cc0_ffn2 i arg1 harg1 arg2 harg2 arg3 harg3 arg4 harg4 arg5 harg5 arg6 harg6 (Memref.whole main_arg6) (Memref.isWhole_whole _) (Memref.whole main_arg7) (Memref.isWhole_whole _) (Memref.whole main_arg8) (Memref.isWhole_whole _) (Memref.whole main_arg9) (Memref.isWhole_whole _) arg11 harg11 arg12 harg12 arg13 harg13 arg14 harg14 arg15 harg15 alloca_r0 halloca_r0 alloca_47_r0 halloca_47_r0 cc0_scoped2 cc0_scoped3) K := by
    intro K
    simp only [cc0_ffn2_eq_skeleton]; unfold cc0_ffn2_skel
    simp only [k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg12.eq_unread hfs0; obtain rfl := harg13.eq_unread hfs1; obtain rfl := harg14.eq_unread hfs2; obtain rfl := harg15.eq_unread hfs3
    sl_exec (disch := first | sl_exact hc0 | sl_exact hc3)
    sl_step
    iapply Hk
    isplitl [H0]
    · iexists _; isplitr [H0]
      · ipureintro; exact hf0
      · iexact H0
    isplitl [H1]
    · iexists _; isplitr [H1]
      · ipureintro; exact hf1
      · iexact H1
    isplitl [H2]
    · iexists _; isplitr [H2]
      · ipureintro; exact hf2
      · iexact H2
    isplitl [H3]
    · iexists _; isplitr [H3]
      · ipureintro; exact hf3
      · iexact H3
    isplitl [H4]
    · iexists _; isplitr [H4]
      · ipureintro; exact hf4
      · iexact H4
    isplitl [H5]
    · iexists _; isplitr [H5]
      · ipureintro; exact hf5
      · iexact H5
    isplitl [H6]
    · iexists _; isplitr [H6]
      rotate_left
      · iexact H6
      · ipureintro
        refine (View.read_writes_full _ _ inb_S512x1024_S512x1024_0_0 _ []).trans ?_
        sl_unfold_words
        simp only [View.readAt_eq_ld, Memref.IsWhole.read_unread]
        simp (disch := decide) only [View.ld_unit_lit, pay1_eq, pay2_eq, pay3_eq, pay8_eq, pay9_eq, pay10_eq, pay11_eq, pay12_eq, pay13_eq, pay14_eq, pay15_eq, pay68_eq, pay69_eq, pay70_eq, pay71_eq, pay72_eq, pay73_eq, pay74_eq, pay75_eq, pay76_eq]
        rfl
    isplitl [HS0]
    · iexists _; isplitr [HS0]
      · ipureintro; exact hfs0
      · iexact HS0
    isplitl [HS1]
    · iexists _; isplitr [HS1]
      · ipureintro; exact hfs1
      · iexact HS1
    isplitl [HS2]
    · iexists _; isplitr [HS2]
      · ipureintro; exact hfs2
      · iexact HS2
    · iexists _; isplitr [HS3]
      · ipureintro; exact hfs3
      · iexact HS3

end Cert.Kernel4.Finish

end
-- ==== Proof.FinishFirst.lean ====
/-
  The first grid point's run, for any values: it copies the four layer-zero weight matrices through two staging rings into
  scratch, truncated, computes its output block chunk by chunk meanwhile, and leaves every semaphore at zero.
-/
module

public import proofs.«01_k».proof.Proof.FinishBlocks
public import Idealize.ShloMosaic.Lib.Pipeline.ValueKit
public import Idealize.ShloMosaic.Lib.VecWindow

@[expose] public section

set_option maxRecDepth 16384

noncomputable section

namespace Cert.Kernel4.Finish

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4.Gen
open Cert.Kernel.Closing (firstOut steadyOut colStore_hit rowStore_hit readAt_other_slot read_blocks readCov_mix)
open Cert.Kernel3.Entry (upW downW truncf_copy_up truncf_copy_down)

variable {F : FTy → Type} [FloatOps F]

local notation "𝕄" => MT nD τ sig Unit (Elt F) ℕ (Pipeline.UD sig nD τ) ℕ

set_option maxHeartbeats 3460000 in
set_option sl_exec.dmaWindow true in
set_option sl_exec.dmaWindowSet true in
/-- The first point: the body copies the layer-zero weights in, leaves their truncations in the four scratch matrices and
    the second layer's `firstOut` of them in the output window, and hands back everything else as it was, the staging rings at some contents. -/
theorem first_point (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x9x8x1024 .f32) (harg4 : arg4.IsWhole) (arg5 : Memref sig .tc .vmem S1x3x1024 .f32) (harg5 : arg5.IsWhole) (arg6 : Memref sig .tc .vmem S1x3x1024 .f32) (harg6 : arg6.IsWhole) (arg11 : Memref sig .tc .vmem S512x1024 .f32) (harg11 : arg11.IsWhole) (arg12 : Memref sig .tc .vmem S1024x2816 .bf16) (harg12 : arg12.IsWhole) (arg13 : Memref sig .tc .vmem S1024x2816 .bf16) (harg13 : arg13.IsWhole) (arg14 : Memref sig .tc .vmem S2816x1024 .bf16) (harg14 : arg14.IsWhole) (arg15 : Memref sig .tc .vmem S1024x1024 .bf16) (harg15 : arg15.IsWhole) (alloca_r0 : Memref sig .tc .vmem S6x1024x256 .f32) (halloca_r0 : alloca_r0.IsWhole) (alloca_47_r0 : Memref sig .tc .vmem S3x256x1024 .f32) (halloca_47_r0 : alloca_47_r0.IsWhole) (hc0 : cond0_0 i) (hc1 : ¬cond0_1 i)
    (x0 : Vec F S512x1024 .f32) (x1 : Vec F S512x512 .bf16) (x2 : Vec F S512x512 .bf16) (x3 : Vec F S1x9x8x1024 .f32) (x4 : Vec F S1x3x1024 .f32) (x5 : Vec F S1x3x1024 .f32) (fh0 : HbBuf0 (F := F) c hbM0_0) (fh1 : HbBuf0 (F := F) c hbM0_1) (fh2 : HbBuf0 (F := F) c hbM0_2) (fh3 : HbBuf0 (F := F) c hbM0_3) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) alloca_r0 fullShare d) ∗ (∃ d, owns (c : Thread nD τ) alloca_47_r0 fullShare d) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg11 fullShare (firstOut i hc0 x0 x1 x2 x3 x4 x5 (upW (hbM0_0.view.read (Elt F) fh0)) (upW (hbM0_1.view.read (Elt F) fh1)) (downW (hbM0_2.view.read (Elt F) fh2)) (mixW (hbM0_3.view.read (Elt F) fh3))) ∗ owns (c : Thread nD τ) arg12 fullShare (upW (hbM0_0.view.read (Elt F) fh0)) ∗ owns (c : Thread nD τ) arg13 fullShare (upW (hbM0_1.view.read (Elt F) fh1)) ∗ owns (c : Thread nD τ) arg14 fullShare (downW (hbM0_2.view.read (Elt F) fh2)) ∗ owns (c : Thread nD τ) arg15 fullShare (mixW (hbM0_3.view.read (Elt F) fh3)) ∗ (∃ d, owns (c : Thread nD τ) alloca_r0 fullShare d) ∗ (∃ d, owns (c : Thread nD τ) alloca_47_r0 fullShare d) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_ffn2 i arg1 harg1 arg2 harg2 arg3 harg3 arg4 harg4 arg5 harg5 arg6 harg6 (Memref.whole main_arg6) (Memref.isWhole_whole _) (Memref.whole main_arg7) (Memref.isWhole_whole _) (Memref.whole main_arg8) (Memref.isWhole_whole _) (Memref.whole main_arg9) (Memref.isWhole_whole _) arg11 harg11 arg12 harg12 arg13 harg13 arg14 harg14 arg15 harg15 alloca_r0 halloca_r0 alloca_47_r0 halloca_47_r0 cc0_scoped2 cc0_scoped3) K := by
    intro W K
    simp only [cc0_ffn2_eq_skeleton]; unfold cc0_ffn2_skel
    simp only [k0_part30_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hq0, Hq1, Hq2, Hq3, Hq4, Hq5, Hq6, Hq7, Hq8, Hh0, Hh1, Hh2, Hh3, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr [H0]
      · ipureintro; exact hf0
      · iexact H0
    isplitl [H1]
    · iexists _; isplitr [H1]
      · ipureintro; exact hf1
      · iexact H1
    isplitl [H2]
    · iexists _; isplitr [H2]
      · ipureintro; exact hf2
      · iexact H2
    isplitl [H3]
    · iexists _; isplitr [H3]
      · ipureintro; exact hf3
      · iexact H3
    isplitl [H4]
    · iexists _; isplitr [H4]
      · ipureintro; exact hf4
      · iexact H4
    isplitl [H5]
    · iexists _; isplitr [H5]
      · ipureintro; exact hf5
      · iexact H5
    isplitl [H6]
    · iexists _; isplitr; swap; · iexact H6
      · ipureintro
        refine (View.read_writes_full _ _ inb_S512x1024_S512x1024_0_0 _ []).trans ?_
        sl_unfold_words
        simp (disch := decide) only [colStore_eq16, rowStore_eq4, colStore_eq17, colStore_eq22, colStore_eq25, colStore_eq26, colStore_eq29, colStore_eq30, colStore_eq36, colStore_eq37, colStore_eq41, colStore_eq42, colStore_eq45, colStore_eq46, colStore_eq49, colStore_eq55, colStore_eq56, colStore_eq60, colStore_eq61, colStore_eq66, rowStore_eq5, rowStore_eq6, rowStore_eq7, rowStore_eq18, rowStore_eq23, rowStore_eq27, rowStore_eq31, rowStore_eq43, rowStore_eq47, rowStore_eq52, rowStore_eq57, rowStore_eq62, rowStore_eq67, colStore_eq21, colStore_eq51, colStore_eq65, rowStore_eq39, readAt_other_slot, colStore_hit, rowStore_hit, truncf_copy_up _ 0, truncf_copy_up _ 256, truncf_copy_up _ 512, truncf_copy_up _ 768, truncf_copy_up _ 1024, truncf_copy_up _ 1280, truncf_copy_up _ 1536, truncf_copy_up _ 1792, truncf_copy_up _ 2048, truncf_copy_up _ 2304, truncf_copy_up _ 2560, truncf_copy_down _ 0, truncf_copy_down _ 256, truncf_copy_down _ 512, truncf_copy_down _ 768, truncf_copy_down _ 1024, truncf_copy_down _ 1280, truncf_copy_down _ 1536, truncf_copy_down _ 1792, truncf_copy_down _ 2048, truncf_copy_down _ 2304, truncf_copy_down _ 2560, truncf_copy_mix _ 0, truncf_copy_mix _ 256, truncf_copy_mix _ 512, truncf_copy_mix _ 768, View.readCov_cons_toLoadRect, readCov_mix, chunk_eq28, chunk_eq40, chunk_eq44, chunk_eq48, chunk_eq63, chunk_eq24, chunk_eq19, chunk_eq35, chunk_eq54, chunk_eq59]
        simp only [View.readAt_eq_ld, Memref.IsWhole.read_unread]
        simp (disch := decide) only [View.ld_unit_lit, pay1_eq, pay2_eq, pay3_eq, pay8_eq, pay9_eq, pay10_eq, pay11_eq, pay12_eq, pay13_eq, pay14_eq, pay15_eq, pay68_eq, pay69_eq, pay70_eq, pay71_eq, pay72_eq, pay73_eq, pay74_eq, pay75_eq, pay76_eq]
        rfl
    isplitl [HS0]
    · iexists _; isplitr; swap; · iexact HS0
      · ipureintro
        refine read_blocks _ _ _ _ ?_ (View.cover_of_tiledL _ S1024x256.size (by rfl))
        sl_unfold_words
        simp (disch := decide) only [colStore_eq16, rowStore_eq4, colStore_eq17, colStore_eq22, colStore_eq25, colStore_eq26, colStore_eq29, colStore_eq30, colStore_eq36, colStore_eq37, colStore_eq41, colStore_eq42, colStore_eq45, colStore_eq46, colStore_eq49, colStore_eq55, colStore_eq56, colStore_eq60, colStore_eq61, colStore_eq66, rowStore_eq5, rowStore_eq6, rowStore_eq7, rowStore_eq18, rowStore_eq23, rowStore_eq27, rowStore_eq31, rowStore_eq43, rowStore_eq47, rowStore_eq52, rowStore_eq57, rowStore_eq62, rowStore_eq67, colStore_eq21, colStore_eq51, colStore_eq65, rowStore_eq39, readAt_other_slot, colStore_hit, rowStore_hit, truncf_copy_up _ 0, truncf_copy_up _ 256, truncf_copy_up _ 512, truncf_copy_up _ 768, truncf_copy_up _ 1024, truncf_copy_up _ 1280, truncf_copy_up _ 1536, truncf_copy_up _ 1792, truncf_copy_up _ 2048, truncf_copy_up _ 2304, truncf_copy_up _ 2560]
        exact ⟨fun _ => rfl, fun _ => rfl, fun _ => rfl, fun _ => rfl, fun _ => rfl, fun _ => rfl, fun _ => rfl, fun _ => rfl, fun _ => rfl, fun _ => rfl, fun _ => rfl, trivial⟩
    isplitl [HS1]
    · iexists _; isplitr; swap; · iexact HS1
      · ipureintro
        refine read_blocks _ _ _ _ ?_ (View.cover_of_tiledL _ S1024x256.size (by rfl))
        sl_unfold_words
        simp (disch := decide) only [colStore_eq16, rowStore_eq4, colStore_eq17, colStore_eq22, colStore_eq25, colStore_eq26, colStore_eq29, colStore_eq30, colStore_eq36, colStore_eq37, colStore_eq41, colStore_eq42, colStore_eq45, colStore_eq46, colStore_eq49, colStore_eq55, colStore_eq56, colStore_eq60, colStore_eq61, colStore_eq66, rowStore_eq5, rowStore_eq6, rowStore_eq7, rowStore_eq18, rowStore_eq23, rowStore_eq27, rowStore_eq31, rowStore_eq43, rowStore_eq47, rowStore_eq52, rowStore_eq57, rowStore_eq62, rowStore_eq67, colStore_eq21, colStore_eq51, colStore_eq65, rowStore_eq39, readAt_other_slot, colStore_hit, rowStore_hit, truncf_copy_up _ 0, truncf_copy_up _ 256, truncf_copy_up _ 512, truncf_copy_up _ 768, truncf_copy_up _ 1024, truncf_copy_up _ 1280, truncf_copy_up _ 1536, truncf_copy_up _ 1792, truncf_copy_up _ 2048, truncf_copy_up _ 2304, truncf_copy_up _ 2560]
        exact ⟨fun _ => rfl, fun _ => rfl, fun _ => rfl, fun _ => rfl, fun _ => rfl, fun _ => rfl, fun _ => rfl, fun _ => rfl, fun _ => rfl, fun _ => rfl, fun _ => rfl, trivial⟩
    isplitl [HS2]
    · iexists _; isplitr; swap; · iexact HS2
      · ipureintro
        refine read_blocks _ _ _ _ ?_ (View.cover_of_tiledL _ S256x1024.size (by rfl))
        sl_unfold_words
        simp (disch := decide) only [colStore_eq16, rowStore_eq4, colStore_eq17, colStore_eq22, colStore_eq25, colStore_eq26, colStore_eq29, colStore_eq30, colStore_eq36, colStore_eq37, colStore_eq41, colStore_eq42, colStore_eq45, colStore_eq46, colStore_eq49, colStore_eq55, colStore_eq56, colStore_eq60, colStore_eq61, colStore_eq66, rowStore_eq5, rowStore_eq6, rowStore_eq7, rowStore_eq18, rowStore_eq23, rowStore_eq27, rowStore_eq31, rowStore_eq43, rowStore_eq47, rowStore_eq52, rowStore_eq57, rowStore_eq62, rowStore_eq67, colStore_eq21, colStore_eq51, colStore_eq65, rowStore_eq39, readAt_other_slot, colStore_hit, rowStore_hit, truncf_copy_down _ 0, truncf_copy_down _ 256, truncf_copy_down _ 512, truncf_copy_down _ 768, truncf_copy_down _ 1024, truncf_copy_down _ 1280, truncf_copy_down _ 1536, truncf_copy_down _ 1792, truncf_copy_down _ 2048, truncf_copy_down _ 2304, truncf_copy_down _ 2560]
        exact ⟨fun _ => rfl, fun _ => rfl, fun _ => rfl, fun _ => rfl, fun _ => rfl, fun _ => rfl, fun _ => rfl, fun _ => rfl, fun _ => rfl, fun _ => rfl, fun _ => rfl, trivial⟩
    isplitl [HS3]
    · iexists _; isplitr; swap; · iexact HS3
      · ipureintro
        refine read_blocks _ _ _ _ ?_ (View.cover_of_tiledL _ S256x1024.size (by rfl))
        sl_unfold_words
        simp (disch := decide) only [colStore_eq16, rowStore_eq4, colStore_eq17, colStore_eq22, colStore_eq25, colStore_eq26, colStore_eq29, colStore_eq30, colStore_eq36, colStore_eq37, colStore_eq41, colStore_eq42, colStore_eq45, colStore_eq46, colStore_eq49, colStore_eq55, colStore_eq56, colStore_eq60, colStore_eq61, colStore_eq66, rowStore_eq5, rowStore_eq6, rowStore_eq7, rowStore_eq18, rowStore_eq23, rowStore_eq27, rowStore_eq31, rowStore_eq43, rowStore_eq47, rowStore_eq52, rowStore_eq57, rowStore_eq62, rowStore_eq67, colStore_eq21, colStore_eq51, colStore_eq65, rowStore_eq39, readAt_other_slot, colStore_hit, rowStore_hit, truncf_copy_mix _ 0, truncf_copy_mix _ 256, truncf_copy_mix _ 512, truncf_copy_mix _ 768]
        exact ⟨fun _ => rfl, fun _ => rfl, fun _ => rfl, fun _ => rfl, trivial⟩
    isplitl [HS4]
    · iexists _, _; isplitr; swap; · iexact HS4
      · ipureintro; rfl
    isplitl [HS5]
    · iexists _, _; isplitr; swap; · iexact HS5
      · ipureintro; rfl
    isplitl [Hq0]
    · iexact Hq0
    isplitl [Hq1]
    · iexact Hq1
    isplitl [Hq2]
    · iexact Hq2
    isplitl [Hq3]
    · iexact Hq3
    isplitl [Hq4]
    · iexact Hq4
    isplitl [Hq5]
    · iexact Hq5
    isplitl [Hq6]
    · iexact Hq6
    isplitl [Hq7]
    · iexact Hq7
    isplitl [Hq8]
    · iexact Hq8
    isplitl [Hh0]
    · iexact Hh0
    isplitl [Hh1]
    · iexact Hh1
    isplitl [Hh2]
    · iexact Hh2
    isplitl [Hh3]
    · iexact Hh3
    iexists _; iexact HW

end Cert.Kernel4.Finish

end
-- ==== Proof.FinishRun.lean ====
/-
  The first layer's closing call's run for any values: the proof data (what the output window holds after each point, the
  invariant that names the four weight matrices in scratch from the second point on), the body at every point, the
  launch, and the frame read from it.
-/
module

public import proofs.«01_k».proof.Proof.FinishSteady
public import proofs.«01_k».proof.Proof.FinishFirst

@[expose] public section

set_option maxRecDepth 16384

noncomputable section

namespace Cert.Kernel4.Finish

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4.Gen
open Cert.Kernel.Closing (firstOut steadyOut)
open Cert.Kernel3.Entry (upW downW)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the run leaves -/

/-- The gate projection the points after the first find in scratch. -/
def gateOf (c : Dev nD) : Vec F S1024x2816 .bf16 := upW (hbM0_0.view.read (Elt F) (V m c main_arg6))
/-- The up projection in scratch. -/
def upOf (c : Dev nD) : Vec F S1024x2816 .bf16 := upW (hbM0_1.view.read (Elt F) (V m c main_arg7))
/-- The down projection in scratch. -/
def downOf (c : Dev nD) : Vec F S2816x1024 .bf16 := downW (hbM0_2.view.read (Elt F) (V m c main_arg8))
/-- The output projection in scratch. -/
def mixOf (c : Dev nD) : Vec F S1024x1024 .bf16 := mixW (hbM0_3.view.read (Elt F) (V m c main_arg9))

/-- The block a point computes, from its input blocks and the layer-zero weights. -/
def blockOut (c : Dev nD) (t : Fin cfg0.N) : Vec F S512x1024 .f32 :=
  if h : t.val = 0 then
    firstOut (grid0.coords t) ((hcond0_0 t).mpr h) (iblk m c 0 t) (iblk m c 1 t) (iblk m c 2 t) (iblk m c 3 t) (iblk m c 4 t) (iblk m c 5 t)
      (gateOf m c) (upOf m c) (downOf m c) (mixOf m c)
  else
    steadyOut (grid0.coords t) ((hcond0_1 t).mpr (by omega)) (iblk m c 0 t) (iblk m c 1 t) (iblk m c 2 t) (iblk m c 3 t) (iblk m c 4 t) (iblk m c 5 t)
      (gateOf m c) (upOf m c) (downOf m c) (mixOf m c)

/-- The invariant from the second point on: the four weight matrices named in scratch, the staging rings at some
    contents, the register, the body's own semaphores at zero and the weights' arrays as at the start. -/
def named (c : Dev nD) : sProp 𝕄 :=
  iprop(iprop(owns (c : Thread nD τ) scM0_0 fullShare (gateOf m c) ∗ owns (c : Thread nD τ) scM0_1 fullShare (upOf m c) ∗ owns (c : Thread nD τ) scM0_2 fullShare (downOf m c) ∗ owns (c : Thread nD τ) scM0_3 fullShare (mixOf m c) ∗ (∃ d, owns (c : Thread nD τ) scM0_4 fullShare d) ∗ (∃ d, owns (c : Thread nD τ) scM0_5 fullShare d))
    ∗ (∃ r, prngReg c r)
    ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0)
    ∗ iprop(hbPt0 c hbM0_0 (V m c main_arg6) ∗ hbPt0 c hbM0_1 (V m c main_arg7) ∗ hbPt0 c hbM0_2 (V m c main_arg8) ∗ hbPt0 c hbM0_3 (V m c main_arg9)))

/-- The proof data: inputs stay at their blocks, the output holds the block of the point; the invariant starts as the
    launch gives it and is `named` after the first point. -/
def datsV (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blockOut m c t
  Φ t := if t.val = 0 then Pipeline.ΦD osem0 spec0 H0 (V m) c else named m c
  q _ := fullShare
  owed _ := 0

theorem phi_zero (c : Dev nD) (t : Fin (cfg0.N + 1)) (h : t.val = 0) : (datsV m 0 c).Φ t = Pipeline.ΦD osem0 spec0 H0 (V m) c := by
  dsimp only [datsV]; rw [if_pos h]

theorem phi_pos (c : Dev nD) (t : Fin (cfg0.N + 1)) (h : t.val ≠ 0) : (datsV m 0 c).Φ t = named m c := by
  dsimp only [datsV]; rw [if_neg h]

theorem arr_eq (c : Dev nD) (w : Fin cfg0.W) : (datsV m 0 c).A w = V m c (Pipeline.arrRef spec0 w) := by dsimp only [datsV]

theorem afterV_0 (c : Dev nD) (t : Fin cfg0.N) : (datsV m 0 c).after 0 t = iblk m c 0 t := by dsimp only [datsV]
theorem afterV_1 (c : Dev nD) (t : Fin cfg0.N) : (datsV m 0 c).after 1 t = iblk m c 1 t := by dsimp only [datsV]
theorem afterV_2 (c : Dev nD) (t : Fin cfg0.N) : (datsV m 0 c).after 2 t = iblk m c 2 t := by dsimp only [datsV]
theorem afterV_3 (c : Dev nD) (t : Fin cfg0.N) : (datsV m 0 c).after 3 t = iblk m c 3 t := by dsimp only [datsV]
theorem afterV_4 (c : Dev nD) (t : Fin cfg0.N) : (datsV m 0 c).after 4 t = iblk m c 4 t := by dsimp only [datsV]
theorem afterV_5 (c : Dev nD) (t : Fin cfg0.N) : (datsV m 0 c).after 5 t = iblk m c 5 t := by dsimp only [datsV]
theorem afterV_6 (c : Dev nD) (t : Fin cfg0.N) : (datsV m 0 c).after 6 t = blockOut m c t := by dsimp only [datsV]

theorem beforeV_0 (c : Dev nD) (t : Fin cfg0.N) (d) : (datsV m 0 c).before 0 t d = iblk m c 0 t :=
  before0_0_of m (datsV m 0 c) (arr_eq m c 0) (afterV_0 m c) t d
theorem beforeV_1 (c : Dev nD) (t : Fin cfg0.N) (d) : (datsV m 0 c).before 1 t d = iblk m c 1 t :=
  before0_1_of m (datsV m 0 c) (arr_eq m c 1) (afterV_1 m c) t d
theorem beforeV_2 (c : Dev nD) (t : Fin cfg0.N) (d) : (datsV m 0 c).before 2 t d = iblk m c 2 t :=
  before0_2_of m (datsV m 0 c) (arr_eq m c 2) (afterV_2 m c) t d
theorem beforeV_3 (c : Dev nD) (t : Fin cfg0.N) (d) : (datsV m 0 c).before 3 t d = iblk m c 3 t :=
  before0_3_of m (datsV m 0 c) (arr_eq m c 3) (afterV_3 m c) t d
theorem beforeV_4 (c : Dev nD) (t : Fin cfg0.N) (d) : (datsV m 0 c).before 4 t d = iblk m c 4 t :=
  before0_4_of m (datsV m 0 c) (arr_eq m c 4) (afterV_4 m c) t d
theorem beforeV_5 (c : Dev nD) (t : Fin cfg0.N) (d) : (datsV m 0 c).before 5 t d = iblk m c 5 t :=
  before0_5_of m (datsV m 0 c) (arr_eq m c 5) (afterV_5 m c) t d

/-! ## The body at a point -/

/-- What the body is called with at point `t`. -/
def preV (c : Dev nD) (t : Fin cfg0.N) : sProp 𝕄 :=
  iprop((datsV m 0 c).Φ t.castSucc ∗ (datsV m 0 c).owesAt () t.castSucc
    ∗ (∃ d, owns (c : Thread nD τ) (ms0_0 t) fullShare ((datsV m 0 c).before 0 t d))
    ∗ (∃ d, owns (c : Thread nD τ) (ms0_1 t) fullShare ((datsV m 0 c).before 1 t d))
    ∗ (∃ d, owns (c : Thread nD τ) (ms0_2 t) fullShare ((datsV m 0 c).before 2 t d))
    ∗ (∃ d, owns (c : Thread nD τ) (ms0_3 t) fullShare ((datsV m 0 c).before 3 t d))
    ∗ (∃ d, owns (c : Thread nD τ) (ms0_4 t) fullShare ((datsV m 0 c).before 4 t d))
    ∗ (∃ d, owns (c : Thread nD τ) (ms0_5 t) fullShare ((datsV m 0 c).before 5 t d))
    ∗ (∃ d, owns (c : Thread nD τ) (ms0_6 t) fullShare ((datsV m 0 c).before 6 t d)))

/-- and what it returns. -/
def postV (c : Dev nD) (t : Fin cfg0.N) : sProp 𝕄 :=
  iprop((datsV m 0 c).Φ t.succ ∗ (datsV m 0 c).owesAt () t.succ
    ∗ (datsV m 0 c).leavesExact 0 t
    ∗ (datsV m 0 c).leavesExact 1 t
    ∗ (datsV m 0 c).leavesExact 2 t
    ∗ (datsV m 0 c).leavesExact 3 t
    ∗ (datsV m 0 c).leavesExact 4 t
    ∗ (datsV m 0 c).leavesExact 5 t
    ∗ (datsV m 0 c).leavesExact 6 t)

/-- The windows after a point: the inputs at their blocks, the output at the point's. -/
theorem leavesV (c : Dev nD) (t : Fin cfg0.N) :
    (datsV m 0 c).leavesExact 0 t = owns (c : Thread nD τ) (ms0_0 t) fullShare (iblk m c 0 t)
    ∧ (datsV m 0 c).leavesExact 1 t = owns (c : Thread nD τ) (ms0_1 t) fullShare (iblk m c 1 t)
    ∧ (datsV m 0 c).leavesExact 2 t = owns (c : Thread nD τ) (ms0_2 t) fullShare (iblk m c 2 t)
    ∧ (datsV m 0 c).leavesExact 3 t = owns (c : Thread nD τ) (ms0_3 t) fullShare (iblk m c 3 t)
    ∧ (datsV m 0 c).leavesExact 4 t = owns (c : Thread nD τ) (ms0_4 t) fullShare (iblk m c 4 t)
    ∧ (datsV m 0 c).leavesExact 5 t = owns (c : Thread nD τ) (ms0_5 t) fullShare (iblk m c 5 t)
    ∧ (datsV m 0 c).leavesExact 6 t = owns (c : Thread nD τ) (ms0_6 t) fullShare (blockOut m c t) := by
  refine ⟨?_, ?_, ?_, ?_, ?_, ?_, ?_⟩
  · unfold Dat.leavesExact; rw [liveAt0_0 t, afterV_0]
  · unfold Dat.leavesExact; rw [liveAt0_1 t, afterV_1]
  · unfold Dat.leavesExact; rw [liveAt0_2 t, afterV_2]
  · unfold Dat.leavesExact; rw [liveAt0_3 t, afterV_3]
  · unfold Dat.leavesExact; rw [liveAt0_4 t, afterV_4]
  · unfold Dat.leavesExact; rw [liveAt0_5 t, afterV_5]
  · unfold Dat.leavesExact; rw [liveAt0_6 t, afterV_6]

set_option maxHeartbeats 3600000 in
/-- The body at the first point. -/
theorem body_first (c : Dev nD) (t : Fin cfg0.N) (ht : t.val = 0) :
    preV m c t ⊢ wp frame (wpE (defs₀ (F := F)) Variants.none c none) Set.univ (bodyAt0 t) (fun _ => postV m c t) := by
  unfold preV postV bodyAt0
  obtain ⟨e0, e1, e2, e3, e4, e5, e6⟩ := leavesV m c t
  simp only [beforeV_0, beforeV_1, beforeV_2, beforeV_3, beforeV_4, beforeV_5]
  rw [e0, e1, e2, e3, e4, e5, e6]
  rw [phi_pos m c t.succ (Nat.succ_ne_zero _)]
  unfold Dat.owesAt Pipeline.owesWithin named
  rw [show (datsV m 0 c).owed t.castSucc = 0 from rfl, show (datsV m 0 c).owed t.succ = 0 from rfl]
  rw [phi_zero m c t.castSucc ht, PhiD0_eq]
  have hb : blockOut m c t = firstOut (grid0.coords t) ((hcond0_0 t).mpr ht) (iblk m c 0 t) (iblk m c 1 t) (iblk m c 2 t) (iblk m c 3 t) (iblk m c 4 t) (iblk m c 5 t) (gateOf m c) (upOf m c) (downOf m c) (mixOf m c) := dif_pos ht
  rw [hb]
  iintro ⟨⟨⟨HS0, HS1, HS2, HS3, HS4, HS5⟩, Hg, ⟨Hq0, Hq1, Hq2, Hq3, Hq4, Hq5, Hq6, Hq7, Hq8⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply ((first_point c (grid0.coords t) _ _ _ _ _ _ _ _ _ _ _ _ _ _ _ _ _ _ _ _ _ _ _ _ _ _ ((hcond0_0 t).mpr ht) (fun h => absurd ((hcond0_1 t).mp h) (by omega)) (iblk m c 0 t) (iblk m c 1 t) (iblk m c 2 t) (iblk m c 3 t) (iblk m c 4 t) (iblk m c 5 t) (V m c main_arg6) (V m c main_arg7) (V m c main_arg8) (V m c main_arg9)) W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hh0]; · iexact Hh0
  isplitl [Hh1]; · iexact Hh1
  isplitl [Hh2]; · iexact Hh2
  isplitl [Hh3]; · iexact Hh3
  isplitl [HW]; · iexact HW
  iintro ⟨H0, H1, H2, H3, H4, H5, H6, HS0, HS1, HS2, HS3, HS4, HS5, Hq0, Hq1, Hq2, Hq3, Hq4, Hq5, Hq6, Hq7, Hq8, Hh0, Hh1, Hh2, Hh3, ⟨%W', HW⟩⟩
  isplitl [HS0 HS1 HS2 HS3 HS4 HS5 Hg Hq0 Hq1 Hq2 Hq3 Hq4 Hq5 Hq6 Hq7 Hq8 Hh0 Hh1 Hh2 Hh3]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    isplitl [Hg]
    · iexact Hg
    isplitl [Hq0 Hq1 Hq2 Hq3 Hq4 Hq5 Hq6 Hq7 Hq8]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      iexact Hq8
    isplitl [Hh0]; · iexact Hh0
    isplitl [Hh1]; · iexact Hh1
    isplitl [Hh2]; · iexact Hh2
    iexact Hh3
  isplitl [HW]
  · iexists _; isplitr; swap; · iexact HW
    ipureintro; exact fun _ _ => Or.inl trivial
  isplitl [H0]; · iexact H0
  isplitl [H1]; · iexact H1
  isplitl [H2]; · iexact H2
  isplitl [H3]; · iexact H3
  isplitl [H4]; · iexact H4
  isplitl [H5]; · iexact H5
  iexact H6

set_option maxHeartbeats 3600000 in
/-- A later point. -/
theorem body_later (c : Dev nD) (t : Fin cfg0.N) (ht : t.val ≠ 0) :
    preV m c t ⊢ wp frame (wpE (defs₀ (F := F)) Variants.none c none) Set.univ (bodyAt0 t) (fun _ => postV m c t) := by
  unfold preV postV bodyAt0
  obtain ⟨e0, e1, e2, e3, e4, e5, e6⟩ := leavesV m c t
  simp only [beforeV_0, beforeV_1, beforeV_2, beforeV_3, beforeV_4, beforeV_5]
  rw [e0, e1, e2, e3, e4, e5, e6]
  rw [phi_pos m c t.succ (Nat.succ_ne_zero _)]
  unfold Dat.owesAt Pipeline.owesWithin named
  rw [show (datsV m 0 c).owed t.castSucc = 0 from rfl, show (datsV m 0 c).owed t.succ = 0 from rfl]
  rw [phi_pos m c t.castSucc ht]
  unfold named
  have hb : blockOut m c t = steadyOut (grid0.coords t) ((hcond0_1 t).mpr (by omega)) (iblk m c 0 t) (iblk m c 1 t) (iblk m c 2 t) (iblk m c 3 t) (iblk m c 4 t) (iblk m c 5 t) (gateOf m c) (upOf m c) (downOf m c) (mixOf m c) := dif_neg ht
  rw [hb]
  iintro ⟨⟨⟨HS0, HS1, HS2, HS3, HS4, HS5⟩, Hg, ⟨Hq0, Hq1, Hq2, Hq3, Hq4, Hq5, Hq6, Hq7, Hq8⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (steady_point c (grid0.coords t) _ _ _ _ _ _ _ _ _ _ _ _ _ _ _ _ _ _ _ _ _ _ _ _ _ _ (fun h => absurd ((hcond0_0 t).mp h) (by omega)) ((hcond0_1 t).mpr (by omega)) (iblk m c 0 t) (iblk m c 1 t) (iblk m c 2 t) (iblk m c 3 t) (iblk m c 4 t) (iblk m c 5 t) (gateOf m c) (upOf m c) (downOf m c) (mixOf m c) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 HS4 HS5 Hg Hq0 Hq1 Hq2 Hq3 Hq4 Hq5 Hq6 Hq7 Hq8 Hh0 Hh1 Hh2 Hh3]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    isplitl [Hg]
    · iexact Hg
    isplitl [Hq0 Hq1 Hq2 Hq3 Hq4 Hq5 Hq6 Hq7 Hq8]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      iexact Hq8
    isplitl [Hh0]; · iexact Hh0
    isplitl [Hh1]; · iexact Hh1
    isplitl [Hh2]; · iexact Hh2
    iexact Hh3
  isplitl [HW]
  · iexists _; isplitr; swap; · iexact HW
    ipureintro; exact fun _ _ => Or.inl trivial
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem body_any (c : Dev nD) (t : Fin cfg0.N) :
    preV m c t ⊢ wp frame (wpE (defs₀ (F := F)) Variants.none c none) Set.univ (bodyAt0 t) (fun _ => postV m c t) := by
  by_cases h0 : t.val = 0
  · exact body_first m c t h0
  · exact body_later m c t h0

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (datsV (F := F) m 0 c) (defs₀ (F := F)) Variants.none () Set.univ := fun t => by
  rw [bigSep_W0, bigSep_W0, body_row]
  exact triple_restated (body_any m c t) rfl .rfl fun _ => .rfl

/-- After the last point the invariant gives back what the launch gave. -/
theorem named_out (c : Dev nD) : named m c ⊢ (Pipeline.ΦD osem0 spec0 H0 (V m) c : sProp 𝕄) := by
  rw [PhiD0_eq]
  unfold named
  iintro ⟨⟨HS0, HS1, HS2, HS3, HS4, HS5⟩, Hrest⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexact HS4
    iexact HS5
  iexact Hrest

theorem phi_in (c : Dev nD) : (Pipeline.ΦD osem0 spec0 H0 (V m) c : sProp 𝕄) ⊢ (datsV m 0 c).Φ 0 := by
  dsimp only [datsV]
  rw [if_pos (show (0 : Fin (cfg0.N + 1)).val = 0 from rfl)]

theorem phi_out (c : Dev nD) : (datsV m 0 c).Φ (Fin.last cfg0.N) ⊢ (Pipeline.ΦD osem0 spec0 H0 (V m) c : sProp 𝕄) := by
  dsimp only [datsV]
  rw [if_neg (show (Fin.last cfg0.N).val ≠ 0 by decide)]
  exact named_out m c

set_option backward.isDefEq.respectTransparency.types false in
/-- The run: from any memory with zero counters every weakly fair execution terminates, each output array ends at the
    blocks the points left, every other array as it was, and every counter at zero. -/
theorem run_values : θ_run defs (onTc (τ := τ) (main (F := F))) (s₀ m ρ)
    (fun r => Pipeline.FramePost cfgs (datsV m) (0 : Fin 1) (V m) r ∧ r.2.sem = fun _ => 0) :=
  Pipeline.θ_run_frame_dma (Q' := _) cfgs (datsV m) (0 : Fin 1) launch0 osem0 defs₀ Variants.none ownSemFacts0 H0 H0_sub m ρ main
    (hbody := fun c => (obligation m c).loose) (hshare := fun c => (datsV m 0 c).share_full fun _ => rfl)
    (howed := fun _ _ => rfl) (V := V m) (hmain := hmain m Variants.none) (hA := arr_eq m)
    (hin := phi_in m) (hout := phi_out m)

/-- The frame: the arguments end unchanged and every counter at zero. -/
theorem frame_values : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and
    (frame_of m ρ (fun c => (datsV m 0 c).toR) (arr_eq m) ((θ_run defs _ _).mono
      (fun _ h c => ⟨fun w => ((datsV m 0 c).toR_arrAt_iff w _ _).mpr ((h.1 c).1 w), (h.1 c).2⟩) (run_values m ρ)))
    ((θ_run defs _ _).mono (fun _ h => h.2) (run_values m ρ))

end Cert.Kernel4.Finish

end
-- ==== Proof.FinishSame.lean ====
/-
  The first layer's closing call and its idealization are one program text: the run, proved once for any values, gives both frames.
-/
module

public import proofs.«01_k».proof.Proof.FinishRun
public import proofs.«01_k».proof.Proof.Gen.Kernel4Ideal
public import proofs.«01_k».proof.Defs

@[expose] public section

noncomputable section

namespace Cert.Kernel4.Finish

open Idealize.ShloMosaic

/-- The two printed programs have the same body. -/
theorem bodies : @Cert.Kernel4Ideal.cc0_ffn2 Ideal _ _ = @Cert.Kernel4.cc0_ffn2 Ideal _ _ := rfl

/-- and the same body table, -/
theorem rows : @Cert.Kernel4Ideal.defs₀ Ideal _ _ = @Cert.Kernel4.defs₀ Ideal _ _ := by
  unfold Cert.Kernel4Ideal.defs₀ Cert.Kernel4.defs₀
  refine congrArg Defs.onTc ?_
  funext l x
  match l, x with
  | ⟨0, _⟩, (t, s) => exact rfl

/-- hence the same label table, -/
theorem tables : @Cert.Kernel4Ideal.defs Ideal _ _ = @Cert.Kernel4.defs Ideal _ _ := by
  unfold Cert.Kernel4Ideal.defs Cert.Kernel4.defs
  exact congrArg (fun d => Pipeline.defs Cert.Kernel4.pcfgs d) rows

/-- and the same main. -/
theorem mains : @Cert.Kernel4Ideal.main Ideal _ = @Cert.Kernel4.main Ideal _ := rfl

/-- The call as printed runs, leaves its arguments and ends with every counter at zero. -/
theorem frame_kernel : Cert.quiescent_Kernel4 := fun m ρ _ => frame_values (F := Bits) m ρ

/-- So does its idealization, by the same run. -/
theorem frame_ideal : Cert.quiescent_Kernel4Ideal := fun m ρ _ => by
  rw [tables]
  exact frame_values (F := Ideal) m ρ

end Cert.Kernel4.Finish

end
-- ==== Proof.FinishRefFrame.lean ====
/-
  The run of the first layer's closing call's reference: it terminates, leaves its arguments as they were and no semaphore raised.
-/
module

public import proofs.«01_k».proof.Defs
public import proofs.«01_k».proof.Proof.Gen.Reference4Ideal
public import proofs.«01_k».proof.Proof.Gen.Reference4Ideal.Run

@[expose] public section

noncomputable section

namespace Cert.Finish

open Idealize.ShloMosaic Idealize.SL.Sem

/-- The reference ends with its arguments unchanged and every counter at zero; it declares no semaphore. -/
theorem frame_reference : Cert.quiescent_Reference4Ideal (hReference4Ideal := Cert.Reference4Ideal.Gen.facts) := fun m g _ =>
  (θ_run _ _ _).mono (fun r h => ⟨fun c => (h c).2, sem_eq_zero_of_no_sems (by decide) r.2⟩) (Cert.Reference4Ideal.Value.run (F := Ideal) m g)

end Cert.Finish

end
-- ==== Proof.FinishRows.lean ====
/-
  What the first layer's closing call computes, row by row over the extended reals, from the argument arrays.
-/
module

public import proofs.«01_k».proof.Proof.HostRows
public import proofs.«01_k».proof.Proof.OpeningRows

@[expose] public section

noncomputable section

namespace Cert.Finish

open Idealize.ShloMosaic hiding ix1 ix2 ix3 ix4
open Idealize.ShloMosaic.ValueIdx
open Cert.Closing (Row closeRow catRow)
open Cert.Opening (tokenRow)

/-- The whole call on token `t` under modulation row `q`, from the argument arrays: the first layer's slices of the stacks. -/
def finishRow (x : (⟨2, ![8192, 1024]⟩ : Shape).Idx → EReal) (ac att : (⟨2, ![8192, 512]⟩ : Shape).Idx → EReal)
    (md : (⟨4, ![2, 9, 8, 1024]⟩ : Shape).Idx → EReal) (pre post : (⟨3, ![2, 3, 1024]⟩ : Shape).Idx → EReal)
    (wg wu : (⟨3, ![2, 1024, 2816]⟩ : Shape).Idx → EReal) (wd : (⟨3, ![2, 2816, 1024]⟩ : Shape).Idx → EReal)
    (wo : (⟨3, ![2, 1024, 1024]⟩ : Shape).Idx → EReal) (t : Fin 8192) (q : Fin 8) : Row 1024 :=
  closeRow (fun n => x (ix2 t n)) (catRow (fun k => ac (ix2 t k)) (fun k => att (ix2 t k))) (fun n => md (ix4 0 5 q n))
    (fun n => post (ix3 0 1 n)) (fun n => md (ix4 0 6 q n)) (fun n => md (ix4 0 7 q n)) (fun n => pre (ix3 0 2 n))
    (fun n => md (ix4 0 8 q n)) (fun n => post (ix3 0 2 n)) (fun k n => wo (ix3 0 k n)) (fun k n => wg (ix3 0 k n))
    (fun k n => wu (ix3 0 k n)) (fun k n => wd (ix3 0 k n))

/-- The whole call on every token. -/
def finishList (x : (⟨2, ![8192, 1024]⟩ : Shape).Idx → EReal) (ac att : (⟨2, ![8192, 512]⟩ : Shape).Idx → EReal)
    (md : (⟨4, ![2, 9, 8, 1024]⟩ : Shape).Idx → EReal) (pre post : (⟨3, ![2, 3, 1024]⟩ : Shape).Idx → EReal)
    (wg wu : (⟨3, ![2, 1024, 2816]⟩ : Shape).Idx → EReal) (wd : (⟨3, ![2, 2816, 1024]⟩ : Shape).Idx → EReal)
    (wo : (⟨3, ![2, 1024, 1024]⟩ : Shape).Idx → EReal) : (⟨2, ![8192, 1024]⟩ : Shape).Idx → EReal :=
  fun p => finishRow x ac att md pre post wg wu wd wo (p 0) (tokenRow (p 0)) (p 1)

end Cert.Finish

end
-- ==== Proof.FinishOut.lean ====
/-
  The first layer's closing call's result array after the run, over the extended reals: every row is `finishRow` of the
  argument arrays under its token's modulation row.
-/
module

public import proofs.«01_k».proof.Proof.FinishRun
public import proofs.«01_k».proof.Proof.FinishRows
public import proofs.«01_k».proof.Proof.BlockRows
public import Idealize.ShloMosaic.Lib.Pipeline.ValueKit.Geometry

@[expose] public section

set_option maxRecDepth 16384

noncomputable section

namespace Cert.Kernel4.Finish

open Idealize.ShloMosaic hiding ix1 ix2 ix3 ix4
open Idealize.ShloMosaic.TcCoe Idealize.ShloMosaic.ValueIdx
open Idealize.ShloMosaic.Pipeline (Dat)
open Cert.Kernel4.Gen Cert.Finish
open Cert.Kernel.Closing (firstOut steadyOut firstOut_read steadyOut_read blockRow condRow)
open Cert.Opening (tokenRow)
open Cert.Closing (Row)

variable (m : (ℓ : Loc nD τ sig) → Buf (Elt Ideal) ℓ) (c : Dev nD)

/-! ## The input blocks, at coordinates -/

theorem index_0 : ∀ (t : Fin cfg0.N) a, win0_0.index t a = ![t.val, 0] a := by decide +kernel
theorem index_1 : ∀ (t : Fin cfg0.N) a, win0_1.index t a = ![t.val, 0] a := by decide +kernel
theorem index_2 : ∀ (t : Fin cfg0.N) a, win0_2.index t a = ![t.val, 0] a := by decide +kernel
theorem index_3 : ∀ (t : Fin cfg0.N) a, win0_3.index t a = ![0, 0, 0, 0] a := by decide +kernel
theorem index_4 : ∀ (t : Fin cfg0.N) a, win0_4.index t a = ![0, 0, 0] a := by decide +kernel
theorem index_5 : ∀ (t : Fin cfg0.N) a, win0_5.index t a = ![0, 0, 0] a := by decide +kernel
theorem index_6 : ∀ (t : Fin cfg0.N) a, win0_6.index t a = ![t.val, 0] a := by decide +kernel

/-- The token a point's block row holds. -/
def token (t : Fin cfg0.N) (r : Fin 512) : Fin 8192 := ⟨512 * t.val + r.val, by have : t.val < 16 := t.isLt; omega⟩

theorem block_0 (t : Fin cfg0.N) (r : Fin 512) (n : Fin 1024) :
    iblk m c 0 t (ix2 r n) = m ((c : Thread nD τ).loc main_arg0) (ix2 (token t r) n) := by
  unfold iblk
  rw [View.read_apply]
  show m ((c : Thread nD τ).loc main_arg0) _ = _
  refine congrArg (m ((c : Thread nD τ).loc main_arg0)) (Shape.idx_ext₂ ?_ ?_)
  · show win0_0.index t 0 * 512 + 1 * r.val = 512 * t.val + r.val
    rw [index_0 t 0]; show t.val * 512 + 1 * r.val = _; omega
  · show win0_0.index t 1 * 1024 + 1 * n.val = n.val
    rw [index_0 t 1]; show 0 * 1024 + 1 * n.val = _; omega

theorem block_1 (t : Fin cfg0.N) (r : Fin 512) (n : Fin 512) :
    iblk m c 1 t (ix2 r n) = m ((c : Thread nD τ).loc main_arg1) (ix2 (token t r) n) := by
  unfold iblk
  rw [View.read_apply]
  show m ((c : Thread nD τ).loc main_arg1) _ = _
  refine congrArg (m ((c : Thread nD τ).loc main_arg1)) (Shape.idx_ext₂ ?_ ?_)
  · show win0_1.index t 0 * 512 + 1 * r.val = 512 * t.val + r.val
    rw [index_1 t 0]; show t.val * 512 + 1 * r.val = _; omega
  · show win0_1.index t 1 * 512 + 1 * n.val = n.val
    rw [index_1 t 1]; show 0 * 512 + 1 * n.val = _; omega

theorem block_2 (t : Fin cfg0.N) (r : Fin 512) (n : Fin 512) :
    iblk m c 2 t (ix2 r n) = m ((c : Thread nD τ).loc main_arg2) (ix2 (token t r) n) := by
  unfold iblk
  rw [View.read_apply]
  show m ((c : Thread nD τ).loc main_arg2) _ = _
  refine congrArg (m ((c : Thread nD τ).loc main_arg2)) (Shape.idx_ext₂ ?_ ?_)
  · show win0_2.index t 0 * 512 + 1 * r.val = 512 * t.val + r.val
    rw [index_2 t 0]; show t.val * 512 + 1 * r.val = _; omega
  · show win0_2.index t 1 * 512 + 1 * n.val = n.val
    rw [index_2 t 1]; show 0 * 512 + 1 * n.val = _; omega

theorem block_3 (t : Fin cfg0.N) (k : Fin 9) (q : Fin 8) (n : Fin 1024) :
    iblk m c 3 t (ix4 0 k q n) = m ((c : Thread nD τ).loc main_arg3) (ix4 0 k q n) := by
  unfold iblk
  rw [View.read_apply]
  show m ((c : Thread nD τ).loc main_arg3) _ = _
  refine congrArg (m ((c : Thread nD τ).loc main_arg3)) (funext fun a => Fin.ext ?_)
  match a with
  | ⟨0, _⟩ => show win0_3.index t 0 * 1 + 1 * 0 = 0; rw [index_3 t 0]; rfl
  | ⟨1, _⟩ => show win0_3.index t 1 * 9 + 1 * k.val = k.val; rw [index_3 t 1]; show 0 * 9 + 1 * k.val = _; omega
  | ⟨2, _⟩ => show win0_3.index t 2 * 8 + 1 * q.val = q.val; rw [index_3 t 2]; show 0 * 8 + 1 * q.val = _; omega
  | ⟨3, _⟩ => show win0_3.index t 3 * 1024 + 1 * n.val = n.val; rw [index_3 t 3]; show 0 * 1024 + 1 * n.val = _; omega

theorem block_4 (t : Fin cfg0.N) (k : Fin 3) (n : Fin 1024) :
    iblk m c 4 t (ix3 0 k n) = m ((c : Thread nD τ).loc main_arg4) (ix3 0 k n) := by
  unfold iblk
  rw [View.read_apply]
  show m ((c : Thread nD τ).loc main_arg4) _ = _
  refine congrArg (m ((c : Thread nD τ).loc main_arg4)) (funext fun a => Fin.ext ?_)
  match a with
  | ⟨0, _⟩ => show win0_4.index t 0 * 1 + 1 * 0 = 0; rw [index_4 t 0]; rfl
  | ⟨1, _⟩ => show win0_4.index t 1 * 3 + 1 * k.val = k.val; rw [index_4 t 1]; show 0 * 3 + 1 * k.val = _; omega
  | ⟨2, _⟩ => show win0_4.index t 2 * 1024 + 1 * n.val = n.val; rw [index_4 t 2]; show 0 * 1024 + 1 * n.val = _; omega

theorem block_5 (t : Fin cfg0.N) (k : Fin 3) (n : Fin 1024) :
    iblk m c 5 t (ix3 0 k n) = m ((c : Thread nD τ).loc main_arg5) (ix3 0 k n) := by
  unfold iblk
  rw [View.read_apply]
  show m ((c : Thread nD τ).loc main_arg5) _ = _
  refine congrArg (m ((c : Thread nD τ).loc main_arg5)) (funext fun a => Fin.ext ?_)
  match a with
  | ⟨0, _⟩ => show win0_5.index t 0 * 1 + 1 * 0 = 0; rw [index_5 t 0]; rfl
  | ⟨1, _⟩ => show win0_5.index t 1 * 3 + 1 * k.val = k.val; rw [index_5 t 1]; show 0 * 3 + 1 * k.val = _; omega
  | ⟨2, _⟩ => show win0_5.index t 2 * 1024 + 1 * n.val = n.val; rw [index_5 t 2]; show 0 * 1024 + 1 * n.val = _; omega

/-! ## The weights, at coordinates -/

theorem gate_at (k : Fin 1024) (n : Fin 2816) : gateOf m c (ix2 k n) = m ((c : Thread nD τ).loc main_arg6) (ix3 0 k n) := rfl
theorem up_at (k : Fin 1024) (n : Fin 2816) : upOf m c (ix2 k n) = m ((c : Thread nD τ).loc main_arg7) (ix3 0 k n) := rfl
theorem down_at (k : Fin 2816) (n : Fin 1024) : downOf m c (ix2 k n) = m ((c : Thread nD τ).loc main_arg8) (ix3 0 k n) := rfl
theorem mix_at (k : Fin 1024) (n : Fin 1024) : mixOf m c (ix2 k n) = m ((c : Thread nD τ).loc main_arg9) (ix3 0 k n) := rfl

/-! ## The output array -/

/-- A token's row from the launch contents. -/
def rowOf (t : Fin 8192) (q : Fin 8) : Row 1024 :=
  finishRow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) t q

/-- The modulation row of a point. -/
theorem condRow_at : ∀ t : Fin cfg0.N, (condRow (grid0.coords t)).val = if t.val < 8 then 0 else 1 + (t.val - 8) / 4 := by decide +kernel

/-- It is that of each of its tokens. -/
theorem condRow_token (t : Fin cfg0.N) (r : Fin 512) : condRow (grid0.coords t) = tokenRow (token t r) := by
  refine Fin.ext ((condRow_at t).trans ?_)
  have hr := r.isLt
  show _ = if 512 * t.val + r.val < 4096 then 0 else 1 + (512 * t.val + r.val - 4096) / 2048
  split <;> split <;> omega

/-- What a point computes, row by row. -/
theorem blockOut_read (t : Fin cfg0.N) (r : Fin 512) (n : Fin 1024) :
    blockOut m c t (ix2 r n) = rowOf m c (token t r) (condRow (grid0.coords t)) n := by
  have h : blockOut m c t (ix2 r n) = blockRow (grid0.coords t) (iblk m c 0 t) (iblk m c 1 t) (iblk m c 2 t) (iblk m c 3 t) (iblk m c 4 t)
      (iblk m c 5 t) (gateOf m c) (upOf m c) (downOf m c) (mixOf m c) r n := by
    unfold blockOut
    split
    · exact firstOut_read _ _ _ _ _ _ _ _ _ _ _ _ r n
    · exact steadyOut_read _ _ _ _ _ _ _ _ _ _ _ _ r n
  rw [h]
  unfold blockRow rowOf finishRow
  simp only [block_0, block_1, block_2, block_3, block_4, block_5, gate_at, up_at, down_at, mix_at]

/-- The result. -/
def resultOf : Buf (Elt Ideal) ((c : Thread nD τ).loc main_v0) :=
  finishList (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

theorem result_final : (datsV m 0 c).arrAt 6 cfg0.N = resultOf m c := by
  refine (datsV m 0 c).arrAt_eq_of_covers 6 _ (by decide +kernel) fun t hf y => ?_
  rw [afterV_6]
  show blockOut m c t y = resultOf m c _
  obtain ⟨r, n, rfl⟩ : ∃ (r : Fin 512) (n : Fin 1024), y = ix2 r n := ⟨y 0, y 1, Shape.idx_ext₂ rfl rfl⟩
  rw [blockOut_read, condRow_token t r]
  have e0 : (((cfg0.win 6).blk t).view.emb (ix2 r n)) 0 = token t r := by
    refine Fin.ext ?_
    show win0_6.index t 0 * 512 + 1 * r.val = 512 * t.val + r.val
    rw [index_6 t 0]; show t.val * 512 + 1 * r.val = _; omega
  have e1 : (((cfg0.win 6).blk t).view.emb (ix2 r n)) 1 = n := by
    refine Fin.ext ?_
    show win0_6.index t 1 * 1024 + 1 * n.val = n.val
    rw [index_6 t 1]; show 0 * 1024 + 1 * n.val = _; omega
  unfold resultOf finishList
  rw [e0, e1]
  rfl

end Cert.Kernel4.Finish

end
-- ==== Proof.FinishPrompt.lean ====
/-
  The first layer's closing call's reference on the prompt tokens, row by row: the value of every stage of its first half, up to the stacked result.
-/
module

public import proofs.«01_k».proof.Proof.FinishRows
public import proofs.«01_k».proof.Proof.Gen.Reference4Ideal.Run
public import proofs.«01_k».proof.Proof.Gen.Reference4Ideal.Read

@[expose] public section

noncomputable section

namespace Cert.Finish.Prompt

open Idealize.ShloMosaic hiding ix1 ix2 ix3 ix4
open Idealize.ShloMosaic.ValueIdx
open Cert.Opening (tokenRow)
open Cert.Closing Cert.Finish
open Cert.Reference4Ideal Cert.Reference4Ideal.Read

variable (x0 : (⟨S8192x1024, .f32⟩ : BufTy).Contents (Elt Ideal)) (x1 x2 : (⟨S8192x512, .bf16⟩ : BufTy).Contents (Elt Ideal))
    (x3 : (⟨S2x9x8x1024, .f32⟩ : BufTy).Contents (Elt Ideal)) (x4 x5 : (⟨S2x3x1024, .f32⟩ : BufTy).Contents (Elt Ideal))
    (x6 x7 : (⟨S2x1024x2816, .f32⟩ : BufTy).Contents (Elt Ideal)) (x8 : (⟨S2x2816x1024, .f32⟩ : BufTy).Contents (Elt Ideal))
    (x9 : (⟨S2x1024x1024, .f32⟩ : BufTy).Contents (Elt Ideal))

/-- The modulation table of the prompt: the first layer's rows under the first condition. -/
theorem table_read (i : S1x1x9x1024.Idx) (r : Fin 9) (n : Fin 1024) (hr : (i 2).val = r.val) (hn : (i 3).val = n.val) :
    val_main_v22 x3 i = x3 (ix4 0 r 0 n) := by
  rw [val_main_v22_apply, val_main_v21_apply, val_main_v10_apply, val_main_v9_apply, val_main_v8_apply]
  have h2 := (i 2).isLt
  have h3 := (i 3).isLt
  have hr' := r.isLt
  have hn' := n.isLt
  refine congrArg x3 (ext4 rfl ?_ ?_ ?_)
  · show (((i 2).val * 8 + 0) * 1024 + (i 3).val) / 8192 % 9 = r.val
    omega
  · show (((i 2).val * 8 + 0) * 1024 + (i 3).val) / 1024 % 8 = 0
    omega
  · show (((i 2).val * 8 + 0) * 1024 + (i 3).val) % 1024 = n.val
    omega

/-- Every third row of it from the first. -/
theorem shifts_read (i : S1x1x3x1024.Idx) (r : Fin 9) (n : Fin 1024) (hr : 0 + 3 * (i 2).val = r.val) (hn : 0 + 1 * (i 3).val = n.val) :
    val_main_v23 x3 i = x3 (ix4 0 r 0 n) := by
  unfold val_main_v23 Host.slice
  exact table_read x3 _ r n hr hn

/-- Every third row of it from the second. -/
theorem scales_read (i : S1x1x3x1024.Idx) (r : Fin 9) (n : Fin 1024) (hr : 1 + 3 * (i 2).val = r.val) (hn : 0 + 1 * (i 3).val = n.val) :
    val_main_v24 x3 i = x3 (ix4 0 r 0 n) := by
  unfold val_main_v24 Host.slice
  exact table_read x3 _ r n hr hn

/-- Every third row of it from the third. -/
theorem gates_read (i : S1x1x3x1024.Idx) (r : Fin 9) (n : Fin 1024) (hr : 2 + 3 * (i 2).val = r.val) (hn : 0 + 1 * (i 3).val = n.val) :
    val_main_v25 x3 i = x3 (ix4 0 r 0 n) := by
  unfold val_main_v25 Host.slice
  exact table_read x3 _ r n hr hn

variable (t : Fin 8192) (b : Fin 16) (s : Fin 256) (ht : t.val = b.val * 256 + s.val)
include ht

/-- The stream's row. -/
theorem x_read (n : Fin 1024) : val_main_v12 x0 (ix3 b s n) = x0 (ix2 t n) := by
  rw [val_main_v12_apply, val_main_v11_apply]
  have hn := n.isLt
  refine congrArg x0 (Shape.idx_ext₂ ?_ ?_)
  · show ((b.val * 256 + s.val) * 1024 + n.val) / 1024 = t.val
    omega
  · show ((b.val * 256 + s.val) * 1024 + n.val) % 1024 = n.val
    omega

/-- The mixers' row. -/
theorem cat_read (k : Fin 1024) :
    val_main_v26 x1 x2 (ix3 b s k) = catRow (fun k => x1 (ix2 t k)) (fun k => x2 (ix2 t k)) k := by
  unfold val_main_v26
  refine cat3_read _ _ _ _ _ b s k _ _ (fun k' => ?_) (fun k' => ?_) (fun k' => ?_) (fun k' => ?_)
  · rw [val_main_v14_apply, val_main_v13_apply, val_main_v1_apply, val_main_v0_apply]
    refine congrArg x1 (Shape.idx_ext₂ ?_ ?_)
    · show ((b.val * 256 + s.val) * 256 + k'.val) / 256 = t.val
      omega
    · show ((b.val * 256 + s.val) * 256 + k'.val) % 256 = k'.val
      omega
  · rw [val_main_v16_apply, val_main_v15_apply, val_main_v5_apply, val_main_v4_apply]
    refine congrArg x2 (Shape.idx_ext₂ ?_ ?_)
    · show ((b.val * 256 + s.val) * 256 + k'.val) / 256 = t.val
      omega
    · show ((b.val * 256 + s.val) * 256 + k'.val) % 256 = k'.val
      omega
  · rw [val_main_v18_apply, val_main_v17_apply, val_main_v3_apply, val_main_v2_apply]
    refine congrArg x1 (Shape.idx_ext₂ ?_ ?_)
    · show ((b.val * 256 + s.val) * 256 + k'.val) / 256 = t.val
      omega
    · show 256 + ((b.val * 256 + s.val) * 256 + k'.val) % 256 = 256 + k'.val
      omega
  · rw [val_main_v20_apply, val_main_v19_apply, val_main_v7_apply, val_main_v6_apply]
    refine congrArg x2 (Shape.idx_ext₂ ?_ ?_)
    · show ((b.val * 256 + s.val) * 256 + k'.val) / 256 = t.val
      omega
    · show 256 + ((b.val * 256 + s.val) * 256 + k'.val) % 256 = 256 + k'.val
      omega

omit ht

/-- The output projection's row. -/
theorem proj_read (n : Fin 1024) :
    val_main_v29 x1 x2 x9 (ix3 b s n) = vecMat (fun k => val_main_v26 x1 x2 (ix3 b s k)) (fun k n => x9 (ix3 0 k n)) n := by
  rw [val_main_v29_apply]
  unfold vecMat
  refine Finset.sum_congr rfl fun k _ => congrArg₂ (· * ·) (congrArg _ (ext3 rfl rfl rfl)) ?_
  rw [val_main_v28_apply, val_main_v27_apply]
  have hk := k.isLt
  have hn := n.isLt
  refine congrArg x9 (ext3 rfl ?_ ?_)
  · show (k.val * 1024 + n.val) / 1024 % 1024 = k.val
    omega
  · show (k.val * 1024 + n.val) % 1024 = n.val
    omega

/-- The projection normalised. -/
theorem projNorm_read (n : Fin 1024) :
    val_main_v46 x1 x2 x5 x9 (ix3 b s n) = normRow (fun k => val_main_v29 x1 x2 x9 (ix3 b s k)) (fun n => x5 (ix3 0 1 n)) n := by
  rw [val_main_v46_apply, val_main_v43_apply, val_main_v42_apply, val_main_v41_apply, val_main_v40_apply, val_main_v38_apply,
    val_main_v36_apply, val_main_v35_apply, val_main_v37_apply, val_main_v39_apply, val_main_v45_apply, val_main_v44_apply,
    val_main_v33_apply, val_main_v32_apply]
  simp only [val_main_v34_apply]
  generalize val_main_v29 x1 x2 x9 = y
  refine hostNorm_read y (ix3 b s) _ ?_ _ _ n ?_
  · exact fun k => ext3 rfl rfl rfl
  · exact congrArg x5 (ext3 rfl rfl (Nat.mod_eq_of_lt n.isLt))

/-- The stream after the projection, normalised. -/
theorem midNorm_read (n : Fin 1024) :
    val_main_v64 x0 x1 x2 x3 x4 x5 x9 (ix3 b s n)
      = normRow (fun k => val_main_v49 x0 x1 x2 x3 x5 x9 (ix3 b s k)) (fun n => x4 (ix3 0 2 n)) n := by
  rw [val_main_v64_apply, val_main_v61_apply, val_main_v60_apply, val_main_v59_apply, val_main_v58_apply, val_main_v56_apply,
    val_main_v54_apply, val_main_v53_apply, val_main_v55_apply, val_main_v57_apply, val_main_v63_apply, val_main_v62_apply,
    val_main_v51_apply, val_main_v50_apply]
  simp only [val_main_v52_apply]
  generalize val_main_v49 x0 x1 x2 x3 x5 x9 = y
  refine hostNorm_read y (ix3 b s) _ ?_ _ _ n ?_
  · exact fun k => ext3 rfl rfl rfl
  · exact congrArg x4 (ext3 rfl rfl (Nat.mod_eq_of_lt n.isLt))

/-- The feed-forward output normalised. -/
theorem ffnNorm_read (n : Fin 1024) :
    val_main_v108 x0 x1 x2 x3 x4 x5 x6 x7 x8 x9 (ix3 b s n)
      = normRow (fun k => val_main_v91 x0 x1 x2 x3 x4 x5 x6 x7 x8 x9 (ix3 b s k)) (fun n => x5 (ix3 0 2 n)) n := by
  rw [val_main_v108_apply, val_main_v105_apply, val_main_v104_apply, val_main_v103_apply, val_main_v102_apply, val_main_v100_apply,
    val_main_v98_apply, val_main_v97_apply, val_main_v99_apply, val_main_v101_apply, val_main_v107_apply, val_main_v106_apply,
    val_main_v95_apply, val_main_v94_apply]
  simp only [val_main_v96_apply]
  generalize val_main_v91 x0 x1 x2 x3 x4 x5 x6 x7 x8 x9 = y
  refine hostNorm_read y (ix3 b s) _ ?_ _ _ n ?_
  · exact fun k => ext3 rfl rfl rfl
  · exact congrArg x5 (ext3 rfl rfl (Nat.mod_eq_of_lt n.isLt))

include ht

/-- The stream after the projection. -/
theorem mid_read (n : Fin 1024) :
    val_main_v49 x0 x1 x2 x3 x5 x9 (ix3 b s n)
      = midRow (fun n => x0 (ix2 t n)) (catRow (fun k => x1 (ix2 t k)) (fun k => x2 (ix2 t k))) (fun n => x3 (ix4 0 5 0 n))
          (fun n => x5 (ix3 0 1 n)) (fun k n => x9 (ix3 0 k n)) n := by
  rw [val_main_v49_apply, x_read x0 t b s ht, val_main_v48_apply, val_main_v47_apply, val_main_v31_apply, val_main_v30_apply, projNorm_read,
    gates_read x3 _ 5 n rfl (by show 0 + 1 * (((0 * 1 + 0) * 1024 + n.val) % 1024) = n.val; have := n.isLt; omega)]
  simp only [proj_read, cat_read x1 x2 t b s ht]
  rfl

omit ht

/-- The feed-forward network's input. -/
theorem in_read (n : Fin 1024) :
    val_main_v74 x0 x1 x2 x3 x4 x5 x9 (ix3 b s n)
      = inRow (fun n => val_main_v49 x0 x1 x2 x3 x5 x9 (ix3 b s n)) (fun n => x3 (ix4 0 6 0 n)) (fun n => x3 (ix4 0 7 0 n))
          (fun n => x4 (ix3 0 2 n)) n := by
  rw [val_main_v74_apply, val_main_v70_apply, midNorm_read, val_main_v69_apply, val_main_v68_apply, val_main_v67_apply,
    val_main_v66_apply, val_main_v65_apply, val_main_v73_apply, val_main_v72_apply, val_main_v71_apply,
    scales_read x3 _ 7 n rfl (by show 0 + 1 * (((0 * 1 + 0) * 1024 + n.val) % 1024) = n.val; have := n.isLt; omega),
    shifts_read x3 _ 6 n rfl (by show 0 + 1 * (((0 * 1 + 0) * 1024 + n.val) % 1024) = n.val; have := n.isLt; omega)]
  rfl

/-- The gate's product. -/
theorem gateProd_read (n : Fin 2816) :
    val_main_v77 x0 x1 x2 x3 x4 x5 x6 x9 (ix3 b s n)
      = vecMat (fun k => val_main_v74 x0 x1 x2 x3 x4 x5 x9 (ix3 b s k)) (fun k n => x6 (ix3 0 k n)) n := by
  rw [val_main_v77_apply]
  unfold vecMat
  refine Finset.sum_congr rfl fun k _ => congrArg₂ (· * ·) (congrArg _ (ext3 rfl rfl rfl)) ?_
  rw [val_main_v76_apply, val_main_v75_apply]
  have hk := k.isLt
  have hn := n.isLt
  refine congrArg x6 (ext3 rfl ?_ ?_)
  · show (k.val * 2816 + n.val) / 2816 % 1024 = k.val
    omega
  · show (k.val * 2816 + n.val) % 2816 = n.val
    omega

/-- The other factor's product. -/
theorem upProd_read (n : Fin 2816) :
    val_main_v87 x0 x1 x2 x3 x4 x5 x7 x9 (ix3 b s n)
      = vecMat (fun k => val_main_v74 x0 x1 x2 x3 x4 x5 x9 (ix3 b s k)) (fun k n => x7 (ix3 0 k n)) n := by
  rw [val_main_v87_apply]
  unfold vecMat
  refine Finset.sum_congr rfl fun k _ => congrArg₂ (· * ·) (congrArg _ (ext3 rfl rfl rfl)) ?_
  rw [val_main_v86_apply, val_main_v85_apply]
  have hk := k.isLt
  have hn := n.isLt
  refine congrArg x7 (ext3 rfl ?_ ?_)
  · show (k.val * 2816 + n.val) / 2816 % 1024 = k.val
    omega
  · show (k.val * 2816 + n.val) % 2816 = n.val
    omega

/-- The gated activation. -/
theorem act_read (n : Fin 2816) :
    val_main_v88 x0 x1 x2 x3 x4 x5 x6 x7 x9 (ix3 b s n)
      = actRow (fun k => val_main_v74 x0 x1 x2 x3 x4 x5 x9 (ix3 b s k)) (fun k n => x6 (ix3 0 k n)) (fun k n => x7 (ix3 0 k n)) n := by
  rw [val_main_v88_apply, val_main_v84_apply, val_main_v83_apply, val_main_v82_apply, val_main_v81_apply, val_main_v80_apply,
    val_main_v79_apply, val_main_v78_apply, gateProd_read, upProd_read]
  exact hostGate_read _ _

/-- The down projection. -/
theorem down_read (n : Fin 1024) :
    val_main_v91 x0 x1 x2 x3 x4 x5 x6 x7 x8 x9 (ix3 b s n)
      = vecMat (fun k => val_main_v88 x0 x1 x2 x3 x4 x5 x6 x7 x9 (ix3 b s k)) (fun k n => x8 (ix3 0 k n)) n := by
  rw [val_main_v91_apply]
  unfold vecMat
  refine Finset.sum_congr rfl fun k _ => congrArg₂ (· * ·) (congrArg _ (ext3 rfl rfl rfl)) ?_
  rw [val_main_v90_apply, val_main_v89_apply]
  have hk := k.isLt
  have hn := n.isLt
  refine congrArg x8 (ext3 rfl ?_ ?_)
  · show (k.val * 1024 + n.val) / 1024 % 2816 = k.val
    omega
  · show (k.val * 1024 + n.val) % 1024 = n.val
    omega

include ht

/-- The result's row, before the batch is laid out as one list of tokens. -/
theorem out_read (n : Fin 1024) :
    val_main_v113 x0 x1 x2 x3 x4 x5 x6 x7 x8 x9 (ix3 b s n) = finishRow x0 x1 x2 x3 x4 x5 x6 x7 x8 x9 t 0 n := by
  rw [val_main_v113_apply, val_main_v112_apply, val_main_v111_apply, val_main_v110_apply, val_main_v109_apply, val_main_v93_apply,
    val_main_v92_apply, ffnNorm_read, gates_read x3 _ 8 n rfl (by show 0 + 1 * (((0 * 1 + 0) * 1024 + n.val) % 1024) = n.val; have := n.isLt; omega)]
  simp only [down_read, act_read, in_read, mid_read x0 x1 x2 x3 x5 x9 t b s ht]
  rfl

omit ht

/-- The rows laid out as one list of tokens. -/
theorem list_read (i : S4096x1024.Idx) (t : Fin 8192) (ht : t.val = (i 0).val) :
    val_main_v217 x0 x1 x2 x3 x4 x5 x6 x7 x8 x9 i = finishRow x0 x1 x2 x3 x4 x5 x6 x7 x8 x9 t (tokenRow t) (i 1) := by
  have h0 : (i 0).val < 4096 := (i 0).isLt
  have h1 : (i 1).val < 1024 := (i 1).isLt
  rw [val_main_v217_apply]
  have e : idx_main_v217 i = ix3 (⟨(i 0).val / 256, by omega⟩ : Fin 16) (⟨(i 0).val % 256, by omega⟩ : Fin 256) (i 1) := by
    refine ext3 ?_ ?_ ?_
    · show ((i 0).val * 1024 + (i 1).val) / 262144 = (i 0).val / 256
      omega
    · show ((i 0).val * 1024 + (i 1).val) / 1024 % 256 = (i 0).val % 256
      omega
    · show ((i 0).val * 1024 + (i 1).val) % 1024 = (i 1).val
      omega
  rw [e]
  have hq : tokenRow t = 0 := Fin.ext (if_pos (by omega))
  rw [hq]
  exact out_read x0 x1 x2 x3 x4 x5 x6 x7 x8 x9 t _ _ (by show t.val = (i 0).val / 256 * 256 + (i 0).val % 256; omega) (i 1)

end Cert.Finish.Prompt

end
-- ==== Proof.FinishSamples.lean ====
/-
  The first layer's closing call's reference on the samples, row by row: the value of every stage of its second half, up to the stacked result.
-/
module

public import proofs.«01_k».proof.Proof.FinishRows
public import proofs.«01_k».proof.Proof.Gen.Reference4Ideal.Run
public import proofs.«01_k».proof.Proof.Gen.Reference4Ideal.Read

@[expose] public section

noncomputable section

namespace Cert.Finish.Samples

open Idealize.ShloMosaic hiding ix1 ix2 ix3 ix4
open Idealize.ShloMosaic.ValueIdx
open Cert.Opening (tokenRow)
open Cert.Closing Cert.Finish
open Cert.Reference4Ideal Cert.Reference4Ideal.Read

variable (x0 : (⟨S8192x1024, .f32⟩ : BufTy).Contents (Elt Ideal)) (x1 x2 : (⟨S8192x512, .bf16⟩ : BufTy).Contents (Elt Ideal))
    (x3 : (⟨S2x9x8x1024, .f32⟩ : BufTy).Contents (Elt Ideal)) (x4 x5 : (⟨S2x3x1024, .f32⟩ : BufTy).Contents (Elt Ideal))
    (x6 x7 : (⟨S2x1024x2816, .f32⟩ : BufTy).Contents (Elt Ideal)) (x8 : (⟨S2x2816x1024, .f32⟩ : BufTy).Contents (Elt Ideal))
    (x9 : (⟨S2x1024x1024, .f32⟩ : BufTy).Contents (Elt Ideal))

/-- The modulation tables of the samples: the first layer's rows, the first sample's under the second condition and the other's under the third. -/
theorem table_read (i : S2x1x9x1024.Idx) (q : Fin 8) (r : Fin 9) (n : Fin 1024) (hq : q.val = 1 + (i 0).val) (hr : (i 2).val = r.val) (hn : (i 3).val = n.val) :
    val_main_v125 x3 i = x3 (ix4 0 r q n) := by
  rw [val_main_v125_apply, val_main_v124_apply, val_main_v10_apply, val_main_v9_apply, val_main_v8_apply]
  have hq' := q.isLt
  have h2 := (i 2).isLt
  have h3 := (i 3).isLt
  have hr' := r.isLt
  have hn' := n.isLt
  refine congrArg x3 (ext4 rfl ?_ ?_ ?_)
  · show (((i 2).val * 8 + (1 + (i 0).val)) * 1024 + (i 3).val) / 8192 % 9 = r.val
    omega
  · show (((i 2).val * 8 + (1 + (i 0).val)) * 1024 + (i 3).val) / 1024 % 8 = q.val
    omega
  · show (((i 2).val * 8 + (1 + (i 0).val)) * 1024 + (i 3).val) % 1024 = n.val
    omega

/-- Every third row of it from the first. -/
theorem shifts_read (i : S2x1x3x1024.Idx) (q : Fin 8) (r : Fin 9) (n : Fin 1024) (hq : q.val = 1 + (i 0).val) (hr : 0 + 3 * (i 2).val = r.val) (hn : 0 + 1 * (i 3).val = n.val) :
    val_main_v126 x3 i = x3 (ix4 0 r q n) := by
  unfold val_main_v126 Host.slice
  exact table_read x3 _ q r n (by show q.val = 1 + (0 + 1 * (i 0).val); omega) hr hn

/-- Every third row of it from the second. -/
theorem scales_read (i : S2x1x3x1024.Idx) (q : Fin 8) (r : Fin 9) (n : Fin 1024) (hq : q.val = 1 + (i 0).val) (hr : 1 + 3 * (i 2).val = r.val) (hn : 0 + 1 * (i 3).val = n.val) :
    val_main_v127 x3 i = x3 (ix4 0 r q n) := by
  unfold val_main_v127 Host.slice
  exact table_read x3 _ q r n (by show q.val = 1 + (0 + 1 * (i 0).val); omega) hr hn

/-- Every third row of it from the third. -/
theorem gates_read (i : S2x1x3x1024.Idx) (q : Fin 8) (r : Fin 9) (n : Fin 1024) (hq : q.val = 1 + (i 0).val) (hr : 2 + 3 * (i 2).val = r.val) (hn : 0 + 1 * (i 3).val = n.val) :
    val_main_v128 x3 i = x3 (ix4 0 r q n) := by
  unfold val_main_v128 Host.slice
  exact table_read x3 _ q r n (by show q.val = 1 + (0 + 1 * (i 0).val); omega) hr hn

variable (t : Fin 8192) (b : Fin 2) (s : Fin 2048) (ht : t.val = 4096 + (b.val * 2048 + s.val)) (q : Fin 8) (hq : q.val = 1 + b.val)
include ht

/-- The stream's row. -/
theorem x_read (n : Fin 1024) : val_main_v115 x0 (ix3 b s n) = x0 (ix2 t n) := by
  rw [val_main_v115_apply, val_main_v114_apply]
  have hn := n.isLt
  refine congrArg x0 (Shape.idx_ext₂ ?_ ?_)
  · show 4096 + ((b.val * 2048 + s.val) * 1024 + n.val) / 1024 = t.val
    omega
  · show ((b.val * 2048 + s.val) * 1024 + n.val) % 1024 = n.val
    omega

/-- The mixers' row. -/
theorem cat_read (k : Fin 1024) :
    val_main_v129 x1 x2 (ix3 b s k) = catRow (fun k => x1 (ix2 t k)) (fun k => x2 (ix2 t k)) k := by
  unfold val_main_v129
  refine cat3_read _ _ _ _ _ b s k _ _ (fun k' => ?_) (fun k' => ?_) (fun k' => ?_) (fun k' => ?_)
  · rw [val_main_v117_apply, val_main_v116_apply, val_main_v1_apply, val_main_v0_apply]
    refine congrArg x1 (Shape.idx_ext₂ ?_ ?_)
    · show 4096 + ((b.val * 2048 + s.val) * 256 + k'.val) / 256 = t.val
      omega
    · show ((b.val * 2048 + s.val) * 256 + k'.val) % 256 = k'.val
      omega
  · rw [val_main_v119_apply, val_main_v118_apply, val_main_v5_apply, val_main_v4_apply]
    refine congrArg x2 (Shape.idx_ext₂ ?_ ?_)
    · show 4096 + ((b.val * 2048 + s.val) * 256 + k'.val) / 256 = t.val
      omega
    · show ((b.val * 2048 + s.val) * 256 + k'.val) % 256 = k'.val
      omega
  · rw [val_main_v121_apply, val_main_v120_apply, val_main_v3_apply, val_main_v2_apply]
    refine congrArg x1 (Shape.idx_ext₂ ?_ ?_)
    · show 4096 + ((b.val * 2048 + s.val) * 256 + k'.val) / 256 = t.val
      omega
    · show 256 + ((b.val * 2048 + s.val) * 256 + k'.val) % 256 = 256 + k'.val
      omega
  · rw [val_main_v123_apply, val_main_v122_apply, val_main_v7_apply, val_main_v6_apply]
    refine congrArg x2 (Shape.idx_ext₂ ?_ ?_)
    · show 4096 + ((b.val * 2048 + s.val) * 256 + k'.val) / 256 = t.val
      omega
    · show 256 + ((b.val * 2048 + s.val) * 256 + k'.val) % 256 = 256 + k'.val
      omega

omit ht

/-- The output projection's row. -/
theorem proj_read (n : Fin 1024) :
    val_main_v132 x1 x2 x9 (ix3 b s n) = vecMat (fun k => val_main_v129 x1 x2 (ix3 b s k)) (fun k n => x9 (ix3 0 k n)) n := by
  rw [val_main_v132_apply]
  unfold vecMat
  refine Finset.sum_congr rfl fun k _ => congrArg₂ (· * ·) (congrArg _ (ext3 rfl rfl rfl)) ?_
  rw [val_main_v131_apply, val_main_v130_apply]
  have hk := k.isLt
  have hn := n.isLt
  refine congrArg x9 (ext3 rfl ?_ ?_)
  · show (k.val * 1024 + n.val) / 1024 % 1024 = k.val
    omega
  · show (k.val * 1024 + n.val) % 1024 = n.val
    omega

/-- The projection normalised. -/
theorem projNorm_read (n : Fin 1024) :
    val_main_v149 x1 x2 x5 x9 (ix3 b s n) = normRow (fun k => val_main_v132 x1 x2 x9 (ix3 b s k)) (fun n => x5 (ix3 0 1 n)) n := by
  rw [val_main_v149_apply, val_main_v146_apply, val_main_v145_apply, val_main_v144_apply, val_main_v143_apply, val_main_v141_apply,
    val_main_v139_apply, val_main_v138_apply, val_main_v140_apply, val_main_v142_apply, val_main_v148_apply, val_main_v147_apply,
    val_main_v136_apply, val_main_v135_apply]
  simp only [val_main_v137_apply]
  generalize val_main_v132 x1 x2 x9 = y
  refine hostNorm_read y (ix3 b s) _ ?_ _ _ n ?_
  · exact fun k => ext3 rfl rfl rfl
  · exact congrArg x5 (ext3 rfl rfl (Nat.mod_eq_of_lt n.isLt))

/-- The stream after the projection, normalised. -/
theorem midNorm_read (n : Fin 1024) :
    val_main_v167 x0 x1 x2 x3 x4 x5 x9 (ix3 b s n)
      = normRow (fun k => val_main_v152 x0 x1 x2 x3 x5 x9 (ix3 b s k)) (fun n => x4 (ix3 0 2 n)) n := by
  rw [val_main_v167_apply, val_main_v164_apply, val_main_v163_apply, val_main_v162_apply, val_main_v161_apply, val_main_v159_apply,
    val_main_v157_apply, val_main_v156_apply, val_main_v158_apply, val_main_v160_apply, val_main_v166_apply, val_main_v165_apply,
    val_main_v154_apply, val_main_v153_apply]
  simp only [val_main_v155_apply]
  generalize val_main_v152 x0 x1 x2 x3 x5 x9 = y
  refine hostNorm_read y (ix3 b s) _ ?_ _ _ n ?_
  · exact fun k => ext3 rfl rfl rfl
  · exact congrArg x4 (ext3 rfl rfl (Nat.mod_eq_of_lt n.isLt))

/-- The feed-forward output normalised. -/
theorem ffnNorm_read (n : Fin 1024) :
    val_main_v211 x0 x1 x2 x3 x4 x5 x6 x7 x8 x9 (ix3 b s n)
      = normRow (fun k => val_main_v194 x0 x1 x2 x3 x4 x5 x6 x7 x8 x9 (ix3 b s k)) (fun n => x5 (ix3 0 2 n)) n := by
  rw [val_main_v211_apply, val_main_v208_apply, val_main_v207_apply, val_main_v206_apply, val_main_v205_apply, val_main_v203_apply,
    val_main_v201_apply, val_main_v200_apply, val_main_v202_apply, val_main_v204_apply, val_main_v210_apply, val_main_v209_apply,
    val_main_v198_apply, val_main_v197_apply]
  simp only [val_main_v199_apply]
  generalize val_main_v194 x0 x1 x2 x3 x4 x5 x6 x7 x8 x9 = y
  refine hostNorm_read y (ix3 b s) _ ?_ _ _ n ?_
  · exact fun k => ext3 rfl rfl rfl
  · exact congrArg x5 (ext3 rfl rfl (Nat.mod_eq_of_lt n.isLt))

include ht hq

/-- The stream after the projection. -/
theorem mid_read (n : Fin 1024) :
    val_main_v152 x0 x1 x2 x3 x5 x9 (ix3 b s n)
      = midRow (fun n => x0 (ix2 t n)) (catRow (fun k => x1 (ix2 t k)) (fun k => x2 (ix2 t k))) (fun n => x3 (ix4 0 5 q n))
          (fun n => x5 (ix3 0 1 n)) (fun k n => x9 (ix3 0 k n)) n := by
  rw [val_main_v152_apply, x_read x0 t b s ht, val_main_v151_apply, val_main_v150_apply, val_main_v134_apply, val_main_v133_apply, projNorm_read,
    gates_read x3 _ q 5 n (by show q.val = 1 + ((b.val * 1 + 0) * 1024 + n.val) / 1024; have := n.isLt; omega) rfl (by show 0 + 1 * (((b.val * 1 + 0) * 1024 + n.val) % 1024) = n.val; have := n.isLt; omega)]
  simp only [proj_read, cat_read x1 x2 t b s ht]
  rfl

omit ht

/-- The feed-forward network's input. -/
theorem in_read (n : Fin 1024) :
    val_main_v177 x0 x1 x2 x3 x4 x5 x9 (ix3 b s n)
      = inRow (fun n => val_main_v152 x0 x1 x2 x3 x5 x9 (ix3 b s n)) (fun n => x3 (ix4 0 6 q n)) (fun n => x3 (ix4 0 7 q n))
          (fun n => x4 (ix3 0 2 n)) n := by
  rw [val_main_v177_apply, val_main_v173_apply, midNorm_read, val_main_v172_apply, val_main_v171_apply, val_main_v170_apply,
    val_main_v169_apply, val_main_v168_apply, val_main_v176_apply, val_main_v175_apply, val_main_v174_apply,
    scales_read x3 _ q 7 n (by show q.val = 1 + ((b.val * 1 + 0) * 1024 + n.val) / 1024; have := n.isLt; omega) rfl (by show 0 + 1 * (((b.val * 1 + 0) * 1024 + n.val) % 1024) = n.val; have := n.isLt; omega),
    shifts_read x3 _ q 6 n (by show q.val = 1 + ((b.val * 1 + 0) * 1024 + n.val) / 1024; have := n.isLt; omega) rfl (by show 0 + 1 * (((b.val * 1 + 0) * 1024 + n.val) % 1024) = n.val; have := n.isLt; omega)]
  rfl

omit hq

/-- The gate's product. -/
theorem gateProd_read (n : Fin 2816) :
    val_main_v180 x0 x1 x2 x3 x4 x5 x6 x9 (ix3 b s n)
      = vecMat (fun k => val_main_v177 x0 x1 x2 x3 x4 x5 x9 (ix3 b s k)) (fun k n => x6 (ix3 0 k n)) n := by
  rw [val_main_v180_apply]
  unfold vecMat
  refine Finset.sum_congr rfl fun k _ => congrArg₂ (· * ·) (congrArg _ (ext3 rfl rfl rfl)) ?_
  rw [val_main_v179_apply, val_main_v178_apply]
  have hk := k.isLt
  have hn := n.isLt
  refine congrArg x6 (ext3 rfl ?_ ?_)
  · show (k.val * 2816 + n.val) / 2816 % 1024 = k.val
    omega
  · show (k.val * 2816 + n.val) % 2816 = n.val
    omega

/-- The other factor's product. -/
theorem upProd_read (n : Fin 2816) :
    val_main_v190 x0 x1 x2 x3 x4 x5 x7 x9 (ix3 b s n)
      = vecMat (fun k => val_main_v177 x0 x1 x2 x3 x4 x5 x9 (ix3 b s k)) (fun k n => x7 (ix3 0 k n)) n := by
  rw [val_main_v190_apply]
  unfold vecMat
  refine Finset.sum_congr rfl fun k _ => congrArg₂ (· * ·) (congrArg _ (ext3 rfl rfl rfl)) ?_
  rw [val_main_v189_apply, val_main_v188_apply]
  have hk := k.isLt
  have hn := n.isLt
  refine congrArg x7 (ext3 rfl ?_ ?_)
  · show (k.val * 2816 + n.val) / 2816 % 1024 = k.val
    omega
  · show (k.val * 2816 + n.val) % 2816 = n.val
    omega

/-- The gated activation. -/
theorem act_read (n : Fin 2816) :
    val_main_v191 x0 x1 x2 x3 x4 x5 x6 x7 x9 (ix3 b s n)
      = actRow (fun k => val_main_v177 x0 x1 x2 x3 x4 x5 x9 (ix3 b s k)) (fun k n => x6 (ix3 0 k n)) (fun k n => x7 (ix3 0 k n)) n := by
  rw [val_main_v191_apply, val_main_v187_apply, val_main_v186_apply, val_main_v185_apply, val_main_v184_apply, val_main_v183_apply,
    val_main_v182_apply, val_main_v181_apply, gateProd_read, upProd_read]
  exact hostGate_read _ _

/-- The down projection. -/
theorem down_read (n : Fin 1024) :
    val_main_v194 x0 x1 x2 x3 x4 x5 x6 x7 x8 x9 (ix3 b s n)
      = vecMat (fun k => val_main_v191 x0 x1 x2 x3 x4 x5 x6 x7 x9 (ix3 b s k)) (fun k n => x8 (ix3 0 k n)) n := by
  rw [val_main_v194_apply]
  unfold vecMat
  refine Finset.sum_congr rfl fun k _ => congrArg₂ (· * ·) (congrArg _ (ext3 rfl rfl rfl)) ?_
  rw [val_main_v193_apply, val_main_v192_apply]
  have hk := k.isLt
  have hn := n.isLt
  refine congrArg x8 (ext3 rfl ?_ ?_)
  · show (k.val * 1024 + n.val) / 1024 % 2816 = k.val
    omega
  · show (k.val * 1024 + n.val) % 1024 = n.val
    omega

include ht hq

/-- The result's row, before the batch is laid out as one list of tokens. -/
theorem out_read (n : Fin 1024) :
    val_main_v216 x0 x1 x2 x3 x4 x5 x6 x7 x8 x9 (ix3 b s n) = finishRow x0 x1 x2 x3 x4 x5 x6 x7 x8 x9 t q n := by
  rw [val_main_v216_apply, val_main_v215_apply, val_main_v214_apply, val_main_v213_apply, val_main_v212_apply, val_main_v196_apply,
    val_main_v195_apply, ffnNorm_read, gates_read x3 _ q 8 n (by show q.val = 1 + ((b.val * 1 + 0) * 1024 + n.val) / 1024; have := n.isLt; omega) rfl (by show 0 + 1 * (((b.val * 1 + 0) * 1024 + n.val) % 1024) = n.val; have := n.isLt; omega)]
  simp only [down_read, act_read, in_read x0 x1 x2 x3 x4 x5 x9 b s q hq, mid_read x0 x1 x2 x3 x5 x9 t b s ht q hq]
  rfl

omit ht hq

/-- The rows laid out as one list of tokens. -/
theorem list_read (i : S4096x1024.Idx) (t : Fin 8192) (ht : t.val = 4096 + (i 0).val) :
    val_main_v218 x0 x1 x2 x3 x4 x5 x6 x7 x8 x9 i = finishRow x0 x1 x2 x3 x4 x5 x6 x7 x8 x9 t (tokenRow t) (i 1) := by
  have h0 : (i 0).val < 4096 := (i 0).isLt
  have h1 : (i 1).val < 1024 := (i 1).isLt
  rw [val_main_v218_apply]
  have e : idx_main_v218 i = ix3 (⟨(i 0).val / 2048, by omega⟩ : Fin 2) (⟨(i 0).val % 2048, by omega⟩ : Fin 2048) (i 1) := by
    refine ext3 ?_ ?_ ?_
    · show ((i 0).val * 1024 + (i 1).val) / 2097152 = (i 0).val / 2048
      omega
    · show ((i 0).val * 1024 + (i 1).val) / 1024 % 2048 = (i 0).val % 2048
      omega
    · show ((i 0).val * 1024 + (i 1).val) % 1024 = (i 1).val
      omega
  rw [e]
  refine out_read x0 x1 x2 x3 x4 x5 x6 x7 x8 x9 t _ _ (by show t.val = 4096 + ((i 0).val / 2048 * 2048 + (i 0).val % 2048); omega) _ ?_ (i 1)
  show (if t.val < 4096 then 0 else 1 + (t.val - 4096) / 2048) = 1 + (i 0).val / 2048
  rw [if_neg (by omega)]
  omega

end Cert.Finish.Samples

end
-- ==== Proof.FinishEqual.lean ====
/-
  The first layer's closing call over the extended reals and its reference leave the same result.
-/
module

public import proofs.«01_k».proof.Proof.FinishSame
public import proofs.«01_k».proof.Proof.FinishOut
public import proofs.«01_k».proof.Proof.FinishPrompt
public import proofs.«01_k».proof.Proof.FinishSamples
public import proofs.«01_k».proof.Proof.Gen.Reference4Ideal
public import proofs.«01_k».proof.Defs

@[expose] public section

noncomputable section

namespace Cert.Finish

open Idealize.ShloMosaic hiding ix1 ix2 ix3 ix4
open Idealize.SL.Sem Idealize.ShloMosaic.ValueIdx

/-- The kernel's run over the extended reals: the result is the call's formula on every token. -/
theorem kernel_values (m : (ℓ : Loc Cert.Kernel4.nD Cert.Kernel4.τ Cert.Kernel4.sig) → Buf (Elt Ideal) ℓ) (g : Dev Cert.Kernel4.nD → PrngReg) :
    θ_run (Cert.Kernel4.defs (F := Ideal)) (onTc (τ := Cert.Kernel4.τ) (Cert.Kernel4.main (F := Ideal))) ⟨m, fun _ => 0, g⟩ (fun r =>
      (∀ c : Dev Cert.Kernel4.nD,
        r.2.mem ((c.tc : Thread Cert.Kernel4.nD Cert.Kernel4.τ).loc Cert.Kernel4.main_v0) = Cert.Kernel4.Finish.resultOf m c)) :=
  (θ_run _ _ _).mono (fun _ h c => ((h.1 c).1 6).trans (Cert.Kernel4.Finish.result_final m c))
    (Cert.Kernel4.Finish.run_values (F := Ideal) m g)

section results

open Cert.Reference4Ideal

variable (x0 : (⟨S8192x1024, .f32⟩ : BufTy).Contents (Elt Ideal)) (x1 x2 : (⟨S8192x512, .bf16⟩ : BufTy).Contents (Elt Ideal))
    (x3 : (⟨S2x9x8x1024, .f32⟩ : BufTy).Contents (Elt Ideal)) (x4 x5 : (⟨S2x3x1024, .f32⟩ : BufTy).Contents (Elt Ideal))
    (x6 x7 : (⟨S2x1024x2816, .f32⟩ : BufTy).Contents (Elt Ideal)) (x8 : (⟨S2x2816x1024, .f32⟩ : BufTy).Contents (Elt Ideal))
    (x9 : (⟨S2x1024x1024, .f32⟩ : BufTy).Contents (Elt Ideal))

/-- The reference's result, at an element: the prompt's rows above the samples'. -/
theorem result_read (i : S8192x1024.Idx) : Read.val_main_v219 x0 x1 x2 x3 x4 x5 x6 x7 x8 x9 i = finishList x0 x1 x2 x3 x4 x5 x6 x7 x8 x9 i := by
  have h0 : (i 0).val < 8192 := (i 0).isLt
  unfold Read.val_main_v219
  by_cases h : (i 0).val < 4096
  · refine (concatenate_pair_apply_left (s₁ := S4096x1024) (s₂ := S4096x1024) _ _ _ _ i rfl (ix2 ⟨(i 0).val, h⟩ (i 1)) fun a => ?_).trans ?_
    · match a with
      | ⟨0, _⟩ => rfl
      | ⟨1, _⟩ => rfl
    exact Prompt.list_read x0 x1 x2 x3 x4 x5 x6 x7 x8 x9 (ix2 ⟨(i 0).val, h⟩ (i 1)) (i 0) rfl
  · refine (concatenate_pair_apply_right (s₁ := S4096x1024) (s₂ := S4096x1024) _ _ _ _ i rfl rfl
      (ix2 ⟨(i 0).val - 4096, by omega⟩ (i 1)) (fun a ha => ?_) ?_).trans ?_
    · match a with
      | ⟨0, _⟩ => exact absurd rfl ha
      | ⟨1, _⟩ => rfl
    · show (i 0).val - 4096 + 4096 = (i 0).val
      omega
    exact Samples.list_read x0 x1 x2 x3 x4 x5 x6 x7 x8 x9 (ix2 ⟨(i 0).val - 4096, by omega⟩ (i 1)) (i 0)
      (by show (i 0).val = 4096 + ((i 0).val - 4096); omega)

variable (m : (ℓ : Loc Cert.Kernel4.nD Cert.Kernel4.τ Cert.Kernel4.sig) → Buf (Elt Ideal) ℓ) (c : Dev Cert.Kernel4.nD)
    (h0 : x0 = m ((c.tc : Thread Cert.Kernel4.nD Cert.Kernel4.τ).loc Cert.Kernel4.main_arg0))
    (h1 : x1 = m ((c.tc : Thread Cert.Kernel4.nD Cert.Kernel4.τ).loc Cert.Kernel4.main_arg1))
    (h2 : x2 = m ((c.tc : Thread Cert.Kernel4.nD Cert.Kernel4.τ).loc Cert.Kernel4.main_arg2))
    (h3 : x3 = m ((c.tc : Thread Cert.Kernel4.nD Cert.Kernel4.τ).loc Cert.Kernel4.main_arg3))
    (h4 : x4 = m ((c.tc : Thread Cert.Kernel4.nD Cert.Kernel4.τ).loc Cert.Kernel4.main_arg4))
    (h5 : x5 = m ((c.tc : Thread Cert.Kernel4.nD Cert.Kernel4.τ).loc Cert.Kernel4.main_arg5))
    (h6 : x6 = m ((c.tc : Thread Cert.Kernel4.nD Cert.Kernel4.τ).loc Cert.Kernel4.main_arg6))
    (h7 : x7 = m ((c.tc : Thread Cert.Kernel4.nD Cert.Kernel4.τ).loc Cert.Kernel4.main_arg7))
    (h8 : x8 = m ((c.tc : Thread Cert.Kernel4.nD Cert.Kernel4.τ).loc Cert.Kernel4.main_arg8))
    (h9 : x9 = m ((c.tc : Thread Cert.Kernel4.nD Cert.Kernel4.τ).loc Cert.Kernel4.main_arg9))
include h0 h1 h2 h3 h4 h5 h6 h7 h8 h9

/-- On the kernel's arguments the reference's result is the kernel's. -/
theorem result_at : Read.val_main_v219 x0 x1 x2 x3 x4 x5 x6 x7 x8 x9 = Cert.Kernel4.Finish.resultOf m c := by
  subst h0 h1 h2 h3 h4 h5 h6 h7 h8 h9
  exact funext fun i => result_read _ _ _ _ _ _ _ _ _ _ i

end results

/-- From equal arguments the two programs leave equal results. -/
theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.Kernel4.Finish.resultOf m c, ?_, ?_⟩
  · rw [Cert.Kernel4.Finish.tables]
    exact (θ_run _ _ _).mono (fun _ h c => ⟨h.1 c, h.2.1 c⟩)
      (θ_run_and (kernel_values m g) (Cert.Kernel4.Finish.frame_values (F := Ideal) m g))
  · refine (θ_run _ _ _).mono (fun r h c => ?_) (Cert.Reference4Ideal.Value.run (F := Ideal) m' g')
    obtain ⟨e0, e1, e2, e3, e4, e5, e6, e7, e8, e9⟩ := hargs c
    obtain ⟨hr, ha⟩ := h c
    refine ⟨hr.trans ?_, ha⟩
    exact (Cert.Reference4Ideal.Read.val_main_v219_eq (StableHlo.launchContents m' c)).trans
      (result_at _ _ _ _ _ _ _ _ _ _ m c e0 e1 e2 e3 e4 e5 e6 e7 e8 e9)

end Cert.Finish

end
-- ==== Proof.lean ====
module

public import proofs.«01_k».proof.Defs
public import proofs.«01_k».proof.Proof.Same
public import proofs.«01_k».proof.Proof.RefFrame
public import proofs.«01_k».proof.Proof.Equal
public import proofs.«01_k».proof.Proof.OpeningSame
public import proofs.«01_k».proof.Proof.OpeningRefFrame
public import proofs.«01_k».proof.Proof.OpeningEqual
public import proofs.«01_k».proof.Proof.EntrySame
public import proofs.«01_k».proof.Proof.EntryRefFrame
public import proofs.«01_k».proof.Proof.EntryEqual
public import proofs.«01_k».proof.Proof.FinishSame
public import proofs.«01_k».proof.Proof.FinishRefFrame
public import proofs.«01_k».proof.Proof.FinishEqual
public import proofs.«01_k».proof.Proof.Gen.Kernel4
public import proofs.«01_k».proof.Proof.Gen.Reference4Ideal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Reference3Ideal

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel.Closing.frame_kernel, Cert.Kernel.Closing.frame_ideal, Cert.Closing.frame_reference,
    Cert.Kernel2.Opening.frame_kernel, Cert.Kernel2.Opening.frame_ideal, Cert.Opening.frame_reference,
    Cert.Kernel3.Entry.frame_kernel, Cert.Kernel3.Entry.frame_ideal, Cert.Entry.frame_reference,
    Cert.Kernel4.Finish.frame_kernel, Cert.Kernel4.Finish.frame_ideal, Cert.Finish.frame_reference,
    trivial, Cert.Closing.algebraic, trivial, Cert.Opening.algebraic, trivial, Cert.Entry.algebraic,
    trivial, Cert.Finish.algebraic⟩

end Cert.Proof

end
